-- ==== Defs.lean ====
def Pre_Relu2 (m : (ℓ : Loc Cert.Relu2.nD Cert.Relu2.τ Cert.Relu2.sig) → Buf (Elt Bits) ℓ) : Prop :=
  True

def Pre_Relu2Ideal (m : (ℓ : Loc Cert.Relu2Ideal.nD Cert.Relu2Ideal.τ Cert.Relu2Ideal.sig) → Buf (Elt Ideal) ℓ) : Prop :=
  True

def Pre_Relu2RefIdeal (m : (ℓ : Loc Cert.Relu2RefIdeal.nD Cert.Relu2RefIdeal.τ Cert.Relu2RefIdeal.sig) → Buf (Elt Ideal) ℓ) : Prop :=
  True

def Pre_AttnOne (m : (ℓ : Loc Cert.AttnOne.nD Cert.AttnOne.τ Cert.AttnOne.sig) → Buf (Elt Bits) ℓ) : Prop :=
  True

def Pre_AttnOneIdeal (m : (ℓ : Loc Cert.AttnOneIdeal.nD Cert.AttnOneIdeal.τ Cert.AttnOneIdeal.sig) → Buf (Elt Ideal) ℓ) : Prop :=
  True

def Pre_AttnOneIdeal_finite_attn [hPre_finite_attn : Cert.Pre_finite_attn.Facts] (m : (ℓ : Loc Cert.AttnOneIdeal.nD Cert.AttnOneIdeal.τ Cert.AttnOneIdeal.sig) → Buf (Elt Ideal) ℓ) : Prop :=
  ∀ c : Dev Cert.AttnOneIdeal.nD,
    (Cert.Pre_finite_attn.fn (F := Ideal) (m ((c.tc : Thread Cert.AttnOneIdeal.nD Cert.AttnOneIdeal.τ).loc Cert.AttnOneIdeal.main_arg0)) (m ((c.tc : Thread Cert.AttnOneIdeal.nD Cert.AttnOneIdeal.τ).loc Cert.AttnOneIdeal.main_arg1)) (m ((c.tc : Thread Cert.AttnOneIdeal.nD Cert.AttnOneIdeal.τ).loc Cert.AttnOneIdeal.main_arg2))) = (fun _ => 1#1)

def Pre_AttnOneRefIdeal (m : (ℓ : Loc Cert.AttnOneRefIdeal.nD Cert.AttnOneRefIdeal.τ Cert.AttnOneRefIdeal.sig) → Buf (Elt Ideal) ℓ) : Prop :=
  True

def Pre_AttnOneRefIdeal_finite_attn [hPre_finite_attn : Cert.Pre_finite_attn.Facts] (m : (ℓ : Loc Cert.AttnOneRefIdeal.nD Cert.AttnOneRefIdeal.τ Cert.AttnOneRefIdeal.sig) → Buf (Elt Ideal) ℓ) : Prop :=
  ∀ c : Dev Cert.AttnOneRefIdeal.nD,
    (Cert.Pre_finite_attn.fn (F := Ideal) (m ((c.tc : Thread Cert.AttnOneRefIdeal.nD Cert.AttnOneRefIdeal.τ).loc Cert.AttnOneRefIdeal.main_arg0)) (m ((c.tc : Thread Cert.AttnOneRefIdeal.nD Cert.AttnOneRefIdeal.τ).loc Cert.AttnOneRefIdeal.main_arg1)) (m ((c.tc : Thread Cert.AttnOneRefIdeal.nD Cert.AttnOneRefIdeal.τ).loc Cert.AttnOneRefIdeal.main_arg2))) = (fun _ => 1#1)

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_NormProj (m : (ℓ : Loc Cert.NormProj.nD Cert.NormProj.τ Cert.NormProj.sig) → Buf (Elt Bits) ℓ) : Prop :=
  True

def Pre_NormProjIdeal (m : (ℓ : Loc Cert.NormProjIdeal.nD Cert.NormProjIdeal.τ Cert.NormProjIdeal.sig) → Buf (Elt Ideal) ℓ) : Prop :=
  True

def Pre_NormProjRefIdeal (m : (ℓ : Loc Cert.NormProjRefIdeal.nD Cert.NormProjRefIdeal.τ Cert.NormProjRefIdeal.sig) → Buf (Elt Ideal) ℓ) : Prop :=
  True

def Pre_WgMlpOut (m : (ℓ : Loc Cert.WgMlpOut.nD Cert.WgMlpOut.τ Cert.WgMlpOut.sig) → Buf (Elt Bits) ℓ) : Prop :=
  True

def Pre_WgMlpOutIdeal (m : (ℓ : Loc Cert.WgMlpOutIdeal.nD Cert.WgMlpOutIdeal.τ Cert.WgMlpOutIdeal.sig) → Buf (Elt Ideal) ℓ) : Prop :=
  True

def Pre_WgMlpOutRefIdeal (m : (ℓ : Loc Cert.WgMlpOutRefIdeal.nD Cert.WgMlpOutRefIdeal.τ Cert.WgMlpOutRefIdeal.sig) → Buf (Elt Ideal) ℓ) : Prop :=
  True

def Pre_WgProjIn (m : (ℓ : Loc Cert.WgProjIn.nD Cert.WgProjIn.τ Cert.WgProjIn.sig) → Buf (Elt Bits) ℓ) : Prop :=
  True

def Pre_WgProjInIdeal (m : (ℓ : Loc Cert.WgProjInIdeal.nD Cert.WgProjInIdeal.τ Cert.WgProjInIdeal.sig) → Buf (Elt Ideal) ℓ) : Prop :=
  True

def Pre_WgProjInRefIdeal (m : (ℓ : Loc Cert.WgProjInRefIdeal.nD Cert.WgProjInRefIdeal.τ Cert.WgProjInRefIdeal.sig) → Buf (Elt Ideal) ℓ) : Prop :=
  True

def Pre_WgMlpIn (m : (ℓ : Loc Cert.WgMlpIn.nD Cert.WgMlpIn.τ Cert.WgMlpIn.sig) → Buf (Elt Bits) ℓ) : Prop :=
  True

def Pre_WgMlpInIdeal (m : (ℓ : Loc Cert.WgMlpInIdeal.nD Cert.WgMlpInIdeal.τ Cert.WgMlpInIdeal.sig) → Buf (Elt Ideal) ℓ) : Prop :=
  True

def Pre_WgMlpInRefIdeal (m : (ℓ : Loc Cert.WgMlpInRefIdeal.nD Cert.WgMlpInRefIdeal.τ Cert.WgMlpInRefIdeal.sig) → Buf (Elt Ideal) ℓ) : Prop :=
  True

def Pre_WgProjOut (m : (ℓ : Loc Cert.WgProjOut.nD Cert.WgProjOut.τ Cert.WgProjOut.sig) → Buf (Elt Bits) ℓ) : Prop :=
  True

def Pre_WgProjOutIdeal (m : (ℓ : Loc Cert.WgProjOutIdeal.nD Cert.WgProjOutIdeal.τ Cert.WgProjOutIdeal.sig) → Buf (Elt Ideal) ℓ) : Prop :=
  True

def Pre_WgProjOutRefIdeal (m : (ℓ : Loc Cert.WgProjOutRefIdeal.nD Cert.WgProjOutRefIdeal.τ Cert.WgProjOutRefIdeal.sig) → Buf (Elt Ideal) ℓ) : Prop :=
  True

def Pre_DgProjOut (m : (ℓ : Loc Cert.DgProjOut.nD Cert.DgProjOut.τ Cert.DgProjOut.sig) → Buf (Elt Bits) ℓ) : Prop :=
  True

def Pre_DgProjOutIdeal (m : (ℓ : Loc Cert.DgProjOutIdeal.nD Cert.DgProjOutIdeal.τ Cert.DgProjOutIdeal.sig) → Buf (Elt Ideal) ℓ) : Prop :=
  True

def Pre_DgProjOutRefIdeal (m : (ℓ : Loc Cert.DgProjOutRefIdeal.nD Cert.DgProjOutRefIdeal.τ Cert.DgProjOutRefIdeal.sig) → Buf (Elt Ideal) ℓ) : Prop :=
  True

def Pre_FwProjIn (m : (ℓ : Loc Cert.FwProjIn.nD Cert.FwProjIn.τ Cert.FwProjIn.sig) → Buf (Elt Bits) ℓ) : Prop :=
  True

def Pre_FwProjInIdeal (m : (ℓ : Loc Cert.FwProjInIdeal.nD Cert.FwProjInIdeal.τ Cert.FwProjInIdeal.sig) → Buf (Elt Ideal) ℓ) : Prop :=
  True

def Pre_FwProjInRefIdeal (m : (ℓ : Loc Cert.FwProjInRefIdeal.nD Cert.FwProjInRefIdeal.τ Cert.FwProjInRefIdeal.sig) → Buf (Elt Ideal) ℓ) : Prop :=
  True

def Pre_FwMlpIn (m : (ℓ : Loc Cert.FwMlpIn.nD Cert.FwMlpIn.τ Cert.FwMlpIn.sig) → Buf (Elt Bits) ℓ) : Prop :=
  True

def Pre_FwMlpInIdeal (m : (ℓ : Loc Cert.FwMlpInIdeal.nD Cert.FwMlpInIdeal.τ Cert.FwMlpInIdeal.sig) → Buf (Elt Ideal) ℓ) : Prop :=
  True

def Pre_FwMlpInRefIdeal (m : (ℓ : Loc Cert.FwMlpInRefIdeal.nD Cert.FwMlpInRefIdeal.τ Cert.FwMlpInRefIdeal.sig) → Buf (Elt Ideal) ℓ) : Prop :=
  True

def Pre_FwProjOut (m : (ℓ : Loc Cert.FwProjOut.nD Cert.FwProjOut.τ Cert.FwProjOut.sig) → Buf (Elt Bits) ℓ) : Prop :=
  True

def Pre_FwProjOutIdeal (m : (ℓ : Loc Cert.FwProjOutIdeal.nD Cert.FwProjOutIdeal.τ Cert.FwProjOutIdeal.sig) → Buf (Elt Ideal) ℓ) : Prop :=
  True

def Pre_FwProjOutRefIdeal (m : (ℓ : Loc Cert.FwProjOutRefIdeal.nD Cert.FwProjOutRefIdeal.τ Cert.FwProjOutRefIdeal.sig) → Buf (Elt Ideal) ℓ) : Prop :=
  True

def Pre_FwMlpOut (m : (ℓ : Loc Cert.FwMlpOut.nD Cert.FwMlpOut.τ Cert.FwMlpOut.sig) → Buf (Elt Bits) ℓ) : Prop :=
  True

def Pre_FwMlpOutIdeal (m : (ℓ : Loc Cert.FwMlpOutIdeal.nD Cert.FwMlpOutIdeal.τ Cert.FwMlpOutIdeal.sig) → Buf (Elt Ideal) ℓ) : Prop :=
  True

def Pre_FwMlpOutRefIdeal (m : (ℓ : Loc Cert.FwMlpOutRefIdeal.nD Cert.FwMlpOutRefIdeal.τ Cert.FwMlpOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_Relu2 [hRelu2 : Cert.Relu2.Facts] : Prop :=
  ∀ (m : (ℓ : Loc Cert.Relu2.nD Cert.Relu2.τ Cert.Relu2.sig) → Buf (Elt Bits) ℓ) (g : Dev Cert.Relu2.nD → PrngReg), Pre_Relu2 m →
    θ_run (Cert.Relu2.defs (F := Bits)) (onTc (τ := Cert.Relu2.τ) (Cert.Relu2.main (F := Bits))) ⟨m, fun _ => 0, g⟩ (fun r => (∀ c : Dev Cert.Relu2.nD,
      r.2.mem ((c.tc : Thread Cert.Relu2.nD Cert.Relu2.τ).loc Cert.Relu2.main_arg0) = m ((c.tc : Thread Cert.Relu2.nD Cert.Relu2.τ).loc Cert.Relu2.main_arg0)
      ∧ r.2.mem ((c.tc : Thread Cert.Relu2.nD Cert.Relu2.τ).loc Cert.Relu2.main_arg1) = m ((c.tc : Thread Cert.Relu2.nD Cert.Relu2.τ).loc Cert.Relu2.main_arg1)
      ∧ r.2.mem ((c.tc : Thread Cert.Relu2.nD Cert.Relu2.τ).loc Cert.Relu2.main_arg2) = m ((c.tc : Thread Cert.Relu2.nD Cert.Relu2.τ).loc Cert.Relu2.main_arg2))
      ∧ r.2.sem = fun _ => 0)

def quiescent_Relu2Ideal [hRelu2Ideal : Cert.Relu2Ideal.Facts] : Prop :=
  ∀ (m : (ℓ : Loc Cert.Relu2Ideal.nD Cert.Relu2Ideal.τ Cert.Relu2Ideal.sig) → Buf (Elt Ideal) ℓ) (g : Dev Cert.Relu2Ideal.nD → PrngReg), Pre_Relu2Ideal m →
    θ_run (Cert.Relu2Ideal.defs (F := Ideal)) (onTc (τ := Cert.Relu2Ideal.τ) (Cert.Relu2Ideal.main (F := Ideal))) ⟨m, fun _ => 0, g⟩ (fun r => (∀ c : Dev Cert.Relu2Ideal.nD,
      r.2.mem ((c.tc : Thread Cert.Relu2Ideal.nD Cert.Relu2Ideal.τ).loc Cert.Relu2Ideal.main_arg0) = m ((c.tc : Thread Cert.Relu2Ideal.nD Cert.Relu2Ideal.τ).loc Cert.Relu2Ideal.main_arg0)
      ∧ r.2.mem ((c.tc : Thread Cert.Relu2Ideal.nD Cert.Relu2Ideal.τ).loc Cert.Relu2Ideal.main_arg1) = m ((c.tc : Thread Cert.Relu2Ideal.nD Cert.Relu2Ideal.τ).loc Cert.Relu2Ideal.main_arg1)
      ∧ r.2.mem ((c.tc : Thread Cert.Relu2Ideal.nD Cert.Relu2Ideal.τ).loc Cert.Relu2Ideal.main_arg2) = m ((c.tc : Thread Cert.Relu2Ideal.nD Cert.Relu2Ideal.τ).loc Cert.Relu2Ideal.main_arg2))
      ∧ r.2.sem = fun _ => 0)

def quiescent_Relu2RefIdeal [hRelu2RefIdeal : Cert.Relu2RefIdeal.Facts] : Prop :=
  ∀ (m : (ℓ : Loc Cert.Relu2RefIdeal.nD Cert.Relu2RefIdeal.τ Cert.Relu2RefIdeal.sig) → Buf (Elt Ideal) ℓ) (g : Dev Cert.Relu2RefIdeal.nD → PrngReg), Pre_Relu2RefIdeal m →
    θ_run (Cert.Relu2RefIdeal.defs (F := Ideal)) (onTc (τ := Cert.Relu2RefIdeal.τ) (Cert.Relu2RefIdeal.main (F := Ideal))) ⟨m, fun _ => 0, g⟩ (fun r => (∀ c : Dev Cert.Relu2RefIdeal.nD,
      r.2.mem ((c.tc : Thread Cert.Relu2RefIdeal.nD Cert.Relu2RefIdeal.τ).loc Cert.Relu2RefIdeal.main_arg0) = m ((c.tc : Thread Cert.Relu2RefIdeal.nD Cert.Relu2RefIdeal.τ).loc Cert.Relu2RefIdeal.main_arg0)
      ∧ r.2.mem ((c.tc : Thread Cert.Relu2RefIdeal.nD Cert.Relu2RefIdeal.τ).loc Cert.Relu2RefIdeal.main_arg1) = m ((c.tc : Thread Cert.Relu2RefIdeal.nD Cert.Relu2RefIdeal.τ).loc Cert.Relu2RefIdeal.main_arg1)
      ∧ r.2.mem ((c.tc : Thread Cert.Relu2RefIdeal.nD Cert.Relu2RefIdeal.τ).loc Cert.Relu2RefIdeal.main_arg2) = m ((c.tc : Thread Cert.Relu2RefIdeal.nD Cert.Relu2RefIdeal.τ).loc Cert.Relu2RefIdeal.main_arg2))
      ∧ r.2.sem = fun _ => 0)

def quiescent_AttnOne [hAttnOne : Cert.AttnOne.Facts] : Prop :=
  ∀ (m : (ℓ : Loc Cert.AttnOne.nD Cert.AttnOne.τ Cert.AttnOne.sig) → Buf (Elt Bits) ℓ) (g : Dev Cert.AttnOne.nD → PrngReg), Pre_AttnOne m →
    θ_run (Cert.AttnOne.defs (F := Bits)) (onTc (τ := Cert.AttnOne.τ) (Cert.AttnOne.main (F := Bits))) ⟨m, fun _ => 0, g⟩ (fun r => (∀ c : Dev Cert.AttnOne.nD,
      r.2.mem ((c.tc : Thread Cert.AttnOne.nD Cert.AttnOne.τ).loc Cert.AttnOne.main_arg0) = m ((c.tc : Thread Cert.AttnOne.nD Cert.AttnOne.τ).loc Cert.AttnOne.main_arg0)
      ∧ r.2.mem ((c.tc : Thread Cert.AttnOne.nD Cert.AttnOne.τ).loc Cert.AttnOne.main_arg1) = m ((c.tc : Thread Cert.AttnOne.nD Cert.AttnOne.τ).loc Cert.AttnOne.main_arg1)
      ∧ r.2.mem ((c.tc : Thread Cert.AttnOne.nD Cert.AttnOne.τ).loc Cert.AttnOne.main_arg2) = m ((c.tc : Thread Cert.AttnOne.nD Cert.AttnOne.τ).loc Cert.AttnOne.main_arg2))
      ∧ r.2.sem = fun _ => 0)

def quiescent_AttnOneIdeal [hAttnOneIdeal : Cert.AttnOneIdeal.Facts] : Prop :=
  ∀ (m : (ℓ : Loc Cert.AttnOneIdeal.nD Cert.AttnOneIdeal.τ Cert.AttnOneIdeal.sig) → Buf (Elt Ideal) ℓ) (g : Dev Cert.AttnOneIdeal.nD → PrngReg), Pre_AttnOneIdeal m →
    θ_run (Cert.AttnOneIdeal.defs (F := Ideal)) (onTc (τ := Cert.AttnOneIdeal.τ) (Cert.AttnOneIdeal.main (F := Ideal))) ⟨m, fun _ => 0, g⟩ (fun r => (∀ c : Dev Cert.AttnOneIdeal.nD,
      r.2.mem ((c.tc : Thread Cert.AttnOneIdeal.nD Cert.AttnOneIdeal.τ).loc Cert.AttnOneIdeal.main_arg0) = m ((c.tc : Thread Cert.AttnOneIdeal.nD Cert.AttnOneIdeal.τ).loc Cert.AttnOneIdeal.main_arg0)
      ∧ r.2.mem ((c.tc : Thread Cert.AttnOneIdeal.nD Cert.AttnOneIdeal.τ).loc Cert.AttnOneIdeal.main_arg1) = m ((c.tc : Thread Cert.AttnOneIdeal.nD Cert.AttnOneIdeal.τ).loc Cert.AttnOneIdeal.main_arg1)
      ∧ r.2.mem ((c.tc : Thread Cert.AttnOneIdeal.nD Cert.AttnOneIdeal.τ).loc Cert.AttnOneIdeal.main_arg2) = m ((c.tc : Thread Cert.AttnOneIdeal.nD Cert.AttnOneIdeal.τ).loc Cert.AttnOneIdeal.main_arg2))
      ∧ r.2.sem = fun _ => 0)

def quiescent_AttnOneIdeal_pre_finite_attn [hAttnOneIdeal : Cert.AttnOneIdeal.Facts] [hPre_finite_attn : Cert.Pre_finite_attn.Facts] : Prop :=
  ∀ (m : (ℓ : Loc Cert.AttnOneIdeal.nD Cert.AttnOneIdeal.τ Cert.AttnOneIdeal.sig) → Buf (Elt Ideal) ℓ) (g : Dev Cert.AttnOneIdeal.nD → PrngReg), Pre_AttnOneIdeal_finite_attn m →
    θ_run (Cert.AttnOneIdeal.defs (F := Ideal)) (onTc (τ := Cert.AttnOneIdeal.τ) (Cert.AttnOneIdeal.main (F := Ideal))) ⟨m, fun _ => 0, g⟩ (fun r => (∀ c : Dev Cert.AttnOneIdeal.nD,
      r.2.mem ((c.tc : Thread Cert.AttnOneIdeal.nD Cert.AttnOneIdeal.τ).loc Cert.AttnOneIdeal.main_arg0) = m ((c.tc : Thread Cert.AttnOneIdeal.nD Cert.AttnOneIdeal.τ).loc Cert.AttnOneIdeal.main_arg0)
      ∧ r.2.mem ((c.tc : Thread Cert.AttnOneIdeal.nD Cert.AttnOneIdeal.τ).loc Cert.AttnOneIdeal.main_arg1) = m ((c.tc : Thread Cert.AttnOneIdeal.nD Cert.AttnOneIdeal.τ).loc Cert.AttnOneIdeal.main_arg1)
      ∧ r.2.mem ((c.tc : Thread Cert.AttnOneIdeal.nD Cert.AttnOneIdeal.τ).loc Cert.AttnOneIdeal.main_arg2) = m ((c.tc : Thread Cert.AttnOneIdeal.nD Cert.AttnOneIdeal.τ).loc Cert.AttnOneIdeal.main_arg2))
      ∧ r.2.sem = fun _ => 0)

def quiescent_AttnOneRefIdeal [hAttnOneRefIdeal : Cert.AttnOneRefIdeal.Facts] : Prop :=
  ∀ (m : (ℓ : Loc Cert.AttnOneRefIdeal.nD Cert.AttnOneRefIdeal.τ Cert.AttnOneRefIdeal.sig) → Buf (Elt Ideal) ℓ) (g : Dev Cert.AttnOneRefIdeal.nD → PrngReg), Pre_AttnOneRefIdeal m →
    θ_run (Cert.AttnOneRefIdeal.defs (F := Ideal)) (onTc (τ := Cert.AttnOneRefIdeal.τ) (Cert.AttnOneRefIdeal.main (F := Ideal))) ⟨m, fun _ => 0, g⟩ (fun r => (∀ c : Dev Cert.AttnOneRefIdeal.nD,
      r.2.mem ((c.tc : Thread Cert.AttnOneRefIdeal.nD Cert.AttnOneRefIdeal.τ).loc Cert.AttnOneRefIdeal.main_arg0) = m ((c.tc : Thread Cert.AttnOneRefIdeal.nD Cert.AttnOneRefIdeal.τ).loc Cert.AttnOneRefIdeal.main_arg0)
      ∧ r.2.mem ((c.tc : Thread Cert.AttnOneRefIdeal.nD Cert.AttnOneRefIdeal.τ).loc Cert.AttnOneRefIdeal.main_arg1) = m ((c.tc : Thread Cert.AttnOneRefIdeal.nD Cert.AttnOneRefIdeal.τ).loc Cert.AttnOneRefIdeal.main_arg1)
      ∧ r.2.mem ((c.tc : Thread Cert.AttnOneRefIdeal.nD Cert.AttnOneRefIdeal.τ).loc Cert.AttnOneRefIdeal.main_arg2) = m ((c.tc : Thread Cert.AttnOneRefIdeal.nD Cert.AttnOneRefIdeal.τ).loc Cert.AttnOneRefIdeal.main_arg2))
      ∧ r.2.sem = fun _ => 0)

def quiescent_AttnOneRefIdeal_pre_finite_attn [hAttnOneRefIdeal : Cert.AttnOneRefIdeal.Facts] [hPre_finite_attn : Cert.Pre_finite_attn.Facts] : Prop :=
  ∀ (m : (ℓ : Loc Cert.AttnOneRefIdeal.nD Cert.AttnOneRefIdeal.τ Cert.AttnOneRefIdeal.sig) → Buf (Elt Ideal) ℓ) (g : Dev Cert.AttnOneRefIdeal.nD → PrngReg), Pre_AttnOneRefIdeal_finite_attn m →
    θ_run (Cert.AttnOneRefIdeal.defs (F := Ideal)) (onTc (τ := Cert.AttnOneRefIdeal.τ) (Cert.AttnOneRefIdeal.main (F := Ideal))) ⟨m, fun _ => 0, g⟩ (fun r => (∀ c : Dev Cert.AttnOneRefIdeal.nD,
      r.2.mem ((c.tc : Thread Cert.AttnOneRefIdeal.nD Cert.AttnOneRefIdeal.τ).loc Cert.AttnOneRefIdeal.main_arg0) = m ((c.tc : Thread Cert.AttnOneRefIdeal.nD Cert.AttnOneRefIdeal.τ).loc Cert.AttnOneRefIdeal.main_arg0)
      ∧ r.2.mem ((c.tc : Thread Cert.AttnOneRefIdeal.nD Cert.AttnOneRefIdeal.τ).loc Cert.AttnOneRefIdeal.main_arg1) = m ((c.tc : Thread Cert.AttnOneRefIdeal.nD Cert.AttnOneRefIdeal.τ).loc Cert.AttnOneRefIdeal.main_arg1)
      ∧ r.2.mem ((c.tc : Thread Cert.AttnOneRefIdeal.nD Cert.AttnOneRefIdeal.τ).loc Cert.AttnOneRefIdeal.main_arg2) = m ((c.tc : Thread Cert.AttnOneRefIdeal.nD Cert.AttnOneRefIdeal.τ).loc Cert.AttnOneRefIdeal.main_arg2))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3)
      ∧ r.2.mem ((c.tc : Thread Cert.NormIn.nD Cert.NormIn.τ).loc Cert.NormIn.main_arg4) = m ((c.tc : Thread Cert.NormIn.nD Cert.NormIn.τ).loc Cert.NormIn.main_arg4))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3)
      ∧ r.2.mem ((c.tc : Thread Cert.NormInRefIdeal.nD Cert.NormInRefIdeal.τ).loc Cert.NormInRefIdeal.main_arg4) = m ((c.tc : Thread Cert.NormInRefIdeal.nD Cert.NormInRefIdeal.τ).loc Cert.NormInRefIdeal.main_arg4))
      ∧ r.2.sem = fun _ => 0)

def quiescent_NormProj [hNormProj : Cert.NormProj.Facts] : Prop :=
  ∀ (m : (ℓ : Loc Cert.NormProj.nD Cert.NormProj.τ Cert.NormProj.sig) → Buf (Elt Bits) ℓ) (g : Dev Cert.NormProj.nD → PrngReg), Pre_NormProj m →
    θ_run (Cert.NormProj.defs (F := Bits)) (onTc (τ := Cert.NormProj.τ) (Cert.NormProj.main (F := Bits))) ⟨m, fun _ => 0, g⟩ (fun r => (∀ c : Dev Cert.NormProj.nD,
      r.2.mem ((c.tc : Thread Cert.NormProj.nD Cert.NormProj.τ).loc Cert.NormProj.main_arg0) = m ((c.tc : Thread Cert.NormProj.nD Cert.NormProj.τ).loc Cert.NormProj.main_arg0)
      ∧ r.2.mem ((c.tc : Thread Cert.NormProj.nD Cert.NormProj.τ).loc Cert.NormProj.main_arg1) = m ((c.tc : Thread Cert.NormProj.nD Cert.NormProj.τ).loc Cert.NormProj.main_arg1)
      ∧ r.2.mem ((c.tc : Thread Cert.NormProj.nD Cert.NormProj.τ).loc Cert.NormProj.main_arg2) = m ((c.tc : Thread Cert.NormProj.nD Cert.NormProj.τ).loc Cert.NormProj.main_arg2)
      ∧ r.2.mem ((c.tc : Thread Cert.NormProj.nD Cert.NormProj.τ).loc Cert.NormProj.main_arg3) = m ((c.tc : Thread Cert.NormProj.nD Cert.NormProj.τ).loc Cert.NormProj.main_arg3)
      ∧ r.2.mem ((c.tc : Thread Cert.NormProj.nD Cert.NormProj.τ).loc Cert.NormProj.main_arg4) = m ((c.tc : Thread Cert.NormProj.nD Cert.NormProj.τ).loc Cert.NormProj.main_arg4))
      ∧ r.2.sem = fun _ => 0)

def quiescent_NormProjIdeal [hNormProjIdeal : Cert.NormProjIdeal.Facts] : Prop :=
  ∀ (m : (ℓ : Loc Cert.NormProjIdeal.nD Cert.NormProjIdeal.τ Cert.NormProjIdeal.sig) → Buf (Elt Ideal) ℓ) (g : Dev Cert.NormProjIdeal.nD → PrngReg), Pre_NormProjIdeal m →
    θ_run (Cert.NormProjIdeal.defs (F := Ideal)) (onTc (τ := Cert.NormProjIdeal.τ) (Cert.NormProjIdeal.main (F := Ideal))) ⟨m, fun _ => 0, g⟩ (fun r => (∀ c : Dev Cert.NormProjIdeal.nD,
      r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
      ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
      ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2)
      ∧ r.2.mem ((c.tc : Thread Cert.NormProjIdeal.nD Cert.NormProjIdeal.τ).loc Cert.NormProjIdeal.main_arg3) = m ((c.tc : Thread Cert.NormProjIdeal.nD Cert.NormProjIdeal.τ).loc Cert.NormProjIdeal.main_arg3)
      ∧ r.2.mem ((c.tc : Thread Cert.NormProjIdeal.nD Cert.NormProjIdeal.τ).loc Cert.NormProjIdeal.main_arg4) = m ((c.tc : Thread Cert.NormProjIdeal.nD Cert.NormProjIdeal.τ).loc Cert.NormProjIdeal.main_arg4))
      ∧ r.2.sem = fun _ => 0)

def quiescent_NormProjRefIdeal [hNormProjRefIdeal : Cert.NormProjRefIdeal.Facts] : Prop :=
  ∀ (m : (ℓ : Loc Cert.NormProjRefIdeal.nD Cert.NormProjRefIdeal.τ Cert.NormProjRefIdeal.sig) → Buf (Elt Ideal) ℓ) (g : Dev Cert.NormProjRefIdeal.nD → PrngReg), Pre_NormProjRefIdeal m →
    θ_run (Cert.NormProjRefIdeal.defs (F := Ideal)) (onTc (τ := Cert.NormProjRefIdeal.τ) (Cert.NormProjRefIdeal.main (F := Ideal))) ⟨m, fun _ => 0, g⟩ (fun r => (∀ c : Dev Cert.NormProjRefIdeal.nD,
      r.2.mem ((c.tc : Thread Cert.NormProjRefIdeal.nD Cert.NormProjRefIdeal.τ).loc Cert.NormProjRefIdeal.main_arg0) = m ((c.tc : Thread Cert.NormProjRefIdeal.nD Cert.NormProjRefIdeal.τ).loc Cert.NormProjRefIdeal.main_arg0)
      ∧ r.2.mem ((c.tc : Thread Cert.NormProjRefIdeal.nD Cert.NormProjRefIdeal.τ).loc Cert.NormProjRefIdeal.main_arg1) = m ((c.tc : Thread Cert.NormProjRefIdeal.nD Cert.NormProjRefIdeal.τ).loc Cert.NormProjRefIdeal.main_arg1)
      ∧ r.2.mem ((c.tc : Thread Cert.NormProjRefIdeal.nD Cert.NormProjRefIdeal.τ).loc Cert.NormProjRefIdeal.main_arg2) = m ((c.tc : Thread Cert.NormProjRefIdeal.nD Cert.NormProjRefIdeal.τ).loc Cert.NormProjRefIdeal.main_arg2)
      ∧ r.2.mem ((c.tc : Thread Cert.NormProjRefIdeal.nD Cert.NormProjRefIdeal.τ).loc Cert.NormProjRefIdeal.main_arg3) = m ((c.tc : Thread Cert.NormProjRefIdeal.nD Cert.NormProjRefIdeal.τ).loc Cert.NormProjRefIdeal.main_arg3)
      ∧ r.2.mem ((c.tc : Thread Cert.NormProjRefIdeal.nD Cert.NormProjRefIdeal.τ).loc Cert.NormProjRefIdeal.main_arg4) = m ((c.tc : Thread Cert.NormProjRefIdeal.nD Cert.NormProjRefIdeal.τ).loc Cert.NormProjRefIdeal.main_arg4))
      ∧ r.2.sem = fun _ => 0)

def quiescent_WgMlpOut [hWgMlpOut : Cert.WgMlpOut.Facts] : Prop :=
  ∀ (m : (ℓ : Loc Cert.WgMlpOut.nD Cert.WgMlpOut.τ Cert.WgMlpOut.sig) → Buf (Elt Bits) ℓ) (g : Dev Cert.WgMlpOut.nD → PrngReg), Pre_WgMlpOut m →
    θ_run (Cert.WgMlpOut.defs (F := Bits)) (onTc (τ := Cert.WgMlpOut.τ) (Cert.WgMlpOut.main (F := Bits))) ⟨m, fun _ => 0, g⟩ (fun r => (∀ c : Dev Cert.WgMlpOut.nD,
      r.2.mem ((c.tc : Thread Cert.WgMlpOut.nD Cert.WgMlpOut.τ).loc Cert.WgMlpOut.main_arg0) = m ((c.tc : Thread Cert.WgMlpOut.nD Cert.WgMlpOut.τ).loc Cert.WgMlpOut.main_arg0)
      ∧ r.2.mem ((c.tc : Thread Cert.WgMlpOut.nD Cert.WgMlpOut.τ).loc Cert.WgMlpOut.main_arg1) = m ((c.tc : Thread Cert.WgMlpOut.nD Cert.WgMlpOut.τ).loc Cert.WgMlpOut.main_arg1))
      ∧ r.2.sem = fun _ => 0)

def quiescent_WgMlpOutIdeal [hWgMlpOutIdeal : Cert.WgMlpOutIdeal.Facts] : Prop :=
  ∀ (m : (ℓ : Loc Cert.WgMlpOutIdeal.nD Cert.WgMlpOutIdeal.τ Cert.WgMlpOutIdeal.sig) → Buf (Elt Ideal) ℓ) (g : Dev Cert.WgMlpOutIdeal.nD → PrngReg), Pre_WgMlpOutIdeal m →
    θ_run (Cert.WgMlpOutIdeal.defs (F := Ideal)) (onTc (τ := Cert.WgMlpOutIdeal.τ) (Cert.WgMlpOutIdeal.main (F := Ideal))) ⟨m, fun _ => 0, g⟩ (fun r => (∀ c : Dev Cert.WgMlpOutIdeal.nD,
      r.2.mem ((c.tc : Thread Cert.WgMlpOutIdeal.nD Cert.WgMlpOutIdeal.τ).loc Cert.WgMlpOutIdeal.main_arg0) = m ((c.tc : Thread Cert.WgMlpOutIdeal.nD Cert.WgMlpOutIdeal.τ).loc Cert.WgMlpOutIdeal.main_arg0)
      ∧ r.2.mem ((c.tc : Thread Cert.WgMlpOutIdeal.nD Cert.WgMlpOutIdeal.τ).loc Cert.WgMlpOutIdeal.main_arg1) = m ((c.tc : Thread Cert.WgMlpOutIdeal.nD Cert.WgMlpOutIdeal.τ).loc Cert.WgMlpOutIdeal.main_arg1))
      ∧ r.2.sem = fun _ => 0)

def quiescent_WgMlpOutRefIdeal [hWgMlpOutRefIdeal : Cert.WgMlpOutRefIdeal.Facts] : Prop :=
  ∀ (m : (ℓ : Loc Cert.WgMlpOutRefIdeal.nD Cert.WgMlpOutRefIdeal.τ Cert.WgMlpOutRefIdeal.sig) → Buf (Elt Ideal) ℓ) (g : Dev Cert.WgMlpOutRefIdeal.nD → PrngReg), Pre_WgMlpOutRefIdeal m →
    θ_run (Cert.WgMlpOutRefIdeal.defs (F := Ideal)) (onTc (τ := Cert.WgMlpOutRefIdeal.τ) (Cert.WgMlpOutRefIdeal.main (F := Ideal))) ⟨m, fun _ => 0, g⟩ (fun r => (∀ c : Dev Cert.WgMlpOutRefIdeal.nD,
      r.2.mem ((c.tc : Thread Cert.WgMlpOutRefIdeal.nD Cert.WgMlpOutRefIdeal.τ).loc Cert.WgMlpOutRefIdeal.main_arg0) = m ((c.tc : Thread Cert.WgMlpOutRefIdeal.nD Cert.WgMlpOutRefIdeal.τ).loc Cert.WgMlpOutRefIdeal.main_arg0)
      ∧ r.2.mem ((c.tc : Thread Cert.WgMlpOutRefIdeal.nD Cert.WgMlpOutRefIdeal.τ).loc Cert.WgMlpOutRefIdeal.main_arg1) = m ((c.tc : Thread Cert.WgMlpOutRefIdeal.nD Cert.WgMlpOutRefIdeal.τ).loc Cert.WgMlpOutRefIdeal.main_arg1))
      ∧ r.2.sem = fun _ => 0)

def quiescent_WgProjIn [hWgProjIn : Cert.WgProjIn.Facts] : Prop :=
  ∀ (m : (ℓ : Loc Cert.WgProjIn.nD Cert.WgProjIn.τ Cert.WgProjIn.sig) → Buf (Elt Bits) ℓ) (g : Dev Cert.WgProjIn.nD → PrngReg), Pre_WgProjIn m →
    θ_run (Cert.WgProjIn.defs (F := Bits)) (onTc (τ := Cert.WgProjIn.τ) (Cert.WgProjIn.main (F := Bits))) ⟨m, fun _ => 0, g⟩ (fun r => (∀ c : Dev Cert.WgProjIn.nD,
      r.2.mem ((c.tc : Thread Cert.WgProjIn.nD Cert.WgProjIn.τ).loc Cert.WgProjIn.main_arg0) = m ((c.tc : Thread Cert.WgProjIn.nD Cert.WgProjIn.τ).loc Cert.WgProjIn.main_arg0)
      ∧ r.2.mem ((c.tc : Thread Cert.WgProjIn.nD Cert.WgProjIn.τ).loc Cert.WgProjIn.main_arg1) = m ((c.tc : Thread Cert.WgProjIn.nD Cert.WgProjIn.τ).loc Cert.WgProjIn.main_arg1))
      ∧ r.2.sem = fun _ => 0)

def quiescent_WgProjInIdeal [hWgProjInIdeal : Cert.WgProjInIdeal.Facts] : Prop :=
  ∀ (m : (ℓ : Loc Cert.WgProjInIdeal.nD Cert.WgProjInIdeal.τ Cert.WgProjInIdeal.sig) → Buf (Elt Ideal) ℓ) (g : Dev Cert.WgProjInIdeal.nD → PrngReg), Pre_WgProjInIdeal m →
    θ_run (Cert.WgProjInIdeal.defs (F := Ideal)) (onTc (τ := Cert.WgProjInIdeal.τ) (Cert.WgProjInIdeal.main (F := Ideal))) ⟨m, fun _ => 0, g⟩ (fun r => (∀ c : Dev Cert.WgProjInIdeal.nD,
      r.2.mem ((c.tc : Thread Cert.WgProjInIdeal.nD Cert.WgProjInIdeal.τ).loc Cert.WgProjInIdeal.main_arg0) = m ((c.tc : Thread Cert.WgProjInIdeal.nD Cert.WgProjInIdeal.τ).loc Cert.WgProjInIdeal.main_arg0)
      ∧ r.2.mem ((c.tc : Thread Cert.WgProjInIdeal.nD Cert.WgProjInIdeal.τ).loc Cert.WgProjInIdeal.main_arg1) = m ((c.tc : Thread Cert.WgProjInIdeal.nD Cert.WgProjInIdeal.τ).loc Cert.WgProjInIdeal.main_arg1))
      ∧ r.2.sem = fun _ => 0)

def quiescent_WgProjInRefIdeal [hWgProjInRefIdeal : Cert.WgProjInRefIdeal.Facts] : Prop :=
  ∀ (m : (ℓ : Loc Cert.WgProjInRefIdeal.nD Cert.WgProjInRefIdeal.τ Cert.WgProjInRefIdeal.sig) → Buf (Elt Ideal) ℓ) (g : Dev Cert.WgProjInRefIdeal.nD → PrngReg), Pre_WgProjInRefIdeal m →
    θ_run (Cert.WgProjInRefIdeal.defs (F := Ideal)) (onTc (τ := Cert.WgProjInRefIdeal.τ) (Cert.WgProjInRefIdeal.main (F := Ideal))) ⟨m, fun _ => 0, g⟩ (fun r => (∀ c : Dev Cert.WgProjInRefIdeal.nD,
      r.2.mem ((c.tc : Thread Cert.WgProjInRefIdeal.nD Cert.WgProjInRefIdeal.τ).loc Cert.WgProjInRefIdeal.main_arg0) = m ((c.tc : Thread Cert.WgProjInRefIdeal.nD Cert.WgProjInRefIdeal.τ).loc Cert.WgProjInRefIdeal.main_arg0)
      ∧ r.2.mem ((c.tc : Thread Cert.WgProjInRefIdeal.nD Cert.WgProjInRefIdeal.τ).loc Cert.WgProjInRefIdeal.main_arg1) = m ((c.tc : Thread Cert.WgProjInRefIdeal.nD Cert.WgProjInRefIdeal.τ).loc Cert.WgProjInRefIdeal.main_arg1))
      ∧ r.2.sem = fun _ => 0)

def quiescent_WgMlpIn [hWgMlpIn : Cert.WgMlpIn.Facts] : Prop :=
  ∀ (m : (ℓ : Loc Cert.WgMlpIn.nD Cert.WgMlpIn.τ Cert.WgMlpIn.sig) → Buf (Elt Bits) ℓ) (g : Dev Cert.WgMlpIn.nD → PrngReg), Pre_WgMlpIn m →
    θ_run (Cert.WgMlpIn.defs (F := Bits)) (onTc (τ := Cert.WgMlpIn.τ) (Cert.WgMlpIn.main (F := Bits))) ⟨m, fun _ => 0, g⟩ (fun r => (∀ c : Dev Cert.WgMlpIn.nD,
      r.2.mem ((c.tc : Thread Cert.WgMlpIn.nD Cert.WgMlpIn.τ).loc Cert.WgMlpIn.main_arg0) = m ((c.tc : Thread Cert.WgMlpIn.nD Cert.WgMlpIn.τ).loc Cert.WgMlpIn.main_arg0)
      ∧ r.2.mem ((c.tc : Thread Cert.WgMlpIn.nD Cert.WgMlpIn.τ).loc Cert.WgMlpIn.main_arg1) = m ((c.tc : Thread Cert.WgMlpIn.nD Cert.WgMlpIn.τ).loc Cert.WgMlpIn.main_arg1))
      ∧ r.2.sem = fun _ => 0)

def quiescent_WgMlpInIdeal [hWgMlpInIdeal : Cert.WgMlpInIdeal.Facts] : Prop :=
  ∀ (m : (ℓ : Loc Cert.WgMlpInIdeal.nD Cert.WgMlpInIdeal.τ Cert.WgMlpInIdeal.sig) → Buf (Elt Ideal) ℓ) (g : Dev Cert.WgMlpInIdeal.nD → PrngReg), Pre_WgMlpInIdeal m →
    θ_run (Cert.WgMlpInIdeal.defs (F := Ideal)) (onTc (τ := Cert.WgMlpInIdeal.τ) (Cert.WgMlpInIdeal.main (F := Ideal))) ⟨m, fun _ => 0, g⟩ (fun r => (∀ c : Dev Cert.WgMlpInIdeal.nD,
      r.2.mem ((c.tc : Thread Cert.WgMlpInIdeal.nD Cert.WgMlpInIdeal.τ).loc Cert.WgMlpInIdeal.main_arg0) = m ((c.tc : Thread Cert.WgMlpInIdeal.nD Cert.WgMlpInIdeal.τ).loc Cert.WgMlpInIdeal.main_arg0)
      ∧ r.2.mem ((c.tc : Thread Cert.WgMlpInIdeal.nD Cert.WgMlpInIdeal.τ).loc Cert.WgMlpInIdeal.main_arg1) = m ((c.tc : Thread Cert.WgMlpInIdeal.nD Cert.WgMlpInIdeal.τ).loc Cert.WgMlpInIdeal.main_arg1))
      ∧ r.2.sem = fun _ => 0)

def quiescent_WgMlpInRefIdeal [hWgMlpInRefIdeal : Cert.WgMlpInRefIdeal.Facts] : Prop :=
  ∀ (m : (ℓ : Loc Cert.WgMlpInRefIdeal.nD Cert.WgMlpInRefIdeal.τ Cert.WgMlpInRefIdeal.sig) → Buf (Elt Ideal) ℓ) (g : Dev Cert.WgMlpInRefIdeal.nD → PrngReg), Pre_WgMlpInRefIdeal m →
    θ_run (Cert.WgMlpInRefIdeal.defs (F := Ideal)) (onTc (τ := Cert.WgMlpInRefIdeal.τ) (Cert.WgMlpInRefIdeal.main (F := Ideal))) ⟨m, fun _ => 0, g⟩ (fun r => (∀ c : Dev Cert.WgMlpInRefIdeal.nD,
      r.2.mem ((c.tc : Thread Cert.WgMlpInRefIdeal.nD Cert.WgMlpInRefIdeal.τ).loc Cert.WgMlpInRefIdeal.main_arg0) = m ((c.tc : Thread Cert.WgMlpInRefIdeal.nD Cert.WgMlpInRefIdeal.τ).loc Cert.WgMlpInRefIdeal.main_arg0)
      ∧ r.2.mem ((c.tc : Thread Cert.WgMlpInRefIdeal.nD Cert.WgMlpInRefIdeal.τ).loc Cert.WgMlpInRefIdeal.main_arg1) = m ((c.tc : Thread Cert.WgMlpInRefIdeal.nD Cert.WgMlpInRefIdeal.τ).loc Cert.WgMlpInRefIdeal.main_arg1))
      ∧ r.2.sem = fun _ => 0)

def quiescent_WgProjOut [hWgProjOut : Cert.WgProjOut.Facts] : Prop :=
  ∀ (m : (ℓ : Loc Cert.WgProjOut.nD Cert.WgProjOut.τ Cert.WgProjOut.sig) → Buf (Elt Bits) ℓ) (g : Dev Cert.WgProjOut.nD → PrngReg), Pre_WgProjOut m →
    θ_run (Cert.WgProjOut.defs (F := Bits)) (onTc (τ := Cert.WgProjOut.τ) (Cert.WgProjOut.main (F := Bits))) ⟨m, fun _ => 0, g⟩ (fun r => (∀ c : Dev Cert.WgProjOut.nD,
      r.2.mem ((c.tc : Thread Cert.WgProjOut.nD Cert.WgProjOut.τ).loc Cert.WgProjOut.main_arg0) = m ((c.tc : Thread Cert.WgProjOut.nD Cert.WgProjOut.τ).loc Cert.WgProjOut.main_arg0)
      ∧ r.2.mem ((c.tc : Thread Cert.WgProjOut.nD Cert.WgProjOut.τ).loc Cert.WgProjOut.main_arg1) = m ((c.tc : Thread Cert.WgProjOut.nD Cert.WgProjOut.τ).loc Cert.WgProjOut.main_arg1)
      ∧ r.2.mem ((c.tc : Thread Cert.WgProjOut.nD Cert.WgProjOut.τ).loc Cert.WgProjOut.main_arg2) = m ((c.tc : Thread Cert.WgProjOut.nD Cert.WgProjOut.τ).loc Cert.WgProjOut.main_arg2)
      ∧ r.2.mem ((c.tc : Thread Cert.WgProjOut.nD Cert.WgProjOut.τ).loc Cert.WgProjOut.main_arg3) = m ((c.tc : Thread Cert.WgProjOut.nD Cert.WgProjOut.τ).loc Cert.WgProjOut.main_arg3))
      ∧ r.2.sem = fun _ => 0)

def quiescent_WgProjOutIdeal [hWgProjOutIdeal : Cert.WgProjOutIdeal.Facts] : Prop :=
  ∀ (m : (ℓ : Loc Cert.WgProjOutIdeal.nD Cert.WgProjOutIdeal.τ Cert.WgProjOutIdeal.sig) → Buf (Elt Ideal) ℓ) (g : Dev Cert.WgProjOutIdeal.nD → PrngReg), Pre_WgProjOutIdeal m →
    θ_run (Cert.WgProjOutIdeal.defs (F := Ideal)) (onTc (τ := Cert.WgProjOutIdeal.τ) (Cert.WgProjOutIdeal.main (F := Ideal))) ⟨m, fun _ => 0, g⟩ (fun r => (∀ c : Dev Cert.WgProjOutIdeal.nD,
      r.2.mem ((c.tc : Thread Cert.WgProjOutIdeal.nD Cert.WgProjOutIdeal.τ).loc Cert.WgProjOutIdeal.main_arg0) = m ((c.tc : Thread Cert.WgProjOutIdeal.nD Cert.WgProjOutIdeal.τ).loc Cert.WgProjOutIdeal.main_arg0)
      ∧ r.2.mem ((c.tc : Thread Cert.WgProjOutIdeal.nD Cert.WgProjOutIdeal.τ).loc Cert.WgProjOutIdeal.main_arg1) = m ((c.tc : Thread Cert.WgProjOutIdeal.nD Cert.WgProjOutIdeal.τ).loc Cert.WgProjOutIdeal.main_arg1)
      ∧ r.2.mem ((c.tc : Thread Cert.WgProjOutIdeal.nD Cert.WgProjOutIdeal.τ).loc Cert.WgProjOutIdeal.main_arg2) = m ((c.tc : Thread Cert.WgProjOutIdeal.nD Cert.WgProjOutIdeal.τ).loc Cert.WgProjOutIdeal.main_arg2)
      ∧ r.2.mem ((c.tc : Thread Cert.WgProjOutIdeal.nD Cert.WgProjOutIdeal.τ).loc Cert.WgProjOutIdeal.main_arg3) = m ((c.tc : Thread Cert.WgProjOutIdeal.nD Cert.WgProjOutIdeal.τ).loc Cert.WgProjOutIdeal.main_arg3))
      ∧ r.2.sem = fun _ => 0)

def quiescent_WgProjOutRefIdeal [hWgProjOutRefIdeal : Cert.WgProjOutRefIdeal.Facts] : Prop :=
  ∀ (m : (ℓ : Loc Cert.WgProjOutRefIdeal.nD Cert.WgProjOutRefIdeal.τ Cert.WgProjOutRefIdeal.sig) → Buf (Elt Ideal) ℓ) (g : Dev Cert.WgProjOutRefIdeal.nD → PrngReg), Pre_WgProjOutRefIdeal m →
    θ_run (Cert.WgProjOutRefIdeal.defs (F := Ideal)) (onTc (τ := Cert.WgProjOutRefIdeal.τ) (Cert.WgProjOutRefIdeal.main (F := Ideal))) ⟨m, fun _ => 0, g⟩ (fun r => (∀ c : Dev Cert.WgProjOutRefIdeal.nD,
      r.2.mem ((c.tc : Thread Cert.WgProjOutRefIdeal.nD Cert.WgProjOutRefIdeal.τ).loc Cert.WgProjOutRefIdeal.main_arg0) = m ((c.tc : Thread Cert.WgProjOutRefIdeal.nD Cert.WgProjOutRefIdeal.τ).loc Cert.WgProjOutRefIdeal.main_arg0)
      ∧ r.2.mem ((c.tc : Thread Cert.WgProjOutRefIdeal.nD Cert.WgProjOutRefIdeal.τ).loc Cert.WgProjOutRefIdeal.main_arg1) = m ((c.tc : Thread Cert.WgProjOutRefIdeal.nD Cert.WgProjOutRefIdeal.τ).loc Cert.WgProjOutRefIdeal.main_arg1)
      ∧ r.2.mem ((c.tc : Thread Cert.WgProjOutRefIdeal.nD Cert.WgProjOutRefIdeal.τ).loc Cert.WgProjOutRefIdeal.main_arg2) = m ((c.tc : Thread Cert.WgProjOutRefIdeal.nD Cert.WgProjOutRefIdeal.τ).loc Cert.WgProjOutRefIdeal.main_arg2)
      ∧ r.2.mem ((c.tc : Thread Cert.WgProjOutRefIdeal.nD Cert.WgProjOutRefIdeal.τ).loc Cert.WgProjOutRefIdeal.main_arg3) = m ((c.tc : Thread Cert.WgProjOutRefIdeal.nD Cert.WgProjOutRefIdeal.τ).loc Cert.WgProjOutRefIdeal.main_arg3))
      ∧ r.2.sem = fun _ => 0)

def quiescent_DgProjOut [hDgProjOut : Cert.DgProjOut.Facts] : Prop :=
  ∀ (m : (ℓ : Loc Cert.DgProjOut.nD Cert.DgProjOut.τ Cert.DgProjOut.sig) → Buf (Elt Bits) ℓ) (g : Dev Cert.DgProjOut.nD → PrngReg), Pre_DgProjOut m →
    θ_run (Cert.DgProjOut.defs (F := Bits)) (onTc (τ := Cert.DgProjOut.τ) (Cert.DgProjOut.main (F := Bits))) ⟨m, fun _ => 0, g⟩ (fun r => (∀ c : Dev Cert.DgProjOut.nD,
      r.2.mem ((c.tc : Thread Cert.DgProjOut.nD Cert.DgProjOut.τ).loc Cert.DgProjOut.main_arg0) = m ((c.tc : Thread Cert.DgProjOut.nD Cert.DgProjOut.τ).loc Cert.DgProjOut.main_arg0)
      ∧ r.2.mem ((c.tc : Thread Cert.DgProjOut.nD Cert.DgProjOut.τ).loc Cert.DgProjOut.main_arg1) = m ((c.tc : Thread Cert.DgProjOut.nD Cert.DgProjOut.τ).loc Cert.DgProjOut.main_arg1))
      ∧ r.2.sem = fun _ => 0)

def quiescent_DgProjOutIdeal [hDgProjOutIdeal : Cert.DgProjOutIdeal.Facts] : Prop :=
  ∀ (m : (ℓ : Loc Cert.DgProjOutIdeal.nD Cert.DgProjOutIdeal.τ Cert.DgProjOutIdeal.sig) → Buf (Elt Ideal) ℓ) (g : Dev Cert.DgProjOutIdeal.nD → PrngReg), Pre_DgProjOutIdeal m →
    θ_run (Cert.DgProjOutIdeal.defs (F := Ideal)) (onTc (τ := Cert.DgProjOutIdeal.τ) (Cert.DgProjOutIdeal.main (F := Ideal))) ⟨m, fun _ => 0, g⟩ (fun r => (∀ c : Dev Cert.DgProjOutIdeal.nD,
      r.2.mem ((c.tc : Thread Cert.DgProjOutIdeal.nD Cert.DgProjOutIdeal.τ).loc Cert.DgProjOutIdeal.main_arg0) = m ((c.tc : Thread Cert.DgProjOutIdeal.nD Cert.DgProjOutIdeal.τ).loc Cert.DgProjOutIdeal.main_arg0)
      ∧ r.2.mem ((c.tc : Thread Cert.DgProjOutIdeal.nD Cert.DgProjOutIdeal.τ).loc Cert.DgProjOutIdeal.main_arg1) = m ((c.tc : Thread Cert.DgProjOutIdeal.nD Cert.DgProjOutIdeal.τ).loc Cert.DgProjOutIdeal.main_arg1))
      ∧ r.2.sem = fun _ => 0)

def quiescent_DgProjOutRefIdeal [hDgProjOutRefIdeal : Cert.DgProjOutRefIdeal.Facts] : Prop :=
  ∀ (m : (ℓ : Loc Cert.DgProjOutRefIdeal.nD Cert.DgProjOutRefIdeal.τ Cert.DgProjOutRefIdeal.sig) → Buf (Elt Ideal) ℓ) (g : Dev Cert.DgProjOutRefIdeal.nD → PrngReg), Pre_DgProjOutRefIdeal m →
    θ_run (Cert.DgProjOutRefIdeal.defs (F := Ideal)) (onTc (τ := Cert.DgProjOutRefIdeal.τ) (Cert.DgProjOutRefIdeal.main (F := Ideal))) ⟨m, fun _ => 0, g⟩ (fun r => (∀ c : Dev Cert.DgProjOutRefIdeal.nD,
      r.2.mem ((c.tc : Thread Cert.DgProjOutRefIdeal.nD Cert.DgProjOutRefIdeal.τ).loc Cert.DgProjOutRefIdeal.main_arg0) = m ((c.tc : Thread Cert.DgProjOutRefIdeal.nD Cert.DgProjOutRefIdeal.τ).loc Cert.DgProjOutRefIdeal.main_arg0)
      ∧ r.2.mem ((c.tc : Thread Cert.DgProjOutRefIdeal.nD Cert.DgProjOutRefIdeal.τ).loc Cert.DgProjOutRefIdeal.main_arg1) = m ((c.tc : Thread Cert.DgProjOutRefIdeal.nD Cert.DgProjOutRefIdeal.τ).loc Cert.DgProjOutRefIdeal.main_arg1))
      ∧ r.2.sem = fun _ => 0)

def quiescent_FwProjIn [hFwProjIn : Cert.FwProjIn.Facts] : Prop :=
  ∀ (m : (ℓ : Loc Cert.FwProjIn.nD Cert.FwProjIn.τ Cert.FwProjIn.sig) → Buf (Elt Bits) ℓ) (g : Dev Cert.FwProjIn.nD → PrngReg), Pre_FwProjIn m →
    θ_run (Cert.FwProjIn.defs (F := Bits)) (onTc (τ := Cert.FwProjIn.τ) (Cert.FwProjIn.main (F := Bits))) ⟨m, fun _ => 0, g⟩ (fun r => (∀ c : Dev Cert.FwProjIn.nD,
      r.2.mem ((c.tc : Thread Cert.FwProjIn.nD Cert.FwProjIn.τ).loc Cert.FwProjIn.main_arg0) = m ((c.tc : Thread Cert.FwProjIn.nD Cert.FwProjIn.τ).loc Cert.FwProjIn.main_arg0)
      ∧ r.2.mem ((c.tc : Thread Cert.FwProjIn.nD Cert.FwProjIn.τ).loc Cert.FwProjIn.main_arg1) = m ((c.tc : Thread Cert.FwProjIn.nD Cert.FwProjIn.τ).loc Cert.FwProjIn.main_arg1))
      ∧ r.2.sem = fun _ => 0)

def quiescent_FwProjInIdeal [hFwProjInIdeal : Cert.FwProjInIdeal.Facts] : Prop :=
  ∀ (m : (ℓ : Loc Cert.FwProjInIdeal.nD Cert.FwProjInIdeal.τ Cert.FwProjInIdeal.sig) → Buf (Elt Ideal) ℓ) (g : Dev Cert.FwProjInIdeal.nD → PrngReg), Pre_FwProjInIdeal m →
    θ_run (Cert.FwProjInIdeal.defs (F := Ideal)) (onTc (τ := Cert.FwProjInIdeal.τ) (Cert.FwProjInIdeal.main (F := Ideal))) ⟨m, fun _ => 0, g⟩ (fun r => (∀ c : Dev Cert.FwProjInIdeal.nD,
      r.2.mem ((c.tc : Thread Cert.FwProjInIdeal.nD Cert.FwProjInIdeal.τ).loc Cert.FwProjInIdeal.main_arg0) = m ((c.tc : Thread Cert.FwProjInIdeal.nD Cert.FwProjInIdeal.τ).loc Cert.FwProjInIdeal.main_arg0)
      ∧ r.2.mem ((c.tc : Thread Cert.FwProjInIdeal.nD Cert.FwProjInIdeal.τ).loc Cert.FwProjInIdeal.main_arg1) = m ((c.tc : Thread Cert.FwProjInIdeal.nD Cert.FwProjInIdeal.τ).loc Cert.FwProjInIdeal.main_arg1))
      ∧ r.2.sem = fun _ => 0)

def quiescent_FwProjInRefIdeal [hFwProjInRefIdeal : Cert.FwProjInRefIdeal.Facts] : Prop :=
  ∀ (m : (ℓ : Loc Cert.FwProjInRefIdeal.nD Cert.FwProjInRefIdeal.τ Cert.FwProjInRefIdeal.sig) → Buf (Elt Ideal) ℓ) (g : Dev Cert.FwProjInRefIdeal.nD → PrngReg), Pre_FwProjInRefIdeal m →
    θ_run (Cert.FwProjInRefIdeal.defs (F := Ideal)) (onTc (τ := Cert.FwProjInRefIdeal.τ) (Cert.FwProjInRefIdeal.main (F := Ideal))) ⟨m, fun _ => 0, g⟩ (fun r => (∀ c : Dev Cert.FwProjInRefIdeal.nD,
      r.2.mem ((c.tc : Thread Cert.FwProjInRefIdeal.nD Cert.FwProjInRefIdeal.τ).loc Cert.FwProjInRefIdeal.main_arg0) = m ((c.tc : Thread Cert.FwProjInRefIdeal.nD Cert.FwProjInRefIdeal.τ).loc Cert.FwProjInRefIdeal.main_arg0)
      ∧ r.2.mem ((c.tc : Thread Cert.FwProjInRefIdeal.nD Cert.FwProjInRefIdeal.τ).loc Cert.FwProjInRefIdeal.main_arg1) = m ((c.tc : Thread Cert.FwProjInRefIdeal.nD Cert.FwProjInRefIdeal.τ).loc Cert.FwProjInRefIdeal.main_arg1))
      ∧ r.2.sem = fun _ => 0)

def quiescent_FwMlpIn [hFwMlpIn : Cert.FwMlpIn.Facts] : Prop :=
  ∀ (m : (ℓ : Loc Cert.FwMlpIn.nD Cert.FwMlpIn.τ Cert.FwMlpIn.sig) → Buf (Elt Bits) ℓ) (g : Dev Cert.FwMlpIn.nD → PrngReg), Pre_FwMlpIn m →
    θ_run (Cert.FwMlpIn.defs (F := Bits)) (onTc (τ := Cert.FwMlpIn.τ) (Cert.FwMlpIn.main (F := Bits))) ⟨m, fun _ => 0, g⟩ (fun r => (∀ c : Dev Cert.FwMlpIn.nD,
      r.2.mem ((c.tc : Thread Cert.FwMlpIn.nD Cert.FwMlpIn.τ).loc Cert.FwMlpIn.main_arg0) = m ((c.tc : Thread Cert.FwMlpIn.nD Cert.FwMlpIn.τ).loc Cert.FwMlpIn.main_arg0)
      ∧ r.2.mem ((c.tc : Thread Cert.FwMlpIn.nD Cert.FwMlpIn.τ).loc Cert.FwMlpIn.main_arg1) = m ((c.tc : Thread Cert.FwMlpIn.nD Cert.FwMlpIn.τ).loc Cert.FwMlpIn.main_arg1))
      ∧ r.2.sem = fun _ => 0)

def quiescent_FwMlpInIdeal [hFwMlpInIdeal : Cert.FwMlpInIdeal.Facts] : Prop :=
  ∀ (m : (ℓ : Loc Cert.FwMlpInIdeal.nD Cert.FwMlpInIdeal.τ Cert.FwMlpInIdeal.sig) → Buf (Elt Ideal) ℓ) (g : Dev Cert.FwMlpInIdeal.nD → PrngReg), Pre_FwMlpInIdeal m →
    θ_run (Cert.FwMlpInIdeal.defs (F := Ideal)) (onTc (τ := Cert.FwMlpInIdeal.τ) (Cert.FwMlpInIdeal.main (F := Ideal))) ⟨m, fun _ => 0, g⟩ (fun r => (∀ c : Dev Cert.FwMlpInIdeal.nD,
      r.2.mem ((c.tc : Thread Cert.FwMlpInIdeal.nD Cert.FwMlpInIdeal.τ).loc Cert.FwMlpInIdeal.main_arg0) = m ((c.tc : Thread Cert.FwMlpInIdeal.nD Cert.FwMlpInIdeal.τ).loc Cert.FwMlpInIdeal.main_arg0)
      ∧ r.2.mem ((c.tc : Thread Cert.FwMlpInIdeal.nD Cert.FwMlpInIdeal.τ).loc Cert.FwMlpInIdeal.main_arg1) = m ((c.tc : Thread Cert.FwMlpInIdeal.nD Cert.FwMlpInIdeal.τ).loc Cert.FwMlpInIdeal.main_arg1))
      ∧ r.2.sem = fun _ => 0)

def quiescent_FwMlpInRefIdeal [hFwMlpInRefIdeal : Cert.FwMlpInRefIdeal.Facts] : Prop :=
  ∀ (m : (ℓ : Loc Cert.FwMlpInRefIdeal.nD Cert.FwMlpInRefIdeal.τ Cert.FwMlpInRefIdeal.sig) → Buf (Elt Ideal) ℓ) (g : Dev Cert.FwMlpInRefIdeal.nD → PrngReg), Pre_FwMlpInRefIdeal m →
    θ_run (Cert.FwMlpInRefIdeal.defs (F := Ideal)) (onTc (τ := Cert.FwMlpInRefIdeal.τ) (Cert.FwMlpInRefIdeal.main (F := Ideal))) ⟨m, fun _ => 0, g⟩ (fun r => (∀ c : Dev Cert.FwMlpInRefIdeal.nD,
      r.2.mem ((c.tc : Thread Cert.FwMlpInRefIdeal.nD Cert.FwMlpInRefIdeal.τ).loc Cert.FwMlpInRefIdeal.main_arg0) = m ((c.tc : Thread Cert.FwMlpInRefIdeal.nD Cert.FwMlpInRefIdeal.τ).loc Cert.FwMlpInRefIdeal.main_arg0)
      ∧ r.2.mem ((c.tc : Thread Cert.FwMlpInRefIdeal.nD Cert.FwMlpInRefIdeal.τ).loc Cert.FwMlpInRefIdeal.main_arg1) = m ((c.tc : Thread Cert.FwMlpInRefIdeal.nD Cert.FwMlpInRefIdeal.τ).loc Cert.FwMlpInRefIdeal.main_arg1))
      ∧ r.2.sem = fun _ => 0)

def quiescent_FwProjOut [hFwProjOut : Cert.FwProjOut.Facts] : Prop :=
  ∀ (m : (ℓ : Loc Cert.FwProjOut.nD Cert.FwProjOut.τ Cert.FwProjOut.sig) → Buf (Elt Bits) ℓ) (g : Dev Cert.FwProjOut.nD → PrngReg), Pre_FwProjOut m →
    θ_run (Cert.FwProjOut.defs (F := Bits)) (onTc (τ := Cert.FwProjOut.τ) (Cert.FwProjOut.main (F := Bits))) ⟨m, fun _ => 0, g⟩ (fun r => (∀ c : Dev Cert.FwProjOut.nD,
      r.2.mem ((c.tc : Thread Cert.FwProjOut.nD Cert.FwProjOut.τ).loc Cert.FwProjOut.main_arg0) = m ((c.tc : Thread Cert.FwProjOut.nD Cert.FwProjOut.τ).loc Cert.FwProjOut.main_arg0)
      ∧ r.2.mem ((c.tc : Thread Cert.FwProjOut.nD Cert.FwProjOut.τ).loc Cert.FwProjOut.main_arg1) = m ((c.tc : Thread Cert.FwProjOut.nD Cert.FwProjOut.τ).loc Cert.FwProjOut.main_arg1)
      ∧ r.2.mem ((c.tc : Thread Cert.FwProjOut.nD Cert.FwProjOut.τ).loc Cert.FwProjOut.main_arg2) = m ((c.tc : Thread Cert.FwProjOut.nD Cert.FwProjOut.τ).loc Cert.FwProjOut.main_arg2)
      ∧ r.2.mem ((c.tc : Thread Cert.FwProjOut.nD Cert.FwProjOut.τ).loc Cert.FwProjOut.main_arg3) = m ((c.tc : Thread Cert.FwProjOut.nD Cert.FwProjOut.τ).loc Cert.FwProjOut.main_arg3)
      ∧ r.2.mem ((c.tc : Thread Cert.FwProjOut.nD Cert.FwProjOut.τ).loc Cert.FwProjOut.main_arg4) = m ((c.tc : Thread Cert.FwProjOut.nD Cert.FwProjOut.τ).loc Cert.FwProjOut.main_arg4)
      ∧ r.2.mem ((c.tc : Thread Cert.FwProjOut.nD Cert.FwProjOut.τ).loc Cert.FwProjOut.main_arg5) = m ((c.tc : Thread Cert.FwProjOut.nD Cert.FwProjOut.τ).loc Cert.FwProjOut.main_arg5))
      ∧ r.2.sem = fun _ => 0)

def quiescent_FwProjOutIdeal [hFwProjOutIdeal : Cert.FwProjOutIdeal.Facts] : Prop :=
  ∀ (m : (ℓ : Loc Cert.FwProjOutIdeal.nD Cert.FwProjOutIdeal.τ Cert.FwProjOutIdeal.sig) → Buf (Elt Ideal) ℓ) (g : Dev Cert.FwProjOutIdeal.nD → PrngReg), Pre_FwProjOutIdeal m →
    θ_run (Cert.FwProjOutIdeal.defs (F := Ideal)) (onTc (τ := Cert.FwProjOutIdeal.τ) (Cert.FwProjOutIdeal.main (F := Ideal))) ⟨m, fun _ => 0, g⟩ (fun r => (∀ c : Dev Cert.FwProjOutIdeal.nD,
      r.2.mem ((c.tc : Thread Cert.FwProjOutIdeal.nD Cert.FwProjOutIdeal.τ).loc Cert.FwProjOutIdeal.main_arg0) = m ((c.tc : Thread Cert.FwProjOutIdeal.nD Cert.FwProjOutIdeal.τ).loc Cert.FwProjOutIdeal.main_arg0)
      ∧ r.2.mem ((c.tc : Thread Cert.FwProjOutIdeal.nD Cert.FwProjOutIdeal.τ).loc Cert.FwProjOutIdeal.main_arg1) = m ((c.tc : Thread Cert.FwProjOutIdeal.nD Cert.FwProjOutIdeal.τ).loc Cert.FwProjOutIdeal.main_arg1)
      ∧ r.2.mem ((c.tc : Thread Cert.FwProjOutIdeal.nD Cert.FwProjOutIdeal.τ).loc Cert.FwProjOutIdeal.main_arg2) = m ((c.tc : Thread Cert.FwProjOutIdeal.nD Cert.FwProjOutIdeal.τ).loc Cert.FwProjOutIdeal.main_arg2)
      ∧ r.2.mem ((c.tc : Thread Cert.FwProjOutIdeal.nD Cert.FwProjOutIdeal.τ).loc Cert.FwProjOutIdeal.main_arg3) = m ((c.tc : Thread Cert.FwProjOutIdeal.nD Cert.FwProjOutIdeal.τ).loc Cert.FwProjOutIdeal.main_arg3)
      ∧ r.2.mem ((c.tc : Thread Cert.FwProjOutIdeal.nD Cert.FwProjOutIdeal.τ).loc Cert.FwProjOutIdeal.main_arg4) = m ((c.tc : Thread Cert.FwProjOutIdeal.nD Cert.FwProjOutIdeal.τ).loc Cert.FwProjOutIdeal.main_arg4)
      ∧ r.2.mem ((c.tc : Thread Cert.FwProjOutIdeal.nD Cert.FwProjOutIdeal.τ).loc Cert.FwProjOutIdeal.main_arg5) = m ((c.tc : Thread Cert.FwProjOutIdeal.nD Cert.FwProjOutIdeal.τ).loc Cert.FwProjOutIdeal.main_arg5))
      ∧ r.2.sem = fun _ => 0)

def quiescent_FwProjOutRefIdeal [hFwProjOutRefIdeal : Cert.FwProjOutRefIdeal.Facts] : Prop :=
  ∀ (m : (ℓ : Loc Cert.FwProjOutRefIdeal.nD Cert.FwProjOutRefIdeal.τ Cert.FwProjOutRefIdeal.sig) → Buf (Elt Ideal) ℓ) (g : Dev Cert.FwProjOutRefIdeal.nD → PrngReg), Pre_FwProjOutRefIdeal m →
    θ_run (Cert.FwProjOutRefIdeal.defs (F := Ideal)) (onTc (τ := Cert.FwProjOutRefIdeal.τ) (Cert.FwProjOutRefIdeal.main (F := Ideal))) ⟨m, fun _ => 0, g⟩ (fun r => (∀ c : Dev Cert.FwProjOutRefIdeal.nD,
      r.2.mem ((c.tc : Thread Cert.FwProjOutRefIdeal.nD Cert.FwProjOutRefIdeal.τ).loc Cert.FwProjOutRefIdeal.main_arg0) = m ((c.tc : Thread Cert.FwProjOutRefIdeal.nD Cert.FwProjOutRefIdeal.τ).loc Cert.FwProjOutRefIdeal.main_arg0)
      ∧ r.2.mem ((c.tc : Thread Cert.FwProjOutRefIdeal.nD Cert.FwProjOutRefIdeal.τ).loc Cert.FwProjOutRefIdeal.main_arg1) = m ((c.tc : Thread Cert.FwProjOutRefIdeal.nD Cert.FwProjOutRefIdeal.τ).loc Cert.FwProjOutRefIdeal.main_arg1)
      ∧ r.2.mem ((c.tc : Thread Cert.FwProjOutRefIdeal.nD Cert.FwProjOutRefIdeal.τ).loc Cert.FwProjOutRefIdeal.main_arg2) = m ((c.tc : Thread Cert.FwProjOutRefIdeal.nD Cert.FwProjOutRefIdeal.τ).loc Cert.FwProjOutRefIdeal.main_arg2)
      ∧ r.2.mem ((c.tc : Thread Cert.FwProjOutRefIdeal.nD Cert.FwProjOutRefIdeal.τ).loc Cert.FwProjOutRefIdeal.main_arg3) = m ((c.tc : Thread Cert.FwProjOutRefIdeal.nD Cert.FwProjOutRefIdeal.τ).loc Cert.FwProjOutRefIdeal.main_arg3)
      ∧ r.2.mem ((c.tc : Thread Cert.FwProjOutRefIdeal.nD Cert.FwProjOutRefIdeal.τ).loc Cert.FwProjOutRefIdeal.main_arg4) = m ((c.tc : Thread Cert.FwProjOutRefIdeal.nD Cert.FwProjOutRefIdeal.τ).loc Cert.FwProjOutRefIdeal.main_arg4)
      ∧ r.2.mem ((c.tc : Thread Cert.FwProjOutRefIdeal.nD Cert.FwProjOutRefIdeal.τ).loc Cert.FwProjOutRefIdeal.main_arg5) = m ((c.tc : Thread Cert.FwProjOutRefIdeal.nD Cert.FwProjOutRefIdeal.τ).loc Cert.FwProjOutRefIdeal.main_arg5))
      ∧ r.2.sem = fun _ => 0)

def quiescent_FwMlpOut [hFwMlpOut : Cert.FwMlpOut.Facts] : Prop :=
  ∀ (m : (ℓ : Loc Cert.FwMlpOut.nD Cert.FwMlpOut.τ Cert.FwMlpOut.sig) → Buf (Elt Bits) ℓ) (g : Dev Cert.FwMlpOut.nD → PrngReg), Pre_FwMlpOut m →
    θ_run (Cert.FwMlpOut.defs (F := Bits)) (onTc (τ := Cert.FwMlpOut.τ) (Cert.FwMlpOut.main (F := Bits))) ⟨m, fun _ => 0, g⟩ (fun r => (∀ c : Dev Cert.FwMlpOut.nD,
      r.2.mem ((c.tc : Thread Cert.FwMlpOut.nD Cert.FwMlpOut.τ).loc Cert.FwMlpOut.main_arg0) = m ((c.tc : Thread Cert.FwMlpOut.nD Cert.FwMlpOut.τ).loc Cert.FwMlpOut.main_arg0)
      ∧ r.2.mem ((c.tc : Thread Cert.FwMlpOut.nD Cert.FwMlpOut.τ).loc Cert.FwMlpOut.main_arg1) = m ((c.tc : Thread Cert.FwMlpOut.nD Cert.FwMlpOut.τ).loc Cert.FwMlpOut.main_arg1)
      ∧ r.2.mem ((c.tc : Thread Cert.FwMlpOut.nD Cert.FwMlpOut.τ).loc Cert.FwMlpOut.main_arg2) = m ((c.tc : Thread Cert.FwMlpOut.nD Cert.FwMlpOut.τ).loc Cert.FwMlpOut.main_arg2)
      ∧ r.2.mem ((c.tc : Thread Cert.FwMlpOut.nD Cert.FwMlpOut.τ).loc Cert.FwMlpOut.main_arg3) = m ((c.tc : Thread Cert.FwMlpOut.nD Cert.FwMlpOut.τ).loc Cert.FwMlpOut.main_arg3))
      ∧ r.2.sem = fun _ => 0)

def quiescent_FwMlpOutIdeal [hFwMlpOutIdeal : Cert.FwMlpOutIdeal.Facts] : Prop :=
  ∀ (m : (ℓ : Loc Cert.FwMlpOutIdeal.nD Cert.FwMlpOutIdeal.τ Cert.FwMlpOutIdeal.sig) → Buf (Elt Ideal) ℓ) (g : Dev Cert.FwMlpOutIdeal.nD → PrngReg), Pre_FwMlpOutIdeal m →
    θ_run (Cert.FwMlpOutIdeal.defs (F := Ideal)) (onTc (τ := Cert.FwMlpOutIdeal.τ) (Cert.FwMlpOutIdeal.main (F := Ideal))) ⟨m, fun _ => 0, g⟩ (fun r => (∀ c : Dev Cert.FwMlpOutIdeal.nD,
      r.2.mem ((c.tc : Thread Cert.FwMlpOutIdeal.nD Cert.FwMlpOutIdeal.τ).loc Cert.FwMlpOutIdeal.main_arg0) = m ((c.tc : Thread Cert.FwMlpOutIdeal.nD Cert.FwMlpOutIdeal.τ).loc Cert.FwMlpOutIdeal.main_arg0)
      ∧ r.2.mem ((c.tc : Thread Cert.FwMlpOutIdeal.nD Cert.FwMlpOutIdeal.τ).loc Cert.FwMlpOutIdeal.main_arg1) = m ((c.tc : Thread Cert.FwMlpOutIdeal.nD Cert.FwMlpOutIdeal.τ).loc Cert.FwMlpOutIdeal.main_arg1)
      ∧ r.2.mem ((c.tc : Thread Cert.FwMlpOutIdeal.nD Cert.FwMlpOutIdeal.τ).loc Cert.FwMlpOutIdeal.main_arg2) = m ((c.tc : Thread Cert.FwMlpOutIdeal.nD Cert.FwMlpOutIdeal.τ).loc Cert.FwMlpOutIdeal.main_arg2)
      ∧ r.2.mem ((c.tc : Thread Cert.FwMlpOutIdeal.nD Cert.FwMlpOutIdeal.τ).loc Cert.FwMlpOutIdeal.main_arg3) = m ((c.tc : Thread Cert.FwMlpOutIdeal.nD Cert.FwMlpOutIdeal.τ).loc Cert.FwMlpOutIdeal.main_arg3))
      ∧ r.2.sem = fun _ => 0)

def quiescent_FwMlpOutRefIdeal [hFwMlpOutRefIdeal : Cert.FwMlpOutRefIdeal.Facts] : Prop :=
  ∀ (m : (ℓ : Loc Cert.FwMlpOutRefIdeal.nD Cert.FwMlpOutRefIdeal.τ Cert.FwMlpOutRefIdeal.sig) → Buf (Elt Ideal) ℓ) (g : Dev Cert.FwMlpOutRefIdeal.nD → PrngReg), Pre_FwMlpOutRefIdeal m →
    θ_run (Cert.FwMlpOutRefIdeal.defs (F := Ideal)) (onTc (τ := Cert.FwMlpOutRefIdeal.τ) (Cert.FwMlpOutRefIdeal.main (F := Ideal))) ⟨m, fun _ => 0, g⟩ (fun r => (∀ c : Dev Cert.FwMlpOutRefIdeal.nD,
      r.2.mem ((c.tc : Thread Cert.FwMlpOutRefIdeal.nD Cert.FwMlpOutRefIdeal.τ).loc Cert.FwMlpOutRefIdeal.main_arg0) = m ((c.tc : Thread Cert.FwMlpOutRefIdeal.nD Cert.FwMlpOutRefIdeal.τ).loc Cert.FwMlpOutRefIdeal.main_arg0)
      ∧ r.2.mem ((c.tc : Thread Cert.FwMlpOutRefIdeal.nD Cert.FwMlpOutRefIdeal.τ).loc Cert.FwMlpOutRefIdeal.main_arg1) = m ((c.tc : Thread Cert.FwMlpOutRefIdeal.nD Cert.FwMlpOutRefIdeal.τ).loc Cert.FwMlpOutRefIdeal.main_arg1)
      ∧ r.2.mem ((c.tc : Thread Cert.FwMlpOutRefIdeal.nD Cert.FwMlpOutRefIdeal.τ).loc Cert.FwMlpOutRefIdeal.main_arg2) = m ((c.tc : Thread Cert.FwMlpOutRefIdeal.nD Cert.FwMlpOutRefIdeal.τ).loc Cert.FwMlpOutRefIdeal.main_arg2)
      ∧ r.2.mem ((c.tc : Thread Cert.FwMlpOutRefIdeal.nD Cert.FwMlpOutRefIdeal.τ).loc Cert.FwMlpOutRefIdeal.main_arg3) = m ((c.tc : Thread Cert.FwMlpOutRefIdeal.nD Cert.FwMlpOutRefIdeal.τ).loc Cert.FwMlpOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def preserves_Relu2_Relu2Ideal : Prop :=
  True

def algebraic_Relu2Ideal_Relu2RefIdeal [hRelu2Ideal : Cert.Relu2Ideal.Facts] [hRelu2RefIdeal : Cert.Relu2RefIdeal.Facts] : Prop :=
  ∀ (m : (ℓ : Loc Cert.Relu2Ideal.nD Cert.Relu2Ideal.τ Cert.Relu2Ideal.sig) → Buf (Elt Ideal) ℓ) (g : Dev Cert.Relu2Ideal.nD → PrngReg)
    (m' : (ℓ : Loc Cert.Relu2RefIdeal.nD Cert.Relu2RefIdeal.τ Cert.Relu2RefIdeal.sig) → Buf (Elt Ideal) ℓ) (g' : Dev Cert.Relu2RefIdeal.nD → PrngReg), Pre_Relu2Ideal m →
    (∀ c : Dev Cert.Relu2Ideal.nD,
      m' ((c.tc : Thread Cert.Relu2RefIdeal.nD Cert.Relu2RefIdeal.τ).loc Cert.Relu2RefIdeal.main_arg0) = m ((c.tc : Thread Cert.Relu2Ideal.nD Cert.Relu2Ideal.τ).loc Cert.Relu2Ideal.main_arg0)
      ∧ m' ((c.tc : Thread Cert.Relu2RefIdeal.nD Cert.Relu2RefIdeal.τ).loc Cert.Relu2RefIdeal.main_arg1) = m ((c.tc : Thread Cert.Relu2Ideal.nD Cert.Relu2Ideal.τ).loc Cert.Relu2Ideal.main_arg1)
      ∧ m' ((c.tc : Thread Cert.Relu2RefIdeal.nD Cert.Relu2RefIdeal.τ).loc Cert.Relu2RefIdeal.main_arg2) = m ((c.tc : Thread Cert.Relu2Ideal.nD Cert.Relu2Ideal.τ).loc Cert.Relu2Ideal.main_arg2)) →
    ∃ (v0 : (c : Dev Cert.Relu2Ideal.nD) → Buf (Elt Ideal) ((c.tc : Thread Cert.Relu2Ideal.nD Cert.Relu2Ideal.τ).loc Cert.Relu2Ideal.main_v0)),
      θ_run (Cert.Relu2Ideal.defs (F := Ideal)) (onTc (τ := Cert.Relu2Ideal.τ) (Cert.Relu2Ideal.main (F := Ideal))) ⟨m, fun _ => 0, g⟩ (fun r => ∀ c : Dev Cert.Relu2Ideal.nD,
          r.2.mem ((c.tc : Thread Cert.Relu2Ideal.nD Cert.Relu2Ideal.τ).loc Cert.Relu2Ideal.main_v0) = v0 c
          ∧ r.2.mem ((c.tc : Thread Cert.Relu2Ideal.nD Cert.Relu2Ideal.τ).loc Cert.Relu2Ideal.main_arg0) = m ((c.tc : Thread Cert.Relu2Ideal.nD Cert.Relu2Ideal.τ).loc Cert.Relu2Ideal.main_arg0)
          ∧ r.2.mem ((c.tc : Thread Cert.Relu2Ideal.nD Cert.Relu2Ideal.τ).loc Cert.Relu2Ideal.main_arg1) = m ((c.tc : Thread Cert.Relu2Ideal.nD Cert.Relu2Ideal.τ).loc Cert.Relu2Ideal.main_arg1)
          ∧ r.2.mem ((c.tc : Thread Cert.Relu2Ideal.nD Cert.Relu2Ideal.τ).loc Cert.Relu2Ideal.main_arg2) = m ((c.tc : Thread Cert.Relu2Ideal.nD Cert.Relu2Ideal.τ).loc Cert.Relu2Ideal.main_arg2))
      ∧ θ_run (Cert.Relu2RefIdeal.defs (F := Ideal)) (onTc (τ := Cert.Relu2RefIdeal.τ) (Cert.Relu2RefIdeal.main (F := Ideal))) ⟨m', fun _ => 0, g'⟩ (fun r => ∀ c : Dev Cert.Relu2RefIdeal.nD,
          r.2.mem ((c.tc : Thread Cert.Relu2RefIdeal.nD Cert.Relu2RefIdeal.τ).loc Cert.Relu2RefIdeal.main_v15) = v0 c
          ∧ r.2.mem ((c.tc : Thread Cert.Relu2RefIdeal.nD Cert.Relu2RefIdeal.τ).loc Cert.Relu2RefIdeal.main_arg0) = m' ((c.tc : Thread Cert.Relu2RefIdeal.nD Cert.Relu2RefIdeal.τ).loc Cert.Relu2RefIdeal.main_arg0)
          ∧ r.2.mem ((c.tc : Thread Cert.Relu2RefIdeal.nD Cert.Relu2RefIdeal.τ).loc Cert.Relu2RefIdeal.main_arg1) = m' ((c.tc : Thread Cert.Relu2RefIdeal.nD Cert.Relu2RefIdeal.τ).loc Cert.Relu2RefIdeal.main_arg1)
          ∧ r.2.mem ((c.tc : Thread Cert.Relu2RefIdeal.nD Cert.Relu2RefIdeal.τ).loc Cert.Relu2RefIdeal.main_arg2) = m' ((c.tc : Thread Cert.Relu2RefIdeal.nD Cert.Relu2RefIdeal.τ).loc Cert.Relu2RefIdeal.main_arg2))

def preserves_AttnOne_AttnOneIdeal : Prop :=
  True

def algebraic_AttnOneIdeal_AttnOneRefIdeal_pre_finite_attn [hAttnOneIdeal : Cert.AttnOneIdeal.Facts] [hAttnOneRefIdeal : Cert.AttnOneRefIdeal.Facts] [hPre_finite_attn : Cert.Pre_finite_attn.Facts] : Prop :=
  ∀ (m : (ℓ : Loc Cert.AttnOneIdeal.nD Cert.AttnOneIdeal.τ Cert.AttnOneIdeal.sig) → Buf (Elt Ideal) ℓ) (g : Dev Cert.AttnOneIdeal.nD → PrngReg)
    (m' : (ℓ : Loc Cert.AttnOneRefIdeal.nD Cert.AttnOneRefIdeal.τ Cert.AttnOneRefIdeal.sig) → Buf (Elt Ideal) ℓ) (g' : Dev Cert.AttnOneRefIdeal.nD → PrngReg), Pre_AttnOneIdeal_finite_attn m →
    (∀ c : Dev Cert.AttnOneIdeal.nD,
      m' ((c.tc : Thread Cert.AttnOneRefIdeal.nD Cert.AttnOneRefIdeal.τ).loc Cert.AttnOneRefIdeal.main_arg0) = m ((c.tc : Thread Cert.AttnOneIdeal.nD Cert.AttnOneIdeal.τ).loc Cert.AttnOneIdeal.main_arg0)
      ∧ m' ((c.tc : Thread Cert.AttnOneRefIdeal.nD Cert.AttnOneRefIdeal.τ).loc Cert.AttnOneRefIdeal.main_arg1) = m ((c.tc : Thread Cert.AttnOneIdeal.nD Cert.AttnOneIdeal.τ).loc Cert.AttnOneIdeal.main_arg1)
      ∧ m' ((c.tc : Thread Cert.AttnOneRefIdeal.nD Cert.AttnOneRefIdeal.τ).loc Cert.AttnOneRefIdeal.main_arg2) = m ((c.tc : Thread Cert.AttnOneIdeal.nD Cert.AttnOneIdeal.τ).loc Cert.AttnOneIdeal.main_arg2)) →
    ∃ (v0 : (c : Dev Cert.AttnOneIdeal.nD) → Buf (Elt Ideal) ((c.tc : Thread Cert.AttnOneIdeal.nD Cert.AttnOneIdeal.τ).loc Cert.AttnOneIdeal.main_v54_0)) (v1 : (c : Dev Cert.AttnOneIdeal.nD) → Buf (Elt Ideal) ((c.tc : Thread Cert.AttnOneIdeal.nD Cert.AttnOneIdeal.τ).loc Cert.AttnOneIdeal.main_v54_1)) (v2 : (c : Dev Cert.AttnOneIdeal.nD) → Buf (Elt Ideal) ((c.tc : Thread Cert.AttnOneIdeal.nD Cert.AttnOneIdeal.τ).loc Cert.AttnOneIdeal.main_v54_2)),
      θ_run (Cert.AttnOneIdeal.defs (F := Ideal)) (onTc (τ := Cert.AttnOneIdeal.τ) (Cert.AttnOneIdeal.main (F := Ideal))) ⟨m, fun _ => 0, g⟩ (fun r => ∀ c : Dev Cert.AttnOneIdeal.nD,
          r.2.mem ((c.tc : Thread Cert.AttnOneIdeal.nD Cert.AttnOneIdeal.τ).loc Cert.AttnOneIdeal.main_v54_0) = v0 c
          ∧ r.2.mem ((c.tc : Thread Cert.AttnOneIdeal.nD Cert.AttnOneIdeal.τ).loc Cert.AttnOneIdeal.main_v54_1) = v1 c
          ∧ r.2.mem ((c.tc : Thread Cert.AttnOneIdeal.nD Cert.AttnOneIdeal.τ).loc Cert.AttnOneIdeal.main_v54_2) = v2 c
          ∧ r.2.mem ((c.tc : Thread Cert.AttnOneIdeal.nD Cert.AttnOneIdeal.τ).loc Cert.AttnOneIdeal.main_arg0) = m ((c.tc : Thread Cert.AttnOneIdeal.nD Cert.AttnOneIdeal.τ).loc Cert.AttnOneIdeal.main_arg0)
          ∧ r.2.mem ((c.tc : Thread Cert.AttnOneIdeal.nD Cert.AttnOneIdeal.τ).loc Cert.AttnOneIdeal.main_arg1) = m ((c.tc : Thread Cert.AttnOneIdeal.nD Cert.AttnOneIdeal.τ).loc Cert.AttnOneIdeal.main_arg1)
          ∧ r.2.mem ((c.tc : Thread Cert.AttnOneIdeal.nD Cert.AttnOneIdeal.τ).loc Cert.AttnOneIdeal.main_arg2) = m ((c.tc : Thread Cert.AttnOneIdeal.nD Cert.AttnOneIdeal.τ).loc Cert.AttnOneIdeal.main_arg2))
      ∧ θ_run (Cert.AttnOneRefIdeal.defs (F := Ideal)) (onTc (τ := Cert.AttnOneRefIdeal.τ) (Cert.AttnOneRefIdeal.main (F := Ideal))) ⟨m', fun _ => 0, g'⟩ (fun r => ∀ c : Dev Cert.AttnOneRefIdeal.nD,
          r.2.mem ((c.tc : Thread Cert.AttnOneRefIdeal.nD Cert.AttnOneRefIdeal.τ).loc Cert.AttnOneRefIdeal.main_v94) = v0 c
          ∧ r.2.mem ((c.tc : Thread Cert.AttnOneRefIdeal.nD Cert.AttnOneRefIdeal.τ).loc Cert.AttnOneRefIdeal.main_v93) = v1 c
          ∧ r.2.mem ((c.tc : Thread Cert.AttnOneRefIdeal.nD Cert.AttnOneRefIdeal.τ).loc Cert.AttnOneRefIdeal.main_v92) = v2 c
          ∧ r.2.mem ((c.tc : Thread Cert.AttnOneRefIdeal.nD Cert.AttnOneRefIdeal.τ).loc Cert.AttnOneRefIdeal.main_arg0) = m' ((c.tc : Thread Cert.AttnOneRefIdeal.nD Cert.AttnOneRefIdeal.τ).loc Cert.AttnOneRefIdeal.main_arg0)
          ∧ r.2.mem ((c.tc : Thread Cert.AttnOneRefIdeal.nD Cert.AttnOneRefIdeal.τ).loc Cert.AttnOneRefIdeal.main_arg1) = m' ((c.tc : Thread Cert.AttnOneRefIdeal.nD Cert.AttnOneRefIdeal.τ).loc Cert.AttnOneRefIdeal.main_arg1)
          ∧ r.2.mem ((c.tc : Thread Cert.AttnOneRefIdeal.nD Cert.AttnOneRefIdeal.τ).loc Cert.AttnOneRefIdeal.main_arg2) = m' ((c.tc : Thread Cert.AttnOneRefIdeal.nD Cert.AttnOneRefIdeal.τ).loc Cert.AttnOneRefIdeal.main_arg2))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)
      ∧ m' ((c.tc : Thread Cert.NormInRefIdeal.nD Cert.NormInRefIdeal.τ).loc Cert.NormInRefIdeal.main_arg3) = m ((c.tc : Thread Cert.NormInIdeal.nD Cert.NormInIdeal.τ).loc Cert.NormInIdeal.main_arg3)
      ∧ m' ((c.tc : Thread Cert.NormInRefIdeal.nD Cert.NormInRefIdeal.τ).loc Cert.NormInRefIdeal.main_arg4) = m ((c.tc : Thread Cert.NormInIdeal.nD Cert.NormInIdeal.τ).loc Cert.NormInIdeal.main_arg4)) →
    ∃ (v0 : (c : Dev Cert.NormInIdeal.nD) → Buf (Elt Ideal) ((c.tc : Thread Cert.NormInIdeal.nD Cert.NormInIdeal.τ).loc Cert.NormInIdeal.main_v11_0)) (v1 : (c : Dev Cert.NormInIdeal.nD) → Buf (Elt Ideal) ((c.tc : Thread Cert.NormInIdeal.nD Cert.NormInIdeal.τ).loc Cert.NormInIdeal.main_v11_1)) (v2 : (c : Dev Cert.NormInIdeal.nD) → Buf (Elt Ideal) ((c.tc : Thread Cert.NormInIdeal.nD Cert.NormInIdeal.τ).loc Cert.NormInIdeal.main_v11_2)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v11_0) = v0 c
          ∧ r.2.mem ((c.tc : Thread Cert.NormInIdeal.nD Cert.NormInIdeal.τ).loc Cert.NormInIdeal.main_v11_1) = v1 c
          ∧ r.2.mem ((c.tc : Thread Cert.NormInIdeal.nD Cert.NormInIdeal.τ).loc Cert.NormInIdeal.main_v11_2) = v2 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
          ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v37) = v0 c
          ∧ r.2.mem ((c.tc : Thread Cert.NormInRefIdeal.nD Cert.NormInRefIdeal.τ).loc Cert.NormInRefIdeal.main_v39) = v1 c
          ∧ r.2.mem ((c.tc : Thread Cert.NormInRefIdeal.nD Cert.NormInRefIdeal.τ).loc Cert.NormInRefIdeal.main_v20) = v2 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2)
          ∧ r.2.mem ((c.tc : Thread Cert.NormInRefIdeal.nD Cert.NormInRefIdeal.τ).loc Cert.NormInRefIdeal.main_arg3) = m' ((c.tc : Thread Cert.NormInRefIdeal.nD Cert.NormInRefIdeal.τ).loc Cert.NormInRefIdeal.main_arg3)
          ∧ r.2.mem ((c.tc : Thread Cert.NormInRefIdeal.nD Cert.NormInRefIdeal.τ).loc Cert.NormInRefIdeal.main_arg4) = m' ((c.tc : Thread Cert.NormInRefIdeal.nD Cert.NormInRefIdeal.τ).loc Cert.NormInRefIdeal.main_arg4))

def preserves_NormProj_NormProjIdeal : Prop :=
  True

def algebraic_NormProjIdeal_NormProjRefIdeal [hNormProjIdeal : Cert.NormProjIdeal.Facts] [hNormProjRefIdeal : Cert.NormProjRefIdeal.Facts] : Prop :=
  ∀ (m : (ℓ : Loc Cert.NormProjIdeal.nD Cert.NormProjIdeal.τ Cert.NormProjIdeal.sig) → Buf (Elt Ideal) ℓ) (g : Dev Cert.NormProjIdeal.nD → PrngReg)
    (m' : (ℓ : Loc Cert.NormProjRefIdeal.nD Cert.NormProjRefIdeal.τ Cert.NormProjRefIdeal.sig) → Buf (Elt Ideal) ℓ) (g' : Dev Cert.NormProjRefIdeal.nD → PrngReg), Pre_NormProjIdeal m →
    (∀ c : Dev Cert.NormProjIdeal.nD,
      m' ((c.tc : Thread Cert.NormProjRefIdeal.nD Cert.NormProjRefIdeal.τ).loc Cert.NormProjRefIdeal.main_arg0) = m ((c.tc : Thread Cert.NormProjIdeal.nD Cert.NormProjIdeal.τ).loc Cert.NormProjIdeal.main_arg0)
      ∧ m' ((c.tc : Thread Cert.NormProjRefIdeal.nD Cert.NormProjRefIdeal.τ).loc Cert.NormProjRefIdeal.main_arg1) = m ((c.tc : Thread Cert.NormProjIdeal.nD Cert.NormProjIdeal.τ).loc Cert.NormProjIdeal.main_arg1)
      ∧ m' ((c.tc : Thread Cert.NormProjRefIdeal.nD Cert.NormProjRefIdeal.τ).loc Cert.NormProjRefIdeal.main_arg2) = m ((c.tc : Thread Cert.NormProjIdeal.nD Cert.NormProjIdeal.τ).loc Cert.NormProjIdeal.main_arg2)
      ∧ m' ((c.tc : Thread Cert.NormProjRefIdeal.nD Cert.NormProjRefIdeal.τ).loc Cert.NormProjRefIdeal.main_arg3) = m ((c.tc : Thread Cert.NormProjIdeal.nD Cert.NormProjIdeal.τ).loc Cert.NormProjIdeal.main_arg3)
      ∧ m' ((c.tc : Thread Cert.NormProjRefIdeal.nD Cert.NormProjRefIdeal.τ).loc Cert.NormProjRefIdeal.main_arg4) = m ((c.tc : Thread Cert.NormProjIdeal.nD Cert.NormProjIdeal.τ).loc Cert.NormProjIdeal.main_arg4)) →
    ∃ (v0 : (c : Dev Cert.NormProjIdeal.nD) → Buf (Elt Ideal) ((c.tc : Thread Cert.NormProjIdeal.nD Cert.NormProjIdeal.τ).loc Cert.NormProjIdeal.main_v10_0)) (v1 : (c : Dev Cert.NormProjIdeal.nD) → Buf (Elt Ideal) ((c.tc : Thread Cert.NormProjIdeal.nD Cert.NormProjIdeal.τ).loc Cert.NormProjIdeal.main_v10_1)) (v2 : (c : Dev Cert.NormProjIdeal.nD) → Buf (Elt Ideal) ((c.tc : Thread Cert.NormProjIdeal.nD Cert.NormProjIdeal.τ).loc Cert.NormProjIdeal.main_v10_2)),
      θ_run (Cert.NormProjIdeal.defs (F := Ideal)) (onTc (τ := Cert.NormProjIdeal.τ) (Cert.NormProjIdeal.main (F := Ideal))) ⟨m, fun _ => 0, g⟩ (fun r => ∀ c : Dev Cert.NormProjIdeal.nD,
          r.2.mem ((c.tc : Thread Cert.NormProjIdeal.nD Cert.NormProjIdeal.τ).loc Cert.NormProjIdeal.main_v10_0) = v0 c
          ∧ r.2.mem ((c.tc : Thread Cert.NormProjIdeal.nD Cert.NormProjIdeal.τ).loc Cert.NormProjIdeal.main_v10_1) = v1 c
          ∧ r.2.mem ((c.tc : Thread Cert.NormProjIdeal.nD Cert.NormProjIdeal.τ).loc Cert.NormProjIdeal.main_v10_2) = v2 c
          ∧ r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
          ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
          ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2)
          ∧ r.2.mem ((c.tc : Thread Cert.NormProjIdeal.nD Cert.NormProjIdeal.τ).loc Cert.NormProjIdeal.main_arg3) = m ((c.tc : Thread Cert.NormProjIdeal.nD Cert.NormProjIdeal.τ).loc Cert.NormProjIdeal.main_arg3)
          ∧ r.2.mem ((c.tc : Thread Cert.NormProjIdeal.nD Cert.NormProjIdeal.τ).loc Cert.NormProjIdeal.main_arg4) = m ((c.tc : Thread Cert.NormProjIdeal.nD Cert.NormProjIdeal.τ).loc Cert.NormProjIdeal.main_arg4))
      ∧ θ_run (Cert.NormProjRefIdeal.defs (F := Ideal)) (onTc (τ := Cert.NormProjRefIdeal.τ) (Cert.NormProjRefIdeal.main (F := Ideal))) ⟨m', fun _ => 0, g'⟩ (fun r => ∀ c : Dev Cert.NormProjRefIdeal.nD,
          r.2.mem ((c.tc : Thread Cert.NormProjRefIdeal.nD Cert.NormProjRefIdeal.τ).loc Cert.NormProjRefIdeal.main_v37) = v0 c
          ∧ r.2.mem ((c.tc : Thread Cert.NormProjRefIdeal.nD Cert.NormProjRefIdeal.τ).loc Cert.NormProjRefIdeal.main_v39) = v1 c
          ∧ r.2.mem ((c.tc : Thread Cert.NormProjRefIdeal.nD Cert.NormProjRefIdeal.τ).loc Cert.NormProjRefIdeal.main_v20) = v2 c
          ∧ r.2.mem ((c.tc : Thread Cert.NormProjRefIdeal.nD Cert.NormProjRefIdeal.τ).loc Cert.NormProjRefIdeal.main_arg0) = m' ((c.tc : Thread Cert.NormProjRefIdeal.nD Cert.NormProjRefIdeal.τ).loc Cert.NormProjRefIdeal.main_arg0)
          ∧ r.2.mem ((c.tc : Thread Cert.NormProjRefIdeal.nD Cert.NormProjRefIdeal.τ).loc Cert.NormProjRefIdeal.main_arg1) = m' ((c.tc : Thread Cert.NormProjRefIdeal.nD Cert.NormProjRefIdeal.τ).loc Cert.NormProjRefIdeal.main_arg1)
          ∧ r.2.mem ((c.tc : Thread Cert.NormProjRefIdeal.nD Cert.NormProjRefIdeal.τ).loc Cert.NormProjRefIdeal.main_arg2) = m' ((c.tc : Thread Cert.NormProjRefIdeal.nD Cert.NormProjRefIdeal.τ).loc Cert.NormProjRefIdeal.main_arg2)
          ∧ r.2.mem ((c.tc : Thread Cert.NormProjRefIdeal.nD Cert.NormProjRefIdeal.τ).loc Cert.NormProjRefIdeal.main_arg3) = m' ((c.tc : Thread Cert.NormProjRefIdeal.nD Cert.NormProjRefIdeal.τ).loc Cert.NormProjRefIdeal.main_arg3)
          ∧ r.2.mem ((c.tc : Thread Cert.NormProjRefIdeal.nD Cert.NormProjRefIdeal.τ).loc Cert.NormProjRefIdeal.main_arg4) = m' ((c.tc : Thread Cert.NormProjRefIdeal.nD Cert.NormProjRefIdeal.τ).loc Cert.NormProjRefIdeal.main_arg4))

def preserves_WgMlpOut_WgMlpOutIdeal : Prop :=
  True

def algebraic_WgMlpOutIdeal_WgMlpOutRefIdeal [hWgMlpOutIdeal : Cert.WgMlpOutIdeal.Facts] [hWgMlpOutRefIdeal : Cert.WgMlpOutRefIdeal.Facts] : Prop :=
  ∀ (m : (ℓ : Loc Cert.WgMlpOutIdeal.nD Cert.WgMlpOutIdeal.τ Cert.WgMlpOutIdeal.sig) → Buf (Elt Ideal) ℓ) (g : Dev Cert.WgMlpOutIdeal.nD → PrngReg)
    (m' : (ℓ : Loc Cert.WgMlpOutRefIdeal.nD Cert.WgMlpOutRefIdeal.τ Cert.WgMlpOutRefIdeal.sig) → Buf (Elt Ideal) ℓ) (g' : Dev Cert.WgMlpOutRefIdeal.nD → PrngReg), Pre_WgMlpOutIdeal m →
    (∀ c : Dev Cert.WgMlpOutIdeal.nD,
      m' ((c.tc : Thread Cert.WgMlpOutRefIdeal.nD Cert.WgMlpOutRefIdeal.τ).loc Cert.WgMlpOutRefIdeal.main_arg0) = m ((c.tc : Thread Cert.WgMlpOutIdeal.nD Cert.WgMlpOutIdeal.τ).loc Cert.WgMlpOutIdeal.main_arg0)
      ∧ m' ((c.tc : Thread Cert.WgMlpOutRefIdeal.nD Cert.WgMlpOutRefIdeal.τ).loc Cert.WgMlpOutRefIdeal.main_arg1) = m ((c.tc : Thread Cert.WgMlpOutIdeal.nD Cert.WgMlpOutIdeal.τ).loc Cert.WgMlpOutIdeal.main_arg1)) →
    ∃ (v0 : (c : Dev Cert.WgMlpOutIdeal.nD) → Buf (Elt Ideal) ((c.tc : Thread Cert.WgMlpOutIdeal.nD Cert.WgMlpOutIdeal.τ).loc Cert.WgMlpOutIdeal.main_v4)),
      θ_run (Cert.WgMlpOutIdeal.defs (F := Ideal)) (onTc (τ := Cert.WgMlpOutIdeal.τ) (Cert.WgMlpOutIdeal.main (F := Ideal))) ⟨m, fun _ => 0, g⟩ (fun r => ∀ c : Dev Cert.WgMlpOutIdeal.nD,
          r.2.mem ((c.tc : Thread Cert.WgMlpOutIdeal.nD Cert.WgMlpOutIdeal.τ).loc Cert.WgMlpOutIdeal.main_v4) = v0 c
          ∧ r.2.mem ((c.tc : Thread Cert.WgMlpOutIdeal.nD Cert.WgMlpOutIdeal.τ).loc Cert.WgMlpOutIdeal.main_arg0) = m ((c.tc : Thread Cert.WgMlpOutIdeal.nD Cert.WgMlpOutIdeal.τ).loc Cert.WgMlpOutIdeal.main_arg0)
          ∧ r.2.mem ((c.tc : Thread Cert.WgMlpOutIdeal.nD Cert.WgMlpOutIdeal.τ).loc Cert.WgMlpOutIdeal.main_arg1) = m ((c.tc : Thread Cert.WgMlpOutIdeal.nD Cert.WgMlpOutIdeal.τ).loc Cert.WgMlpOutIdeal.main_arg1))
      ∧ θ_run (Cert.WgMlpOutRefIdeal.defs (F := Ideal)) (onTc (τ := Cert.WgMlpOutRefIdeal.τ) (Cert.WgMlpOutRefIdeal.main (F := Ideal))) ⟨m', fun _ => 0, g'⟩ (fun r => ∀ c : Dev Cert.WgMlpOutRefIdeal.nD,
          r.2.mem ((c.tc : Thread Cert.WgMlpOutRefIdeal.nD Cert.WgMlpOutRefIdeal.τ).loc Cert.WgMlpOutRefIdeal.main_v8) = v0 c
          ∧ r.2.mem ((c.tc : Thread Cert.WgMlpOutRefIdeal.nD Cert.WgMlpOutRefIdeal.τ).loc Cert.WgMlpOutRefIdeal.main_arg0) = m' ((c.tc : Thread Cert.WgMlpOutRefIdeal.nD Cert.WgMlpOutRefIdeal.τ).loc Cert.WgMlpOutRefIdeal.main_arg0)
          ∧ r.2.mem ((c.tc : Thread Cert.WgMlpOutRefIdeal.nD Cert.WgMlpOutRefIdeal.τ).loc Cert.WgMlpOutRefIdeal.main_arg1) = m' ((c.tc : Thread Cert.WgMlpOutRefIdeal.nD Cert.WgMlpOutRefIdeal.τ).loc Cert.WgMlpOutRefIdeal.main_arg1))

def preserves_WgProjIn_WgProjInIdeal : Prop :=
  True

def algebraic_WgProjInIdeal_WgProjInRefIdeal [hWgProjInIdeal : Cert.WgProjInIdeal.Facts] [hWgProjInRefIdeal : Cert.WgProjInRefIdeal.Facts] : Prop :=
  ∀ (m : (ℓ : Loc Cert.WgProjInIdeal.nD Cert.WgProjInIdeal.τ Cert.WgProjInIdeal.sig) → Buf (Elt Ideal) ℓ) (g : Dev Cert.WgProjInIdeal.nD → PrngReg)
    (m' : (ℓ : Loc Cert.WgProjInRefIdeal.nD Cert.WgProjInRefIdeal.τ Cert.WgProjInRefIdeal.sig) → Buf (Elt Ideal) ℓ) (g' : Dev Cert.WgProjInRefIdeal.nD → PrngReg), Pre_WgProjInIdeal m →
    (∀ c : Dev Cert.WgProjInIdeal.nD,
      m' ((c.tc : Thread Cert.WgProjInRefIdeal.nD Cert.WgProjInRefIdeal.τ).loc Cert.WgProjInRefIdeal.main_arg0) = m ((c.tc : Thread Cert.WgProjInIdeal.nD Cert.WgProjInIdeal.τ).loc Cert.WgProjInIdeal.main_arg0)
      ∧ m' ((c.tc : Thread Cert.WgProjInRefIdeal.nD Cert.WgProjInRefIdeal.τ).loc Cert.WgProjInRefIdeal.main_arg1) = m ((c.tc : Thread Cert.WgProjInIdeal.nD Cert.WgProjInIdeal.τ).loc Cert.WgProjInIdeal.main_arg1)) →
    ∃ (v0 : (c : Dev Cert.WgProjInIdeal.nD) → Buf (Elt Ideal) ((c.tc : Thread Cert.WgProjInIdeal.nD Cert.WgProjInIdeal.τ).loc Cert.WgProjInIdeal.main_v0)),
      θ_run (Cert.WgProjInIdeal.defs (F := Ideal)) (onTc (τ := Cert.WgProjInIdeal.τ) (Cert.WgProjInIdeal.main (F := Ideal))) ⟨m, fun _ => 0, g⟩ (fun r => ∀ c : Dev Cert.WgProjInIdeal.nD,
          r.2.mem ((c.tc : Thread Cert.WgProjInIdeal.nD Cert.WgProjInIdeal.τ).loc Cert.WgProjInIdeal.main_v0) = v0 c
          ∧ r.2.mem ((c.tc : Thread Cert.WgProjInIdeal.nD Cert.WgProjInIdeal.τ).loc Cert.WgProjInIdeal.main_arg0) = m ((c.tc : Thread Cert.WgProjInIdeal.nD Cert.WgProjInIdeal.τ).loc Cert.WgProjInIdeal.main_arg0)
          ∧ r.2.mem ((c.tc : Thread Cert.WgProjInIdeal.nD Cert.WgProjInIdeal.τ).loc Cert.WgProjInIdeal.main_arg1) = m ((c.tc : Thread Cert.WgProjInIdeal.nD Cert.WgProjInIdeal.τ).loc Cert.WgProjInIdeal.main_arg1))
      ∧ θ_run (Cert.WgProjInRefIdeal.defs (F := Ideal)) (onTc (τ := Cert.WgProjInRefIdeal.τ) (Cert.WgProjInRefIdeal.main (F := Ideal))) ⟨m', fun _ => 0, g'⟩ (fun r => ∀ c : Dev Cert.WgProjInRefIdeal.nD,
          r.2.mem ((c.tc : Thread Cert.WgProjInRefIdeal.nD Cert.WgProjInRefIdeal.τ).loc Cert.WgProjInRefIdeal.main_v7) = v0 c
          ∧ r.2.mem ((c.tc : Thread Cert.WgProjInRefIdeal.nD Cert.WgProjInRefIdeal.τ).loc Cert.WgProjInRefIdeal.main_arg0) = m' ((c.tc : Thread Cert.WgProjInRefIdeal.nD Cert.WgProjInRefIdeal.τ).loc Cert.WgProjInRefIdeal.main_arg0)
          ∧ r.2.mem ((c.tc : Thread Cert.WgProjInRefIdeal.nD Cert.WgProjInRefIdeal.τ).loc Cert.WgProjInRefIdeal.main_arg1) = m' ((c.tc : Thread Cert.WgProjInRefIdeal.nD Cert.WgProjInRefIdeal.τ).loc Cert.WgProjInRefIdeal.main_arg1))

def preserves_WgMlpIn_WgMlpInIdeal : Prop :=
  True

def algebraic_WgMlpInIdeal_WgMlpInRefIdeal [hWgMlpInIdeal : Cert.WgMlpInIdeal.Facts] [hWgMlpInRefIdeal : Cert.WgMlpInRefIdeal.Facts] : Prop :=
  ∀ (m : (ℓ : Loc Cert.WgMlpInIdeal.nD Cert.WgMlpInIdeal.τ Cert.WgMlpInIdeal.sig) → Buf (Elt Ideal) ℓ) (g : Dev Cert.WgMlpInIdeal.nD → PrngReg)
    (m' : (ℓ : Loc Cert.WgMlpInRefIdeal.nD Cert.WgMlpInRefIdeal.τ Cert.WgMlpInRefIdeal.sig) → Buf (Elt Ideal) ℓ) (g' : Dev Cert.WgMlpInRefIdeal.nD → PrngReg), Pre_WgMlpInIdeal m →
    (∀ c : Dev Cert.WgMlpInIdeal.nD,
      m' ((c.tc : Thread Cert.WgMlpInRefIdeal.nD Cert.WgMlpInRefIdeal.τ).loc Cert.WgMlpInRefIdeal.main_arg0) = m ((c.tc : Thread Cert.WgMlpInIdeal.nD Cert.WgMlpInIdeal.τ).loc Cert.WgMlpInIdeal.main_arg0)
      ∧ m' ((c.tc : Thread Cert.WgMlpInRefIdeal.nD Cert.WgMlpInRefIdeal.τ).loc Cert.WgMlpInRefIdeal.main_arg1) = m ((c.tc : Thread Cert.WgMlpInIdeal.nD Cert.WgMlpInIdeal.τ).loc Cert.WgMlpInIdeal.main_arg1)) →
    ∃ (v0 : (c : Dev Cert.WgMlpInIdeal.nD) → Buf (Elt Ideal) ((c.tc : Thread Cert.WgMlpInIdeal.nD Cert.WgMlpInIdeal.τ).loc Cert.WgMlpInIdeal.main_v0)),
      θ_run (Cert.WgMlpInIdeal.defs (F := Ideal)) (onTc (τ := Cert.WgMlpInIdeal.τ) (Cert.WgMlpInIdeal.main (F := Ideal))) ⟨m, fun _ => 0, g⟩ (fun r => ∀ c : Dev Cert.WgMlpInIdeal.nD,
          r.2.mem ((c.tc : Thread Cert.WgMlpInIdeal.nD Cert.WgMlpInIdeal.τ).loc Cert.WgMlpInIdeal.main_v0) = v0 c
          ∧ r.2.mem ((c.tc : Thread Cert.WgMlpInIdeal.nD Cert.WgMlpInIdeal.τ).loc Cert.WgMlpInIdeal.main_arg0) = m ((c.tc : Thread Cert.WgMlpInIdeal.nD Cert.WgMlpInIdeal.τ).loc Cert.WgMlpInIdeal.main_arg0)
          ∧ r.2.mem ((c.tc : Thread Cert.WgMlpInIdeal.nD Cert.WgMlpInIdeal.τ).loc Cert.WgMlpInIdeal.main_arg1) = m ((c.tc : Thread Cert.WgMlpInIdeal.nD Cert.WgMlpInIdeal.τ).loc Cert.WgMlpInIdeal.main_arg1))
      ∧ θ_run (Cert.WgMlpInRefIdeal.defs (F := Ideal)) (onTc (τ := Cert.WgMlpInRefIdeal.τ) (Cert.WgMlpInRefIdeal.main (F := Ideal))) ⟨m', fun _ => 0, g'⟩ (fun r => ∀ c : Dev Cert.WgMlpInRefIdeal.nD,
          r.2.mem ((c.tc : Thread Cert.WgMlpInRefIdeal.nD Cert.WgMlpInRefIdeal.τ).loc Cert.WgMlpInRefIdeal.main_v8) = v0 c
          ∧ r.2.mem ((c.tc : Thread Cert.WgMlpInRefIdeal.nD Cert.WgMlpInRefIdeal.τ).loc Cert.WgMlpInRefIdeal.main_arg0) = m' ((c.tc : Thread Cert.WgMlpInRefIdeal.nD Cert.WgMlpInRefIdeal.τ).loc Cert.WgMlpInRefIdeal.main_arg0)
          ∧ r.2.mem ((c.tc : Thread Cert.WgMlpInRefIdeal.nD Cert.WgMlpInRefIdeal.τ).loc Cert.WgMlpInRefIdeal.main_arg1) = m' ((c.tc : Thread Cert.WgMlpInRefIdeal.nD Cert.WgMlpInRefIdeal.τ).loc Cert.WgMlpInRefIdeal.main_arg1))

def preserves_WgProjOut_WgProjOutIdeal : Prop :=
  True

def algebraic_WgProjOutIdeal_WgProjOutRefIdeal [hWgProjOutIdeal : Cert.WgProjOutIdeal.Facts] [hWgProjOutRefIdeal : Cert.WgProjOutRefIdeal.Facts] : Prop :=
  ∀ (m : (ℓ : Loc Cert.WgProjOutIdeal.nD Cert.WgProjOutIdeal.τ Cert.WgProjOutIdeal.sig) → Buf (Elt Ideal) ℓ) (g : Dev Cert.WgProjOutIdeal.nD → PrngReg)
    (m' : (ℓ : Loc Cert.WgProjOutRefIdeal.nD Cert.WgProjOutRefIdeal.τ Cert.WgProjOutRefIdeal.sig) → Buf (Elt Ideal) ℓ) (g' : Dev Cert.WgProjOutRefIdeal.nD → PrngReg), Pre_WgProjOutIdeal m →
    (∀ c : Dev Cert.WgProjOutIdeal.nD,
      m' ((c.tc : Thread Cert.WgProjOutRefIdeal.nD Cert.WgProjOutRefIdeal.τ).loc Cert.WgProjOutRefIdeal.main_arg0) = m ((c.tc : Thread Cert.WgProjOutIdeal.nD Cert.WgProjOutIdeal.τ).loc Cert.WgProjOutIdeal.main_arg0)
      ∧ m' ((c.tc : Thread Cert.WgProjOutRefIdeal.nD Cert.WgProjOutRefIdeal.τ).loc Cert.WgProjOutRefIdeal.main_arg1) = m ((c.tc : Thread Cert.WgProjOutIdeal.nD Cert.WgProjOutIdeal.τ).loc Cert.WgProjOutIdeal.main_arg1)
      ∧ m' ((c.tc : Thread Cert.WgProjOutRefIdeal.nD Cert.WgProjOutRefIdeal.τ).loc Cert.WgProjOutRefIdeal.main_arg2) = m ((c.tc : Thread Cert.WgProjOutIdeal.nD Cert.WgProjOutIdeal.τ).loc Cert.WgProjOutIdeal.main_arg2)
      ∧ m' ((c.tc : Thread Cert.WgProjOutRefIdeal.nD Cert.WgProjOutRefIdeal.τ).loc Cert.WgProjOutRefIdeal.main_arg3) = m ((c.tc : Thread Cert.WgProjOutIdeal.nD Cert.WgProjOutIdeal.τ).loc Cert.WgProjOutIdeal.main_arg3)) →
    ∃ (v0 : (c : Dev Cert.WgProjOutIdeal.nD) → Buf (Elt Ideal) ((c.tc : Thread Cert.WgProjOutIdeal.nD Cert.WgProjOutIdeal.τ).loc Cert.WgProjOutIdeal.main_v0)),
      θ_run (Cert.WgProjOutIdeal.defs (F := Ideal)) (onTc (τ := Cert.WgProjOutIdeal.τ) (Cert.WgProjOutIdeal.main (F := Ideal))) ⟨m, fun _ => 0, g⟩ (fun r => ∀ c : Dev Cert.WgProjOutIdeal.nD,
          r.2.mem ((c.tc : Thread Cert.WgProjOutIdeal.nD Cert.WgProjOutIdeal.τ).loc Cert.WgProjOutIdeal.main_v0) = v0 c
          ∧ r.2.mem ((c.tc : Thread Cert.WgProjOutIdeal.nD Cert.WgProjOutIdeal.τ).loc Cert.WgProjOutIdeal.main_arg0) = m ((c.tc : Thread Cert.WgProjOutIdeal.nD Cert.WgProjOutIdeal.τ).loc Cert.WgProjOutIdeal.main_arg0)
          ∧ r.2.mem ((c.tc : Thread Cert.WgProjOutIdeal.nD Cert.WgProjOutIdeal.τ).loc Cert.WgProjOutIdeal.main_arg1) = m ((c.tc : Thread Cert.WgProjOutIdeal.nD Cert.WgProjOutIdeal.τ).loc Cert.WgProjOutIdeal.main_arg1)
          ∧ r.2.mem ((c.tc : Thread Cert.WgProjOutIdeal.nD Cert.WgProjOutIdeal.τ).loc Cert.WgProjOutIdeal.main_arg2) = m ((c.tc : Thread Cert.WgProjOutIdeal.nD Cert.WgProjOutIdeal.τ).loc Cert.WgProjOutIdeal.main_arg2)
          ∧ r.2.mem ((c.tc : Thread Cert.WgProjOutIdeal.nD Cert.WgProjOutIdeal.τ).loc Cert.WgProjOutIdeal.main_arg3) = m ((c.tc : Thread Cert.WgProjOutIdeal.nD Cert.WgProjOutIdeal.τ).loc Cert.WgProjOutIdeal.main_arg3))
      ∧ θ_run (Cert.WgProjOutRefIdeal.defs (F := Ideal)) (onTc (τ := Cert.WgProjOutRefIdeal.τ) (Cert.WgProjOutRefIdeal.main (F := Ideal))) ⟨m', fun _ => 0, g'⟩ (fun r => ∀ c : Dev Cert.WgProjOutRefIdeal.nD,
          r.2.mem ((c.tc : Thread Cert.WgProjOutRefIdeal.nD Cert.WgProjOutRefIdeal.τ).loc Cert.WgProjOutRefIdeal.main_v7) = v0 c
          ∧ r.2.mem ((c.tc : Thread Cert.WgProjOutRefIdeal.nD Cert.WgProjOutRefIdeal.τ).loc Cert.WgProjOutRefIdeal.main_arg0) = m' ((c.tc : Thread Cert.WgProjOutRefIdeal.nD Cert.WgProjOutRefIdeal.τ).loc Cert.WgProjOutRefIdeal.main_arg0)
          ∧ r.2.mem ((c.tc : Thread Cert.WgProjOutRefIdeal.nD Cert.WgProjOutRefIdeal.τ).loc Cert.WgProjOutRefIdeal.main_arg1) = m' ((c.tc : Thread Cert.WgProjOutRefIdeal.nD Cert.WgProjOutRefIdeal.τ).loc Cert.WgProjOutRefIdeal.main_arg1)
          ∧ r.2.mem ((c.tc : Thread Cert.WgProjOutRefIdeal.nD Cert.WgProjOutRefIdeal.τ).loc Cert.WgProjOutRefIdeal.main_arg2) = m' ((c.tc : Thread Cert.WgProjOutRefIdeal.nD Cert.WgProjOutRefIdeal.τ).loc Cert.WgProjOutRefIdeal.main_arg2)
          ∧ r.2.mem ((c.tc : Thread Cert.WgProjOutRefIdeal.nD Cert.WgProjOutRefIdeal.τ).loc Cert.WgProjOutRefIdeal.main_arg3) = m' ((c.tc : Thread Cert.WgProjOutRefIdeal.nD Cert.WgProjOutRefIdeal.τ).loc Cert.WgProjOutRefIdeal.main_arg3))

def preserves_DgProjOut_DgProjOutIdeal : Prop :=
  True

def algebraic_DgProjOutIdeal_DgProjOutRefIdeal [hDgProjOutIdeal : Cert.DgProjOutIdeal.Facts] [hDgProjOutRefIdeal : Cert.DgProjOutRefIdeal.Facts] : Prop :=
  ∀ (m : (ℓ : Loc Cert.DgProjOutIdeal.nD Cert.DgProjOutIdeal.τ Cert.DgProjOutIdeal.sig) → Buf (Elt Ideal) ℓ) (g : Dev Cert.DgProjOutIdeal.nD → PrngReg)
    (m' : (ℓ : Loc Cert.DgProjOutRefIdeal.nD Cert.DgProjOutRefIdeal.τ Cert.DgProjOutRefIdeal.sig) → Buf (Elt Ideal) ℓ) (g' : Dev Cert.DgProjOutRefIdeal.nD → PrngReg), Pre_DgProjOutIdeal m →
    (∀ c : Dev Cert.DgProjOutIdeal.nD,
      m' ((c.tc : Thread Cert.DgProjOutRefIdeal.nD Cert.DgProjOutRefIdeal.τ).loc Cert.DgProjOutRefIdeal.main_arg0) = m ((c.tc : Thread Cert.DgProjOutIdeal.nD Cert.DgProjOutIdeal.τ).loc Cert.DgProjOutIdeal.main_arg0)
      ∧ m' ((c.tc : Thread Cert.DgProjOutRefIdeal.nD Cert.DgProjOutRefIdeal.τ).loc Cert.DgProjOutRefIdeal.main_arg1) = m ((c.tc : Thread Cert.DgProjOutIdeal.nD Cert.DgProjOutIdeal.τ).loc Cert.DgProjOutIdeal.main_arg1)) →
    ∃ (v0 : (c : Dev Cert.DgProjOutIdeal.nD) → Buf (Elt Ideal) ((c.tc : Thread Cert.DgProjOutIdeal.nD Cert.DgProjOutIdeal.τ).loc Cert.DgProjOutIdeal.main_v1)),
      θ_run (Cert.DgProjOutIdeal.defs (F := Ideal)) (onTc (τ := Cert.DgProjOutIdeal.τ) (Cert.DgProjOutIdeal.main (F := Ideal))) ⟨m, fun _ => 0, g⟩ (fun r => ∀ c : Dev Cert.DgProjOutIdeal.nD,
          r.2.mem ((c.tc : Thread Cert.DgProjOutIdeal.nD Cert.DgProjOutIdeal.τ).loc Cert.DgProjOutIdeal.main_v1) = v0 c
          ∧ r.2.mem ((c.tc : Thread Cert.DgProjOutIdeal.nD Cert.DgProjOutIdeal.τ).loc Cert.DgProjOutIdeal.main_arg0) = m ((c.tc : Thread Cert.DgProjOutIdeal.nD Cert.DgProjOutIdeal.τ).loc Cert.DgProjOutIdeal.main_arg0)
          ∧ r.2.mem ((c.tc : Thread Cert.DgProjOutIdeal.nD Cert.DgProjOutIdeal.τ).loc Cert.DgProjOutIdeal.main_arg1) = m ((c.tc : Thread Cert.DgProjOutIdeal.nD Cert.DgProjOutIdeal.τ).loc Cert.DgProjOutIdeal.main_arg1))
      ∧ θ_run (Cert.DgProjOutRefIdeal.defs (F := Ideal)) (onTc (τ := Cert.DgProjOutRefIdeal.τ) (Cert.DgProjOutRefIdeal.main (F := Ideal))) ⟨m', fun _ => 0, g'⟩ (fun r => ∀ c : Dev Cert.DgProjOutRefIdeal.nD,
          r.2.mem ((c.tc : Thread Cert.DgProjOutRefIdeal.nD Cert.DgProjOutRefIdeal.τ).loc Cert.DgProjOutRefIdeal.main_v4) = v0 c
          ∧ r.2.mem ((c.tc : Thread Cert.DgProjOutRefIdeal.nD Cert.DgProjOutRefIdeal.τ).loc Cert.DgProjOutRefIdeal.main_arg0) = m' ((c.tc : Thread Cert.DgProjOutRefIdeal.nD Cert.DgProjOutRefIdeal.τ).loc Cert.DgProjOutRefIdeal.main_arg0)
          ∧ r.2.mem ((c.tc : Thread Cert.DgProjOutRefIdeal.nD Cert.DgProjOutRefIdeal.τ).loc Cert.DgProjOutRefIdeal.main_arg1) = m' ((c.tc : Thread Cert.DgProjOutRefIdeal.nD Cert.DgProjOutRefIdeal.τ).loc Cert.DgProjOutRefIdeal.main_arg1))

def preserves_FwProjIn_FwProjInIdeal : Prop :=
  True

def algebraic_FwProjInIdeal_FwProjInRefIdeal [hFwProjInIdeal : Cert.FwProjInIdeal.Facts] [hFwProjInRefIdeal : Cert.FwProjInRefIdeal.Facts] : Prop :=
  ∀ (m : (ℓ : Loc Cert.FwProjInIdeal.nD Cert.FwProjInIdeal.τ Cert.FwProjInIdeal.sig) → Buf (Elt Ideal) ℓ) (g : Dev Cert.FwProjInIdeal.nD → PrngReg)
    (m' : (ℓ : Loc Cert.FwProjInRefIdeal.nD Cert.FwProjInRefIdeal.τ Cert.FwProjInRefIdeal.sig) → Buf (Elt Ideal) ℓ) (g' : Dev Cert.FwProjInRefIdeal.nD → PrngReg), Pre_FwProjInIdeal m →
    (∀ c : Dev Cert.FwProjInIdeal.nD,
      m' ((c.tc : Thread Cert.FwProjInRefIdeal.nD Cert.FwProjInRefIdeal.τ).loc Cert.FwProjInRefIdeal.main_arg0) = m ((c.tc : Thread Cert.FwProjInIdeal.nD Cert.FwProjInIdeal.τ).loc Cert.FwProjInIdeal.main_arg0)
      ∧ m' ((c.tc : Thread Cert.FwProjInRefIdeal.nD Cert.FwProjInRefIdeal.τ).loc Cert.FwProjInRefIdeal.main_arg1) = m ((c.tc : Thread Cert.FwProjInIdeal.nD Cert.FwProjInIdeal.τ).loc Cert.FwProjInIdeal.main_arg1)) →
    ∃ (v0 : (c : Dev Cert.FwProjInIdeal.nD) → Buf (Elt Ideal) ((c.tc : Thread Cert.FwProjInIdeal.nD Cert.FwProjInIdeal.τ).loc Cert.FwProjInIdeal.main_v2)),
      θ_run (Cert.FwProjInIdeal.defs (F := Ideal)) (onTc (τ := Cert.FwProjInIdeal.τ) (Cert.FwProjInIdeal.main (F := Ideal))) ⟨m, fun _ => 0, g⟩ (fun r => ∀ c : Dev Cert.FwProjInIdeal.nD,
          r.2.mem ((c.tc : Thread Cert.FwProjInIdeal.nD Cert.FwProjInIdeal.τ).loc Cert.FwProjInIdeal.main_v2) = v0 c
          ∧ r.2.mem ((c.tc : Thread Cert.FwProjInIdeal.nD Cert.FwProjInIdeal.τ).loc Cert.FwProjInIdeal.main_arg0) = m ((c.tc : Thread Cert.FwProjInIdeal.nD Cert.FwProjInIdeal.τ).loc Cert.FwProjInIdeal.main_arg0)
          ∧ r.2.mem ((c.tc : Thread Cert.FwProjInIdeal.nD Cert.FwProjInIdeal.τ).loc Cert.FwProjInIdeal.main_arg1) = m ((c.tc : Thread Cert.FwProjInIdeal.nD Cert.FwProjInIdeal.τ).loc Cert.FwProjInIdeal.main_arg1))
      ∧ θ_run (Cert.FwProjInRefIdeal.defs (F := Ideal)) (onTc (τ := Cert.FwProjInRefIdeal.τ) (Cert.FwProjInRefIdeal.main (F := Ideal))) ⟨m', fun _ => 0, g'⟩ (fun r => ∀ c : Dev Cert.FwProjInRefIdeal.nD,
          r.2.mem ((c.tc : Thread Cert.FwProjInRefIdeal.nD Cert.FwProjInRefIdeal.τ).loc Cert.FwProjInRefIdeal.main_v2) = v0 c
          ∧ r.2.mem ((c.tc : Thread Cert.FwProjInRefIdeal.nD Cert.FwProjInRefIdeal.τ).loc Cert.FwProjInRefIdeal.main_arg0) = m' ((c.tc : Thread Cert.FwProjInRefIdeal.nD Cert.FwProjInRefIdeal.τ).loc Cert.FwProjInRefIdeal.main_arg0)
          ∧ r.2.mem ((c.tc : Thread Cert.FwProjInRefIdeal.nD Cert.FwProjInRefIdeal.τ).loc Cert.FwProjInRefIdeal.main_arg1) = m' ((c.tc : Thread Cert.FwProjInRefIdeal.nD Cert.FwProjInRefIdeal.τ).loc Cert.FwProjInRefIdeal.main_arg1))

def preserves_FwMlpIn_FwMlpInIdeal : Prop :=
  True

def algebraic_FwMlpInIdeal_FwMlpInRefIdeal [hFwMlpInIdeal : Cert.FwMlpInIdeal.Facts] [hFwMlpInRefIdeal : Cert.FwMlpInRefIdeal.Facts] : Prop :=
  ∀ (m : (ℓ : Loc Cert.FwMlpInIdeal.nD Cert.FwMlpInIdeal.τ Cert.FwMlpInIdeal.sig) → Buf (Elt Ideal) ℓ) (g : Dev Cert.FwMlpInIdeal.nD → PrngReg)
    (m' : (ℓ : Loc Cert.FwMlpInRefIdeal.nD Cert.FwMlpInRefIdeal.τ Cert.FwMlpInRefIdeal.sig) → Buf (Elt Ideal) ℓ) (g' : Dev Cert.FwMlpInRefIdeal.nD → PrngReg), Pre_FwMlpInIdeal m →
    (∀ c : Dev Cert.FwMlpInIdeal.nD,
      m' ((c.tc : Thread Cert.FwMlpInRefIdeal.nD Cert.FwMlpInRefIdeal.τ).loc Cert.FwMlpInRefIdeal.main_arg0) = m ((c.tc : Thread Cert.FwMlpInIdeal.nD Cert.FwMlpInIdeal.τ).loc Cert.FwMlpInIdeal.main_arg0)
      ∧ m' ((c.tc : Thread Cert.FwMlpInRefIdeal.nD Cert.FwMlpInRefIdeal.τ).loc Cert.FwMlpInRefIdeal.main_arg1) = m ((c.tc : Thread Cert.FwMlpInIdeal.nD Cert.FwMlpInIdeal.τ).loc Cert.FwMlpInIdeal.main_arg1)) →
    ∃ (v0 : (c : Dev Cert.FwMlpInIdeal.nD) → Buf (Elt Ideal) ((c.tc : Thread Cert.FwMlpInIdeal.nD Cert.FwMlpInIdeal.τ).loc Cert.FwMlpInIdeal.main_v3_0)) (v1 : (c : Dev Cert.FwMlpInIdeal.nD) → Buf (Elt Ideal) ((c.tc : Thread Cert.FwMlpInIdeal.nD Cert.FwMlpInIdeal.τ).loc Cert.FwMlpInIdeal.main_v3_1)),
      θ_run (Cert.FwMlpInIdeal.defs (F := Ideal)) (onTc (τ := Cert.FwMlpInIdeal.τ) (Cert.FwMlpInIdeal.main (F := Ideal))) ⟨m, fun _ => 0, g⟩ (fun r => ∀ c : Dev Cert.FwMlpInIdeal.nD,
          r.2.mem ((c.tc : Thread Cert.FwMlpInIdeal.nD Cert.FwMlpInIdeal.τ).loc Cert.FwMlpInIdeal.main_v3_0) = v0 c
          ∧ r.2.mem ((c.tc : Thread Cert.FwMlpInIdeal.nD Cert.FwMlpInIdeal.τ).loc Cert.FwMlpInIdeal.main_v3_1) = v1 c
          ∧ r.2.mem ((c.tc : Thread Cert.FwMlpInIdeal.nD Cert.FwMlpInIdeal.τ).loc Cert.FwMlpInIdeal.main_arg0) = m ((c.tc : Thread Cert.FwMlpInIdeal.nD Cert.FwMlpInIdeal.τ).loc Cert.FwMlpInIdeal.main_arg0)
          ∧ r.2.mem ((c.tc : Thread Cert.FwMlpInIdeal.nD Cert.FwMlpInIdeal.τ).loc Cert.FwMlpInIdeal.main_arg1) = m ((c.tc : Thread Cert.FwMlpInIdeal.nD Cert.FwMlpInIdeal.τ).loc Cert.FwMlpInIdeal.main_arg1))
      ∧ θ_run (Cert.FwMlpInRefIdeal.defs (F := Ideal)) (onTc (τ := Cert.FwMlpInRefIdeal.τ) (Cert.FwMlpInRefIdeal.main (F := Ideal))) ⟨m', fun _ => 0, g'⟩ (fun r => ∀ c : Dev Cert.FwMlpInRefIdeal.nD,
          r.2.mem ((c.tc : Thread Cert.FwMlpInRefIdeal.nD Cert.FwMlpInRefIdeal.τ).loc Cert.FwMlpInRefIdeal.main_v2) = v0 c
          ∧ r.2.mem ((c.tc : Thread Cert.FwMlpInRefIdeal.nD Cert.FwMlpInRefIdeal.τ).loc Cert.FwMlpInRefIdeal.main_v5) = v1 c
          ∧ r.2.mem ((c.tc : Thread Cert.FwMlpInRefIdeal.nD Cert.FwMlpInRefIdeal.τ).loc Cert.FwMlpInRefIdeal.main_arg0) = m' ((c.tc : Thread Cert.FwMlpInRefIdeal.nD Cert.FwMlpInRefIdeal.τ).loc Cert.FwMlpInRefIdeal.main_arg0)
          ∧ r.2.mem ((c.tc : Thread Cert.FwMlpInRefIdeal.nD Cert.FwMlpInRefIdeal.τ).loc Cert.FwMlpInRefIdeal.main_arg1) = m' ((c.tc : Thread Cert.FwMlpInRefIdeal.nD Cert.FwMlpInRefIdeal.τ).loc Cert.FwMlpInRefIdeal.main_arg1))

def preserves_FwProjOut_FwProjOutIdeal : Prop :=
  True

def algebraic_FwProjOutIdeal_FwProjOutRefIdeal [hFwProjOutIdeal : Cert.FwProjOutIdeal.Facts] [hFwProjOutRefIdeal : Cert.FwProjOutRefIdeal.Facts] : Prop :=
  ∀ (m : (ℓ : Loc Cert.FwProjOutIdeal.nD Cert.FwProjOutIdeal.τ Cert.FwProjOutIdeal.sig) → Buf (Elt Ideal) ℓ) (g : Dev Cert.FwProjOutIdeal.nD → PrngReg)
    (m' : (ℓ : Loc Cert.FwProjOutRefIdeal.nD Cert.FwProjOutRefIdeal.τ Cert.FwProjOutRefIdeal.sig) → Buf (Elt Ideal) ℓ) (g' : Dev Cert.FwProjOutRefIdeal.nD → PrngReg), Pre_FwProjOutIdeal m →
    (∀ c : Dev Cert.FwProjOutIdeal.nD,
      m' ((c.tc : Thread Cert.FwProjOutRefIdeal.nD Cert.FwProjOutRefIdeal.τ).loc Cert.FwProjOutRefIdeal.main_arg0) = m ((c.tc : Thread Cert.FwProjOutIdeal.nD Cert.FwProjOutIdeal.τ).loc Cert.FwProjOutIdeal.main_arg0)
      ∧ m' ((c.tc : Thread Cert.FwProjOutRefIdeal.nD Cert.FwProjOutRefIdeal.τ).loc Cert.FwProjOutRefIdeal.main_arg1) = m ((c.tc : Thread Cert.FwProjOutIdeal.nD Cert.FwProjOutIdeal.τ).loc Cert.FwProjOutIdeal.main_arg1)
      ∧ m' ((c.tc : Thread Cert.FwProjOutRefIdeal.nD Cert.FwProjOutRefIdeal.τ).loc Cert.FwProjOutRefIdeal.main_arg2) = m ((c.tc : Thread Cert.FwProjOutIdeal.nD Cert.FwProjOutIdeal.τ).loc Cert.FwProjOutIdeal.main_arg2)
      ∧ m' ((c.tc : Thread Cert.FwProjOutRefIdeal.nD Cert.FwProjOutRefIdeal.τ).loc Cert.FwProjOutRefIdeal.main_arg3) = m ((c.tc : Thread Cert.FwProjOutIdeal.nD Cert.FwProjOutIdeal.τ).loc Cert.FwProjOutIdeal.main_arg3)
      ∧ m' ((c.tc : Thread Cert.FwProjOutRefIdeal.nD Cert.FwProjOutRefIdeal.τ).loc Cert.FwProjOutRefIdeal.main_arg4) = m ((c.tc : Thread Cert.FwProjOutIdeal.nD Cert.FwProjOutIdeal.τ).loc Cert.FwProjOutIdeal.main_arg4)
      ∧ m' ((c.tc : Thread Cert.FwProjOutRefIdeal.nD Cert.FwProjOutRefIdeal.τ).loc Cert.FwProjOutRefIdeal.main_arg5) = m ((c.tc : Thread Cert.FwProjOutIdeal.nD Cert.FwProjOutIdeal.τ).loc Cert.FwProjOutIdeal.main_arg5)) →
    ∃ (v0 : (c : Dev Cert.FwProjOutIdeal.nD) → Buf (Elt Ideal) ((c.tc : Thread Cert.FwProjOutIdeal.nD Cert.FwProjOutIdeal.τ).loc Cert.FwProjOutIdeal.main_v1_0)) (v1 : (c : Dev Cert.FwProjOutIdeal.nD) → Buf (Elt Ideal) ((c.tc : Thread Cert.FwProjOutIdeal.nD Cert.FwProjOutIdeal.τ).loc Cert.FwProjOutIdeal.main_v1_1)) (v2 : (c : Dev Cert.FwProjOutIdeal.nD) → Buf (Elt Ideal) ((c.tc : Thread Cert.FwProjOutIdeal.nD Cert.FwProjOutIdeal.τ).loc Cert.FwProjOutIdeal.main_v1_2)),
      θ_run (Cert.FwProjOutIdeal.defs (F := Ideal)) (onTc (τ := Cert.FwProjOutIdeal.τ) (Cert.FwProjOutIdeal.main (F := Ideal))) ⟨m, fun _ => 0, g⟩ (fun r => ∀ c : Dev Cert.FwProjOutIdeal.nD,
          r.2.mem ((c.tc : Thread Cert.FwProjOutIdeal.nD Cert.FwProjOutIdeal.τ).loc Cert.FwProjOutIdeal.main_v1_0) = v0 c
          ∧ r.2.mem ((c.tc : Thread Cert.FwProjOutIdeal.nD Cert.FwProjOutIdeal.τ).loc Cert.FwProjOutIdeal.main_v1_1) = v1 c
          ∧ r.2.mem ((c.tc : Thread Cert.FwProjOutIdeal.nD Cert.FwProjOutIdeal.τ).loc Cert.FwProjOutIdeal.main_v1_2) = v2 c
          ∧ r.2.mem ((c.tc : Thread Cert.FwProjOutIdeal.nD Cert.FwProjOutIdeal.τ).loc Cert.FwProjOutIdeal.main_arg0) = m ((c.tc : Thread Cert.FwProjOutIdeal.nD Cert.FwProjOutIdeal.τ).loc Cert.FwProjOutIdeal.main_arg0)
          ∧ r.2.mem ((c.tc : Thread Cert.FwProjOutIdeal.nD Cert.FwProjOutIdeal.τ).loc Cert.FwProjOutIdeal.main_arg1) = m ((c.tc : Thread Cert.FwProjOutIdeal.nD Cert.FwProjOutIdeal.τ).loc Cert.FwProjOutIdeal.main_arg1)
          ∧ r.2.mem ((c.tc : Thread Cert.FwProjOutIdeal.nD Cert.FwProjOutIdeal.τ).loc Cert.FwProjOutIdeal.main_arg2) = m ((c.tc : Thread Cert.FwProjOutIdeal.nD Cert.FwProjOutIdeal.τ).loc Cert.FwProjOutIdeal.main_arg2)
          ∧ r.2.mem ((c.tc : Thread Cert.FwProjOutIdeal.nD Cert.FwProjOutIdeal.τ).loc Cert.FwProjOutIdeal.main_arg3) = m ((c.tc : Thread Cert.FwProjOutIdeal.nD Cert.FwProjOutIdeal.τ).loc Cert.FwProjOutIdeal.main_arg3)
          ∧ r.2.mem ((c.tc : Thread Cert.FwProjOutIdeal.nD Cert.FwProjOutIdeal.τ).loc Cert.FwProjOutIdeal.main_arg4) = m ((c.tc : Thread Cert.FwProjOutIdeal.nD Cert.FwProjOutIdeal.τ).loc Cert.FwProjOutIdeal.main_arg4)
          ∧ r.2.mem ((c.tc : Thread Cert.FwProjOutIdeal.nD Cert.FwProjOutIdeal.τ).loc Cert.FwProjOutIdeal.main_arg5) = m ((c.tc : Thread Cert.FwProjOutIdeal.nD Cert.FwProjOutIdeal.τ).loc Cert.FwProjOutIdeal.main_arg5))
      ∧ θ_run (Cert.FwProjOutRefIdeal.defs (F := Ideal)) (onTc (τ := Cert.FwProjOutRefIdeal.τ) (Cert.FwProjOutRefIdeal.main (F := Ideal))) ⟨m', fun _ => 0, g'⟩ (fun r => ∀ c : Dev Cert.FwProjOutRefIdeal.nD,
          r.2.mem ((c.tc : Thread Cert.FwProjOutRefIdeal.nD Cert.FwProjOutRefIdeal.τ).loc Cert.FwProjOutRefIdeal.main_v3) = v0 c
          ∧ r.2.mem ((c.tc : Thread Cert.FwProjOutRefIdeal.nD Cert.FwProjOutRefIdeal.τ).loc Cert.FwProjOutRefIdeal.main_v16) = v1 c
          ∧ r.2.mem ((c.tc : Thread Cert.FwProjOutRefIdeal.nD Cert.FwProjOutRefIdeal.τ).loc Cert.FwProjOutRefIdeal.main_v11) = v2 c
          ∧ r.2.mem ((c.tc : Thread Cert.FwProjOutRefIdeal.nD Cert.FwProjOutRefIdeal.τ).loc Cert.FwProjOutRefIdeal.main_arg0) = m' ((c.tc : Thread Cert.FwProjOutRefIdeal.nD Cert.FwProjOutRefIdeal.τ).loc Cert.FwProjOutRefIdeal.main_arg0)
          ∧ r.2.mem ((c.tc : Thread Cert.FwProjOutRefIdeal.nD Cert.FwProjOutRefIdeal.τ).loc Cert.FwProjOutRefIdeal.main_arg1) = m' ((c.tc : Thread Cert.FwProjOutRefIdeal.nD Cert.FwProjOutRefIdeal.τ).loc Cert.FwProjOutRefIdeal.main_arg1)
          ∧ r.2.mem ((c.tc : Thread Cert.FwProjOutRefIdeal.nD Cert.FwProjOutRefIdeal.τ).loc Cert.FwProjOutRefIdeal.main_arg2) = m' ((c.tc : Thread Cert.FwProjOutRefIdeal.nD Cert.FwProjOutRefIdeal.τ).loc Cert.FwProjOutRefIdeal.main_arg2)
          ∧ r.2.mem ((c.tc : Thread Cert.FwProjOutRefIdeal.nD Cert.FwProjOutRefIdeal.τ).loc Cert.FwProjOutRefIdeal.main_arg3) = m' ((c.tc : Thread Cert.FwProjOutRefIdeal.nD Cert.FwProjOutRefIdeal.τ).loc Cert.FwProjOutRefIdeal.main_arg3)
          ∧ r.2.mem ((c.tc : Thread Cert.FwProjOutRefIdeal.nD Cert.FwProjOutRefIdeal.τ).loc Cert.FwProjOutRefIdeal.main_arg4) = m' ((c.tc : Thread Cert.FwProjOutRefIdeal.nD Cert.FwProjOutRefIdeal.τ).loc Cert.FwProjOutRefIdeal.main_arg4)
          ∧ r.2.mem ((c.tc : Thread Cert.FwProjOutRefIdeal.nD Cert.FwProjOutRefIdeal.τ).loc Cert.FwProjOutRefIdeal.main_arg5) = m' ((c.tc : Thread Cert.FwProjOutRefIdeal.nD Cert.FwProjOutRefIdeal.τ).loc Cert.FwProjOutRefIdeal.main_arg5))

def preserves_FwMlpOut_FwMlpOutIdeal : Prop :=
  True

def algebraic_FwMlpOutIdeal_FwMlpOutRefIdeal [hFwMlpOutIdeal : Cert.FwMlpOutIdeal.Facts] [hFwMlpOutRefIdeal : Cert.FwMlpOutRefIdeal.Facts] : Prop :=
  ∀ (m : (ℓ : Loc Cert.FwMlpOutIdeal.nD Cert.FwMlpOutIdeal.τ Cert.FwMlpOutIdeal.sig) → Buf (Elt Ideal) ℓ) (g : Dev Cert.FwMlpOutIdeal.nD → PrngReg)
    (m' : (ℓ : Loc Cert.FwMlpOutRefIdeal.nD Cert.FwMlpOutRefIdeal.τ Cert.FwMlpOutRefIdeal.sig) → Buf (Elt Ideal) ℓ) (g' : Dev Cert.FwMlpOutRefIdeal.nD → PrngReg), Pre_FwMlpOutIdeal m →
    (∀ c : Dev Cert.FwMlpOutIdeal.nD,
      m' ((c.tc : Thread Cert.FwMlpOutRefIdeal.nD Cert.FwMlpOutRefIdeal.τ).loc Cert.FwMlpOutRefIdeal.main_arg0) = m ((c.tc : Thread Cert.FwMlpOutIdeal.nD Cert.FwMlpOutIdeal.τ).loc Cert.FwMlpOutIdeal.main_arg0)
      ∧ m' ((c.tc : Thread Cert.FwMlpOutRefIdeal.nD Cert.FwMlpOutRefIdeal.τ).loc Cert.FwMlpOutRefIdeal.main_arg1) = m ((c.tc : Thread Cert.FwMlpOutIdeal.nD Cert.FwMlpOutIdeal.τ).loc Cert.FwMlpOutIdeal.main_arg1)
      ∧ m' ((c.tc : Thread Cert.FwMlpOutRefIdeal.nD Cert.FwMlpOutRefIdeal.τ).loc Cert.FwMlpOutRefIdeal.main_arg2) = m ((c.tc : Thread Cert.FwMlpOutIdeal.nD Cert.FwMlpOutIdeal.τ).loc Cert.FwMlpOutIdeal.main_arg2)
      ∧ m' ((c.tc : Thread Cert.FwMlpOutRefIdeal.nD Cert.FwMlpOutRefIdeal.τ).loc Cert.FwMlpOutRefIdeal.main_arg3) = m ((c.tc : Thread Cert.FwMlpOutIdeal.nD Cert.FwMlpOutIdeal.τ).loc Cert.FwMlpOutIdeal.main_arg3)) →
    ∃ (v0 : (c : Dev Cert.FwMlpOutIdeal.nD) → Buf (Elt Ideal) ((c.tc : Thread Cert.FwMlpOutIdeal.nD Cert.FwMlpOutIdeal.τ).loc Cert.FwMlpOutIdeal.main_v1_0)) (v1 : (c : Dev Cert.FwMlpOutIdeal.nD) → Buf (Elt Ideal) ((c.tc : Thread Cert.FwMlpOutIdeal.nD Cert.FwMlpOutIdeal.τ).loc Cert.FwMlpOutIdeal.main_v1_1)) (v2 : (c : Dev Cert.FwMlpOutIdeal.nD) → Buf (Elt Ideal) ((c.tc : Thread Cert.FwMlpOutIdeal.nD Cert.FwMlpOutIdeal.τ).loc Cert.FwMlpOutIdeal.main_v1_2)),
      θ_run (Cert.FwMlpOutIdeal.defs (F := Ideal)) (onTc (τ := Cert.FwMlpOutIdeal.τ) (Cert.FwMlpOutIdeal.main (F := Ideal))) ⟨m, fun _ => 0, g⟩ (fun r => ∀ c : Dev Cert.FwMlpOutIdeal.nD,
          r.2.mem ((c.tc : Thread Cert.FwMlpOutIdeal.nD Cert.FwMlpOutIdeal.τ).loc Cert.FwMlpOutIdeal.main_v1_0) = v0 c
          ∧ r.2.mem ((c.tc : Thread Cert.FwMlpOutIdeal.nD Cert.FwMlpOutIdeal.τ).loc Cert.FwMlpOutIdeal.main_v1_1) = v1 c
          ∧ r.2.mem ((c.tc : Thread Cert.FwMlpOutIdeal.nD Cert.FwMlpOutIdeal.τ).loc Cert.FwMlpOutIdeal.main_v1_2) = v2 c
          ∧ r.2.mem ((c.tc : Thread Cert.FwMlpOutIdeal.nD Cert.FwMlpOutIdeal.τ).loc Cert.FwMlpOutIdeal.main_arg0) = m ((c.tc : Thread Cert.FwMlpOutIdeal.nD Cert.FwMlpOutIdeal.τ).loc Cert.FwMlpOutIdeal.main_arg0)
          ∧ r.2.mem ((c.tc : Thread Cert.FwMlpOutIdeal.nD Cert.FwMlpOutIdeal.τ).loc Cert.FwMlpOutIdeal.main_arg1) = m ((c.tc : Thread Cert.FwMlpOutIdeal.nD Cert.FwMlpOutIdeal.τ).loc Cert.FwMlpOutIdeal.main_arg1)
          ∧ r.2.mem ((c.tc : Thread Cert.FwMlpOutIdeal.nD Cert.FwMlpOutIdeal.τ).loc Cert.FwMlpOutIdeal.main_arg2) = m ((c.tc : Thread Cert.FwMlpOutIdeal.nD Cert.FwMlpOutIdeal.τ).loc Cert.FwMlpOutIdeal.main_arg2)
          ∧ r.2.mem ((c.tc : Thread Cert.FwMlpOutIdeal.nD Cert.FwMlpOutIdeal.τ).loc Cert.FwMlpOutIdeal.main_arg3) = m ((c.tc : Thread Cert.FwMlpOutIdeal.nD Cert.FwMlpOutIdeal.τ).loc Cert.FwMlpOutIdeal.main_arg3))
      ∧ θ_run (Cert.FwMlpOutRefIdeal.defs (F := Ideal)) (onTc (τ := Cert.FwMlpOutRefIdeal.τ) (Cert.FwMlpOutRefIdeal.main (F := Ideal))) ⟨m', fun _ => 0, g'⟩ (fun r => ∀ c : Dev Cert.FwMlpOutRefIdeal.nD,
          r.2.mem ((c.tc : Thread Cert.FwMlpOutRefIdeal.nD Cert.FwMlpOutRefIdeal.τ).loc Cert.FwMlpOutRefIdeal.main_v2) = v0 c
          ∧ r.2.mem ((c.tc : Thread Cert.FwMlpOutRefIdeal.nD Cert.FwMlpOutRefIdeal.τ).loc Cert.FwMlpOutRefIdeal.main_v15) = v1 c
          ∧ r.2.mem ((c.tc : Thread Cert.FwMlpOutRefIdeal.nD Cert.FwMlpOutRefIdeal.τ).loc Cert.FwMlpOutRefIdeal.main_v10) = v2 c
          ∧ r.2.mem ((c.tc : Thread Cert.FwMlpOutRefIdeal.nD Cert.FwMlpOutRefIdeal.τ).loc Cert.FwMlpOutRefIdeal.main_arg0) = m' ((c.tc : Thread Cert.FwMlpOutRefIdeal.nD Cert.FwMlpOutRefIdeal.τ).loc Cert.FwMlpOutRefIdeal.main_arg0)
          ∧ r.2.mem ((c.tc : Thread Cert.FwMlpOutRefIdeal.nD Cert.FwMlpOutRefIdeal.τ).loc Cert.FwMlpOutRefIdeal.main_arg1) = m' ((c.tc : Thread Cert.FwMlpOutRefIdeal.nD Cert.FwMlpOutRefIdeal.τ).loc Cert.FwMlpOutRefIdeal.main_arg1)
          ∧ r.2.mem ((c.tc : Thread Cert.FwMlpOutRefIdeal.nD Cert.FwMlpOutRefIdeal.τ).loc Cert.FwMlpOutRefIdeal.main_arg2) = m' ((c.tc : Thread Cert.FwMlpOutRefIdeal.nD Cert.FwMlpOutRefIdeal.τ).loc Cert.FwMlpOutRefIdeal.main_arg2)
          ∧ r.2.mem ((c.tc : Thread Cert.FwMlpOutRefIdeal.nD Cert.FwMlpOutRefIdeal.τ).loc Cert.FwMlpOutRefIdeal.main_arg3) = m' ((c.tc : Thread Cert.FwMlpOutRefIdeal.nD Cert.FwMlpOutRefIdeal.τ).loc Cert.FwMlpOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)) (v4 : (c : Dev Cert.AdamSmallIdeal.nD) → Buf (Elt Ideal) ((c.tc : Thread Cert.AdamSmallIdeal.nD Cert.AdamSmallIdeal.τ).loc Cert.AdamSmallIdeal.main_v0_4)) (v5 : (c : Dev Cert.AdamSmallIdeal.nD) → Buf (Elt Ideal) ((c.tc : Thread Cert.AdamSmallIdeal.nD Cert.AdamSmallIdeal.τ).loc Cert.AdamSmallIdeal.main_v0_5)) (v6 : (c : Dev Cert.AdamSmallIdeal.nD) → Buf (Elt Ideal) ((c.tc : Thread Cert.AdamSmallIdeal.nD Cert.AdamSmallIdeal.τ).loc Cert.AdamSmallIdeal.main_v0_6)) (v7 : (c : Dev Cert.AdamSmallIdeal.nD) → Buf (Elt Ideal) ((c.tc : Thread Cert.AdamSmallIdeal.nD Cert.AdamSmallIdeal.τ).loc Cert.AdamSmallIdeal.main_v0_7)) (v8 : (c : Dev Cert.AdamSmallIdeal.nD) → Buf (Elt Ideal) ((c.tc : Thread Cert.AdamSmallIdeal.nD Cert.AdamSmallIdeal.τ).loc Cert.AdamSmallIdeal.main_v0_8)) (v9 : (c : Dev Cert.AdamSmallIdeal.nD) → Buf (Elt Ideal) ((c.tc : Thread Cert.AdamSmallIdeal.nD Cert.AdamSmallIdeal.τ).loc Cert.AdamSmallIdeal.main_v0_9)) (v10 : (c : Dev Cert.AdamSmallIdeal.nD) → Buf (Elt Ideal) ((c.tc : Thread Cert.AdamSmallIdeal.nD Cert.AdamSmallIdeal.τ).loc Cert.AdamSmallIdeal.main_v0_10)) (v11 : (c : Dev Cert.AdamSmallIdeal.nD) → Buf (Elt Ideal) ((c.tc : Thread Cert.AdamSmallIdeal.nD Cert.AdamSmallIdeal.τ).loc Cert.AdamSmallIdeal.main_v0_11)) (v12 : (c : Dev Cert.AdamSmallIdeal.nD) → Buf (Elt Ideal) ((c.tc : Thread Cert.AdamSmallIdeal.nD Cert.AdamSmallIdeal.τ).loc Cert.AdamSmallIdeal.main_v0_12)) (v13 : (c : Dev Cert.AdamSmallIdeal.nD) → Buf (Elt Ideal) ((c.tc : Thread Cert.AdamSmallIdeal.nD Cert.AdamSmallIdeal.τ).loc Cert.AdamSmallIdeal.main_v0_13)) (v14 : (c : Dev Cert.AdamSmallIdeal.nD) → Buf (Elt Ideal) ((c.tc : Thread Cert.AdamSmallIdeal.nD Cert.AdamSmallIdeal.τ).loc Cert.AdamSmallIdeal.main_v0_14)) (v15 : (c : Dev Cert.AdamSmallIdeal.nD) → Buf (Elt Ideal) ((c.tc : Thread Cert.AdamSmallIdeal.nD Cert.AdamSmallIdeal.τ).loc Cert.AdamSmallIdeal.main_v0_15)) (v16 : (c : Dev Cert.AdamSmallIdeal.nD) → Buf (Elt Ideal) ((c.tc : Thread Cert.AdamSmallIdeal.nD Cert.AdamSmallIdeal.τ).loc Cert.AdamSmallIdeal.main_v0_16)) (v17 : (c : Dev Cert.AdamSmallIdeal.nD) → Buf (Elt Ideal) ((c.tc : Thread Cert.AdamSmallIdeal.nD Cert.AdamSmallIdeal.τ).loc Cert.AdamSmallIdeal.main_v0_17)) (v18 : (c : Dev Cert.AdamSmallIdeal.nD) → Buf (Elt Ideal) ((c.tc : Thread Cert.AdamSmallIdeal.nD Cert.AdamSmallIdeal.τ).loc Cert.AdamSmallIdeal.main_v0_18)) (v19 : (c : Dev Cert.AdamSmallIdeal.nD) → Buf (Elt Ideal) ((c.tc : Thread Cert.AdamSmallIdeal.nD Cert.AdamSmallIdeal.τ).loc Cert.AdamSmallIdeal.main_v0_19)) (v20 : (c : Dev Cert.AdamSmallIdeal.nD) → Buf (Elt Ideal) ((c.tc : Thread Cert.AdamSmallIdeal.nD Cert.AdamSmallIdeal.τ).loc Cert.AdamSmallIdeal.main_v0_20)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_v0_4) = v4 c
          ∧ r.2.mem ((c.tc : Thread Cert.AdamSmallIdeal.nD Cert.AdamSmallIdeal.τ).loc Cert.AdamSmallIdeal.main_v0_5) = v5 c
          ∧ r.2.mem ((c.tc : Thread Cert.AdamSmallIdeal.nD Cert.AdamSmallIdeal.τ).loc Cert.AdamSmallIdeal.main_v0_6) = v6 c
          ∧ r.2.mem ((c.tc : Thread Cert.AdamSmallIdeal.nD Cert.AdamSmallIdeal.τ).loc Cert.AdamSmallIdeal.main_v0_7) = v7 c
          ∧ r.2.mem ((c.tc : Thread Cert.AdamSmallIdeal.nD Cert.AdamSmallIdeal.τ).loc Cert.AdamSmallIdeal.main_v0_8) = v8 c
          ∧ r.2.mem ((c.tc : Thread Cert.AdamSmallIdeal.nD Cert.AdamSmallIdeal.τ).loc Cert.AdamSmallIdeal.main_v0_9) = v9 c
          ∧ r.2.mem ((c.tc : Thread Cert.AdamSmallIdeal.nD Cert.AdamSmallIdeal.τ).loc Cert.AdamSmallIdeal.main_v0_10) = v10 c
          ∧ r.2.mem ((c.tc : Thread Cert.AdamSmallIdeal.nD Cert.AdamSmallIdeal.τ).loc Cert.AdamSmallIdeal.main_v0_11) = v11 c
          ∧ r.2.mem ((c.tc : Thread Cert.AdamSmallIdeal.nD Cert.AdamSmallIdeal.τ).loc Cert.AdamSmallIdeal.main_v0_12) = v12 c
          ∧ r.2.mem ((c.tc : Thread Cert.AdamSmallIdeal.nD Cert.AdamSmallIdeal.τ).loc Cert.AdamSmallIdeal.main_v0_13) = v13 c
          ∧ r.2.mem ((c.tc : Thread Cert.AdamSmallIdeal.nD Cert.AdamSmallIdeal.τ).loc Cert.AdamSmallIdeal.main_v0_14) = v14 c
          ∧ r.2.mem ((c.tc : Thread Cert.AdamSmallIdeal.nD Cert.AdamSmallIdeal.τ).loc Cert.AdamSmallIdeal.main_v0_15) = v15 c
          ∧ r.2.mem ((c.tc : Thread Cert.AdamSmallIdeal.nD Cert.AdamSmallIdeal.τ).loc Cert.AdamSmallIdeal.main_v0_16) = v16 c
          ∧ r.2.mem ((c.tc : Thread Cert.AdamSmallIdeal.nD Cert.AdamSmallIdeal.τ).loc Cert.AdamSmallIdeal.main_v0_17) = v17 c
          ∧ r.2.mem ((c.tc : Thread Cert.AdamSmallIdeal.nD Cert.AdamSmallIdeal.τ).loc Cert.AdamSmallIdeal.main_v0_18) = v18 c
          ∧ r.2.mem ((c.tc : Thread Cert.AdamSmallIdeal.nD Cert.AdamSmallIdeal.τ).loc Cert.AdamSmallIdeal.main_v0_19) = v19 c
          ∧ r.2.mem ((c.tc : Thread Cert.AdamSmallIdeal.nD Cert.AdamSmallIdeal.τ).loc Cert.AdamSmallIdeal.main_v0_20) = v20 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v47) = v1 c
          ∧ r.2.mem ((c.tc : Thread Cert.AdamSmallRefIdeal.nD Cert.AdamSmallRefIdeal.τ).loc Cert.AdamSmallRefIdeal.main_v71) = v2 c
          ∧ r.2.mem ((c.tc : Thread Cert.AdamSmallRefIdeal.nD Cert.AdamSmallRefIdeal.τ).loc Cert.AdamSmallRefIdeal.main_v95) = v3 c
          ∧ r.2.mem ((c.tc : Thread Cert.AdamSmallRefIdeal.nD Cert.AdamSmallRefIdeal.τ).loc Cert.AdamSmallRefIdeal.main_v119) = v4 c
          ∧ r.2.mem ((c.tc : Thread Cert.AdamSmallRefIdeal.nD Cert.AdamSmallRefIdeal.τ).loc Cert.AdamSmallRefIdeal.main_v143) = v5 c
          ∧ r.2.mem ((c.tc : Thread Cert.AdamSmallRefIdeal.nD Cert.AdamSmallRefIdeal.τ).loc Cert.AdamSmallRefIdeal.main_v167) = v6 c
          ∧ r.2.mem ((c.tc : Thread Cert.AdamSmallRefIdeal.nD Cert.AdamSmallRefIdeal.τ).loc Cert.AdamSmallRefIdeal.main_v4) = v7 c
          ∧ r.2.mem ((c.tc : Thread Cert.AdamSmallRefIdeal.nD Cert.AdamSmallRefIdeal.τ).loc Cert.AdamSmallRefIdeal.main_v28) = v8 c
          ∧ r.2.mem ((c.tc : Thread Cert.AdamSmallRefIdeal.nD Cert.AdamSmallRefIdeal.τ).loc Cert.AdamSmallRefIdeal.main_v52) = v9 c
          ∧ r.2.mem ((c.tc : Thread Cert.AdamSmallRefIdeal.nD Cert.AdamSmallRefIdeal.τ).loc Cert.AdamSmallRefIdeal.main_v76) = v10 c
          ∧ r.2.mem ((c.tc : Thread Cert.AdamSmallRefIdeal.nD Cert.AdamSmallRefIdeal.τ).loc Cert.AdamSmallRefIdeal.main_v100) = v11 c
          ∧ r.2.mem ((c.tc : Thread Cert.AdamSmallRefIdeal.nD Cert.AdamSmallRefIdeal.τ).loc Cert.AdamSmallRefIdeal.main_v124) = v12 c
          ∧ r.2.mem ((c.tc : Thread Cert.AdamSmallRefIdeal.nD Cert.AdamSmallRefIdeal.τ).loc Cert.AdamSmallRefIdeal.main_v148) = v13 c
          ∧ r.2.mem ((c.tc : Thread Cert.AdamSmallRefIdeal.nD Cert.AdamSmallRefIdeal.τ).loc Cert.AdamSmallRefIdeal.main_v10) = v14 c
          ∧ r.2.mem ((c.tc : Thread Cert.AdamSmallRefIdeal.nD Cert.AdamSmallRefIdeal.τ).loc Cert.AdamSmallRefIdeal.main_v34) = v15 c
          ∧ r.2.mem ((c.tc : Thread Cert.AdamSmallRefIdeal.nD Cert.AdamSmallRefIdeal.τ).loc Cert.AdamSmallRefIdeal.main_v58) = v16 c
          ∧ r.2.mem ((c.tc : Thread Cert.AdamSmallRefIdeal.nD Cert.AdamSmallRefIdeal.τ).loc Cert.AdamSmallRefIdeal.main_v82) = v17 c
          ∧ r.2.mem ((c.tc : Thread Cert.AdamSmallRefIdeal.nD Cert.AdamSmallRefIdeal.τ).loc Cert.AdamSmallRefIdeal.main_v106) = v18 c
          ∧ r.2.mem ((c.tc : Thread Cert.AdamSmallRefIdeal.nD Cert.AdamSmallRefIdeal.τ).loc Cert.AdamSmallRefIdeal.main_v130) = v19 c
          ∧ r.2.mem ((c.tc : Thread Cert.AdamSmallRefIdeal.nD Cert.AdamSmallRefIdeal.τ).loc Cert.AdamSmallRefIdeal.main_v154) = v20 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v24)) (v1 : (c : Dev Cert.SumSmallIdeal.nD) → Buf (Elt Ideal) ((c.tc : Thread Cert.SumSmallIdeal.nD Cert.SumSmallIdeal.τ).loc Cert.SumSmallIdeal.main_v27)) (v2 : (c : Dev Cert.SumSmallIdeal.nD) → Buf (Elt Ideal) ((c.tc : Thread Cert.SumSmallIdeal.nD Cert.SumSmallIdeal.τ).loc Cert.SumSmallIdeal.main_v30)) (v3 : (c : Dev Cert.SumSmallIdeal.nD) → Buf (Elt Ideal) ((c.tc : Thread Cert.SumSmallIdeal.nD Cert.SumSmallIdeal.τ).loc Cert.SumSmallIdeal.main_v33)) (v4 : (c : Dev Cert.SumSmallIdeal.nD) → Buf (Elt Ideal) ((c.tc : Thread Cert.SumSmallIdeal.nD Cert.SumSmallIdeal.τ).loc Cert.SumSmallIdeal.main_v36)) (v5 : (c : Dev Cert.SumSmallIdeal.nD) → Buf (Elt Ideal) ((c.tc : Thread Cert.SumSmallIdeal.nD Cert.SumSmallIdeal.τ).loc Cert.SumSmallIdeal.main_v39)) (v6 : (c : Dev Cert.SumSmallIdeal.nD) → Buf (Elt Ideal) ((c.tc : Thread Cert.SumSmallIdeal.nD Cert.SumSmallIdeal.τ).loc Cert.SumSmallIdeal.main_v42)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v24) = v0 c
          ∧ r.2.mem ((c.tc : Thread Cert.SumSmallIdeal.nD Cert.SumSmallIdeal.τ).loc Cert.SumSmallIdeal.main_v27) = v1 c
          ∧ r.2.mem ((c.tc : Thread Cert.SumSmallIdeal.nD Cert.SumSmallIdeal.τ).loc Cert.SumSmallIdeal.main_v30) = v2 c
          ∧ r.2.mem ((c.tc : Thread Cert.SumSmallIdeal.nD Cert.SumSmallIdeal.τ).loc Cert.SumSmallIdeal.main_v33) = v3 c
          ∧ r.2.mem ((c.tc : Thread Cert.SumSmallIdeal.nD Cert.SumSmallIdeal.τ).loc Cert.SumSmallIdeal.main_v36) = v4 c
          ∧ r.2.mem ((c.tc : Thread Cert.SumSmallIdeal.nD Cert.SumSmallIdeal.τ).loc Cert.SumSmallIdeal.main_v39) = v5 c
          ∧ r.2.mem ((c.tc : Thread Cert.SumSmallIdeal.nD Cert.SumSmallIdeal.τ).loc Cert.SumSmallIdeal.main_v42) = v6 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v6) = v0 c
          ∧ r.2.mem ((c.tc : Thread Cert.SumSmallRefIdeal.nD Cert.SumSmallRefIdeal.τ).loc Cert.SumSmallRefIdeal.main_v13) = v1 c
          ∧ r.2.mem ((c.tc : Thread Cert.SumSmallRefIdeal.nD Cert.SumSmallRefIdeal.τ).loc Cert.SumSmallRefIdeal.main_v20) = v2 c
          ∧ r.2.mem ((c.tc : Thread Cert.SumSmallRefIdeal.nD Cert.SumSmallRefIdeal.τ).loc Cert.SumSmallRefIdeal.main_v27) = v3 c
          ∧ r.2.mem ((c.tc : Thread Cert.SumSmallRefIdeal.nD Cert.SumSmallRefIdeal.τ).loc Cert.SumSmallRefIdeal.main_v32) = v4 c
          ∧ r.2.mem ((c.tc : Thread Cert.SumSmallRefIdeal.nD Cert.SumSmallRefIdeal.τ).loc Cert.SumSmallRefIdeal.main_v37) = v5 c
          ∧ r.2.mem ((c.tc : Thread Cert.SumSmallRefIdeal.nD Cert.SumSmallRefIdeal.τ).loc Cert.SumSmallRefIdeal.main_v42) = v6 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def Claim : Prop :=
  ∃ (hRelu2 : Cert.Relu2.Facts) (hRelu2Ideal : Cert.Relu2Ideal.Facts) (hRelu2RefIdeal : Cert.Relu2RefIdeal.Facts) (hAttnOne : Cert.AttnOne.Facts) (hAttnOneIdeal : Cert.AttnOneIdeal.Facts) (hAttnOneRefIdeal : Cert.AttnOneRefIdeal.Facts) (hNormIn : Cert.NormIn.Facts) (hNormInIdeal : Cert.NormInIdeal.Facts) (hNormInRefIdeal : Cert.NormInRefIdeal.Facts) (hNormProj : Cert.NormProj.Facts) (hNormProjIdeal : Cert.NormProjIdeal.Facts) (hNormProjRefIdeal : Cert.NormProjRefIdeal.Facts) (hWgMlpOut : Cert.WgMlpOut.Facts) (hWgMlpOutIdeal : Cert.WgMlpOutIdeal.Facts) (hWgMlpOutRefIdeal : Cert.WgMlpOutRefIdeal.Facts) (hWgProjIn : Cert.WgProjIn.Facts) (hWgProjInIdeal : Cert.WgProjInIdeal.Facts) (hWgProjInRefIdeal : Cert.WgProjInRefIdeal.Facts) (hWgMlpIn : Cert.WgMlpIn.Facts) (hWgMlpInIdeal : Cert.WgMlpInIdeal.Facts) (hWgMlpInRefIdeal : Cert.WgMlpInRefIdeal.Facts) (hWgProjOut : Cert.WgProjOut.Facts) (hWgProjOutIdeal : Cert.WgProjOutIdeal.Facts) (hWgProjOutRefIdeal : Cert.WgProjOutRefIdeal.Facts) (hDgProjOut : Cert.DgProjOut.Facts) (hDgProjOutIdeal : Cert.DgProjOutIdeal.Facts) (hDgProjOutRefIdeal : Cert.DgProjOutRefIdeal.Facts) (hFwProjIn : Cert.FwProjIn.Facts) (hFwProjInIdeal : Cert.FwProjInIdeal.Facts) (hFwProjInRefIdeal : Cert.FwProjInRefIdeal.Facts) (hFwMlpIn : Cert.FwMlpIn.Facts) (hFwMlpInIdeal : Cert.FwMlpInIdeal.Facts) (hFwMlpInRefIdeal : Cert.FwMlpInRefIdeal.Facts) (hFwProjOut : Cert.FwProjOut.Facts) (hFwProjOutIdeal : Cert.FwProjOutIdeal.Facts) (hFwProjOutRefIdeal : Cert.FwProjOutRefIdeal.Facts) (hFwMlpOut : Cert.FwMlpOut.Facts) (hFwMlpOutIdeal : Cert.FwMlpOutIdeal.Facts) (hFwMlpOutRefIdeal : Cert.FwMlpOutRefIdeal.Facts) (hAdamSmall : Cert.AdamSmall.Facts) (hAdamSmallIdeal : Cert.AdamSmallIdeal.Facts) (hAdamSmallRefIdeal : Cert.AdamSmallRefIdeal.Facts) (hSumSmall : Cert.SumSmall.Facts) (hSumSmallIdeal : Cert.SumSmallIdeal.Facts) (hSumSmallRefIdeal : Cert.SumSmallRefIdeal.Facts) (hPre_finite_attn : Cert.Pre_finite_attn.Facts),
    quiescent_Relu2 (hRelu2 := hRelu2)
    ∧ quiescent_Relu2Ideal (hRelu2Ideal := hRelu2Ideal)
    ∧ quiescent_Relu2RefIdeal (hRelu2RefIdeal := hRelu2RefIdeal)
    ∧ quiescent_AttnOne (hAttnOne := hAttnOne)
    ∧ quiescent_AttnOneIdeal (hAttnOneIdeal := hAttnOneIdeal)
    ∧ quiescent_AttnOneIdeal_pre_finite_attn (hAttnOneIdeal := hAttnOneIdeal) (hPre_finite_attn := hPre_finite_attn)
    ∧ quiescent_AttnOneRefIdeal (hAttnOneRefIdeal := hAttnOneRefIdeal)
    ∧ quiescent_AttnOneRefIdeal_pre_finite_attn (hAttnOneRefIdeal := hAttnOneRefIdeal) (hPre_finite_attn := hPre_finite_attn)
    ∧ quiescent_NormIn (hNormIn := hNormIn)
    ∧ quiescent_NormInIdeal (hNormInIdeal := hNormInIdeal)
    ∧ quiescent_NormInRefIdeal (hNormInRefIdeal := hNormInRefIdeal)
    ∧ quiescent_NormProj (hNormProj := hNormProj)
    ∧ quiescent_NormProjIdeal (hNormProjIdeal := hNormProjIdeal)
    ∧ quiescent_NormProjRefIdeal (hNormProjRefIdeal := hNormProjRefIdeal)
    ∧ quiescent_WgMlpOut (hWgMlpOut := hWgMlpOut)
    ∧ quiescent_WgMlpOutIdeal (hWgMlpOutIdeal := hWgMlpOutIdeal)
    ∧ quiescent_WgMlpOutRefIdeal (hWgMlpOutRefIdeal := hWgMlpOutRefIdeal)
    ∧ quiescent_WgProjIn (hWgProjIn := hWgProjIn)
    ∧ quiescent_WgProjInIdeal (hWgProjInIdeal := hWgProjInIdeal)
    ∧ quiescent_WgProjInRefIdeal (hWgProjInRefIdeal := hWgProjInRefIdeal)
    ∧ quiescent_WgMlpIn (hWgMlpIn := hWgMlpIn)
    ∧ quiescent_WgMlpInIdeal (hWgMlpInIdeal := hWgMlpInIdeal)
    ∧ quiescent_WgMlpInRefIdeal (hWgMlpInRefIdeal := hWgMlpInRefIdeal)
    ∧ quiescent_WgProjOut (hWgProjOut := hWgProjOut)
    ∧ quiescent_WgProjOutIdeal (hWgProjOutIdeal := hWgProjOutIdeal)
    ∧ quiescent_WgProjOutRefIdeal (hWgProjOutRefIdeal := hWgProjOutRefIdeal)
    ∧ quiescent_DgProjOut (hDgProjOut := hDgProjOut)
    ∧ quiescent_DgProjOutIdeal (hDgProjOutIdeal := hDgProjOutIdeal)
    ∧ quiescent_DgProjOutRefIdeal (hDgProjOutRefIdeal := hDgProjOutRefIdeal)
    ∧ quiescent_FwProjIn (hFwProjIn := hFwProjIn)
    ∧ quiescent_FwProjInIdeal (hFwProjInIdeal := hFwProjInIdeal)
    ∧ quiescent_FwProjInRefIdeal (hFwProjInRefIdeal := hFwProjInRefIdeal)
    ∧ quiescent_FwMlpIn (hFwMlpIn := hFwMlpIn)
    ∧ quiescent_FwMlpInIdeal (hFwMlpInIdeal := hFwMlpInIdeal)
    ∧ quiescent_FwMlpInRefIdeal (hFwMlpInRefIdeal := hFwMlpInRefIdeal)
    ∧ quiescent_FwProjOut (hFwProjOut := hFwProjOut)
    ∧ quiescent_FwProjOutIdeal (hFwProjOutIdeal := hFwProjOutIdeal)
    ∧ quiescent_FwProjOutRefIdeal (hFwProjOutRefIdeal := hFwProjOutRefIdeal)
    ∧ quiescent_FwMlpOut (hFwMlpOut := hFwMlpOut)
    ∧ quiescent_FwMlpOutIdeal (hFwMlpOutIdeal := hFwMlpOutIdeal)
    ∧ quiescent_FwMlpOutRefIdeal (hFwMlpOutRefIdeal := hFwMlpOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_Relu2_Relu2Ideal
    ∧ algebraic_Relu2Ideal_Relu2RefIdeal (hRelu2Ideal := hRelu2Ideal) (hRelu2RefIdeal := hRelu2RefIdeal)
    ∧ preserves_AttnOne_AttnOneIdeal
    ∧ algebraic_AttnOneIdeal_AttnOneRefIdeal_pre_finite_attn (hAttnOneIdeal := hAttnOneIdeal) (hAttnOneRefIdeal := hAttnOneRefIdeal) (hPre_finite_attn := hPre_finite_attn)
    ∧ preserves_NormIn_NormInIdeal
    ∧ algebraic_NormInIdeal_NormInRefIdeal (hNormInIdeal := hNormInIdeal) (hNormInRefIdeal := hNormInRefIdeal)
    ∧ preserves_NormProj_NormProjIdeal
    ∧ algebraic_NormProjIdeal_NormProjRefIdeal (hNormProjIdeal := hNormProjIdeal) (hNormProjRefIdeal := hNormProjRefIdeal)
    ∧ preserves_WgMlpOut_WgMlpOutIdeal
    ∧ algebraic_WgMlpOutIdeal_WgMlpOutRefIdeal (hWgMlpOutIdeal := hWgMlpOutIdeal) (hWgMlpOutRefIdeal := hWgMlpOutRefIdeal)
    ∧ preserves_WgProjIn_WgProjInIdeal
    ∧ algebraic_WgProjInIdeal_WgProjInRefIdeal (hWgProjInIdeal := hWgProjInIdeal) (hWgProjInRefIdeal := hWgProjInRefIdeal)
    ∧ preserves_WgMlpIn_WgMlpInIdeal
    ∧ algebraic_WgMlpInIdeal_WgMlpInRefIdeal (hWgMlpInIdeal := hWgMlpInIdeal) (hWgMlpInRefIdeal := hWgMlpInRefIdeal)
    ∧ preserves_WgProjOut_WgProjOutIdeal
    ∧ algebraic_WgProjOutIdeal_WgProjOutRefIdeal (hWgProjOutIdeal := hWgProjOutIdeal) (hWgProjOutRefIdeal := hWgProjOutRefIdeal)
    ∧ preserves_DgProjOut_DgProjOutIdeal
    ∧ algebraic_DgProjOutIdeal_DgProjOutRefIdeal (hDgProjOutIdeal := hDgProjOutIdeal) (hDgProjOutRefIdeal := hDgProjOutRefIdeal)
    ∧ preserves_FwProjIn_FwProjInIdeal
    ∧ algebraic_FwProjInIdeal_FwProjInRefIdeal (hFwProjInIdeal := hFwProjInIdeal) (hFwProjInRefIdeal := hFwProjInRefIdeal)
    ∧ preserves_FwMlpIn_FwMlpInIdeal
    ∧ algebraic_FwMlpInIdeal_FwMlpInRefIdeal (hFwMlpInIdeal := hFwMlpInIdeal) (hFwMlpInRefIdeal := hFwMlpInRefIdeal)
    ∧ preserves_FwProjOut_FwProjOutIdeal
    ∧ algebraic_FwProjOutIdeal_FwProjOutRefIdeal (hFwProjOutIdeal := hFwProjOutIdeal) (hFwProjOutRefIdeal := hFwProjOutRefIdeal)
    ∧ preserves_FwMlpOut_FwMlpOutIdeal
    ∧ algebraic_FwMlpOutIdeal_FwMlpOutRefIdeal (hFwMlpOutIdeal := hFwMlpOutIdeal) (hFwMlpOutRefIdeal := hFwMlpOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumSmall_SumSmallIdeal
    ∧ algebraic_SumSmallIdeal_SumSmallRefIdeal (hSumSmallIdeal := hSumSmallIdeal) (hSumSmallRefIdeal := hSumSmallRefIdeal)
-- ==== Pre_finite_attn.lean ====
abbrev S4096x2304 : Shape := ⟨2, ![4096, 2304]⟩
abbrev S4096x256 : Shape := ⟨2, ![4096, 256]⟩
abbrev S4096x4 : Shape := ⟨2, ![4096, 4]⟩
abbrev S_ : Shape := ⟨0, ![]⟩

class Facts : Prop where
  bcast_S_S4096x2304 : S_.BroadcastsInDim S4096x2304 (![] : Fin 0 → Fin S4096x2304.rank)
  reducesTo_S4096x2304_S_d0_1 : S4096x2304.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S4096x4 : S_.BroadcastsInDim S4096x4 (![] : Fin 0 → Fin S4096x4.rank)
  reducesTo_S4096x4_S_d0_1 : S4096x4.ReducesTo [0, 1] S_

variable [Facts]

def fn_part1 {F : FTy → Type} [FloatOps F] (main_arg2 : FVec F S4096x4 .f32) (main_v12 : IVec S_ 1) (main_v14 : IVec S4096x4 1) (main_v15 : FVec F S4096x4 .f32) : IVec S_ 1 :=
  let main_v16 : IVec S4096x4 1 := cmpf .ogt main_arg2 main_v15
  let main_v17 : IVec S4096x4 1 := andi main_v14 main_v16
  let main_c_6 : IVec S_ 1 := constantI S_ 1 1#1
  let main_v18 : IVec S_ 1 := (fun x v => Host.reduce IntOp.andi x v reducesTo_S4096x4_S_d0_1 h_S_) main_v17 main_c_6
  let main_v19 : IVec S_ 1 := andi main_v12 main_v18
  main_v19

def fn {F : FTy → Type} [FloatOps F] (main_arg0 : FVec F S4096x2304 .f32) (main_arg1 : FVec F S4096x256 .f32) (main_arg2 : FVec F S4096x4 .f32) : IVec S_ 1 :=
  let main_cst : FVec F S_ .f32 := constant S_ .f32 0x7F800000#32
  let main_v0 : FVec F S4096x2304 .f32 := broadcastInDim S4096x2304 ![] bcast_S_S4096x2304 main_cst
  let main_v1 : IVec S4096x2304 1 := cmpf .olt main_arg0 main_v0
  let main_cst_0 : FVec F S_ .f32 := constant S_ .f32 0xFF800000#32
  let main_v2 : FVec F S4096x2304 .f32 := broadcastInDim S4096x2304 ![] bcast_S_S4096x2304 main_cst_0
  let main_v3 : IVec S4096x2304 1 := cmpf .ogt main_arg0 main_v2
  let main_v4 : IVec S4096x2304 1 := andi main_v1 main_v3
  let main_c : IVec S_ 1 := constantI S_ 1 1#1
  let main_v5 : IVec S_ 1 := (fun x v => Host.reduce IntOp.andi x v reducesTo_S4096x2304_S_d0_1 h_S_) main_v4 main_c
  let main_cst_1 : FVec F S_ .f32 := constant S_ .f32 0x7F800000#32
  let main_v6 : FVec F S4096x256 .f32 := broadcastInDim S4096x256 ![] bcast_S_S4096x256 main_cst_1
  let main_v7 : IVec S4096x256 1 := cmpf .olt main_arg1 main_v6
  let main_cst_2 : FVec F S_ .f32 := constant S_ .f32 0xFF800000#32
  let main_v8 : FVec F S4096x256 .f32 := broadcastInDim S4096x256 ![] bcast_S_S4096x256 main_cst_2
  let main_v9 : IVec S4096x256 1 := cmpf .ogt main_arg1 main_v8
  let main_v10 : IVec S4096x256 1 := andi main_v7 main_v9
  let main_c_3 : IVec S_ 1 := constantI S_ 1 1#1
  let main_v11 : IVec S_ 1 := (fun x v => Host.reduce IntOp.andi x v reducesTo_S4096x256_S_d0_1 h_S_) main_v10 main_c_3
  let main_v12 : IVec S_ 1 := andi main_v5 main_v11
  let main_cst_4 : FVec F S_ .f32 := constant S_ .f32 0x7F800000#32
  let main_v13 : FVec F S4096x4 .f32 := broadcastInDim S4096x4 ![] bcast_S_S4096x4 main_cst_4
  let main_v14 : IVec S4096x4 1 := cmpf .olt main_arg2 main_v13
  let main_cst_5 : FVec F S_ .f32 := constant S_ .f32 0xFF800000#32
  let main_v15 : FVec F S4096x4 .f32 := broadcastInDim S4096x4 ![] bcast_S_S4096x4 main_cst_5
  fn_part1 (F := F) main_arg2 main_v12 main_v14 main_v15
-- ==== Relu2.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Relu2RefIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S8192x2048, .f32⟩
  | .hbm, ⟨17, _⟩ => ⟨S4096x2048, .f32⟩
  | .hbm, ⟨18, _⟩ => ⟨S4096x2048, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== AttnOne.lean ====
abbrev S4096x2304 : Shape := ⟨2, ![4096, 2304]⟩
abbrev S4096x256 : Shape := ⟨2, ![4096, 256]⟩
abbrev S4096x4 : Shape := ⟨2, ![4096, 4]⟩
abbrev S4096x4x64 : Shape := ⟨3, ![4096, 4, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4x4096x4096 : Shape := ⟨3, ![4, 4096, 4096]⟩
abbrev S1x4096x4096 : Shape := ⟨3, ![1, 4096, 4096]⟩
abbrev S4x4096 : Shape := ⟨2, ![4, 4096]⟩
abbrev S4x4096x1 : Shape := ⟨3, ![4, 4096, 1]⟩
abbrev S4x4096x64 : Shape := ⟨3, ![4, 4096, 64]⟩
abbrev S1024x128 : Shape := ⟨2, ![1024, 128]⟩
abbrev S128x128 : Shape := ⟨2, ![128, 128]⟩
abbrev S256x128 : Shape := ⟨2, ![256, 128]⟩
abbrev S128x64 : Shape := ⟨2, ![128, 64]⟩
abbrev S128x1 : Shape := ⟨2, ![128, 1]⟩
abbrev S256x64 : Shape := ⟨2, ![256, 64]⟩
abbrev S256x1 : Shape := ⟨2, ![256, 1]⟩

abbrev nBuf : Space → Nat
  | .hbm => 91
  | .vmem => 30
  | .smem => 0
  | _ => 0

abbrev bufTy : (tb : Table) → Fin (tcTables nBuf tb) → BufTy
  | .hbm, ⟨0, _⟩ => ⟨S4096x2304, .f32⟩
  | .hbm, ⟨1, _⟩ => ⟨S4096x256, .f32⟩
  | .hbm, ⟨2, _⟩ => ⟨S4096x4, .f32⟩
  | .hbm, ⟨3, _⟩ => ⟨S4096x256, .f32⟩
  | .hbm, ⟨4, _⟩ => ⟨S4096x4x64, .f32⟩
  | .hbm, ⟨5, _⟩ => ⟨S4096x256, .f32⟩
  | .hbm, ⟨6, _⟩ => ⟨S4096x4x64, .f32⟩
  | .hbm, ⟨7, _⟩ => ⟨S4096x256, .f32⟩
  | .hbm, ⟨8, _⟩ => ⟨S4096x4x64, .f32⟩
  | .hbm, ⟨9, _⟩ => ⟨S4096, .i32⟩
  | .hbm, ⟨10, _⟩ => ⟨S4096x1, .i32⟩
  | .hbm, ⟨11, _⟩ => ⟨S4096, .i32⟩
  | .hbm, ⟨12, _⟩ => ⟨S1x4096, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S4096x4096, .i32⟩
  | .hbm, ⟨17, _⟩ => ⟨S4096x4096, .i32⟩
  | .hbm, ⟨18, _⟩ => ⟨S4096x4096, .i32⟩
  | .hbm, ⟨19, _⟩ => ⟨S_, .i32⟩
  | .hbm, ⟨20, _⟩ => ⟨S4096x4096, .i32⟩
  | .hbm, ⟨21, _⟩ => ⟨S4096x4096, .i1⟩
  | .hbm, ⟨22, _⟩ => ⟨S4096x4096, .i1⟩
  | .hbm, ⟨23, _⟩ => ⟨S4096x4096, .i32⟩
  | .hbm, ⟨24, _⟩ => ⟨S4096x4096, .i32⟩
  | .hbm, ⟨25, _⟩ => ⟨S4096x4096, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S4096x4096, .i32⟩
  | .hbm, ⟨33, _⟩ => ⟨S4096x4096, .i32⟩
  | .hbm, ⟨34, _⟩ => ⟨S_, .i32⟩
  | .hbm, ⟨35, _⟩ => ⟨S4096x4096, .i32⟩
  | .hbm, ⟨36, _⟩ => ⟨S4096x4096, .i1⟩
  | .hbm, ⟨37, _⟩ => ⟨S_, .i32⟩
  | .hbm, ⟨38, _⟩ => ⟨S4096x4096, .i32⟩
  | .hbm, ⟨39, _⟩ => ⟨S4096x4096, .i1⟩
  | .hbm, ⟨40, _⟩ => ⟨S_, .i32⟩
  | .hbm, ⟨41, _⟩ => ⟨S_, .i1⟩
  | .hbm, ⟨42, _⟩ => ⟨S4096x4096, .i1⟩
  | .hbm, ⟨43, _⟩ => ⟨S4096x4096, .i1⟩
  | .hbm, ⟨44, _⟩ => ⟨S4096x4096, .i1⟩
  | .hbm, ⟨45, _⟩ => ⟨S4096x4096, .i32⟩
  | .hbm, ⟨46, _⟩ => ⟨S4096x4096, .i32⟩
  | .hbm, ⟨47, _⟩ => ⟨S4096x4096, .i32⟩
  | .hbm, ⟨48, _⟩ => ⟨S_, .i32⟩
  | .hbm, ⟨49, _⟩ => ⟨S4096x4096, .i32⟩
  | .hbm, ⟨50, _⟩ => ⟨S4096x4096, .i1⟩
  | .hbm, ⟨51, _⟩ => ⟨S4096x4096, .i1⟩
  | .hbm, ⟨52, _⟩ => ⟨S4x4096x4096, .f32⟩
  | .hbm, ⟨53, _⟩ => ⟨S_, .f32⟩
  | .hbm, ⟨54, _⟩ => ⟨S4x4096x4096, .f32⟩
  | .hbm, ⟨55, _⟩ => ⟨S4x4096x4096, .f32⟩
  | .hbm, ⟨56, _⟩ => ⟨S1x4096x4096, .i1⟩
  | .hbm, ⟨57, _⟩ => ⟨S_, .f32⟩
  | .hbm, ⟨58, _⟩ => ⟨S_, .f32⟩
  | .hbm, ⟨59, _⟩ => ⟨S4x4096x4096, .i1⟩
  | .hbm, ⟨60, _⟩ => ⟨S4x4096x4096, .f32⟩
  | .hbm, ⟨61, _⟩ => ⟨S4x4096x4096, .f32⟩
  | .hbm, ⟨62, _⟩ => ⟨S_, .f32⟩
  | .hbm, ⟨63, _⟩ => ⟨S4x4096, .f32⟩
  | .hbm, ⟨64, _⟩ => ⟨S4x4096x1, .f32⟩
  | .hbm, ⟨65, _⟩ => ⟨S4x4096x4096, .f32⟩
  | .hbm, ⟨66, _⟩ => ⟨S4x4096x4096, .f32⟩
  | .hbm, ⟨67, _⟩ => ⟨S4x4096x4096, .f32⟩
  | .hbm, ⟨68, _⟩ => ⟨S_, .f32⟩
  | .hbm, ⟨69, _⟩ => ⟨S4x4096, .f32⟩
  | .hbm, ⟨70, _⟩ => ⟨S4x4096x1, .f32⟩
  | .hbm, ⟨71, _⟩ => ⟨S4x4096x64, .f32⟩
  | .hbm, ⟨72, _⟩ => ⟨S4x4096x64, .f32⟩
  | .hbm, ⟨73, _⟩ => ⟨S4x4096x64, .f32⟩
  | .hbm, ⟨74, _⟩ => ⟨S4x4096x1, .f32⟩
  | .hbm, ⟨75, _⟩ => ⟨S4x4096x1, .f32⟩
  | .hbm, ⟨76, _⟩ => ⟨S4x4096, .f32⟩
  | .hbm, ⟨77, _⟩ => ⟨S4096x4x64, .f32⟩
  | .hbm, ⟨78, _⟩ => ⟨S4096x4, .f32⟩
  | .hbm, ⟨79, _⟩ => ⟨S4096x4x64, .f32⟩
  | .hbm, ⟨80, _⟩ => ⟨S4096x4x64, .f32⟩
  | .hbm, ⟨81, _⟩ => ⟨S_, .f32⟩
  | .hbm, ⟨82, _⟩ => ⟨S4096x4, .f32⟩
  | .hbm, ⟨83, _⟩ => ⟨S4096x4, .f32⟩
  | .hbm, ⟨84, _⟩ => ⟨S4096x4x64, .f32⟩
  | .hbm, ⟨85, _⟩ => ⟨S4096x256, .f32⟩
  | .hbm, ⟨86, _⟩ => ⟨S4096x4x64, .f32⟩
  | .hbm, ⟨87, _⟩ => ⟨S4096x256, .f32⟩
  | .hbm, ⟨88, _⟩ => ⟨S4096x256, .f32⟩
  | .hbm, ⟨89, _⟩ => ⟨S4096x256, .f32⟩
  | .hbm, ⟨90, _⟩ => ⟨S4096x256, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_v5 : Ref sig .tc := ⟨.hbm, 35, rfl⟩
abbrev main_call0_v6 : Ref sig .tc := ⟨.hbm, 36, rfl⟩
abbrev main_call0_c_2 : Ref sig .tc := ⟨.hbm, 37, rfl⟩
abbrev main_call0_v7 : Ref sig .tc := ⟨.hbm, 38, rfl⟩
abbrev main_call0_v8 : Ref sig .tc := ⟨.hbm, 39, rfl⟩
abbrev main_call0_c_3 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_v22 : Ref sig .tc := ⟨.hbm, 47, rfl⟩
abbrev main_c_1 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_2 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v30 : Ref sig .tc := ⟨.hbm, 61, rfl⟩
abbrev main_cst_3 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_4 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_5 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54_0 : Ref sig .tc := ⟨.hbm, 88, rfl⟩
abbrev main_v54_1 : Ref sig .tc := ⟨.hbm, 89, rfl⟩
abbrev main_v54_2 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi c6_i32 arg0
  let c0_i32_0 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let v3 : BitVec 32 := Scalar.addi c12_i32 arg0
  let c0_i32_0 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  let v3 : BitVec 32 := Scalar.addi c0_i32 arg0
  let c0_i32_0 : BitVec 32 := 0#32
  ![v2.toNat, v3.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  let v3 : BitVec 32 := Scalar.addi c0_i32 arg0
  let c0_i32_0 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  let v3 : BitVec 32 := Scalar.addi c0_i32 arg0
  let c0_i32_0 : BitVec 32 := 0#32
  ![v2.toNat, v3.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  let v3 : BitVec 32 := Scalar.addi c0_i32 arg0
  let c0_i32_0 : BitVec 32 := 0#32
  ![v2.toNat, v3.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== AttnOneRefIdeal.lean ====
abbrev S4096x2304 : Shape := ⟨2, ![4096, 2304]⟩
abbrev S4096x256 : Shape := ⟨2, ![4096, 256]⟩
abbrev S4096x4 : Shape := ⟨2, ![4096, 4]⟩
abbrev S4096x4x64 : Shape := ⟨3, ![4096, 4, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4x4096x4096 : Shape := ⟨3, ![4, 4096, 4096]⟩
abbrev S1x4096x4096 : Shape := ⟨3, ![1, 4096, 4096]⟩
abbrev S4x4096 : Shape := ⟨2, ![4, 4096]⟩
abbrev S4x4096x1 : Shape := ⟨3, ![4, 4096, 1]⟩
abbrev S4x4096x64 : Shape := ⟨3, ![4, 4096, 64]⟩
abbrev S4x64x4096 : Shape := ⟨3, ![4, 64, 4096]⟩

abbrev nBuf : Space → Nat
  | .hbm => 139
  | .vmem => 0
  | .smem => 0
  | _ => 0

abbrev hbmTy0_0 (i : Nat) : BufTy := match i % 128 with
  | 0 => ⟨S4096x2304, .f32⟩
  | 1 => ⟨S4096x256, .f32⟩
  | 2 => ⟨S4096x4, .f32⟩
  | 3 => ⟨S4096x256, .f32⟩
  | 4 => ⟨S4096x256, .f32⟩
  | 5 => ⟨S4096x256, .f32⟩
  | 6 => ⟨S4096x4x64, .f32⟩
  | 7 => ⟨S4096x4x64, .f32⟩
  | 8 => ⟨S4096x4x64, .f32⟩
  | 9 => ⟨S4096, .i32⟩
  | 10 => ⟨S4096x1, .i32⟩
  | 11 => ⟨S4096, .i32⟩
  | 12 => ⟨S1x4096, .i32⟩
  | 13 => ⟨S4096x4096, .i32⟩
  | 14 => ⟨S4096x4096, .i32⟩
  | 15 => ⟨S4096x4096, .i1⟩
  | 16 => ⟨S4096x4096, .i32⟩
  | 17 => ⟨S4096x4096, .i32⟩
  | 18 => ⟨S4096x4096, .i32⟩
  | 19 => ⟨S_, .i32⟩
  | 20 => ⟨S4096x4096, .i32⟩
  | 21 => ⟨S4096x4096, .i1⟩
  | 22 => ⟨S4096x4096, .i1⟩
  | 23 => ⟨S4096x4096, .i32⟩
  | 24 => ⟨S4096x4096, .i32⟩
  | 25 => ⟨S4096x4096, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S4096x4096, .i32⟩
  | 33 => ⟨S4096x4096, .i32⟩
  | 34 => ⟨S_, .i32⟩
  | 35 => ⟨S4096x4096, .i32⟩
  | 36 => ⟨S4096x4096, .i1⟩
  | 37 => ⟨S_, .i32⟩
  | 38 => ⟨S4096x4096, .i32⟩
  | 39 => ⟨S4096x4096, .i1⟩
  | 40 => ⟨S_, .i32⟩
  | 41 => ⟨S_, .i1⟩
  | 42 => ⟨S4096x4096, .i1⟩
  | 43 => ⟨S4096x4096, .i1⟩
  | 44 => ⟨S4096x4096, .i1⟩
  | 45 => ⟨S4096x4096, .i32⟩
  | 46 => ⟨S4096x4096, .i32⟩
  | 47 => ⟨S4096x4096, .i32⟩
  | 48 => ⟨S_, .i32⟩
  | 49 => ⟨S4096x4096, .i32⟩
  | 50 => ⟨S4096x4096, .i1⟩
  | 51 => ⟨S4096x4096, .i1⟩
  | 52 => ⟨S4x4096x4096, .f32⟩
  | 53 => ⟨S_, .f32⟩
  | 54 => ⟨S4x4096x4096, .f32⟩
  | 55 => ⟨S4x4096x4096, .f32⟩
  | 56 => ⟨S1x4096x4096, .i1⟩
  | 57 => ⟨S_, .f32⟩
  | 58 => ⟨S_, .f32⟩
  | 59 => ⟨S4x4096x4096, .i1⟩
  | 60 => ⟨S4x4096x4096, .f32⟩
  | 61 => ⟨S4x4096x4096, .f32⟩
  | 62 => ⟨S_, .f32⟩
  | 63 => ⟨S4x4096x4096, .f32⟩
  | 64 => ⟨S_, .f32⟩
  | 65 => ⟨S4x4096, .f32⟩
  | 66 => ⟨S4x4096x1, .f32⟩
  | 67 => ⟨S4x4096x4096, .f32⟩
  | 68 => ⟨S4x4096x4096, .i1⟩
  | 69 => ⟨S4x4096x4096, .f32⟩
  | 70 => ⟨S_, .f32⟩
  | 71 => ⟨S4x4096, .f32⟩
  | 72 => ⟨S4x4096x1, .f32⟩
  | 73 => ⟨S4x4096x4096, .f32⟩
  | 74 => ⟨S4x4096x4096, .f32⟩
  | 75 => ⟨S4x4096x4096, .f32⟩
  | 76 => ⟨S_, .f32⟩
  | 77 => ⟨S4x4096, .f32⟩
  | 78 => ⟨S4x4096x1, .f32⟩
  | 79 => ⟨S4x4096x64, .f32⟩
  | 80 => ⟨S4x4096x64, .f32⟩
  | 81 => ⟨S4x4096x64, .f32⟩
  | 82 => ⟨S4x4096x1, .f32⟩
  | 83 => ⟨S_, .f32⟩
  | 84 => ⟨S4x4096x1, .f32⟩
  | 85 => ⟨S4x4096x1, .f32⟩
  | 86 => ⟨S4x4096x1, .f32⟩
  | 87 => ⟨S4x4096x1, .f32⟩
  | 88 => ⟨S4x4096, .f32⟩
  | 89 => ⟨S4096x4x64, .f32⟩
  | 90 => ⟨S4096x4, .f32⟩
  | 91 => ⟨S4096x256, .f32⟩
  | 92 => ⟨S4096x4x64, .f32⟩
  | 93 => ⟨S4x4096, .f32⟩
  | 94 => ⟨S4x4096x64, .f32⟩
  | 95 => ⟨S4x4096x1, .f32⟩
  | 96 => ⟨S4x4096x1, .f32⟩
  | 97 => ⟨S4x4096x64, .f32⟩
  | 98 => ⟨S4x4096x64, .f32⟩
  | 99 => ⟨S4x4096x64, .f32⟩
  | 100 => ⟨S_, .f32⟩
  | 101 => ⟨S4x4096, .f32⟩
  | 102 => ⟨S4x4096x1, .f32⟩
  | 103 => ⟨S4x4096x1, .f32⟩
  | 104 => ⟨S4x4096x1, .f32⟩
  | 105 => ⟨S4x4096x64, .f32⟩
  | 106 => ⟨S4x4096x64, .f32⟩
  | 107 => ⟨S4x64x4096, .f32⟩
  | 108 => ⟨S4096x4x64, .f32⟩
  | 109 => ⟨S4x4096x4096, .f32⟩
  | 110 => ⟨S_, .f32⟩
  | 111 => ⟨S4x4096, .f32⟩
  | 112 => ⟨S4x4096x4096, .f32⟩
  | 113 => ⟨S4x4096x4096, .f32⟩
  | 114 => ⟨S4x4096x4096, .f32⟩
  | 115 => ⟨S4x4096x4096, .f32⟩
  | 116 => ⟨S_, .f32⟩
  | 117 => ⟨S4x4096, .f32⟩
  | 118 => ⟨S4x4096x1, .f32⟩
  | 119 => ⟨S4x4096x1, .f32⟩
  | 120 => ⟨S_, .f32⟩
  | 121 => ⟨S4x4096, .f32⟩
  | 122 => ⟨S4x4096, .f32⟩
  | 123 => ⟨S4x4096x4096, .f32⟩
  | 124 => ⟨S4x4096x4096, .f32⟩
  | 125 => ⟨S4x4096x4096, .f32⟩
  | 126 => ⟨S_, .f32⟩
  | 127 => ⟨S4x4096x4096, .f32⟩
  | _ => ⟨S4096x2304, .f32⟩

abbrev hbmTy0_1 (i : Nat) : BufTy := match i % 128 with
  | 0 => ⟨S4x4096x4096, .f32⟩
  | 1 => ⟨S_, .f32⟩
  | 2 => ⟨S4x4096x4096, .f32⟩
  | 3 => ⟨S4x4096x4096, .f32⟩
  | 4 => ⟨S4x4096x64, .f32⟩
  | 5 => ⟨S4096x4x64, .f32⟩
  | 6 => ⟨S4x4096x64, .f32⟩
  | 7 => ⟨S4096x4x64, .f32⟩
  | 8 => ⟨S4096x256, .f32⟩
  | 9 => ⟨S4096x256, .f32⟩
  | 10 => ⟨S4096x256, .f32⟩
  | _ => ⟨S4096x2304, .f32⟩

abbrev hbmTy (i : Nat) : BufTy := match i / 128 with
  | 0 => hbmTy0_0 i
  | 1 => hbmTy0_1 i
  | _ => ⟨S4096x2304, .f32⟩

abbrev bufTy : (tb : Table) → Fin (tcTables nBuf tb) → BufTy
  | .hbm, ⟨i, _⟩ => hbmTy i
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_v5 : Ref sig .tc := ⟨.hbm, 35, rfl⟩
abbrev main_call0_v6 : Ref sig .tc := ⟨.hbm, 36, rfl⟩
abbrev main_call0_c_2 : Ref sig .tc := ⟨.hbm, 37, rfl⟩
abbrev main_call0_v7 : Ref sig .tc := ⟨.hbm, 38, rfl⟩
abbrev main_call0_v8 : Ref sig .tc := ⟨.hbm, 39, rfl⟩
abbrev main_call0_c_3 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_v22 : Ref sig .tc := ⟨.hbm, 47, rfl⟩
abbrev main_c_1 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_2 : Ref sig .tc := ⟨.hbm, 57, rfl⟩
abbrev main_call1_v0 : Ref sig .tc := ⟨.hbm, 58, rfl⟩
abbrev main_v30_1 : Ref sig .tc := ⟨.hbm, 59, rfl⟩
abbrev main_call1_v2 : Ref sig .tc := ⟨.hbm, 60, rfl⟩
abbrev main_v30_0 : Ref sig .tc := ⟨.hbm, 61, rfl⟩
abbrev main_call1_cst : Ref sig .tc := ⟨.hbm, 62, rfl⟩
abbrev main_v30_2 : Ref sig .tc := ⟨.hbm, 63, rfl⟩
abbrev main_cst_3 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_4 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_5 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_6 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_7 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_8 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_9 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_10 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_call2_cst : Ref sig .tc := ⟨.hbm, 126, rfl⟩
abbrev main_call2_v0 : Ref sig .tc := ⟨.hbm, 127, rfl⟩
abbrev main_v85 : Ref sig .tc := ⟨.hbm, 128, rfl⟩
abbrev main_cst_11 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩

abbrev nD : Nat := 1
abbrev τ : Topo := Topo.v7x

variable {F : FTy → Type} [FloatOps F]
-- ==== NormIn.lean ====
abbrev S4096x8192 : Shape := ⟨2, ![4096, 8192]⟩
abbrev S2048x8192 : Shape := ⟨2, ![2048, 8192]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048x8x1024 : Shape := ⟨3, ![2048, 8, 1024]⟩
abbrev S8x2048x1024 : Shape := ⟨3, ![8, 2048, 1024]⟩
abbrev S256x8192 : Shape := ⟨2, ![256, 8192]⟩
abbrev S256x2048 : Shape := ⟨2, ![256, 2048]⟩
abbrev S256x1 : Shape := ⟨2, ![256, 1]⟩
abbrev S256x1024 : Shape := ⟨2, ![256, 1024]⟩
abbrev S1x2048x1024 : Shape := ⟨3, ![1, 2048, 1024]⟩
abbrev S2048x1024 : Shape := ⟨2, ![2048, 1024]⟩
abbrev S256 : Shape := ⟨1, ![256]⟩
abbrev S2048 : Shape := ⟨1, ![2048]⟩

abbrev nBuf : Space → Nat
  | .hbm => 22
  | .vmem => 15
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S2048x8x1024, .f32⟩
  | .hbm, ⟨17, _⟩ => ⟨S8x2048x1024, .f32⟩
  | .hbm, ⟨18, _⟩ => ⟨S8x2048x1024, .bf16⟩
  | .hbm, ⟨19, _⟩ => ⟨S4096x2048, .f32⟩
  | .hbm, ⟨20, _⟩ => ⟨S4096x2048, .bf16⟩
  | .hbm, ⟨21, _⟩ => ⟨S1x2048, .f32⟩
  | .local _ .vmem, ⟨0, _⟩ => ⟨S256x8192, .bf16⟩
  | .local _ .vmem, ⟨1, _⟩ => ⟨S256x8192, .bf16⟩
  | .local _ .vmem, ⟨2, _⟩ => ⟨S8x2048x1024, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x1, .f32⟩
  | .local _ .vmem, ⟨7, _⟩ => ⟨S256x1, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormInRefIdeal.lean ====
abbrev S4096x8192 : Shape := ⟨2, ![4096, 8192]⟩
abbrev S2048x8192 : Shape := ⟨2, ![2048, 8192]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x8192, .f32⟩
  | .hbm, ⟨25, _⟩ => ⟨S4096x8192, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== NormProj.lean ====
abbrev S4096x5632 : Shape := ⟨2, ![4096, 5632]⟩
abbrev S2048x5632 : Shape := ⟨2, ![2048, 5632]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S5632x2048 : Shape := ⟨2, ![5632, 2048]⟩
abbrev S256x5632 : Shape := ⟨2, ![256, 5632]⟩
abbrev S256x2048 : Shape := ⟨2, ![256, 2048]⟩
abbrev S256x1 : Shape := ⟨2, ![256, 1]⟩
abbrev S256 : Shape := ⟨1, ![256]⟩
abbrev S2048 : Shape := ⟨1, ![2048]⟩

abbrev nBuf : Space → Nat
  | .hbm => 21
  | .vmem => 15
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S5632x2048, .f32⟩
  | .hbm, ⟨17, _⟩ => ⟨S5632x2048, .bf16⟩
  | .hbm, ⟨18, _⟩ => ⟨S4096x2048, .f32⟩
  | .hbm, ⟨19, _⟩ => ⟨S4096x2048, .bf16⟩
  | .hbm, ⟨20, _⟩ => ⟨S1x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x1, .f32⟩
  | .local _ .vmem, ⟨7, _⟩ => ⟨S256x1, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormProjRefIdeal.lean ====
abbrev S4096x5632 : Shape := ⟨2, ![4096, 5632]⟩
abbrev S2048x5632 : Shape := ⟨2, ![2048, 5632]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x5632, .f32⟩
  | .hbm, ⟨25, _⟩ => ⟨S4096x5632, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== WgMlpOut.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S4096x512 : Shape := ⟨2, ![4096, 512]⟩
abbrev S512x2048 : Shape := ⟨2, ![512, 2048]⟩

abbrev nBuf : Space → Nat
  | .hbm => 9
  | .vmem => 5
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S8192x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S512x2048, .bf16⟩
  | .local _ .vmem, ⟨4, _⟩ => ⟨S512x2048, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WgMlpOutRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 14
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S8192x2048, .f32⟩
  | .hbm, ⟨9, _⟩ => ⟨S4096x2048, .f32⟩
  | .hbm, ⟨10, _⟩ => ⟨S4096x2048, .f32⟩
  | .hbm, ⟨11, _⟩ => ⟨S2048x8192, .f32⟩
  | .hbm, ⟨12, _⟩ => ⟨S8192x2048, .f32⟩
  | .hbm, ⟨13, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== WgProjIn.lean ====
abbrev S4096x2048 : Shape := ⟨2, ![4096, 2048]⟩
abbrev S4096x5632 : Shape := ⟨2, ![4096, 5632]⟩
abbrev S5632x2048 : Shape := ⟨2, ![5632, 2048]⟩
abbrev S4096x512 : Shape := ⟨2, ![4096, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S512x2048, .bf16⟩
  | .local _ .vmem, ⟨4, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WgProjInRefIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | .hbm, ⟨10, _⟩ => ⟨S5632x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WgMlpIn.lean ====
abbrev S4096x2048 : Shape := ⟨2, ![4096, 2048]⟩
abbrev S4096x8192 : Shape := ⟨2, ![4096, 8192]⟩
abbrev S8x2048x1024 : Shape := ⟨3, ![8, 2048, 1024]⟩
abbrev S4096x512 : Shape := ⟨2, ![4096, 512]⟩
abbrev S1x2048x512 : Shape := ⟨3, ![1, 2048, 512]⟩
abbrev S2048x4096 : Shape := ⟨2, ![2048, 4096]⟩
abbrev S512x2048 : Shape := ⟨2, ![512, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .bf16⟩
  | .local _ .vmem, ⟨0, _⟩ => ⟨S4096x2048, .bf16⟩
  | .local _ .vmem, ⟨1, _⟩ => ⟨S4096x512, .bf16⟩
  | .local _ .vmem, ⟨2, _⟩ => ⟨S4096x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S2048x4096, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WgMlpInRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x8x1024, .bf16⟩
  | .hbm, ⟨11, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== WgProjOut.lean ====
abbrev S4096x512 : Shape := ⟨2, ![4096, 512]⟩
abbrev S4096x768 : Shape := ⟨2, ![4096, 768]⟩
abbrev S4096x2048 : Shape := ⟨2, ![4096, 2048]⟩
abbrev S2048x2048 : Shape := ⟨2, ![2048, 2048]⟩
abbrev S2048x512 : Shape := ⟨2, ![2048, 512]⟩
abbrev S2048x4096 : Shape := ⟨2, ![2048, 4096]⟩
abbrev S512x512 : Shape := ⟨2, ![512, 512]⟩
abbrev S512x768 : Shape := ⟨2, ![512, 768]⟩
abbrev S768x512 : Shape := ⟨2, ![768, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S4096x768, .bf16⟩
  | .hbm, ⟨2, _⟩ => ⟨S4096x768, .bf16⟩
  | .hbm, ⟨3, _⟩ => ⟨S4096x2048, .bf16⟩
  | .hbm, ⟨4, _⟩ => ⟨S2048x2048, .bf16⟩
  | .local _ .vmem, ⟨0, _⟩ => ⟨S4096x512, .bf16⟩
  | .local _ .vmem, ⟨1, _⟩ => ⟨S4096x768, .bf16⟩
  | .local _ .vmem, ⟨2, _⟩ => ⟨S4096x768, .bf16⟩
  | .local _ .vmem, ⟨3, _⟩ => ⟨S4096x512, .bf16⟩
  | .local _ .vmem, ⟨4, _⟩ => ⟨S4096x512, .bf16⟩
  | .local _ .vmem, ⟨5, _⟩ => ⟨S2048x512, .bf16⟩
  | .local _ .vmem, ⟨6, _⟩ => ⟨S2048x512, .bf16⟩
  | .local _ .vmem, ⟨7, _⟩ => ⟨S2048x4096, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== WgProjOutRefIdeal.lean ====
abbrev S4096x512 : Shape := ⟨2, ![4096, 512]⟩
abbrev S4096x768 : Shape := ⟨2, ![4096, 768]⟩
abbrev S4096x2048 : Shape := ⟨2, ![4096, 2048]⟩
abbrev S_ : Shape := ⟨0, ![]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x768, .bf16⟩
  | .hbm, ⟨2, _⟩ => ⟨S4096x768, .bf16⟩
  | .hbm, ⟨3, _⟩ => ⟨S4096x2048, .bf16⟩
  | .hbm, ⟨4, _⟩ => ⟨S4096x2048, .bf16⟩
  | .hbm, ⟨5, _⟩ => ⟨S_, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S2048x2048, .f32⟩
  | .hbm, ⟨11, _⟩ => ⟨S2048x2048, .f32⟩
  | .hbm, ⟨12, _⟩ => ⟨S2048x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== DgProjOut.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DgProjOutRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FwProjIn.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S5632x2048, .f32⟩
  | .hbm, ⟨3, _⟩ => ⟨S5632x2048, .bf16⟩
  | .hbm, ⟨4, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FwProjInRefIdeal.lean ====
abbrev S4096x2048 : Shape := ⟨2, ![4096, 2048]⟩
abbrev S2048x5632 : Shape := ⟨2, ![2048, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .f32⟩
  | .hbm, ⟨2, _⟩ => ⟨S4096x2048, .f32⟩
  | .hbm, ⟨3, _⟩ => ⟨S4096x5632, .f32⟩
  | .hbm, ⟨4, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FwMlpIn.lean ====
abbrev S4096x2048 : Shape := ⟨2, ![4096, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S2048x8x1024, .f32⟩
  | .hbm, ⟨3, _⟩ => ⟨S8x2048x1024, .f32⟩
  | .hbm, ⟨4, _⟩ => ⟨S8x2048x1024, .bf16⟩
  | .hbm, ⟨5, _⟩ => ⟨S4096x8192, .bf16⟩
  | .hbm, ⟨6, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FwMlpInRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S4096x2048, .f32⟩
  | .hbm, ⟨3, _⟩ => ⟨S4096x8192, .f32⟩
  | .hbm, ⟨4, _⟩ => ⟨S4096x8192, .bf16⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== FwProjOut.lean ====
abbrev S4096x2048 : Shape := ⟨2, ![4096, 2048]⟩
abbrev S4096x512 : Shape := ⟨2, ![4096, 512]⟩
abbrev S4096x768 : Shape := ⟨2, ![4096, 768]⟩
abbrev S2048x2048 : Shape := ⟨2, ![2048, 2048]⟩
abbrev S1x2048 : Shape := ⟨2, ![1, 2048]⟩
abbrev S4096x1 : Shape := ⟨2, ![4096, 1]⟩
abbrev S512x512 : Shape := ⟨2, ![512, 512]⟩
abbrev S512x768 : Shape := ⟨2, ![512, 768]⟩
abbrev S512x2048 : Shape := ⟨2, ![512, 2048]⟩
abbrev S512x1 : Shape := ⟨2, ![512, 1]⟩
abbrev S768x2048 : Shape := ⟨2, ![768, 2048]⟩
abbrev S512 : Shape := ⟨1, ![512]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x512, .bf16⟩
  | .hbm, ⟨2, _⟩ => ⟨S4096x768, .bf16⟩
  | .hbm, ⟨3, _⟩ => ⟨S4096x768, .bf16⟩
  | .hbm, ⟨4, _⟩ => ⟨S2048x2048, .f32⟩
  | .hbm, ⟨5, _⟩ => ⟨S1x2048, .f32⟩
  | .hbm, ⟨6, _⟩ => ⟨S2048x2048, .bf16⟩
  | .hbm, ⟨7, _⟩ => ⟨S4096x2048, .f32⟩
  | .hbm, ⟨8, _⟩ => ⟨S4096x2048, .bf16⟩
  | .hbm, ⟨9, _⟩ => ⟨S4096x1, .f32⟩
  | .local _ .vmem, ⟨0, _⟩ => ⟨S512x512, .bf16⟩
  | .local _ .vmem, ⟨1, _⟩ => ⟨S512x512, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x1, .f32⟩
  | .local _ .vmem, ⟨15, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FwProjOutRefIdeal.lean ====
abbrev S4096x2048 : Shape := ⟨2, ![4096, 2048]⟩
abbrev S4096x512 : Shape := ⟨2, ![4096, 512]⟩
abbrev S4096x768 : Shape := ⟨2, ![4096, 768]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .bf16⟩
  | .hbm, ⟨2, _⟩ => ⟨S4096x768, .bf16⟩
  | .hbm, ⟨3, _⟩ => ⟨S4096x768, .bf16⟩
  | .hbm, ⟨4, _⟩ => ⟨S2048x2048, .f32⟩
  | .hbm, ⟨5, _⟩ => ⟨S1x2048, .f32⟩
  | .hbm, ⟨6, _⟩ => ⟨S4096x2048, .bf16⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== FwMlpOut.lean ====
abbrev S4096x2048 : Shape := ⟨2, ![4096, 2048]⟩
abbrev S4096x8192 : Shape := ⟨2, ![4096, 8192]⟩
abbrev S8192x2048 : Shape := ⟨2, ![8192, 2048]⟩
abbrev S1x2048 : Shape := ⟨2, ![1, 2048]⟩
abbrev S4096x1 : Shape := ⟨2, ![4096, 1]⟩
abbrev S256x8192 : Shape := ⟨2, ![256, 8192]⟩
abbrev S256x2048 : Shape := ⟨2, ![256, 2048]⟩
abbrev S256x1 : Shape := ⟨2, ![256, 1]⟩
abbrev S256 : Shape := ⟨1, ![256]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x8192, .bf16⟩
  | .hbm, ⟨2, _⟩ => ⟨S8192x2048, .f32⟩
  | .hbm, ⟨3, _⟩ => ⟨S1x2048, .f32⟩
  | .hbm, ⟨4, _⟩ => ⟨S8192x2048, .bf16⟩
  | .hbm, ⟨5, _⟩ => ⟨S4096x2048, .f32⟩
  | .hbm, ⟨6, _⟩ => ⟨S4096x2048, .bf16⟩
  | .hbm, ⟨7, _⟩ => ⟨S4096x1, .f32⟩
  | .local _ .vmem, ⟨0, _⟩ => ⟨S256x8192, .bf16⟩
  | .local _ .vmem, ⟨1, _⟩ => ⟨S256x8192, .bf16⟩
  | .local _ .vmem, ⟨2, _⟩ => ⟨S8192x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x1, .f32⟩
  | .local _ .vmem, ⟨11, _⟩ => ⟨S256x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FwMlpOutRefIdeal.lean ====
abbrev S4096x2048 : Shape := ⟨2, ![4096, 2048]⟩
abbrev S4096x8192 : Shape := ⟨2, ![4096, 8192]⟩
abbrev S8192x2048 : Shape := ⟨2, ![8192, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .bf16⟩
  | .hbm, ⟨2, _⟩ => ⟨S8192x2048, .f32⟩
  | .hbm, ⟨3, _⟩ => ⟨S1x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== AdamSmall.lean ====
abbrev S2x2048 : Shape := ⟨2, ![2, 2048]⟩
abbrev S2x8x128x128 : Shape := ⟨4, ![2, 8, 128, 128]⟩
abbrev S2x8x128 : Shape := ⟨3, ![2, 8, 128]⟩
abbrev S2x3x96 : Shape := ⟨3, ![2, 3, 96]⟩
abbrev S2x64 : Shape := ⟨2, ![2, 64]⟩

abbrev nBuf : Space → Nat
  | .hbm => 49
  | .vmem => 49
  | .smem => 0
  | _ => 0

abbrev bufTy : (tb : Table) → Fin (tcTables nBuf tb) → BufTy
  | .hbm, ⟨0, _⟩ => ⟨S2x2048, .f32⟩
  | .hbm, ⟨1, _⟩ => ⟨S2x8x128x128, .f32⟩
  | .hbm, ⟨2, _⟩ => ⟨S2x8x128, .f32⟩
  | .hbm, ⟨3, _⟩ => ⟨S2x3x96, .f32⟩
  | .hbm, ⟨4, _⟩ => ⟨S2x64, .f32⟩
  | .hbm, ⟨5, _⟩ => ⟨S2x64, .f32⟩
  | .hbm, ⟨6, _⟩ => ⟨S2x2048, .f32⟩
  | .hbm, ⟨7, _⟩ => ⟨S2x2048, .f32⟩
  | .hbm, ⟨8, _⟩ => ⟨S2x8x128x128, .f32⟩
  | .hbm, ⟨9, _⟩ => ⟨S2x8x128, .f32⟩
  | .hbm, ⟨10, _⟩ => ⟨S2x3x96, .f32⟩
  | .hbm, ⟨11, _⟩ => ⟨S2x64, .f32⟩
  | .hbm, ⟨12, _⟩ => ⟨S2x64, .f32⟩
  | .hbm, ⟨13, _⟩ => ⟨S2x2048, .f32⟩
  | .hbm, ⟨14, _⟩ => ⟨S2x2048, .f32⟩
  | .hbm, ⟨15, _⟩ => ⟨S2x8x128x128, .f32⟩
  | .hbm, ⟨16, _⟩ => ⟨S2x8x128, .f32⟩
  | .hbm, ⟨17, _⟩ => ⟨S2x3x96, .f32⟩
  | .hbm, ⟨18, _⟩ => ⟨S2x64, .f32⟩
  | .hbm, ⟨19, _⟩ => ⟨S2x64, .f32⟩
  | .hbm, ⟨20, _⟩ => ⟨S2x2048, .f32⟩
  | .hbm, ⟨21, _⟩ => ⟨S2x2048, .f32⟩
  | .hbm, ⟨22, _⟩ => ⟨S2x8x128x128, .f32⟩
  | .hbm, ⟨23, _⟩ => ⟨S2x8x128, .f32⟩
  | .hbm, ⟨24, _⟩ => ⟨S2x3x96, .f32⟩
  | .hbm, ⟨25, _⟩ => ⟨S2x64, .f32⟩
  | .hbm, ⟨26, _⟩ => ⟨S2x64, .f32⟩
  | .hbm, ⟨27, _⟩ => ⟨S2x2048, .f32⟩
  | .hbm, ⟨28, _⟩ => ⟨S2x2048, .f32⟩
  | .hbm, ⟨29, _⟩ => ⟨S2x8x128x128, .f32⟩
  | .hbm, ⟨30, _⟩ => ⟨S2x8x128, .f32⟩
  | .hbm, ⟨31, _⟩ => ⟨S2x3x96, .f32⟩
  | .hbm, ⟨32, _⟩ => ⟨S2x64, .f32⟩
  | .hbm, ⟨33, _⟩ => ⟨S2x64, .f32⟩
  | .hbm, ⟨34, _⟩ => ⟨S2x2048, .f32⟩
  | .hbm, ⟨35, _⟩ => ⟨S2x2048, .f32⟩
  | .hbm, ⟨36, _⟩ => ⟨S2x8x128x128, .f32⟩
  | .hbm, ⟨37, _⟩ => ⟨S2x8x128, .f32⟩
  | .hbm, ⟨38, _⟩ => ⟨S2x3x96, .f32⟩
  | .hbm, ⟨39, _⟩ => ⟨S2x64, .f32⟩
  | .hbm, ⟨40, _⟩ => ⟨S2x64, .f32⟩
  | .hbm, ⟨41, _⟩ => ⟨S2x2048, .f32⟩
  | .hbm, ⟨42, _⟩ => ⟨S2x2048, .f32⟩
  | .hbm, ⟨43, _⟩ => ⟨S2x8x128x128, .f32⟩
  | .hbm, ⟨44, _⟩ => ⟨S2x8x128, .f32⟩
  | .hbm, ⟨45, _⟩ => ⟨S2x3x96, .f32⟩
  | .hbm, ⟨46, _⟩ => ⟨S2x64, .f32⟩
  | .hbm, ⟨47, _⟩ => ⟨S2x64, .f32⟩
  | .hbm, ⟨48, _⟩ => ⟨S2x2048, .f32⟩
  | .local _ .vmem, ⟨0, _⟩ => ⟨S2x2048, .f32⟩
  | .local _ .vmem, ⟨1, _⟩ => ⟨S2x8x128x128, .f32⟩
  | .local _ .vmem, ⟨2, _⟩ => ⟨S2x8x128, .f32⟩
  | .local _ .vmem, ⟨3, _⟩ => ⟨S2x3x96, .f32⟩
  | .local _ .vmem, ⟨4, _⟩ => ⟨S2x64, .f32⟩
  | .local _ .vmem, ⟨5, _⟩ => ⟨S2x64, .f32⟩
  | .local _ .vmem, ⟨6, _⟩ => ⟨S2x2048, .f32⟩
  | .local _ .vmem, ⟨7, _⟩ => ⟨S2x2048, .f32⟩
  | .local _ .vmem, ⟨8, _⟩ => ⟨S2x8x128x128, .f32⟩
  | .local _ .vmem, ⟨9, _⟩ => ⟨S2x8x128, .f32⟩
  | .local _ .vmem, ⟨10, _⟩ => ⟨S2x3x96, .f32⟩
  | .local _ .vmem, ⟨11, _⟩ => ⟨S2x64, .f32⟩
  | .local _ .vmem, ⟨12, _⟩ => ⟨S2x64, .f32⟩
  | .local _ .vmem, ⟨13, _⟩ => ⟨S2x2048, .f32⟩
  | .local _ .vmem, ⟨14, _⟩ => ⟨S2x2048, .f32⟩
  | .local _ .vmem, ⟨15, _⟩ => ⟨S2x8x128x128, .f32⟩
  | .local _ .vmem, ⟨16, _⟩ => ⟨S2x8x128, .f32⟩
  | .local _ .vmem, ⟨17, _⟩ => ⟨S2x3x96, .f32⟩
  | .local _ .vmem, ⟨18, _⟩ => ⟨S2x64, .f32⟩
  | .local _ .vmem, ⟨19, _⟩ => ⟨S2x64, .f32⟩
  | .local _ .vmem, ⟨20, _⟩ => ⟨S2x2048, .f32⟩
  | .local _ .vmem, ⟨21, _⟩ => ⟨S2x2048, .f32⟩
  | .local _ .vmem, ⟨22, _⟩ => ⟨S2x8x128x128, .f32⟩
  | .local _ .vmem, ⟨23, _⟩ => ⟨S2x8x128, .f32⟩
  | .local _ .vmem, ⟨24, _⟩ => ⟨S2x3x96, .f32⟩
  | .local _ .vmem, ⟨25, _⟩ => ⟨S2x64, .f32⟩
  | .local _ .vmem, ⟨26, _⟩ => ⟨S2x64, .f32⟩
  | .local _ .vmem, ⟨27, _⟩ => ⟨S2x2048, .f32⟩
  | .local _ .vmem, ⟨28, _⟩ => ⟨S2x2048, .f32⟩
  | .local _ .vmem, ⟨29, _⟩ => ⟨S2x8x128x128, .f32⟩
  | .local _ .vmem, ⟨30, _⟩ => ⟨S2x8x128, .f32⟩
  | .local _ .vmem, ⟨31, _⟩ => ⟨S2x3x96, .f32⟩
  | .local _ .vmem, ⟨32, _⟩ => ⟨S2x64, .f32⟩
  | .local _ .vmem, ⟨33, _⟩ => ⟨S2x64, .f32⟩
  | .local _ .vmem, ⟨34, _⟩ => ⟨S2x2048, .f32⟩
  | .local _ .vmem, ⟨35, _⟩ => ⟨S2x2048, .f32⟩
  | .local _ .vmem, ⟨36, _⟩ => ⟨S2x8x128x128, .f32⟩
  | .local _ .vmem, ⟨37, _⟩ => ⟨S2x8x128, .f32⟩
  | .local _ .vmem, ⟨38, _⟩ => ⟨S2x3x96, .f32⟩
  | .local _ .vmem, ⟨39, _⟩ => ⟨S2x64, .f32⟩
  | .local _ .vmem, ⟨40, _⟩ => ⟨S2x64, .f32⟩
  | .local _ .vmem, ⟨41, _⟩ => ⟨S2x2048, .f32⟩
  | .local _ .vmem, ⟨42, _⟩ => ⟨S2x2048, .f32⟩
  | .local _ .vmem, ⟨43, _⟩ => ⟨S2x8x128x128, .f32⟩
  | .local _ .vmem, ⟨44, _⟩ => ⟨S2x8x128, .f32⟩
  | .local _ .vmem, ⟨45, _⟩ => ⟨S2x3x96, .f32⟩
  | .local _ .vmem, ⟨46, _⟩ => ⟨S2x64, .f32⟩
  | .local _ .vmem, ⟨47, _⟩ => ⟨S2x64, .f32⟩
  | .local _ .vmem, ⟨48, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0_0 : Ref sig .tc := ⟨.hbm, 28, rfl⟩
abbrev main_v0_1 : Ref sig .tc := ⟨.hbm, 29, rfl⟩
abbrev main_v0_2 : Ref sig .tc := ⟨.hbm, 30, rfl⟩
abbrev main_v0_3 : Ref sig .tc := ⟨.hbm, 31, rfl⟩
abbrev main_v0_4 : Ref sig .tc := ⟨.hbm, 32, rfl⟩
abbrev main_v0_5 : Ref sig .tc := ⟨.hbm, 33, rfl⟩
abbrev main_v0_6 : Ref sig .tc := ⟨.hbm, 34, rfl⟩
abbrev main_v0_7 : Ref sig .tc := ⟨.hbm, 35, rfl⟩
abbrev main_v0_8 : Ref sig .tc := ⟨.hbm, 36, rfl⟩
abbrev main_v0_9 : Ref sig .tc := ⟨.hbm, 37, rfl⟩
abbrev main_v0_10 : Ref sig .tc := ⟨.hbm, 38, rfl⟩
abbrev main_v0_11 : Ref sig .tc := ⟨.hbm, 39, rfl⟩
abbrev main_v0_12 : Ref sig .tc := ⟨.hbm, 40, rfl⟩
abbrev main_v0_13 : Ref sig .tc := ⟨.hbm, 41, rfl⟩
abbrev main_v0_14 : Ref sig .tc := ⟨.hbm, 42, rfl⟩
abbrev main_v0_15 : Ref sig .tc := ⟨.hbm, 43, rfl⟩
abbrev main_v0_16 : Ref sig .tc := ⟨.hbm, 44, rfl⟩
abbrev main_v0_17 : Ref sig .tc := ⟨.hbm, 45, rfl⟩
abbrev main_v0_18 : Ref sig .tc := ⟨.hbm, 46, rfl⟩
abbrev main_v0_19 : Ref sig .tc := ⟨.hbm, 47, rfl⟩
abbrev main_v0_20 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48

abbrev nD : Nat := 1
abbrev τ : Topo := Topo.v7x

variable {F : FTy → Type} [FloatOps F]

abbrev grid0 : Pipeline.Grid := .none

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x3x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x3x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x8x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x3x96 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x8x128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x8x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x3x96 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S2x64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x2048 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S2x2048 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S2x8x128x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S2x8x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S2x3x96 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S2x64 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S2x64 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S2x2048 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S2x2048 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S2x8x128x128 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S2x8x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S2x3x96 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S2x64 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S2x64 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S2x2048 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S2x2048 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S2x8x128x128 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S2x8x128 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S2x3x96 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S2x64 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S2x64 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S2x2048 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))
-- ==== AdamSmallRefIdeal.lean ====
abbrev S2x2048 : Shape := ⟨2, ![2, 2048]⟩
abbrev S2x8x128x128 : Shape := ⟨4, ![2, 8, 128, 128]⟩
abbrev S2x8x128 : Shape := ⟨3, ![2, 8, 128]⟩
abbrev S2x3x96 : Shape := ⟨3, ![2, 3, 96]⟩
abbrev S2x64 : Shape := ⟨2, ![2, 64]⟩
abbrev S_ : Shape := ⟨0, ![]⟩

abbrev nBuf : Space → Nat
  | .hbm => 259
  | .vmem => 0
  | .smem => 0
  | _ => 0

abbrev hbmTy0_0 (i : Nat) : BufTy := match i % 128 with
  | 0 => ⟨S2x2048, .f32⟩
  | 1 => ⟨S2x8x128x128, .f32⟩
  | 2 => ⟨S2x8x128, .f32⟩
  | 3 => ⟨S2x3x96, .f32⟩
  | 4 => ⟨S2x64, .f32⟩
  | 5 => ⟨S2x64, .f32⟩
  | 6 => ⟨S2x2048, .f32⟩
  | 7 => ⟨S2x2048, .f32⟩
  | 8 => ⟨S2x8x128x128, .f32⟩
  | 9 => ⟨S2x8x128, .f32⟩
  | 10 => ⟨S2x3x96, .f32⟩
  | 11 => ⟨S2x64, .f32⟩
  | 12 => ⟨S2x64, .f32⟩
  | 13 => ⟨S2x2048, .f32⟩
  | 14 => ⟨S2x2048, .f32⟩
  | 15 => ⟨S2x8x128x128, .f32⟩
  | 16 => ⟨S2x8x128, .f32⟩
  | 17 => ⟨S2x3x96, .f32⟩
  | 18 => ⟨S2x64, .f32⟩
  | 19 => ⟨S2x64, .f32⟩
  | 20 => ⟨S2x2048, .f32⟩
  | 21 => ⟨S2x2048, .f32⟩
  | 22 => ⟨S2x8x128x128, .f32⟩
  | 23 => ⟨S2x8x128, .f32⟩
  | 24 => ⟨S2x3x96, .f32⟩
  | 25 => ⟨S2x64, .f32⟩
  | 26 => ⟨S2x64, .f32⟩
  | 27 => ⟨S2x2048, .f32⟩
  | 28 => ⟨S_, .f32⟩
  | 29 => ⟨S2x2048, .f32⟩
  | 30 => ⟨S2x2048, .f32⟩
  | 31 => ⟨S_, .f32⟩
  | 32 => ⟨S2x2048, .f32⟩
  | 33 => ⟨S2x2048, .f32⟩
  | 34 => ⟨S2x2048, .f32⟩
  | 35 => ⟨S_, .f32⟩
  | 36 => ⟨S2x2048, .f32⟩
  | 37 => ⟨S2x2048, .f32⟩
  | 38 => ⟨S2x2048, .f32⟩
  | 39 => ⟨S_, .f32⟩
  | 40 => ⟨S2x2048, .f32⟩
  | 41 => ⟨S2x2048, .f32⟩
  | 42 => ⟨S2x2048, .f32⟩
  | 43 => ⟨S_, .f32⟩
  | 44 => ⟨S2x2048, .f32⟩
  | 45 => ⟨S2x2048, .f32⟩
  | 46 => ⟨S_, .f32⟩
  | 47 => ⟨S2x2048, .f32⟩
  | 48 => ⟨S2x2048, .f32⟩
  | 49 => ⟨S2x2048, .f32⟩
  | 50 => ⟨S_, .f32⟩
  | 51 => ⟨S2x2048, .f32⟩
  | 52 => ⟨S2x2048, .f32⟩
  | 53 => ⟨S2x2048, .f32⟩
  | 54 => ⟨S_, .f32⟩
  | 55 => ⟨S2x2048, .f32⟩
  | 56 => ⟨S2x2048, .f32⟩
  | 57 => ⟨S2x2048, .f32⟩
  | 58 => ⟨S_, .f32⟩
  | 59 => ⟨S2x2048, .f32⟩
  | 60 => ⟨S2x2048, .f32⟩
  | 61 => ⟨S_, .f32⟩
  | 62 => ⟨S2x8x128x128, .f32⟩
  | 63 => ⟨S2x8x128x128, .f32⟩
  | 64 => ⟨S_, .f32⟩
  | 65 => ⟨S2x8x128x128, .f32⟩
  | 66 => ⟨S2x8x128x128, .f32⟩
  | 67 => ⟨S2x8x128x128, .f32⟩
  | 68 => ⟨S_, .f32⟩
  | 69 => ⟨S2x8x128x128, .f32⟩
  | 70 => ⟨S2x8x128x128, .f32⟩
  | 71 => ⟨S2x8x128x128, .f32⟩
  | 72 => ⟨S_, .f32⟩
  | 73 => ⟨S2x8x128x128, .f32⟩
  | 74 => ⟨S2x8x128x128, .f32⟩
  | 75 => ⟨S2x8x128x128, .f32⟩
  | 76 => ⟨S_, .f32⟩
  | 77 => ⟨S2x8x128x128, .f32⟩
  | 78 => ⟨S2x8x128x128, .f32⟩
  | 79 => ⟨S_, .f32⟩
  | 80 => ⟨S2x8x128x128, .f32⟩
  | 81 => ⟨S2x8x128x128, .f32⟩
  | 82 => ⟨S2x8x128x128, .f32⟩
  | 83 => ⟨S_, .f32⟩
  | 84 => ⟨S2x8x128x128, .f32⟩
  | 85 => ⟨S2x8x128x128, .f32⟩
  | 86 => ⟨S2x8x128x128, .f32⟩
  | 87 => ⟨S_, .f32⟩
  | 88 => ⟨S2x8x128x128, .f32⟩
  | 89 => ⟨S2x8x128x128, .f32⟩
  | 90 => ⟨S2x8x128x128, .f32⟩
  | 91 => ⟨S_, .f32⟩
  | 92 => ⟨S2x8x128x128, .f32⟩
  | 93 => ⟨S2x8x128x128, .f32⟩
  | 94 => ⟨S_, .f32⟩
  | 95 => ⟨S2x8x128, .f32⟩
  | 96 => ⟨S2x8x128, .f32⟩
  | 97 => ⟨S_, .f32⟩
  | 98 => ⟨S2x8x128, .f32⟩
  | 99 => ⟨S2x8x128, .f32⟩
  | 100 => ⟨S2x8x128, .f32⟩
  | 101 => ⟨S_, .f32⟩
  | 102 => ⟨S2x8x128, .f32⟩
  | 103 => ⟨S2x8x128, .f32⟩
  | 104 => ⟨S2x8x128, .f32⟩
  | 105 => ⟨S_, .f32⟩
  | 106 => ⟨S2x8x128, .f32⟩
  | 107 => ⟨S2x8x128, .f32⟩
  | 108 => ⟨S2x8x128, .f32⟩
  | 109 => ⟨S_, .f32⟩
  | 110 => ⟨S2x8x128, .f32⟩
  | 111 => ⟨S2x8x128, .f32⟩
  | 112 => ⟨S_, .f32⟩
  | 113 => ⟨S2x8x128, .f32⟩
  | 114 => ⟨S2x8x128, .f32⟩
  | 115 => ⟨S2x8x128, .f32⟩
  | 116 => ⟨S_, .f32⟩
  | 117 => ⟨S2x8x128, .f32⟩
  | 118 => ⟨S2x8x128, .f32⟩
  | 119 => ⟨S2x8x128, .f32⟩
  | 120 => ⟨S_, .f32⟩
  | 121 => ⟨S2x8x128, .f32⟩
  | 122 => ⟨S2x8x128, .f32⟩
  | 123 => ⟨S2x8x128, .f32⟩
  | 124 => ⟨S_, .f32⟩
  | 125 => ⟨S2x8x128, .f32⟩
  | 126 => ⟨S2x8x128, .f32⟩
  | 127 => ⟨S_, .f32⟩
  | _ => ⟨S2x2048, .f32⟩

abbrev hbmTy0_1 (i : Nat) : BufTy := match i % 128 with
  | 0 => ⟨S2x3x96, .f32⟩
  | 1 => ⟨S2x3x96, .f32⟩
  | 2 => ⟨S_, .f32⟩
  | 3 => ⟨S2x3x96, .f32⟩
  | 4 => ⟨S2x3x96, .f32⟩
  | 5 => ⟨S2x3x96, .f32⟩
  | 6 => ⟨S_, .f32⟩
  | 7 => ⟨S2x3x96, .f32⟩
  | 8 => ⟨S2x3x96, .f32⟩
  | 9 => ⟨S2x3x96, .f32⟩
  | 10 => ⟨S_, .f32⟩
  | 11 => ⟨S2x3x96, .f32⟩
  | 12 => ⟨S2x3x96, .f32⟩
  | 13 => ⟨S2x3x96, .f32⟩
  | 14 => ⟨S_, .f32⟩
  | 15 => ⟨S2x3x96, .f32⟩
  | 16 => ⟨S2x3x96, .f32⟩
  | 17 => ⟨S_, .f32⟩
  | 18 => ⟨S2x3x96, .f32⟩
  | 19 => ⟨S2x3x96, .f32⟩
  | 20 => ⟨S2x3x96, .f32⟩
  | 21 => ⟨S_, .f32⟩
  | 22 => ⟨S2x3x96, .f32⟩
  | 23 => ⟨S2x3x96, .f32⟩
  | 24 => ⟨S2x3x96, .f32⟩
  | 25 => ⟨S_, .f32⟩
  | 26 => ⟨S2x3x96, .f32⟩
  | 27 => ⟨S2x3x96, .f32⟩
  | 28 => ⟨S2x3x96, .f32⟩
  | 29 => ⟨S_, .f32⟩
  | 30 => ⟨S2x3x96, .f32⟩
  | 31 => ⟨S2x3x96, .f32⟩
  | 32 => ⟨S_, .f32⟩
  | 33 => ⟨S2x64, .f32⟩
  | 34 => ⟨S2x64, .f32⟩
  | 35 => ⟨S_, .f32⟩
  | 36 => ⟨S2x64, .f32⟩
  | 37 => ⟨S2x64, .f32⟩
  | 38 => ⟨S2x64, .f32⟩
  | 39 => ⟨S_, .f32⟩
  | 40 => ⟨S2x64, .f32⟩
  | 41 => ⟨S2x64, .f32⟩
  | 42 => ⟨S2x64, .f32⟩
  | 43 => ⟨S_, .f32⟩
  | 44 => ⟨S2x64, .f32⟩
  | 45 => ⟨S2x64, .f32⟩
  | 46 => ⟨S2x64, .f32⟩
  | 47 => ⟨S_, .f32⟩
  | 48 => ⟨S2x64, .f32⟩
  | 49 => ⟨S2x64, .f32⟩
  | 50 => ⟨S_, .f32⟩
  | 51 => ⟨S2x64, .f32⟩
  | 52 => ⟨S2x64, .f32⟩
  | 53 => ⟨S2x64, .f32⟩
  | 54 => ⟨S_, .f32⟩
  | 55 => ⟨S2x64, .f32⟩
  | 56 => ⟨S2x64, .f32⟩
  | 57 => ⟨S2x64, .f32⟩
  | 58 => ⟨S_, .f32⟩
  | 59 => ⟨S2x64, .f32⟩
  | 60 => ⟨S2x64, .f32⟩
  | 61 => ⟨S2x64, .f32⟩
  | 62 => ⟨S_, .f32⟩
  | 63 => ⟨S2x64, .f32⟩
  | 64 => ⟨S2x64, .f32⟩
  | 65 => ⟨S_, .f32⟩
  | 66 => ⟨S2x64, .f32⟩
  | 67 => ⟨S2x64, .f32⟩
  | 68 => ⟨S_, .f32⟩
  | 69 => ⟨S2x64, .f32⟩
  | 70 => ⟨S2x64, .f32⟩
  | 71 => ⟨S2x64, .f32⟩
  | 72 => ⟨S_, .f32⟩
  | 73 => ⟨S2x64, .f32⟩
  | 74 => ⟨S2x64, .f32⟩
  | 75 => ⟨S2x64, .f32⟩
  | 76 => ⟨S_, .f32⟩
  | 77 => ⟨S2x64, .f32⟩
  | 78 => ⟨S2x64, .f32⟩
  | 79 => ⟨S2x64, .f32⟩
  | 80 => ⟨S_, .f32⟩
  | 81 => ⟨S2x64, .f32⟩
  | 82 => ⟨S2x64, .f32⟩
  | 83 => ⟨S_, .f32⟩
  | 84 => ⟨S2x64, .f32⟩
  | 85 => ⟨S2x64, .f32⟩
  | 86 => ⟨S2x64, .f32⟩
  | 87 => ⟨S_, .f32⟩
  | 88 => ⟨S2x64, .f32⟩
  | 89 => ⟨S2x64, .f32⟩
  | 90 => ⟨S2x64, .f32⟩
  | 91 => ⟨S_, .f32⟩
  | 92 => ⟨S2x64, .f32⟩
  | 93 => ⟨S2x64, .f32⟩
  | 94 => ⟨S2x64, .f32⟩
  | 95 => ⟨S_, .f32⟩
  | 96 => ⟨S2x64, .f32⟩
  | 97 => ⟨S2x64, .f32⟩
  | 98 => ⟨S_, .f32⟩
  | 99 => ⟨S2x2048, .f32⟩
  | 100 => ⟨S2x2048, .f32⟩
  | 101 => ⟨S_, .f32⟩
  | 102 => ⟨S2x2048, .f32⟩
  | 103 => ⟨S2x2048, .f32⟩
  | 104 => ⟨S2x2048, .f32⟩
  | 105 => ⟨S_, .f32⟩
  | 106 => ⟨S2x2048, .f32⟩
  | 107 => ⟨S2x2048, .f32⟩
  | 108 => ⟨S2x2048, .f32⟩
  | 109 => ⟨S_, .f32⟩
  | 110 => ⟨S2x2048, .f32⟩
  | 111 => ⟨S2x2048, .f32⟩
  | 112 => ⟨S2x2048, .f32⟩
  | 113 => ⟨S_, .f32⟩
  | 114 => ⟨S2x2048, .f32⟩
  | 115 => ⟨S2x2048, .f32⟩
  | 116 => ⟨S_, .f32⟩
  | 117 => ⟨S2x2048, .f32⟩
  | 118 => ⟨S2x2048, .f32⟩
  | 119 => ⟨S2x2048, .f32⟩
  | 120 => ⟨S_, .f32⟩
  | 121 => ⟨S2x2048, .f32⟩
  | 122 => ⟨S2x2048, .f32⟩
  | 123 => ⟨S2x2048, .f32⟩
  | 124 => ⟨S_, .f32⟩
  | 125 => ⟨S2x2048, .f32⟩
  | 126 => ⟨S2x2048, .f32⟩
  | 127 => ⟨S2x2048, .f32⟩
  | _ => ⟨S2x2048, .f32⟩

abbrev hbmTy0_2 (i : Nat) : BufTy := match i % 128 with
  | 0 => ⟨S_, .f32⟩
  | 1 => ⟨S2x2048, .f32⟩
  | 2 => ⟨S2x2048, .f32⟩
  | _ => ⟨S2x2048, .f32⟩

abbrev hbmTy (i : Nat) : BufTy := match i / 128 with
  | 0 => hbmTy0_0 i
  | 1 => hbmTy0_1 i
  | 2 => hbmTy0_2 i
  | _ => ⟨S2x2048, .f32⟩

abbrev bufTy : (tb : Table) → Fin (tcTables nBuf tb) → BufTy
  | .hbm, ⟨i, _⟩ => hbmTy i
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩

abbrev nD : Nat := 1
abbrev τ : Topo := Topo.v7x

variable {F : FTy → Type} [FloatOps F]
-- ==== SumSmall.lean ====
abbrev S8x2168x128 : Shape := ⟨3, ![8, 2168, 128]⟩
abbrev S2168x128 : Shape := ⟨2, ![2168, 128]⟩
abbrev S1x2168x128 : Shape := ⟨3, ![1, 2168, 128]⟩
abbrev S277504 : Shape := ⟨1, ![277504]⟩
abbrev S2048 : Shape := ⟨1, ![2048]⟩
abbrev S131072 : Shape := ⟨1, ![131072]⟩
abbrev S8x128x128 : Shape := ⟨3, ![8, 128, 128]⟩
abbrev S1024 : Shape := ⟨1, ![1024]⟩
abbrev S8x128 : Shape := ⟨2, ![8, 128]⟩
abbrev S2304 : Shape := ⟨1, ![2304]⟩
abbrev S3x768 : Shape := ⟨2, ![3, 768]⟩
abbrev S64 : Shape := ⟨1, ![64]⟩
abbrev S1x2048 : Shape := ⟨2, ![1, 2048]⟩
abbrev S2x2048 : Shape := ⟨2, ![2, 2048]⟩
abbrev S1x8x128x128 : Shape := ⟨4, ![1, 8, 128, 128]⟩
abbrev S2x8x128x128 : Shape := ⟨4, ![2, 8, 128, 128]⟩
abbrev S1x8x128 : Shape := ⟨3, ![1, 8, 128]⟩
abbrev S2x8x128 : Shape := ⟨3, ![2, 8, 128]⟩
abbrev S1x3x768 : Shape := ⟨3, ![1, 3, 768]⟩
abbrev S2x3x768 : Shape := ⟨3, ![2, 3, 768]⟩
abbrev S1x64 : Shape := ⟨2, ![1, 64]⟩
abbrev S2x64 : Shape := ⟨2, ![2, 64]⟩

abbrev nBuf : Space → Nat
  | .hbm => 44
  | .vmem => 2
  | .smem => 0
  | _ => 0

abbrev bufTy : (tb : Table) → Fin (tcTables nBuf tb) → BufTy
  | .hbm, ⟨0, _⟩ => ⟨S8x2168x128, .f32⟩
  | .hbm, ⟨1, _⟩ => ⟨S2168x128, .f32⟩
  | .hbm, ⟨2, _⟩ => ⟨S277504, .f32⟩
  | .hbm, ⟨3, _⟩ => ⟨S2048, .f32⟩
  | .hbm, ⟨4, _⟩ => ⟨S131072, .f32⟩
  | .hbm, ⟨5, _⟩ => ⟨S8x128x128, .f32⟩
  | .hbm, ⟨6, _⟩ => ⟨S1024, .f32⟩
  | .hbm, ⟨7, _⟩ => ⟨S8x128, .f32⟩
  | .hbm, ⟨8, _⟩ => ⟨S2304, .f32⟩
  | .hbm, ⟨9, _⟩ => ⟨S3x768, .f32⟩
  | .hbm, ⟨10, _⟩ => ⟨S64, .f32⟩
  | .hbm, ⟨11, _⟩ => ⟨S64, .f32⟩
  | .hbm, ⟨12, _⟩ => ⟨S2048, .f32⟩
  | .hbm, ⟨13, _⟩ => ⟨S2048, .f32⟩
  | .hbm, ⟨14, _⟩ => ⟨S131072, .f32⟩
  | .hbm, ⟨15, _⟩ => ⟨S8x128x128, .f32⟩
  | .hbm, ⟨16, _⟩ => ⟨S1024, .f32⟩
  | .hbm, ⟨17, _⟩ => ⟨S8x128, .f32⟩
  | .hbm, ⟨18, _⟩ => ⟨S2304, .f32⟩
  | .hbm, ⟨19, _⟩ => ⟨S3x768, .f32⟩
  | .hbm, ⟨20, _⟩ => ⟨S64, .f32⟩
  | .hbm, ⟨21, _⟩ => ⟨S64, .f32⟩
  | .hbm, ⟨22, _⟩ => ⟨S2048, .f32⟩
  | .hbm, ⟨23, _⟩ => ⟨S1x2048, .f32⟩
  | .hbm, ⟨24, _⟩ => ⟨S1x2048, .f32⟩
  | .hbm, ⟨25, _⟩ => ⟨S2x2048, .f32⟩
  | .hbm, ⟨26, _⟩ => ⟨S1x8x128x128, .f32⟩
  | .hbm, ⟨27, _⟩ => ⟨S1x8x128x128, .f32⟩
  | .hbm, ⟨28, _⟩ => ⟨S2x8x128x128, .f32⟩
  | .hbm, ⟨29, _⟩ => ⟨S1x8x128, .f32⟩
  | .hbm, ⟨30, _⟩ => ⟨S1x8x128, .f32⟩
  | .hbm, ⟨31, _⟩ => ⟨S2x8x128, .f32⟩
  | .hbm, ⟨32, _⟩ => ⟨S1x3x768, .f32⟩
  | .hbm, ⟨33, _⟩ => ⟨S1x3x768, .f32⟩
  | .hbm, ⟨34, _⟩ => ⟨S2x3x768, .f32⟩
  | .hbm, ⟨35, _⟩ => ⟨S1x64, .f32⟩
  | .hbm, ⟨36, _⟩ => ⟨S1x64, .f32⟩
  | .hbm, ⟨37, _⟩ => ⟨S2x64, .f32⟩
  | .hbm, ⟨38, _⟩ => ⟨S1x64, .f32⟩
  | .hbm, ⟨39, _⟩ => ⟨S1x64, .f32⟩
  | .hbm, ⟨40, _⟩ => ⟨S2x64, .f32⟩
  | .hbm, ⟨41, _⟩ => ⟨S1x2048, .f32⟩
  | .hbm, ⟨42, _⟩ => ⟨S1x2048, .f32⟩
  | .hbm, ⟨43, _⟩ => ⟨S2x2048, .f32⟩
  | .local _ .vmem, ⟨0, _⟩ => ⟨S8x2168x128, .f32⟩
  | .local _ .vmem, ⟨1, _⟩ => ⟨S2168x128, .f32⟩
  | _, _ => ⟨S8x2168x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x2168x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2168x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SumSmallRefIdeal.lean ====
abbrev S8x2168x128 : Shape := ⟨3, ![8, 2168, 128]⟩
abbrev S_ : Shape := ⟨0, ![]⟩
abbrev S2168x128 : Shape := ⟨2, ![2168, 128]⟩
abbrev S277504 : Shape := ⟨1, ![277504]⟩
abbrev S2048 : Shape := ⟨1, ![2048]⟩
abbrev S1x2048 : Shape := ⟨2, ![1, 2048]⟩
abbrev S2x2048 : Shape := ⟨2, ![2, 2048]⟩
abbrev S131072 : Shape := ⟨1, ![131072]⟩
abbrev S8x128x128 : Shape := ⟨3, ![8, 128, 128]⟩
abbrev S1x8x128x128 : Shape := ⟨4, ![1, 8, 128, 128]⟩
abbrev S2x8x128x128 : Shape := ⟨4, ![2, 8, 128, 128]⟩
abbrev S1024 : Shape := ⟨1, ![1024]⟩
abbrev S8x128 : Shape := ⟨2, ![8, 128]⟩
abbrev S1x8x128 : Shape := ⟨3, ![1, 8, 128]⟩
abbrev S2x8x128 : Shape := ⟨3, ![2, 8, 128]⟩
abbrev S2304 : Shape := ⟨1, ![2304]⟩
abbrev S3x768 : Shape := ⟨2, ![3, 768]⟩
abbrev S1x3x768 : Shape := ⟨3, ![1, 3, 768]⟩
abbrev S2x3x768 : Shape := ⟨3, ![2, 3, 768]⟩
abbrev S64 : Shape := ⟨1, ![64]⟩
abbrev S1x64 : Shape := ⟨2, ![1, 64]⟩
abbrev S2x64 : Shape := ⟨2, ![2, 64]⟩

abbrev nBuf : Space → Nat
  | .hbm => 45
  | .vmem => 0
  | .smem => 0
  | _ => 0

abbrev bufTy : (tb : Table) → Fin (tcTables nBuf tb) → BufTy
  | .hbm, ⟨0, _⟩ => ⟨S8x2168x128, .f32⟩
  | .hbm, ⟨1, _⟩ => ⟨S_, .f32⟩
  | .hbm, ⟨2, _⟩ => ⟨S2168x128, .f32⟩
  | .hbm, ⟨3, _⟩ => ⟨S277504, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S2x2048, .f32⟩
  | .hbm, ⟨9, _⟩ => ⟨S131072, .f32⟩
  | .hbm, ⟨10, _⟩ => ⟨S8x128x128, .f32⟩
  | .hbm, ⟨11, _⟩ => ⟨S131072, .f32⟩
  | .hbm, ⟨12, _⟩ => ⟨S8x128x128, .f32⟩
  | .hbm, ⟨13, _⟩ => ⟨S1x8x128x128, .f32⟩
  | .hbm, ⟨14, _⟩ => ⟨S1x8x128x128, .f32⟩
  | .hbm, ⟨15, _⟩ => ⟨S2x8x128x128, .f32⟩
  | .hbm, ⟨16, _⟩ => ⟨S1024, .f32⟩
  | .hbm, ⟨17, _⟩ => ⟨S8x128, .f32⟩
  | .hbm, ⟨18, _⟩ => ⟨S1024, .f32⟩
  | .hbm, ⟨19, _⟩ => ⟨S8x128, .f32⟩
  | .hbm, ⟨20, _⟩ => ⟨S1x8x128, .f32⟩
  | .hbm, ⟨21, _⟩ => ⟨S1x8x128, .f32⟩
  | .hbm, ⟨22, _⟩ => ⟨S2x8x128, .f32⟩
  | .hbm, ⟨23, _⟩ => ⟨S2304, .f32⟩
  | .hbm, ⟨24, _⟩ => ⟨S3x768, .f32⟩
  | .hbm, ⟨25, _⟩ => ⟨S2304, .f32⟩
  | .hbm, ⟨26, _⟩ => ⟨S3x768, .f32⟩
  | .hbm, ⟨27, _⟩ => ⟨S1x3x768, .f32⟩
  | .hbm, ⟨28, _⟩ => ⟨S1x3x768, .f32⟩
  | .hbm, ⟨29, _⟩ => ⟨S2x3x768, .f32⟩
  | .hbm, ⟨30, _⟩ => ⟨S64, .f32⟩
  | .hbm, ⟨31, _⟩ => ⟨S64, .f32⟩
  | .hbm, ⟨32, _⟩ => ⟨S1x64, .f32⟩
  | .hbm, ⟨33, _⟩ => ⟨S1x64, .f32⟩
  | .hbm, ⟨34, _⟩ => ⟨S2x64, .f32⟩
  | .hbm, ⟨35, _⟩ => ⟨S64, .f32⟩
  | .hbm, ⟨36, _⟩ => ⟨S64, .f32⟩
  | .hbm, ⟨37, _⟩ => ⟨S1x64, .f32⟩
  | .hbm, ⟨38, _⟩ => ⟨S1x64, .f32⟩
  | .hbm, ⟨39, _⟩ => ⟨S2x64, .f32⟩
  | .hbm, ⟨40, _⟩ => ⟨S2048, .f32⟩
  | .hbm, ⟨41, _⟩ => ⟨S2048, .f32⟩
  | .hbm, ⟨42, _⟩ => ⟨S1x2048, .f32⟩
  | .hbm, ⟨43, _⟩ => ⟨S1x2048, .f32⟩
  | .hbm, ⟨44, _⟩ => ⟨S2x2048, .f32⟩
  | _, _ => ⟨S8x2168x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩

abbrev nD : Nat := 1
abbrev τ : Topo := Topo.v7x

variable {F : FTy → Type} [FloatOps F]
-- ==== Proof.Relu2Value.lean ====
/- The result array of the squared-ReLU gradient kernel, element by element. -/
module

public import proofs.«01_k».proof.Proof.Gen.Relu2Ideal.Value
public import proofs.«01_k».proof.Proof.Gen.Relu2RefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Relu2Ideal.Closed

open Cert.Relu2Ideal Cert.Relu2Ideal.Gen

/-- The gradient of `Σ relu(a)² · w` with respect to `a`: at row `r` and column `l`,
    the product of row `r` of `x` with row `l` of `w`, times `2 · max(a, 0)`. -/
def grad (x : FVec Ideal S4096x2048 .bf16) (w : FVec Ideal S8192x2048 .bf16) (a : FVec Ideal S4096x8192 .bf16) :
    FVec Ideal S4096x8192 .bf16 := fun j =>
  (∑ k : Fin 2048, x (ix2 (j 0) k) * w (ix2 (j 1) k)) * (Ideal.ofBits .f32 0x40000000#32 * max (a j) 0)

variable (m : (ℓ : Loc nD τ sig) → Buf (Elt Ideal) ℓ)

/-- Each window's block index at each grid point. -/
theorem idx : ∀ t : Fin cfg0.N, win0_0.index t = ![t.val / 8, 0]
    ∧ win0_1.index t = ![t.val % 8, 0]
    ∧ win0_2.index t = ![t.val / 8, t.val % 8]
    ∧ win0_3.index t = ![t.val / 8, t.val % 8] :=
  (by decide +kernel : ∀ t : Fin grid0.N, _)

/-- The value stored at block index `y` of point `t` is the gradient at the array index where `y` sits. -/
theorem point (c : Dev nD) (t : Fin cfg0.N) (y) :
    k0_pay1 (iblk m c 0 t) (iblk m c 1 t) (iblk m c 2 t) y
      = grad (m ((c : Thread nD τ).loc main_arg0)) (m ((c : Thread nD τ).loc main_arg1))
          (m ((c : Thread nD τ).loc main_arg2)) (((cfg0.win 3).blk t).view.emb y) := by
  pointwise [k0_pay1, grad]
  blk_point [iblk, V, idx t]

/-- The result array after the run is the gradient of the three argument arrays. -/
theorem final (c : Dev nD) : (dats m 0 c).arrAt 3 (cfgs 0).N
    = grad (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp; rw [after0_3]; frame_out
  exact point m c t y

end Cert.Relu2Ideal.Closed

end
-- ==== Proof.Relu2Claims.lean ====
/- The claims about the squared-ReLU gradient kernel and its reference. -/
module

public import proofs.«01_k».proof.Defs
public import proofs.«01_k».proof.Proof.Gen.Relu2.Frame
public import proofs.«01_k».proof.Proof.Relu2Value
public import proofs.«01_k».proof.Proof.Gen.Relu2RefIdeal.Run
public import proofs.«01_k».proof.Proof.Gen.Relu2RefIdeal
public import Idealize.ShloMosaic.Lib.Claim
public import Idealize.ShloMosaic.Lib.Quiescent

@[expose] public section

set_option maxRecDepth 16384

noncomputable section

open Idealize.ShloMosaic Idealize.ShloMosaic.TcCoe Idealize.SL.Sem
open scoped BigOperators

namespace Cert.Relu2Proof

/-- Over the extended reals, a gradient `g` passed on where `a > 0` and dropped elsewhere
    is the same as `g` times twice the positive part of `a`, whatever `g` is: where `a ≤ 0` that factor is zero. -/
theorem gate_eq (g a t : EReal) : (if 0 < a then g * (t * max a 0) else 0) = g * (t * max a 0) := by
  split_ifs with h
  · rfl
  · rw [max_eq_right (not_lt.mp h), mul_zero, mul_zero]

/-- The kernel runs and leaves its arguments alone, on bit patterns. -/
theorem frame_kernel : Cert.quiescent_Relu2 := fun m ρ _ => Cert.Relu2.Gen.frame m ρ
/-- The kernel runs and leaves its arguments alone, on extended reals. -/
theorem frame_ideal : Cert.quiescent_Relu2Ideal := fun m ρ _ => Cert.Relu2Ideal.Gen.frame m ρ
/-- The reference runs and leaves its arguments alone. -/
theorem frame_ref : Cert.quiescent_Relu2RefIdeal := fun m ρ _ =>
  (θ_run Cert.Relu2RefIdeal.defs _ _).mono (fun r h => ⟨fun c => (h c).2,
      Idealize.ShloMosaic.sem_eq_zero_of_no_sems (by decide) r.2⟩)
    (Cert.Relu2RefIdeal.Value.run (F := Ideal) m ρ)

/-- The kernel's result and the reference's are the same array of extended reals. -/
theorem algebraic : Cert.algebraic_Relu2Ideal_Relu2RefIdeal := by
  pair_intro
  · run_from Cert.Relu2Ideal.Gen.run_main m g
  · run_from Cert.Relu2RefIdeal.Value.run m' g'
    rw [Cert.Relu2Ideal.Closed.final m c]
    funext j
    pointwise [Cert.Relu2Ideal.Closed.grad]
    exact gate_eq _ _ _

end Cert.Relu2Proof

end
-- ==== Proof.AttnTask.lean ====
/- The attention gradient kernel works through its 1024 rows in eight blocks of 128 query rows. Here one such block
   is written as functions of the rows it reads, and the three arrays the kernel stores are shown to be these functions, block by
   block. -/
module

public import proofs.«01_k».proof.Proof.Gen.AttnOneIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AttnOneIdeal.Task

open Cert.AttnOneIdeal Cert.AttnOneIdeal.Gen

/-- A block of 128 rows and 128 columns of one of the arrays. -/
abbrev Blk := FVec Ideal S128x128 .f32

/-- Which keys of the previous block a query row sees: those not before its own place, and none in the first block. -/
def maskP (blk : BitVec 32) : IVec S128x128 1 :=
  andi (cmpi .sge (iota .tc S128x128 32 [1] iota_S128x128_d1_w32) (iota .tc S128x128 32 [0] iota_S128x128_d0_w32))
    (broadcast S128x128 (Scalar.cmpi .sgt blk 0#32))

/-- Which query rows, of this block and of the next, see a key of this block. -/
def maskC (blk : BitVec 32) : IVec S256x128 1 :=
  ori (andi (cmpi .slt (iota .tc S256x128 32 [0] iota_S256x128_d0_w32) (broadcast S256x128 128#32))
      (cmpi .sle (iota .tc S256x128 32 [1] iota_S256x128_d1_w32) (iota .tc S256x128 32 [0] iota_S256x128_d0_w32)))
    (andi (andi (cmpi .sge (iota .tc S256x128 32 [0] iota_S256x128_d0_w32) (broadcast S256x128 128#32))
        (cmpi .sge (iota .tc S256x128 32 [1] iota_S256x128_d1_w32)
          (subi (iota .tc S256x128 32 [0] iota_S256x128_d0_w32) (broadcast S256x128 128#32))))
      (broadcast S256x128 (Scalar.cmpi .slt (Scalar.addi blk 1#32) 32#32)))

/-- Two blocks of rows, one under the other, rounded. -/
def under (a b : Blk) : FVec Ideal S256x128 .bf16 :=
  concatenate S256x128 0 [⟨S128x128, truncf .bf16 a bitsLt_bf16_f32⟩, ⟨S128x128, truncf .bf16 b bitsLt_bf16_f32⟩]
    concatenates_S128x128_S128x128_S256x128_d0

/-- Two blocks of row statistics, one under the other. -/
def underF (a b : Blk) : FVec Ideal S256x128 .f32 :=
  concatenate S256x128 0 [⟨S128x128, shapeCast S128x128 a shapeCasts_S128x128_S128x128⟩,
    ⟨S128x128, shapeCast S128x128 b shapeCasts_S128x128_S128x128⟩] concatenates_S128x128_S128x128_S256x128_d0

/-- The attention weights of the block's queries on the previous block's keys, for the head at column `o`. -/
def weightP (o : Nat) (hs : S128x128.Slices ![0, o] S128x64) (h1 : S128x128.Slices ![0, o] S128x1) (blk : BitVec 32)
    (q k l : Blk) : FVec Ideal S128x128 .f32 :=
  select (maskP blk)
    (exp (subf (mulf (matmul dot_S128x64_S128x64_S128x128_1_1_0_0_n_n none
        (extractStridedSlice S128x64 ![0, o] (truncf .bf16 q bitsLt_bf16_f32) hs)
        (extractStridedSlice S128x64 ![0, o] (truncf .bf16 k bitsLt_bf16_f32) hs) (constant S128x128 .f32 0x00000000#32))
        (broadcast S128x128 (Scalar.ofBits .f32 0x3E000000#32)))
      (broadcastTo S128x128 (extractStridedSlice S128x1 ![0, o] (shapeCast S128x128 l shapeCasts_S128x128_S128x128) h1)
        broadcasts_S128x1_S128x128)))
    (broadcast S128x128 (Scalar.ofBits .f32 0x00000000#32))

/-- The gradient of the scores of the block's queries against the previous block's keys. -/
def gradP (o : Nat) (hs : S128x128.Slices ![0, o] S128x64) (h1 : S128x128.Slices ![0, o] S128x1) (blk : BitVec 32)
    (q d l c k v : Blk) : FVec Ideal S128x128 .bf16 :=
  truncf .bf16 (mulf (mulf (weightP o hs h1 blk q k l)
      (addf (matmul dot_S128x64_S128x64_S128x128_1_1_0_0_n_n none
          (extractStridedSlice S128x64 ![0, o] (truncf .bf16 d bitsLt_bf16_f32) hs)
          (extractStridedSlice S128x64 ![0, o] (truncf .bf16 v bitsLt_bf16_f32) hs) (constant S128x128 .f32 0x00000000#32))
        (broadcastTo S128x128 (extractStridedSlice S128x1 ![0, o] (shapeCast S128x128 c shapeCasts_S128x128_S128x128) h1)
          broadcasts_S128x1_S128x128)))
    (broadcast S128x128 (Scalar.ofBits .f32 0x3E000000#32))) bitsLt_bf16_f32

/-- The attention weights of this block's and the next block's queries on this block's keys. -/
def weightC (o : Nat) (hs : S128x128.Slices ![0, o] S128x64) (ht : S256x128.Slices ![0, o] S256x64)
    (h1 : S256x128.Slices ![0, o] S256x1) (blk : BitVec 32) (q qx l lx k : Blk) : FVec Ideal S256x128 .f32 :=
  select (maskC blk)
    (exp (subf (mulf (matmul dot_S256x64_S128x64_S256x128_1_1_0_0_n_n none
        (extractStridedSlice S256x64 ![0, o] (under q qx) ht)
        (extractStridedSlice S128x64 ![0, o] (truncf .bf16 k bitsLt_bf16_f32) hs) (constant S256x128 .f32 0x00000000#32))
        (broadcast S256x128 (Scalar.ofBits .f32 0x3E000000#32)))
      (broadcastTo S256x128 (extractStridedSlice S256x1 ![0, o] (underF l lx) h1) broadcasts_S256x1_S256x128)))
    (broadcast S256x128 (Scalar.ofBits .f32 0x00000000#32))

/-- The gradient of the scores of this block's and the next block's queries against this block's keys. -/
def gradC (o : Nat) (hs : S128x128.Slices ![0, o] S128x64) (ht : S256x128.Slices ![0, o] S256x64)
    (h1 : S256x128.Slices ![0, o] S256x1) (blk : BitVec 32) (q qx d dx l lx c cx k v : Blk) : FVec Ideal S256x128 .bf16 :=
  truncf .bf16 (mulf (mulf (weightC o hs ht h1 blk q qx l lx k)
      (addf (matmul dot_S256x64_S128x64_S256x128_1_1_0_0_n_n none
          (extractStridedSlice S256x64 ![0, o] (under d dx) ht)
          (extractStridedSlice S128x64 ![0, o] (truncf .bf16 v bitsLt_bf16_f32) hs) (constant S256x128 .f32 0x00000000#32))
        (broadcastTo S256x128 (extractStridedSlice S256x1 ![0, o] (underF c cx) h1) broadcasts_S256x1_S256x128)))
    (broadcast S256x128 (Scalar.ofBits .f32 0x3E000000#32))) bitsLt_bf16_f32

/-- One head's gradient of the block's queries. -/
def headDq (o : Nat) (hs : S128x128.Slices ![0, o] S128x64) (h1 : S128x128.Slices ![0, o] S128x1)
    (ht : S256x128.Slices ![0, o] S256x64) (h2 : S256x128.Slices ![0, o] S256x1) (blk : BitVec 32)
    (q qx d dx l lx c cx k v kp vp : Blk) : FVec Ideal S128x64 .f32 :=
  addf
    (matmul dot_S128x128_S128x64_S128x64_1_0_0_1_n_n none (gradP o hs h1 blk q d l c kp vp)
      (extractStridedSlice S128x64 ![0, o] (truncf .bf16 kp bitsLt_bf16_f32) hs) (constant S128x64 .f32 0x00000000#32))
    (matmul dot_S128x128_S128x64_S128x64_1_0_0_1_n_n none
      (extractStridedSlice S128x128 ![0, 0] (gradC o hs ht h2 blk q qx d dx l lx c cx k v) slices_S256x128_o0_0_S128x128)
      (extractStridedSlice S128x64 ![0, o] (truncf .bf16 k bitsLt_bf16_f32) hs) (constant S128x64 .f32 0x00000000#32))

/-- One head's gradient of the block's keys. -/
def headDk (o : Nat) (hs : S128x128.Slices ![0, o] S128x64)
    (ht : S256x128.Slices ![0, o] S256x64) (h2 : S256x128.Slices ![0, o] S256x1) (blk : BitVec 32)
    (q qx d dx l lx c cx k v : Blk) : FVec Ideal S128x64 .f32 :=
  matmul dot_S256x128_S256x64_S128x64_0_0_1_1_n_n none (gradC o hs ht h2 blk q qx d dx l lx c cx k v)
    (extractStridedSlice S256x64 ![0, o] (under q qx) ht) (constant S128x64 .f32 0x00000000#32)

/-- One head's gradient of the block's values. -/
def headDv (o : Nat) (hs : S128x128.Slices ![0, o] S128x64)
    (ht : S256x128.Slices ![0, o] S256x64) (h2 : S256x128.Slices ![0, o] S256x1) (blk : BitVec 32)
    (q qx d dx l lx k : Blk) : FVec Ideal S128x64 .f32 :=
  matmul dot_S256x128_S256x64_S128x64_0_0_1_1_n_n none
    (truncf .bf16 (weightC o hs ht h2 blk q qx l lx k) bitsLt_bf16_f32)
    (extractStridedSlice S256x64 ![0, o] (under d dx) ht) (constant S128x64 .f32 0x00000000#32)

/-- The gradient of the block's queries, both heads side by side. -/
def taskDq (blk : BitVec 32) (q qx d dx l lx c cx k v kp vp : Blk) : FVec Ideal S128x128 .f32 :=
  concatenate S128x128 1
    [⟨S128x64, headDq 0 slices_S128x128_o0_0_S128x64 slices_S128x128_o0_0_S128x1 slices_S256x128_o0_0_S256x64
        slices_S256x128_o0_0_S256x1 blk q qx d dx l lx c cx k v kp vp⟩,
     ⟨S128x64, headDq 64 slices_S128x128_o0_64_S128x64 slices_S128x128_o0_64_S128x1 slices_S256x128_o0_64_S256x64
        slices_S256x128_o0_64_S256x1 blk q qx d dx l lx c cx k v kp vp⟩] concatenates_S128x64_S128x64_S128x128_d1

/-- The gradient of the block's keys, both heads side by side. -/
def taskDk (blk : BitVec 32) (q qx d dx l lx c cx k v : Blk) : FVec Ideal S128x128 .f32 :=
  concatenate S128x128 1
    [⟨S128x64, headDk 0 slices_S128x128_o0_0_S128x64 slices_S256x128_o0_0_S256x64
        slices_S256x128_o0_0_S256x1 blk q qx d dx l lx c cx k v⟩,
     ⟨S128x64, headDk 64 slices_S128x128_o0_64_S128x64 slices_S256x128_o0_64_S256x64
        slices_S256x128_o0_64_S256x1 blk q qx d dx l lx c cx k v⟩] concatenates_S128x64_S128x64_S128x128_d1

/-- The gradient of the block's values, both heads side by side. -/
def taskDv (blk : BitVec 32) (q qx d dx l lx k : Blk) : FVec Ideal S128x128 .f32 :=
  concatenate S128x128 1
    [⟨S128x64, headDv 0 slices_S128x128_o0_0_S128x64 slices_S256x128_o0_0_S256x64
        slices_S256x128_o0_0_S256x1 blk q qx d dx l lx k⟩,
     ⟨S128x64, headDv 64 slices_S128x128_o0_64_S128x64 slices_S256x128_o0_64_S256x64
        slices_S256x128_o0_64_S256x1 blk q qx d dx l lx k⟩] concatenates_S128x64_S128x64_S128x128_d1

/-- The number of a block of 128 rows: eight times the span's number, plus the block's place in the span. -/
def blkNo (i : grid0.Coords) (j : BitVec 32) : BitVec 32 := Scalar.addi (Scalar.muli (BitVec.ofNat 32 (i 1).val) 8#32) j

/-- What a point stores for the queries: its eight blocks, each by the same function. -/
theorem outDq (i : grid0.Coords) (x0 x1 x2 x3 x4 x5 : Vec Ideal S1024x128 .f32) (x6 x7 x8 x9 x10 x11 : Vec Ideal S128x128 .f32) :
    out0_12 (F := Ideal) i x0 x1 x2 x3 x4 x5 x6 x7 x8 x9 x10 x11 = View.canon [
      ⟨r0_8, taskDq (blkNo i 7#32) (View.ld x0 r0_8) (View.ld x8 r0_1) (View.ld x3 r0_8) (View.ld x9 r0_1) (View.ld x4 r0_8) (View.ld x10 r0_1) (View.ld x5 r0_8) (View.ld x11 r0_1) (View.ld x1 r0_8) (View.ld x2 r0_8) (View.ld x1 r0_7) (View.ld x2 r0_7)⟩,
      ⟨r0_7, taskDq (blkNo i 6#32) (View.ld x0 r0_7) (View.ld x0 r0_8) (View.ld x3 r0_7) (View.ld x3 r0_8) (View.ld x4 r0_7) (View.ld x4 r0_8) (View.ld x5 r0_7) (View.ld x5 r0_8) (View.ld x1 r0_7) (View.ld x2 r0_7) (View.ld x1 r0_6) (View.ld x2 r0_6)⟩,
      ⟨r0_6, taskDq (blkNo i 5#32) (View.ld x0 r0_6) (View.ld x0 r0_7) (View.ld x3 r0_6) (View.ld x3 r0_7) (View.ld x4 r0_6) (View.ld x4 r0_7) (View.ld x5 r0_6) (View.ld x5 r0_7) (View.ld x1 r0_6) (View.ld x2 r0_6) (View.ld x1 r0_5) (View.ld x2 r0_5)⟩,
      ⟨r0_5, taskDq (blkNo i 4#32) (View.ld x0 r0_5) (View.ld x0 r0_6) (View.ld x3 r0_5) (View.ld x3 r0_6) (View.ld x4 r0_5) (View.ld x4 r0_6) (View.ld x5 r0_5) (View.ld x5 r0_6) (View.ld x1 r0_5) (View.ld x2 r0_5) (View.ld x1 r0_4) (View.ld x2 r0_4)⟩,
      ⟨r0_4, taskDq (blkNo i 3#32) (View.ld x0 r0_4) (View.ld x0 r0_5) (View.ld x3 r0_4) (View.ld x3 r0_5) (View.ld x4 r0_4) (View.ld x4 r0_5) (View.ld x5 r0_4) (View.ld x5 r0_5) (View.ld x1 r0_4) (View.ld x2 r0_4) (View.ld x1 r0_3) (View.ld x2 r0_3)⟩,
      ⟨r0_3, taskDq (blkNo i 2#32) (View.ld x0 r0_3) (View.ld x0 r0_4) (View.ld x3 r0_3) (View.ld x3 r0_4) (View.ld x4 r0_3) (View.ld x4 r0_4) (View.ld x5 r0_3) (View.ld x5 r0_4) (View.ld x1 r0_3) (View.ld x2 r0_3) (View.ld x1 r0_2) (View.ld x2 r0_2)⟩,
      ⟨r0_2, taskDq (blkNo i 1#32) (View.ld x0 r0_2) (View.ld x0 r0_3) (View.ld x3 r0_2) (View.ld x3 r0_3) (View.ld x4 r0_2) (View.ld x4 r0_3) (View.ld x5 r0_2) (View.ld x5 r0_3) (View.ld x1 r0_2) (View.ld x2 r0_2) (View.ld x1 r0_0) (View.ld x2 r0_0)⟩,
      ⟨r0_0, taskDq (blkNo i 0#32) (View.ld x0 r0_0) (View.ld x0 r0_2) (View.ld x3 r0_0) (View.ld x3 r0_2) (View.ld x4 r0_0) (View.ld x4 r0_2) (View.ld x5 r0_0) (View.ld x5 r0_2) (View.ld x1 r0_0) (View.ld x2 r0_0) (View.ld x6 r0_1) (View.ld x7 r0_1)⟩] := by
  rfl

/-- What a point stores for the keys: its eight blocks, each by the same function. -/
theorem outDk (i : grid0.Coords) (x0 x1 x2 x3 x4 x5 : Vec Ideal S1024x128 .f32) (x6 x7 x8 x9 x10 x11 : Vec Ideal S128x128 .f32) :
    out0_13 (F := Ideal) i x0 x1 x2 x3 x4 x5 x6 x7 x8 x9 x10 x11 = View.canon [
      ⟨r0_8, taskDk (blkNo i 7#32) (View.ld x0 r0_8) (View.ld x8 r0_1) (View.ld x3 r0_8) (View.ld x9 r0_1) (View.ld x4 r0_8) (View.ld x10 r0_1) (View.ld x5 r0_8) (View.ld x11 r0_1) (View.ld x1 r0_8) (View.ld x2 r0_8)⟩,
      ⟨r0_7, taskDk (blkNo i 6#32) (View.ld x0 r0_7) (View.ld x0 r0_8) (View.ld x3 r0_7) (View.ld x3 r0_8) (View.ld x4 r0_7) (View.ld x4 r0_8) (View.ld x5 r0_7) (View.ld x5 r0_8) (View.ld x1 r0_7) (View.ld x2 r0_7)⟩,
      ⟨r0_6, taskDk (blkNo i 5#32) (View.ld x0 r0_6) (View.ld x0 r0_7) (View.ld x3 r0_6) (View.ld x3 r0_7) (View.ld x4 r0_6) (View.ld x4 r0_7) (View.ld x5 r0_6) (View.ld x5 r0_7) (View.ld x1 r0_6) (View.ld x2 r0_6)⟩,
      ⟨r0_5, taskDk (blkNo i 4#32) (View.ld x0 r0_5) (View.ld x0 r0_6) (View.ld x3 r0_5) (View.ld x3 r0_6) (View.ld x4 r0_5) (View.ld x4 r0_6) (View.ld x5 r0_5) (View.ld x5 r0_6) (View.ld x1 r0_5) (View.ld x2 r0_5)⟩,
      ⟨r0_4, taskDk (blkNo i 3#32) (View.ld x0 r0_4) (View.ld x0 r0_5) (View.ld x3 r0_4) (View.ld x3 r0_5) (View.ld x4 r0_4) (View.ld x4 r0_5) (View.ld x5 r0_4) (View.ld x5 r0_5) (View.ld x1 r0_4) (View.ld x2 r0_4)⟩,
      ⟨r0_3, taskDk (blkNo i 2#32) (View.ld x0 r0_3) (View.ld x0 r0_4) (View.ld x3 r0_3) (View.ld x3 r0_4) (View.ld x4 r0_3) (View.ld x4 r0_4) (View.ld x5 r0_3) (View.ld x5 r0_4) (View.ld x1 r0_3) (View.ld x2 r0_3)⟩,
      ⟨r0_2, taskDk (blkNo i 1#32) (View.ld x0 r0_2) (View.ld x0 r0_3) (View.ld x3 r0_2) (View.ld x3 r0_3) (View.ld x4 r0_2) (View.ld x4 r0_3) (View.ld x5 r0_2) (View.ld x5 r0_3) (View.ld x1 r0_2) (View.ld x2 r0_2)⟩,
      ⟨r0_0, taskDk (blkNo i 0#32) (View.ld x0 r0_0) (View.ld x0 r0_2) (View.ld x3 r0_0) (View.ld x3 r0_2) (View.ld x4 r0_0) (View.ld x4 r0_2) (View.ld x5 r0_0) (View.ld x5 r0_2) (View.ld x1 r0_0) (View.ld x2 r0_0)⟩] := by
  rfl

/-- What a point stores for the values: its eight blocks, each by the same function. -/
theorem outDv (i : grid0.Coords) (x0 x1 x2 x3 x4 x5 : Vec Ideal S1024x128 .f32) (x6 x7 x8 x9 x10 x11 : Vec Ideal S128x128 .f32) :
    out0_14 (F := Ideal) i x0 x1 x2 x3 x4 x5 x6 x7 x8 x9 x10 x11 = View.canon [
      ⟨r0_8, taskDv (blkNo i 7#32) (View.ld x0 r0_8) (View.ld x8 r0_1) (View.ld x3 r0_8) (View.ld x9 r0_1) (View.ld x4 r0_8) (View.ld x10 r0_1) (View.ld x1 r0_8)⟩,
      ⟨r0_7, taskDv (blkNo i 6#32) (View.ld x0 r0_7) (View.ld x0 r0_8) (View.ld x3 r0_7) (View.ld x3 r0_8) (View.ld x4 r0_7) (View.ld x4 r0_8) (View.ld x1 r0_7)⟩,
      ⟨r0_6, taskDv (blkNo i 5#32) (View.ld x0 r0_6) (View.ld x0 r0_7) (View.ld x3 r0_6) (View.ld x3 r0_7) (View.ld x4 r0_6) (View.ld x4 r0_7) (View.ld x1 r0_6)⟩,
      ⟨r0_5, taskDv (blkNo i 4#32) (View.ld x0 r0_5) (View.ld x0 r0_6) (View.ld x3 r0_5) (View.ld x3 r0_6) (View.ld x4 r0_5) (View.ld x4 r0_6) (View.ld x1 r0_5)⟩,
      ⟨r0_4, taskDv (blkNo i 3#32) (View.ld x0 r0_4) (View.ld x0 r0_5) (View.ld x3 r0_4) (View.ld x3 r0_5) (View.ld x4 r0_4) (View.ld x4 r0_5) (View.ld x1 r0_4)⟩,
      ⟨r0_3, taskDv (blkNo i 2#32) (View.ld x0 r0_3) (View.ld x0 r0_4) (View.ld x3 r0_3) (View.ld x3 r0_4) (View.ld x4 r0_3) (View.ld x4 r0_4) (View.ld x1 r0_3)⟩,
      ⟨r0_2, taskDv (blkNo i 1#32) (View.ld x0 r0_2) (View.ld x0 r0_3) (View.ld x3 r0_2) (View.ld x3 r0_3) (View.ld x4 r0_2) (View.ld x4 r0_3) (View.ld x1 r0_2)⟩,
      ⟨r0_0, taskDv (blkNo i 0#32) (View.ld x0 r0_0) (View.ld x0 r0_2) (View.ld x3 r0_0) (View.ld x3 r0_2) (View.ld x4 r0_0) (View.ld x4 r0_2) (View.ld x1 r0_0)⟩] := by
  rfl

end Cert.AttnOneIdeal.Task
-- ==== Proof.AttnBlock.lean ====
/- One block of the attention gradient, read entry by entry over the extended reals, and its sums over the 256 rows
   it sees told as sums over all 4096 rows. -/
module

public import proofs.«01_k».proof.Proof.AttnTask

@[expose] public section

set_option maxRecDepth 16384

noncomputable section

open Idealize.ShloMosaic Idealize.ShloMosaic.TcCoe Idealize.SL.Sem
open scoped BigOperators

namespace Cert.AttnOneIdeal.Task

open Cert.AttnOneIdeal Cert.AttnOneIdeal.Gen

/-- The scale of the scores, one eighth, as the program writes it. -/
abbrev c8 : EReal := Ideal.ofBits .f32 0x3E000000#32

/-- The attention weight of query row `t` on key row `u` for the head whose columns begin at `o`: the exponential of the scaled
    score less the row's `L`, where `u` is one of the 129 rows up to `t`, and zero elsewhere. -/
def wt (Q K L : ℕ → ℕ → EReal) (o t u : ℕ) : EReal :=
  if u ≤ t ∧ t ≤ u + 128 ∧ t < 4096 then Ideal.exp ((∑ e : Fin 64, Q t (o + e) * K u (o + e)) * c8 - L t o) else 0

/-- The gradient of the score of query row `t` against key row `u`. -/
def gr (Q K V D L C : ℕ → ℕ → EReal) (o t u : ℕ) : EReal :=
  wt Q K L o t u * ((∑ e : Fin 64, D t (o + e) * V u (o + e)) + C t o) * c8

/-- Outside the window the weight is zero. -/
theorem wt_off (Q K L : ℕ → ℕ → EReal) {o t u : ℕ} (h : ¬ (u ≤ t ∧ t ≤ u + 128 ∧ t < 4096)) : wt Q K L o t u = 0 :=
  if_neg h

/-- Outside the window the gradient of the score is zero. -/
theorem gr_off (Q K V D L C : ℕ → ℕ → EReal) {o t u : ℕ} (h : ¬ (u ≤ t ∧ t ≤ u + 128 ∧ t < 4096)) :
    gr Q K V D L C o t u = 0 := by
  rw [gr, wt_off Q K L h, zero_mul, zero_mul]

/-- A sum over `N` rows of terms that vanish outside a window of `n` rows is the sum over the window, though the window
    may reach past the last row. -/
theorem sum_window (f : ℕ → EReal) (A n N : ℕ) (h : ∀ u, f u ≠ 0 → A ≤ u ∧ u < A + n ∧ u < N) :
    ∑ u ∈ Finset.range N, f u = ∑ j ∈ Finset.range n, f (A + j) := by
  have e1 : ∑ u ∈ Finset.range N, f u = ∑ u ∈ Finset.range (N + (A + n)), f u := by
    refine Finset.sum_subset (fun u hu => Finset.mem_range.mpr (by have := Finset.mem_range.mp hu; omega)) fun u _ hu => ?_
    by_contra hne
    exact hu (Finset.mem_range.mpr (h u hne).2.2)
  have e2 : ∑ u ∈ Finset.Ico A (A + n), f u = ∑ u ∈ Finset.range (N + (A + n)), f u := by
    refine Finset.sum_subset (fun u hu => Finset.mem_range.mpr (by have := Finset.mem_Ico.mp hu; omega)) fun u _ hu => ?_
    by_contra hne
    exact hu (Finset.mem_Ico.mpr ⟨(h u hne).1, (h u hne).2.1⟩)
  rw [e1, ← e2, Finset.sum_Ico_eq_sum_range, Nat.add_sub_cancel_left]

/-- Subtracting 128 from a word that holds a number from 128 on. -/
theorem subi_ofNat (a : ℕ) (h : 128 ≤ a) (ha : a < 2 ^ 31) :
    IntOp.subi (BitVec.ofNat 32 a) 128#32 = BitVec.ofNat 32 (a - 128) := by
  apply BitVec.eq_of_toNat_eq
  show (BitVec.ofNat 32 a - 128#32).toNat = _
  rw [BitVec.toNat_sub]
  simp only [BitVec.toNat_ofNat]
  omega

/-- Adding one to a word that holds a small number. -/
theorem addi_one (b : ℕ) (hb : b < 32) : Scalar.addi (BitVec.ofNat 32 b) 1#32 = BitVec.ofNat 32 (b + 1) := by
  apply BitVec.eq_of_toNat_eq
  show (BitVec.ofNat 32 b + 1#32).toNat = _
  rw [BitVec.toNat_add]
  simp only [BitVec.toNat_ofNat]
  omega

/-- Which keys of the previous block are seen, in numbers. -/
theorem sel_maskP (b : ℕ) (hb : b < 32) (j : S128x128.Idx) (x y : EReal) :
    Scalar.select (maskP (BitVec.ofNat 32 b) j) x y = if (j 0).val ≤ (j 1).val ∧ 0 < b then x else y := by
  have h0 : (j 0).val < 128 := (j 0).isLt
  have h1 : (j 1).val < 128 := (j 1).isLt
  pointwise [maskP]; simp only [WordCmp.scalar_cmpi_eq]
  rw [WordCmp.cmpi_sge_ofNat (by omega) (by omega), WordCmp.cmpi_sgt_ofNat (a := b) (b := 0) (by omega) (by omega),
    WordCmp.andi_ofBool, WordCmp.select_ofBool]
  refine if_congr ?_ rfl rfl
  simp

/-- Which query rows see a key of this block, in numbers. -/
theorem sel_maskC (b : ℕ) (hb : b < 32) (j : S256x128.Idx) (x y : EReal) :
    Scalar.select (maskC (BitVec.ofNat 32 b) j) x y =
      if (j 1).val ≤ (j 0).val ∧ (j 0).val ≤ (j 1).val + 128 ∧ 128 * b + (j 0).val < 4096 then x else y := by
  have h0 : (j 0).val < 256 := (j 0).isLt
  have h1 : (j 1).val < 128 := (j 1).isLt
  pointwise [maskC]; simp only [WordCmp.scalar_cmpi_eq]
  rw [addi_one b hb, WordCmp.cmpi_slt_ofNat (a := (j 0).val) (b := 128) (by omega) (by omega), WordCmp.cmpi_sle_ofNat (by omega) (by omega),
    WordCmp.cmpi_sge_ofNat (a := (j 0).val) (b := 128) (by omega) (by omega),
    WordCmp.cmpi_slt_ofNat (a := b + 1) (b := 32) (by omega) (by omega)]
  by_cases h : 128 ≤ (j 0).val
  · rw [subi_ofNat _ h (by omega), WordCmp.cmpi_sge_ofNat (by omega) (by omega)]
    simp only [WordCmp.andi_ofBool, WordCmp.ori_ofBool, WordCmp.select_ofBool]
    refine if_congr ?_ rfl rfl
    simp only [Bool.or_eq_true, Bool.and_eq_true, decide_eq_true_eq]
    omega
  · rw [decide_eq_false h, decide_eq_true (by omega : (j 0).val < 128)]
    have z (q : BitVec 1) : IntOp.andi (IntOp.andi (BitVec.ofBool false) q) (BitVec.ofBool (decide (b + 1 < 32))) = BitVec.ofBool false := by
      show (BitVec.ofBool false &&& q) &&& _ = _
      simp
    rw [z]
    simp only [WordCmp.andi_ofBool, WordCmp.ori_ofBool, WordCmp.select_ofBool]
    refine if_congr ?_ rfl rfl
    simp only [Bool.or_eq_true, Bool.and_eq_true, decide_eq_true_eq, true_and, Bool.false_eq_true, or_false]
    omega

section Block

variable (o b : ℕ) (hb : b < 32) (Q K V D L C : ℕ → ℕ → EReal)
variable (q qx d dx l lx c cx k v kp vp : Blk)

/-- The block's weights on the previous block's keys are the window's weights. -/
theorem weightP_at (hs : S128x128.Slices ![0, o] S128x64) (h1 : S128x128.Slices ![0, o] S128x1) (hb0 : 0 < b) (hb : b < 32)
    (hq : ∀ r a : Fin 128, q (ix2 r a) = Q (128 * b + r.val) a.val)
    (hk : ∀ r a : Fin 128, kp (ix2 r a) = K (128 * (b - 1) + r.val) a.val)
    (hl : ∀ r a : Fin 128, l (ix2 r a) = L (128 * b + r.val) a.val) (i j : Fin 128) :
    weightP o hs h1 (BitVec.ofNat 32 b) q kp l (ix2 i j) = wt Q K L o (128 * b + i.val) (128 * (b - 1) + j.val) := by
  have hi := i.isLt
  have hj := j.isLt
  unfold weightP
  rw [WordCmp.select_at, sel_maskP b hb, wt]
  pointwise []
  simp only [hq, hk, hl]
  refine if_congr ?_ rfl rfl
  show i.val ≤ j.val ∧ 0 < b ↔ _
  omega

/-- With no previous block the weights on it are zero. -/
theorem weightP_zero (hs : S128x128.Slices ![0, o] S128x64) (h1 : S128x128.Slices ![0, o] S128x1) (i j : Fin 128) :
    weightP o hs h1 (BitVec.ofNat 32 0) q kp l (ix2 i j) = 0 := by
  unfold weightP
  rw [WordCmp.select_at, sel_maskP 0 (by omega), if_neg (by omega)]
  pointwise []

/-- The block's score gradients against the previous block's keys are the window's. -/
theorem gradP_at (hs : S128x128.Slices ![0, o] S128x64) (h1 : S128x128.Slices ![0, o] S128x1) (hb0 : 0 < b) (hb : b < 32)
    (hq : ∀ r a : Fin 128, q (ix2 r a) = Q (128 * b + r.val) a.val)
    (hk : ∀ r a : Fin 128, kp (ix2 r a) = K (128 * (b - 1) + r.val) a.val)
    (hv : ∀ r a : Fin 128, vp (ix2 r a) = V (128 * (b - 1) + r.val) a.val)
    (hd : ∀ r a : Fin 128, d (ix2 r a) = D (128 * b + r.val) a.val)
    (hl : ∀ r a : Fin 128, l (ix2 r a) = L (128 * b + r.val) a.val)
    (hc : ∀ r a : Fin 128, c (ix2 r a) = C (128 * b + r.val) a.val) (i j : Fin 128) :
    gradP o hs h1 (BitVec.ofNat 32 b) q d l c kp vp (ix2 i j) =
      gr Q K V D L C o (128 * b + i.val) (128 * (b - 1) + j.val) := by
  pointwise [gradP]
  rw [weightP_at o b Q K L q l kp hs h1 hb0 hb hq hk hl i j]
  simp only [hv, hd, hc]
  rfl

/-- With no previous block the score gradients against it are zero. -/
theorem gradP_zero (hs : S128x128.Slices ![0, o] S128x64) (h1 : S128x128.Slices ![0, o] S128x1) (i j : Fin 128) :
    gradP o hs h1 (BitVec.ofNat 32 0) q d l c kp vp (ix2 i j) = 0 := by
  pointwise [gradP]
  rw [weightP_zero o q l kp hs h1 i j, zero_mul, zero_mul]

/-- The weights on the block's own keys, of its own queries and of the next block's. -/
theorem weightC_at (hs : S128x128.Slices ![0, o] S128x64) (ht : S256x128.Slices ![0, o] S256x64)
    (h1 : S256x128.Slices ![0, o] S256x1) (hb : b < 32)
    (hq : ∀ r a : Fin 128, q (ix2 r a) = Q (128 * b + r.val) a.val)
    (hqx : b + 1 < 32 → ∀ r a : Fin 128, qx (ix2 r a) = Q (128 * (b + 1) + r.val) a.val)
    (hk : ∀ r a : Fin 128, k (ix2 r a) = K (128 * b + r.val) a.val)
    (hl : ∀ r a : Fin 128, l (ix2 r a) = L (128 * b + r.val) a.val)
    (hlx : b + 1 < 32 → ∀ r a : Fin 128, lx (ix2 r a) = L (128 * (b + 1) + r.val) a.val) (i : Fin 256) (j : Fin 128) :
    weightC o hs ht h1 (BitVec.ofNat 32 b) q qx l lx k (ix2 i j) = wt Q K L o (128 * b + i.val) (128 * b + j.val) := by
  have hi := i.isLt
  have hj := j.isLt
  unfold weightC
  rw [WordCmp.select_at, sel_maskC b hb, wt]
  by_cases hin : 128 * b + i.val < 4096
  · by_cases h : i.val < 128
    · pointwise [under, underF]
      simp only [h, ↓reduceDIte, hq, hk, hl]
      refine if_congr ?_ rfl rfl
      show j.val ≤ i.val ∧ i.val ≤ j.val + 128 ∧ 128 * b + i.val < 4096 ↔ _
      omega
    · pointwise [under, underF]
      have e : 128 * (b + 1) + (i.val - 128) = 128 * b + i.val := by omega
      simp only [h, ↓reduceDIte, hqx (by omega), hk, hlx (by omega), e]
      refine if_congr ?_ rfl rfl
      show j.val ≤ i.val ∧ i.val ≤ j.val + 128 ∧ 128 * b + i.val < 4096 ↔ _
      omega
  · rw [if_neg fun h => hin h.2.2, if_neg fun h => hin h.2.2]
    pointwise []

/-- The score gradients against the block's own keys, of its own queries and of the next block's. -/
theorem gradC_at (hs : S128x128.Slices ![0, o] S128x64) (ht : S256x128.Slices ![0, o] S256x64)
    (h1 : S256x128.Slices ![0, o] S256x1) (hb : b < 32)
    (hq : ∀ r a : Fin 128, q (ix2 r a) = Q (128 * b + r.val) a.val)
    (hqx : b + 1 < 32 → ∀ r a : Fin 128, qx (ix2 r a) = Q (128 * (b + 1) + r.val) a.val)
    (hd : ∀ r a : Fin 128, d (ix2 r a) = D (128 * b + r.val) a.val)
    (hdx : b + 1 < 32 → ∀ r a : Fin 128, dx (ix2 r a) = D (128 * (b + 1) + r.val) a.val)
    (hl : ∀ r a : Fin 128, l (ix2 r a) = L (128 * b + r.val) a.val)
    (hlx : b + 1 < 32 → ∀ r a : Fin 128, lx (ix2 r a) = L (128 * (b + 1) + r.val) a.val)
    (hc : ∀ r a : Fin 128, c (ix2 r a) = C (128 * b + r.val) a.val)
    (hcx : b + 1 < 32 → ∀ r a : Fin 128, cx (ix2 r a) = C (128 * (b + 1) + r.val) a.val)
    (hk : ∀ r a : Fin 128, k (ix2 r a) = K (128 * b + r.val) a.val)
    (hv : ∀ r a : Fin 128, v (ix2 r a) = V (128 * b + r.val) a.val) (i : Fin 256) (j : Fin 128) :
    gradC o hs ht h1 (BitVec.ofNat 32 b) q qx d dx l lx c cx k v (ix2 i j) =
      gr Q K V D L C o (128 * b + i.val) (128 * b + j.val) := by
  have hi := i.isLt
  have hj := j.isLt
  pointwise [gradC]
  rw [weightC_at o b Q K L q qx l lx k hs ht h1 hb hq hqx hk hl hlx i j, gr]
  by_cases hin : 128 * b + i.val < 4096
  · by_cases h : i.val < 128
    · pointwise [under, underF]
      simp only [h, ↓reduceDIte, hd, hv, hc]
    · pointwise [under, underF]
      have e : 128 * (b + 1) + (i.val - 128) = 128 * b + i.val := by omega
      simp only [h, ↓reduceDIte, hdx (by omega), hv, hcx (by omega), e]
  · rw [wt_off Q K L (fun h => hin h.2.2)]
    simp only [zero_mul]

/-- The block's gradient of its queries, for one head, is the sum over all key rows. -/
theorem headDq_at (hs : S128x128.Slices ![0, o] S128x64) (h1 : S128x128.Slices ![0, o] S128x1)
    (ht : S256x128.Slices ![0, o] S256x64) (h2 : S256x128.Slices ![0, o] S256x1) (hb : b < 32)
    (hq : ∀ r a : Fin 128, q (ix2 r a) = Q (128 * b + r.val) a.val)
    (hqx : b + 1 < 32 → ∀ r a : Fin 128, qx (ix2 r a) = Q (128 * (b + 1) + r.val) a.val)
    (hd : ∀ r a : Fin 128, d (ix2 r a) = D (128 * b + r.val) a.val)
    (hdx : b + 1 < 32 → ∀ r a : Fin 128, dx (ix2 r a) = D (128 * (b + 1) + r.val) a.val)
    (hl : ∀ r a : Fin 128, l (ix2 r a) = L (128 * b + r.val) a.val)
    (hlx : b + 1 < 32 → ∀ r a : Fin 128, lx (ix2 r a) = L (128 * (b + 1) + r.val) a.val)
    (hc : ∀ r a : Fin 128, c (ix2 r a) = C (128 * b + r.val) a.val)
    (hcx : b + 1 < 32 → ∀ r a : Fin 128, cx (ix2 r a) = C (128 * (b + 1) + r.val) a.val)
    (hk : ∀ r a : Fin 128, k (ix2 r a) = K (128 * b + r.val) a.val)
    (hv : ∀ r a : Fin 128, v (ix2 r a) = V (128 * b + r.val) a.val)
    (hkp : 0 < b → ∀ r a : Fin 128, kp (ix2 r a) = K (128 * (b - 1) + r.val) a.val)
    (hvp : 0 < b → ∀ r a : Fin 128, vp (ix2 r a) = V (128 * (b - 1) + r.val) a.val) (i : Fin 128) (a : Fin 64) :
    headDq o hs h1 ht h2 (BitVec.ofNat 32 b) q qx d dx l lx c cx k v kp vp (ix2 i a) =
      ∑ u ∈ Finset.range 4096, gr Q K V D L C o (128 * b + i.val) u * K u (o + a.val) := by
  have hi := i.isLt
  have own (j : Fin 128) : gradC o hs ht h2 (BitVec.ofNat 32 b) q qx d dx l lx c cx k v (ix2 ⟨i.val, by omega⟩ j) =
      gr Q K V D L C o (128 * b + i.val) (128 * b + j.val) :=
    gradC_at o b Q K V D L C q qx d dx l lx c cx k v hs ht h2 hb hq hqx hd hdx hl hlx hc hcx hk hv ⟨i.val, by omega⟩ j
  pointwise [headDq]
  rcases Nat.eq_zero_or_pos b with h | h
  · subst h
    rw [sum_window _ 0 128 4096]
    · simp only [own, gradP_zero, zero_mul, Finset.sum_const_zero, zero_add, hk]
      rw [Finset.sum_range]
      simp only [Nat.mul_zero, Nat.zero_add]
    · intro u hu
      by_contra hn
      exact hu (by rw [gr_off, zero_mul]; omega)
  · rw [sum_window _ (128 * (b - 1)) 256 4096]
    · have hp (j : Fin 128) := gradP_at o b Q K V D L C q d l c kp vp hs h1 h hb hq (hkp h) (hvp h) hd hl hc i j
      simp only [own, hp, hk, hkp h]
      rw [show (256 : ℕ) = 128 + 128 from rfl, Finset.sum_range_add, Finset.sum_range, Finset.sum_range]
      congr 1
      refine Finset.sum_congr rfl fun j _ => ?_
      rw [show 128 * (b - 1) + (128 + j.val) = 128 * b + j.val by omega]
    · intro u hu
      by_contra hn
      exact hu (by rw [gr_off, zero_mul]; omega)

/-- The block's gradient of its keys, for one head, is the sum over all query rows. -/
theorem headDk_at (hs : S128x128.Slices ![0, o] S128x64)
    (ht : S256x128.Slices ![0, o] S256x64) (h2 : S256x128.Slices ![0, o] S256x1) (hb : b < 32)
    (hq : ∀ r a : Fin 128, q (ix2 r a) = Q (128 * b + r.val) a.val)
    (hqx : b + 1 < 32 → ∀ r a : Fin 128, qx (ix2 r a) = Q (128 * (b + 1) + r.val) a.val)
    (hd : ∀ r a : Fin 128, d (ix2 r a) = D (128 * b + r.val) a.val)
    (hdx : b + 1 < 32 → ∀ r a : Fin 128, dx (ix2 r a) = D (128 * (b + 1) + r.val) a.val)
    (hl : ∀ r a : Fin 128, l (ix2 r a) = L (128 * b + r.val) a.val)
    (hlx : b + 1 < 32 → ∀ r a : Fin 128, lx (ix2 r a) = L (128 * (b + 1) + r.val) a.val)
    (hc : ∀ r a : Fin 128, c (ix2 r a) = C (128 * b + r.val) a.val)
    (hcx : b + 1 < 32 → ∀ r a : Fin 128, cx (ix2 r a) = C (128 * (b + 1) + r.val) a.val)
    (hk : ∀ r a : Fin 128, k (ix2 r a) = K (128 * b + r.val) a.val)
    (hv : ∀ r a : Fin 128, v (ix2 r a) = V (128 * b + r.val) a.val) (i : Fin 128) (a : Fin 64) :
    headDk o hs ht h2 (BitVec.ofNat 32 b) q qx d dx l lx c cx k v (ix2 i a) =
      ∑ t ∈ Finset.range 4096, gr Q K V D L C o t (128 * b + i.val) * Q t (o + a.val) := by
  have hi := i.isLt
  have all (t : Fin 256) := gradC_at o b Q K V D L C q qx d dx l lx c cx k v hs ht h2 hb hq hqx hd hdx hl hlx hc hcx hk hv t i
  pointwise [headDk]
  simp only [all]
  rw [sum_window _ (128 * b) 256 4096, Finset.sum_range]
  · refine Finset.sum_congr rfl fun t _ => ?_
    have htl := t.isLt
    by_cases hin : 128 * b + t.val < 4096
    · by_cases h : t.val < 128
      · pointwise [under]
        simp only [h, ↓reduceDIte, hq]
      · pointwise [under]
        have e : 128 * (b + 1) + (t.val - 128) = 128 * b + t.val := by omega
        simp only [h, ↓reduceDIte, hqx (by omega), e]
    · rw [gr_off Q K V D L C (fun h => hin h.2.2), zero_mul, zero_mul]
  · intro u hu
    by_contra hn
    exact hu (by rw [gr_off, zero_mul]; omega)

/-- The block's gradient of its values, for one head, is the sum over all query rows. -/
theorem headDv_at (hs : S128x128.Slices ![0, o] S128x64)
    (ht : S256x128.Slices ![0, o] S256x64) (h2 : S256x128.Slices ![0, o] S256x1) (hb : b < 32)
    (hq : ∀ r a : Fin 128, q (ix2 r a) = Q (128 * b + r.val) a.val)
    (hqx : b + 1 < 32 → ∀ r a : Fin 128, qx (ix2 r a) = Q (128 * (b + 1) + r.val) a.val)
    (hd : ∀ r a : Fin 128, d (ix2 r a) = D (128 * b + r.val) a.val)
    (hdx : b + 1 < 32 → ∀ r a : Fin 128, dx (ix2 r a) = D (128 * (b + 1) + r.val) a.val)
    (hl : ∀ r a : Fin 128, l (ix2 r a) = L (128 * b + r.val) a.val)
    (hlx : b + 1 < 32 → ∀ r a : Fin 128, lx (ix2 r a) = L (128 * (b + 1) + r.val) a.val)
    (hk : ∀ r a : Fin 128, k (ix2 r a) = K (128 * b + r.val) a.val) (i : Fin 128) (a : Fin 64) :
    headDv o hs ht h2 (BitVec.ofNat 32 b) q qx d dx l lx k (ix2 i a) =
      ∑ t ∈ Finset.range 4096, wt Q K L o t (128 * b + i.val) * D t (o + a.val) := by
  have hi := i.isLt
  have all (t : Fin 256) := weightC_at o b Q K L q qx l lx k hs ht h2 hb hq hqx hk hl hlx t i
  pointwise [headDv]
  simp only [all]
  rw [sum_window _ (128 * b) 256 4096, Finset.sum_range]
  · refine Finset.sum_congr rfl fun t _ => ?_
    have htl := t.isLt
    by_cases hin : 128 * b + t.val < 4096
    · by_cases h : t.val < 128
      · pointwise [under]
        simp only [h, ↓reduceDIte, hd]
      · pointwise [under]
        have e : 128 * (b + 1) + (t.val - 128) = 128 * b + t.val := by omega
        simp only [h, ↓reduceDIte, hdx (by omega), e]
    · rw [wt_off Q K L (fun h => hin h.2.2), zero_mul, zero_mul]
  · intro u hu
    by_contra hn
    exact hu (by rw [wt_off, zero_mul]; omega)

end Block

section Whole

variable (p b : ℕ) (Q K V D L C : ℕ → ℕ → EReal)
variable (q qx d dx l lx c cx k v kp vp : Blk)

/-- The weights of arrays whose columns are counted from `128 * p` on. -/
theorem wt_shift (o t u : ℕ) : wt (fun t a => Q t (128 * p + a)) (fun t a => K t (128 * p + a)) (fun t a => L t (128 * p + a)) o t u =
    wt Q K L (128 * p + o) t u := by
  simp only [wt, Nat.add_assoc]

/-- The score gradients of arrays whose columns are counted from `128 * p` on. -/
theorem gr_shift (o t u : ℕ) : gr (fun t a => Q t (128 * p + a)) (fun t a => K t (128 * p + a)) (fun t a => V t (128 * p + a))
    (fun t a => D t (128 * p + a)) (fun t a => L t (128 * p + a)) (fun t a => C t (128 * p + a)) o t u =
    gr Q K V D L C (128 * p + o) t u := by
  simp only [gr, wt_shift, Nat.add_assoc]

/-- The block's gradient of its queries, both heads, from the whole arrays. -/
theorem taskDq_at (hb : b < 32)
    (hq : ∀ r a : Fin 128, q (ix2 r a) = Q (128 * b + r.val) (128 * p + a.val))
    (hqx : b + 1 < 32 → ∀ r a : Fin 128, qx (ix2 r a) = Q (128 * (b + 1) + r.val) (128 * p + a.val))
    (hd : ∀ r a : Fin 128, d (ix2 r a) = D (128 * b + r.val) (128 * p + a.val))
    (hdx : b + 1 < 32 → ∀ r a : Fin 128, dx (ix2 r a) = D (128 * (b + 1) + r.val) (128 * p + a.val))
    (hl : ∀ r a : Fin 128, l (ix2 r a) = L (128 * b + r.val) (128 * p + a.val))
    (hlx : b + 1 < 32 → ∀ r a : Fin 128, lx (ix2 r a) = L (128 * (b + 1) + r.val) (128 * p + a.val))
    (hc : ∀ r a : Fin 128, c (ix2 r a) = C (128 * b + r.val) (128 * p + a.val))
    (hcx : b + 1 < 32 → ∀ r a : Fin 128, cx (ix2 r a) = C (128 * (b + 1) + r.val) (128 * p + a.val))
    (hk : ∀ r a : Fin 128, k (ix2 r a) = K (128 * b + r.val) (128 * p + a.val))
    (hv : ∀ r a : Fin 128, v (ix2 r a) = V (128 * b + r.val) (128 * p + a.val))
    (hkp : 0 < b → ∀ r a : Fin 128, kp (ix2 r a) = K (128 * (b - 1) + r.val) (128 * p + a.val))
    (hvp : 0 < b → ∀ r a : Fin 128, vp (ix2 r a) = V (128 * (b - 1) + r.val) (128 * p + a.val)) (x : S128x128.Idx) :
    taskDq (BitVec.ofNat 32 b) q qx d dx l lx c cx k v kp vp x =
      ∑ u ∈ Finset.range 4096, gr Q K V D L C (64 * ((128 * p + (x 1).val) / 64)) (128 * b + (x 0).val) u * K u (128 * p + (x 1).val) := by
  have hx : (x 1).val < 128 := (x 1).isLt
  pointwise [taskDq]
  by_cases h : (x 1).val < 64
  · rw [dif_pos h, headDq_at 0 b (fun t a => Q t (128 * p + a)) (fun t a => K t (128 * p + a)) (fun t a => V t (128 * p + a)) (fun t a => D t (128 * p + a)) (fun t a => L t (128 * p + a)) (fun t a => C t (128 * p + a)) q qx d dx l lx c cx k v kp vp slices_S128x128_o0_0_S128x64 slices_S128x128_o0_0_S128x1 slices_S256x128_o0_0_S256x64 slices_S256x128_o0_0_S256x1 hb hq hqx hd hdx hl hlx hc hcx hk hv hkp hvp (x 0) ⟨(x 1).val, h⟩]
    simp only [wt_shift, gr_shift, Nat.zero_add, Nat.add_zero]
    rw [show 64 * ((128 * p + (x 1).val) / 64) = 128 * p by omega]
  · rw [dif_neg h, headDq_at 64 b (fun t a => Q t (128 * p + a)) (fun t a => K t (128 * p + a)) (fun t a => V t (128 * p + a)) (fun t a => D t (128 * p + a)) (fun t a => L t (128 * p + a)) (fun t a => C t (128 * p + a)) q qx d dx l lx c cx k v kp vp slices_S128x128_o0_64_S128x64 slices_S128x128_o0_64_S128x1 slices_S256x128_o0_64_S256x64 slices_S256x128_o0_64_S256x1 hb hq hqx hd hdx hl hlx hc hcx hk hv hkp hvp (x 0) ⟨(x 1).val - 64, by omega⟩]
    simp only [wt_shift, gr_shift]
    rw [show 64 * ((128 * p + (x 1).val) / 64) = 128 * p + 64 by omega,
      show 64 + ((x 1).val - 64) = (x 1).val by omega]

/-- The block's gradient of its keys, both heads, from the whole arrays. -/
theorem taskDk_at (hb : b < 32)
    (hq : ∀ r a : Fin 128, q (ix2 r a) = Q (128 * b + r.val) (128 * p + a.val))
    (hqx : b + 1 < 32 → ∀ r a : Fin 128, qx (ix2 r a) = Q (128 * (b + 1) + r.val) (128 * p + a.val))
    (hd : ∀ r a : Fin 128, d (ix2 r a) = D (128 * b + r.val) (128 * p + a.val))
    (hdx : b + 1 < 32 → ∀ r a : Fin 128, dx (ix2 r a) = D (128 * (b + 1) + r.val) (128 * p + a.val))
    (hl : ∀ r a : Fin 128, l (ix2 r a) = L (128 * b + r.val) (128 * p + a.val))
    (hlx : b + 1 < 32 → ∀ r a : Fin 128, lx (ix2 r a) = L (128 * (b + 1) + r.val) (128 * p + a.val))
    (hc : ∀ r a : Fin 128, c (ix2 r a) = C (128 * b + r.val) (128 * p + a.val))
    (hcx : b + 1 < 32 → ∀ r a : Fin 128, cx (ix2 r a) = C (128 * (b + 1) + r.val) (128 * p + a.val))
    (hk : ∀ r a : Fin 128, k (ix2 r a) = K (128 * b + r.val) (128 * p + a.val))
    (hv : ∀ r a : Fin 128, v (ix2 r a) = V (128 * b + r.val) (128 * p + a.val)) (x : S128x128.Idx) :
    taskDk (BitVec.ofNat 32 b) q qx d dx l lx c cx k v x =
      ∑ t ∈ Finset.range 4096, gr Q K V D L C (64 * ((128 * p + (x 1).val) / 64)) t (128 * b + (x 0).val) * Q t (128 * p + (x 1).val) := by
  have hx : (x 1).val < 128 := (x 1).isLt
  pointwise [taskDk]
  by_cases h : (x 1).val < 64
  · rw [dif_pos h, headDk_at 0 b (fun t a => Q t (128 * p + a)) (fun t a => K t (128 * p + a)) (fun t a => V t (128 * p + a)) (fun t a => D t (128 * p + a)) (fun t a => L t (128 * p + a)) (fun t a => C t (128 * p + a)) q qx d dx l lx c cx k v slices_S128x128_o0_0_S128x64 slices_S256x128_o0_0_S256x64 slices_S256x128_o0_0_S256x1 hb hq hqx hd hdx hl hlx hc hcx hk hv (x 0) ⟨(x 1).val, h⟩]
    simp only [wt_shift, gr_shift, Nat.zero_add, Nat.add_zero]
    rw [show 64 * ((128 * p + (x 1).val) / 64) = 128 * p by omega]
  · rw [dif_neg h, headDk_at 64 b (fun t a => Q t (128 * p + a)) (fun t a => K t (128 * p + a)) (fun t a => V t (128 * p + a)) (fun t a => D t (128 * p + a)) (fun t a => L t (128 * p + a)) (fun t a => C t (128 * p + a)) q qx d dx l lx c cx k v slices_S128x128_o0_64_S128x64 slices_S256x128_o0_64_S256x64 slices_S256x128_o0_64_S256x1 hb hq hqx hd hdx hl hlx hc hcx hk hv (x 0) ⟨(x 1).val - 64, by omega⟩]
    simp only [wt_shift, gr_shift]
    rw [show 64 * ((128 * p + (x 1).val) / 64) = 128 * p + 64 by omega,
      show 64 + ((x 1).val - 64) = (x 1).val by omega]

/-- The block's gradient of its values, both heads, from the whole arrays. -/
theorem taskDv_at (hb : b < 32)
    (hq : ∀ r a : Fin 128, q (ix2 r a) = Q (128 * b + r.val) (128 * p + a.val))
    (hqx : b + 1 < 32 → ∀ r a : Fin 128, qx (ix2 r a) = Q (128 * (b + 1) + r.val) (128 * p + a.val))
    (hd : ∀ r a : Fin 128, d (ix2 r a) = D (128 * b + r.val) (128 * p + a.val))
    (hdx : b + 1 < 32 → ∀ r a : Fin 128, dx (ix2 r a) = D (128 * (b + 1) + r.val) (128 * p + a.val))
    (hl : ∀ r a : Fin 128, l (ix2 r a) = L (128 * b + r.val) (128 * p + a.val))
    (hlx : b + 1 < 32 → ∀ r a : Fin 128, lx (ix2 r a) = L (128 * (b + 1) + r.val) (128 * p + a.val))
    (hk : ∀ r a : Fin 128, k (ix2 r a) = K (128 * b + r.val) (128 * p + a.val)) (x : S128x128.Idx) :
    taskDv (BitVec.ofNat 32 b) q qx d dx l lx k x =
      ∑ t ∈ Finset.range 4096, wt Q K L (64 * ((128 * p + (x 1).val) / 64)) t (128 * b + (x 0).val) * D t (128 * p + (x 1).val) := by
  have hx : (x 1).val < 128 := (x 1).isLt
  pointwise [taskDv]
  by_cases h : (x 1).val < 64
  · rw [dif_pos h, headDv_at 0 b (fun t a => Q t (128 * p + a)) (fun t a => K t (128 * p + a)) (fun t a => D t (128 * p + a)) (fun t a => L t (128 * p + a)) q qx d dx l lx k slices_S128x128_o0_0_S128x64 slices_S256x128_o0_0_S256x64 slices_S256x128_o0_0_S256x1 hb hq hqx hd hdx hl hlx hk (x 0) ⟨(x 1).val, h⟩]
    simp only [wt_shift, gr_shift, Nat.zero_add, Nat.add_zero]
    rw [show 64 * ((128 * p + (x 1).val) / 64) = 128 * p by omega]
  · rw [dif_neg h, headDv_at 64 b (fun t a => Q t (128 * p + a)) (fun t a => K t (128 * p + a)) (fun t a => D t (128 * p + a)) (fun t a => L t (128 * p + a)) q qx d dx l lx k slices_S128x128_o0_64_S128x64 slices_S256x128_o0_64_S256x64 slices_S256x128_o0_64_S256x1 hb hq hqx hd hdx hl hlx hk (x 0) ⟨(x 1).val - 64, by omega⟩]
    simp only [wt_shift, gr_shift]
    rw [show 64 * ((128 * p + (x 1).val) / 64) = 128 * p + 64 by omega,
      show 64 + ((x 1).val - 64) = (x 1).val by omega]

/-- A block's number, as the point computes it. -/
theorem blkNo_eq (i : grid0.Coords) (n : ℕ) (hi : (i 1).val < 4) (hn : n < 8) :
    blkNo i (BitVec.ofNat 32 n) = BitVec.ofNat 32 (8 * (i 1).val + n) := by
  apply BitVec.eq_of_toNat_eq
  show (BitVec.ofNat 32 (i 1).val * 8#32 + BitVec.ofNat 32 n).toNat = _
  rw [BitVec.toNat_add, BitVec.toNat_mul]
  simp only [BitVec.toNat_ofNat]
  omega

end Whole

end Cert.AttnOneIdeal.Task
-- ==== Proof.AttnValue.lean ====
/- What the attention gradient kernel leaves in its three result arrays: sums over all rows, as functions of the arrays
   it reads. -/
module

public import proofs.«01_k».proof.Proof.AttnBlock

@[expose] public section

set_option maxRecDepth 16384

noncomputable section

open Idealize.ShloMosaic Idealize.ShloMosaic.TcCoe Idealize.SL.Sem
open Idealize.ShloMosaic.Pipeline (Dat)
open scoped BigOperators

namespace Cert.AttnOneIdeal.Closed

open Cert.AttnOneIdeal Cert.AttnOneIdeal.Gen Cert.AttnOneIdeal.Task

/-- Column `o + a` of row `t` of the array of queries, keys and values side by side. -/
def rdX (X : FVec Ideal S4096x2304 .f32) (o t a : ℕ) : EReal :=
  if h : t < 4096 ∧ o + a < 2304 then X (ix2 ⟨t, h.1⟩ ⟨o + a, h.2⟩) else 0

/-- Column `o + a` of row `t` of an array of 256 columns. -/
def rdY (Y : FVec Ideal S4096x256 .f32) (o t a : ℕ) : EReal :=
  if h : t < 4096 ∧ o + a < 256 then Y (ix2 ⟨t, h.1⟩ ⟨o + a, h.2⟩) else 0

variable (m : (ℓ : Loc nD τ sig) → Buf (Elt Ideal) ℓ)

/-- Which block each window stages at a point: point `t` is head pair `t / 4` and span `t % 4`. -/
theorem idx : ∀ t : Fin cfg0.N,
    win0_0.index t = ![t.val % 4, t.val / 4] ∧ win0_1.index t = ![t.val % 4, 6 + t.val / 4]
    ∧ win0_2.index t = ![t.val % 4, 12 + t.val / 4] ∧ win0_3.index t = ![t.val % 4, t.val / 4]
    ∧ win0_4.index t = ![t.val % 4, t.val / 4] ∧ win0_5.index t = ![t.val % 4, t.val / 4]
    ∧ win0_6.index t = ![t.val % 4 * 8 - 1, 6 + t.val / 4] ∧ win0_7.index t = ![t.val % 4 * 8 - 1, 12 + t.val / 4]
    ∧ win0_8.index t = ![min (t.val % 4 * 8 + 8) 31, t.val / 4] ∧ win0_9.index t = ![min (t.val % 4 * 8 + 8) 31, t.val / 4]
    ∧ win0_10.index t = ![min (t.val % 4 * 8 + 8) 31, t.val / 4] ∧ win0_11.index t = ![min (t.val % 4 * 8 + 8) 31, t.val / 4]
    ∧ win0_12.index t = ![t.val % 4, t.val / 4] ∧ win0_13.index t = ![t.val % 4, t.val / 4]
    ∧ win0_14.index t = ![t.val % 4, t.val / 4] ∧ ((grid0.coords t) 1).val = t.val % 4 :=
  (by decide +kernel : ∀ t : Fin grid0.N, _)

/-- The gradient of the queries, from the arrays the kernel reads. -/
def dq (X : FVec Ideal S4096x2304 .f32) (Y L C : FVec Ideal S4096x256 .f32) : FVec Ideal S4096x256 .f32 := fun j =>
  ∑ u ∈ Finset.range 4096, gr (rdX X 0) (rdX X 768) (rdX X 1536) (rdY Y 0) (rdY L 0) (rdY C 0) (64 * ((j 1).val / 64)) (j 0).val u
    * rdX X 768 u (j 1).val

/-- The gradient of the keys. -/
def dk (X : FVec Ideal S4096x2304 .f32) (Y L C : FVec Ideal S4096x256 .f32) : FVec Ideal S4096x256 .f32 := fun j =>
  ∑ t ∈ Finset.range 4096, gr (rdX X 0) (rdX X 768) (rdX X 1536) (rdY Y 0) (rdY L 0) (rdY C 0) (64 * ((j 1).val / 64)) t (j 0).val
    * rdX X 0 t (j 1).val

/-- The gradient of the values. -/
def dv (X : FVec Ideal S4096x2304 .f32) (Y L : FVec Ideal S4096x256 .f32) : FVec Ideal S4096x256 .f32 := fun j =>
  ∑ t ∈ Finset.range 4096, wt (rdX X 0) (rdX X 768) (rdY L 0) (64 * ((j 1).val / 64)) t (j 0).val * rdY Y 0 t (j 1).val

/-- Which entry of the array window 0's block holds. -/
theorem read0 (A : FVec Ideal S4096x2304 .f32) (t : Fin cfg0.N) (p : S1024x128.Idx) (j : S4096x2304.Idx)
    (h0 : (j 0).val = 1024 * (t.val % 4) + (p 0).val) (h1 : (j 1).val = 0 + (128 * (t.val / 4) + (p 1).val)) :
    ((cfg0.win 0).blk t).view.read (Elt Ideal) A p = A j := by
  blk_point [idx t]

/-- Which entry of the array window 1's block holds. -/
theorem read1 (A : FVec Ideal S4096x2304 .f32) (t : Fin cfg0.N) (p : S1024x128.Idx) (j : S4096x2304.Idx)
    (h0 : (j 0).val = 1024 * (t.val % 4) + (p 0).val) (h1 : (j 1).val = 768 + (128 * (t.val / 4) + (p 1).val)) :
    ((cfg0.win 1).blk t).view.read (Elt Ideal) A p = A j := by
  blk_point [idx t]

/-- Which entry of the array window 2's block holds. -/
theorem read2 (A : FVec Ideal S4096x2304 .f32) (t : Fin cfg0.N) (p : S1024x128.Idx) (j : S4096x2304.Idx)
    (h0 : (j 0).val = 1024 * (t.val % 4) + (p 0).val) (h1 : (j 1).val = 1536 + (128 * (t.val / 4) + (p 1).val)) :
    ((cfg0.win 2).blk t).view.read (Elt Ideal) A p = A j := by
  blk_point [idx t]

/-- Which entry of the array window 3's block holds. -/
theorem read3 (A : FVec Ideal S4096x256 .f32) (t : Fin cfg0.N) (p : S1024x128.Idx) (j : S4096x256.Idx)
    (h0 : (j 0).val = 1024 * (t.val % 4) + (p 0).val) (h1 : (j 1).val = 0 + (128 * (t.val / 4) + (p 1).val)) :
    ((cfg0.win 3).blk t).view.read (Elt Ideal) A p = A j := by
  blk_point [idx t]

/-- Which entry of the array window 4's block holds. -/
theorem read4 (A : FVec Ideal S4096x256 .f32) (t : Fin cfg0.N) (p : S1024x128.Idx) (j : S4096x256.Idx)
    (h0 : (j 0).val = 1024 * (t.val % 4) + (p 0).val) (h1 : (j 1).val = 0 + (128 * (t.val / 4) + (p 1).val)) :
    ((cfg0.win 4).blk t).view.read (Elt Ideal) A p = A j := by
  blk_point [idx t]

/-- Which entry of the array window 5's block holds. -/
theorem read5 (A : FVec Ideal S4096x256 .f32) (t : Fin cfg0.N) (p : S1024x128.Idx) (j : S4096x256.Idx)
    (h0 : (j 0).val = 1024 * (t.val % 4) + (p 0).val) (h1 : (j 1).val = 0 + (128 * (t.val / 4) + (p 1).val)) :
    ((cfg0.win 5).blk t).view.read (Elt Ideal) A p = A j := by
  blk_point [idx t]

/-- Which entry of the array window 6's block holds. -/
theorem read6 (A : FVec Ideal S4096x2304 .f32) (t : Fin cfg0.N) (p : S128x128.Idx) (j : S4096x2304.Idx)
    (h0 : (j 0).val = 128 * (t.val % 4 * 8 - 1) + (p 0).val) (h1 : (j 1).val = 768 + (128 * (t.val / 4) + (p 1).val)) :
    ((cfg0.win 6).blk t).view.read (Elt Ideal) A p = A j := by
  blk_point [idx t]

/-- Which entry of the array window 7's block holds. -/
theorem read7 (A : FVec Ideal S4096x2304 .f32) (t : Fin cfg0.N) (p : S128x128.Idx) (j : S4096x2304.Idx)
    (h0 : (j 0).val = 128 * (t.val % 4 * 8 - 1) + (p 0).val) (h1 : (j 1).val = 1536 + (128 * (t.val / 4) + (p 1).val)) :
    ((cfg0.win 7).blk t).view.read (Elt Ideal) A p = A j := by
  blk_point [idx t]

/-- Which entry of the array window 8's block holds. -/
theorem read8 (A : FVec Ideal S4096x2304 .f32) (t : Fin cfg0.N) (p : S128x128.Idx) (j : S4096x2304.Idx)
    (h0 : (j 0).val = 128 * min (t.val % 4 * 8 + 8) 31 + (p 0).val) (h1 : (j 1).val = 0 + (128 * (t.val / 4) + (p 1).val)) :
    ((cfg0.win 8).blk t).view.read (Elt Ideal) A p = A j := by
  blk_point [idx t]

/-- Which entry of the array window 9's block holds. -/
theorem read9 (A : FVec Ideal S4096x256 .f32) (t : Fin cfg0.N) (p : S128x128.Idx) (j : S4096x256.Idx)
    (h0 : (j 0).val = 128 * min (t.val % 4 * 8 + 8) 31 + (p 0).val) (h1 : (j 1).val = 0 + (128 * (t.val / 4) + (p 1).val)) :
    ((cfg0.win 9).blk t).view.read (Elt Ideal) A p = A j := by
  blk_point [idx t]

/-- Which entry of the array window 10's block holds. -/
theorem read10 (A : FVec Ideal S4096x256 .f32) (t : Fin cfg0.N) (p : S128x128.Idx) (j : S4096x256.Idx)
    (h0 : (j 0).val = 128 * min (t.val % 4 * 8 + 8) 31 + (p 0).val) (h1 : (j 1).val = 0 + (128 * (t.val / 4) + (p 1).val)) :
    ((cfg0.win 10).blk t).view.read (Elt Ideal) A p = A j := by
  blk_point [idx t]

/-- Which entry of the array window 11's block holds. -/
theorem read11 (A : FVec Ideal S4096x256 .f32) (t : Fin cfg0.N) (p : S128x128.Idx) (j : S4096x256.Idx)
    (h0 : (j 0).val = 128 * min (t.val % 4 * 8 + 8) 31 + (p 0).val) (h1 : (j 1).val = 0 + (128 * (t.val / 4) + (p 1).val)) :
    ((cfg0.win 11).blk t).view.read (Elt Ideal) A p = A j := by
  blk_point [idx t]

/-- Piece 1 of the block of the queries, read from its array. -/
theorem ld0_0 (c : Dev nD) (t : Fin cfg0.N) (r a : Fin 128) : View.ld (iblk m c 0 t) r0_0 (ix2 r a) =
    rdX (V m c main_arg0) 0 (128 * (8 * (t.val % 4) + 0) + r.val) (128 * (t.val / 4) + a.val) := by
  have ht : t.val < 8 := lt_of_lt_of_eq t.isLt N_0
  have hr := r.isLt
  have ha := a.isLt
  rw [rdX, dif_pos ⟨by omega, by omega⟩, View.ld_apply]
  refine read0 _ t _ _ ?_ ?_
  · show 128 * (8 * (t.val % 4) + 0) + r.val = 1024 * (t.val % 4) + (0 + 1 * r.val)
    omega
  · show 0 + (128 * (t.val / 4) + a.val) = 0 + (128 * (t.val / 4) + (0 + 1 * a.val))
    omega

/-- Piece 2 of the block of the queries, read from its array. -/
theorem ld0_1 (c : Dev nD) (t : Fin cfg0.N) (r a : Fin 128) : View.ld (iblk m c 0 t) r0_2 (ix2 r a) =
    rdX (V m c main_arg0) 0 (128 * (8 * (t.val % 4) + 1) + r.val) (128 * (t.val / 4) + a.val) := by
  have ht : t.val < 8 := lt_of_lt_of_eq t.isLt N_0
  have hr := r.isLt
  have ha := a.isLt
  rw [rdX, dif_pos ⟨by omega, by omega⟩, View.ld_apply]
  refine read0 _ t _ _ ?_ ?_
  · show 128 * (8 * (t.val % 4) + 1) + r.val = 1024 * (t.val % 4) + (128 + 1 * r.val)
    omega
  · show 0 + (128 * (t.val / 4) + a.val) = 0 + (128 * (t.val / 4) + (0 + 1 * a.val))
    omega

/-- Piece 3 of the block of the queries, read from its array. -/
theorem ld0_2 (c : Dev nD) (t : Fin cfg0.N) (r a : Fin 128) : View.ld (iblk m c 0 t) r0_3 (ix2 r a) =
    rdX (V m c main_arg0) 0 (128 * (8 * (t.val % 4) + 2) + r.val) (128 * (t.val / 4) + a.val) := by
  have ht : t.val < 8 := lt_of_lt_of_eq t.isLt N_0
  have hr := r.isLt
  have ha := a.isLt
  rw [rdX, dif_pos ⟨by omega, by omega⟩, View.ld_apply]
  refine read0 _ t _ _ ?_ ?_
  · show 128 * (8 * (t.val % 4) + 2) + r.val = 1024 * (t.val % 4) + (256 + 1 * r.val)
    omega
  · show 0 + (128 * (t.val / 4) + a.val) = 0 + (128 * (t.val / 4) + (0 + 1 * a.val))
    omega

/-- Piece 4 of the block of the queries, read from its array. -/
theorem ld0_3 (c : Dev nD) (t : Fin cfg0.N) (r a : Fin 128) : View.ld (iblk m c 0 t) r0_4 (ix2 r a) =
    rdX (V m c main_arg0) 0 (128 * (8 * (t.val % 4) + 3) + r.val) (128 * (t.val / 4) + a.val) := by
  have ht : t.val < 8 := lt_of_lt_of_eq t.isLt N_0
  have hr := r.isLt
  have ha := a.isLt
  rw [rdX, dif_pos ⟨by omega, by omega⟩, View.ld_apply]
  refine read0 _ t _ _ ?_ ?_
  · show 128 * (8 * (t.val % 4) + 3) + r.val = 1024 * (t.val % 4) + (384 + 1 * r.val)
    omega
  · show 0 + (128 * (t.val / 4) + a.val) = 0 + (128 * (t.val / 4) + (0 + 1 * a.val))
    omega

/-- Piece 5 of the block of the queries, read from its array. -/
theorem ld0_4 (c : Dev nD) (t : Fin cfg0.N) (r a : Fin 128) : View.ld (iblk m c 0 t) r0_5 (ix2 r a) =
    rdX (V m c main_arg0) 0 (128 * (8 * (t.val % 4) + 4) + r.val) (128 * (t.val / 4) + a.val) := by
  have ht : t.val < 8 := lt_of_lt_of_eq t.isLt N_0
  have hr := r.isLt
  have ha := a.isLt
  rw [rdX, dif_pos ⟨by omega, by omega⟩, View.ld_apply]
  refine read0 _ t _ _ ?_ ?_
  · show 128 * (8 * (t.val % 4) + 4) + r.val = 1024 * (t.val % 4) + (512 + 1 * r.val)
    omega
  · show 0 + (128 * (t.val / 4) + a.val) = 0 + (128 * (t.val / 4) + (0 + 1 * a.val))
    omega

/-- Piece 6 of the block of the queries, read from its array. -/
theorem ld0_5 (c : Dev nD) (t : Fin cfg0.N) (r a : Fin 128) : View.ld (iblk m c 0 t) r0_6 (ix2 r a) =
    rdX (V m c main_arg0) 0 (128 * (8 * (t.val % 4) + 5) + r.val) (128 * (t.val / 4) + a.val) := by
  have ht : t.val < 8 := lt_of_lt_of_eq t.isLt N_0
  have hr := r.isLt
  have ha := a.isLt
  rw [rdX, dif_pos ⟨by omega, by omega⟩, View.ld_apply]
  refine read0 _ t _ _ ?_ ?_
  · show 128 * (8 * (t.val % 4) + 5) + r.val = 1024 * (t.val % 4) + (640 + 1 * r.val)
    omega
  · show 0 + (128 * (t.val / 4) + a.val) = 0 + (128 * (t.val / 4) + (0 + 1 * a.val))
    omega

/-- Piece 7 of the block of the queries, read from its array. -/
theorem ld0_6 (c : Dev nD) (t : Fin cfg0.N) (r a : Fin 128) : View.ld (iblk m c 0 t) r0_7 (ix2 r a) =
    rdX (V m c main_arg0) 0 (128 * (8 * (t.val % 4) + 6) + r.val) (128 * (t.val / 4) + a.val) := by
  have ht : t.val < 8 := lt_of_lt_of_eq t.isLt N_0
  have hr := r.isLt
  have ha := a.isLt
  rw [rdX, dif_pos ⟨by omega, by omega⟩, View.ld_apply]
  refine read0 _ t _ _ ?_ ?_
  · show 128 * (8 * (t.val % 4) + 6) + r.val = 1024 * (t.val % 4) + (768 + 1 * r.val)
    omega
  · show 0 + (128 * (t.val / 4) + a.val) = 0 + (128 * (t.val / 4) + (0 + 1 * a.val))
    omega

/-- Piece 8 of the block of the queries, read from its array. -/
theorem ld0_7 (c : Dev nD) (t : Fin cfg0.N) (r a : Fin 128) : View.ld (iblk m c 0 t) r0_8 (ix2 r a) =
    rdX (V m c main_arg0) 0 (128 * (8 * (t.val % 4) + 7) + r.val) (128 * (t.val / 4) + a.val) := by
  have ht : t.val < 8 := lt_of_lt_of_eq t.isLt N_0
  have hr := r.isLt
  have ha := a.isLt
  rw [rdX, dif_pos ⟨by omega, by omega⟩, View.ld_apply]
  refine read0 _ t _ _ ?_ ?_
  · show 128 * (8 * (t.val % 4) + 7) + r.val = 1024 * (t.val % 4) + (896 + 1 * r.val)
    omega
  · show 0 + (128 * (t.val / 4) + a.val) = 0 + (128 * (t.val / 4) + (0 + 1 * a.val))
    omega

/-- Piece 1 of the block of the keys, read from its array. -/
theorem ld1_0 (c : Dev nD) (t : Fin cfg0.N) (r a : Fin 128) : View.ld (iblk m c 1 t) r0_0 (ix2 r a) =
    rdX (V m c main_arg0) 768 (128 * (8 * (t.val % 4) + 0) + r.val) (128 * (t.val / 4) + a.val) := by
  have ht : t.val < 8 := lt_of_lt_of_eq t.isLt N_0
  have hr := r.isLt
  have ha := a.isLt
  rw [rdX, dif_pos ⟨by omega, by omega⟩, View.ld_apply]
  refine read1 _ t _ _ ?_ ?_
  · show 128 * (8 * (t.val % 4) + 0) + r.val = 1024 * (t.val % 4) + (0 + 1 * r.val)
    omega
  · show 768 + (128 * (t.val / 4) + a.val) = 768 + (128 * (t.val / 4) + (0 + 1 * a.val))
    omega

/-- Piece 2 of the block of the keys, read from its array. -/
theorem ld1_1 (c : Dev nD) (t : Fin cfg0.N) (r a : Fin 128) : View.ld (iblk m c 1 t) r0_2 (ix2 r a) =
    rdX (V m c main_arg0) 768 (128 * (8 * (t.val % 4) + 1) + r.val) (128 * (t.val / 4) + a.val) := by
  have ht : t.val < 8 := lt_of_lt_of_eq t.isLt N_0
  have hr := r.isLt
  have ha := a.isLt
  rw [rdX, dif_pos ⟨by omega, by omega⟩, View.ld_apply]
  refine read1 _ t _ _ ?_ ?_
  · show 128 * (8 * (t.val % 4) + 1) + r.val = 1024 * (t.val % 4) + (128 + 1 * r.val)
    omega
  · show 768 + (128 * (t.val / 4) + a.val) = 768 + (128 * (t.val / 4) + (0 + 1 * a.val))
    omega

/-- Piece 3 of the block of the keys, read from its array. -/
theorem ld1_2 (c : Dev nD) (t : Fin cfg0.N) (r a : Fin 128) : View.ld (iblk m c 1 t) r0_3 (ix2 r a) =
    rdX (V m c main_arg0) 768 (128 * (8 * (t.val % 4) + 2) + r.val) (128 * (t.val / 4) + a.val) := by
  have ht : t.val < 8 := lt_of_lt_of_eq t.isLt N_0
  have hr := r.isLt
  have ha := a.isLt
  rw [rdX, dif_pos ⟨by omega, by omega⟩, View.ld_apply]
  refine read1 _ t _ _ ?_ ?_
  · show 128 * (8 * (t.val % 4) + 2) + r.val = 1024 * (t.val % 4) + (256 + 1 * r.val)
    omega
  · show 768 + (128 * (t.val / 4) + a.val) = 768 + (128 * (t.val / 4) + (0 + 1 * a.val))
    omega

/-- Piece 4 of the block of the keys, read from its array. -/
theorem ld1_3 (c : Dev nD) (t : Fin cfg0.N) (r a : Fin 128) : View.ld (iblk m c 1 t) r0_4 (ix2 r a) =
    rdX (V m c main_arg0) 768 (128 * (8 * (t.val % 4) + 3) + r.val) (128 * (t.val / 4) + a.val) := by
  have ht : t.val < 8 := lt_of_lt_of_eq t.isLt N_0
  have hr := r.isLt
  have ha := a.isLt
  rw [rdX, dif_pos ⟨by omega, by omega⟩, View.ld_apply]
  refine read1 _ t _ _ ?_ ?_
  · show 128 * (8 * (t.val % 4) + 3) + r.val = 1024 * (t.val % 4) + (384 + 1 * r.val)
    omega
  · show 768 + (128 * (t.val / 4) + a.val) = 768 + (128 * (t.val / 4) + (0 + 1 * a.val))
    omega

/-- Piece 5 of the block of the keys, read from its array. -/
theorem ld1_4 (c : Dev nD) (t : Fin cfg0.N) (r a : Fin 128) : View.ld (iblk m c 1 t) r0_5 (ix2 r a) =
    rdX (V m c main_arg0) 768 (128 * (8 * (t.val % 4) + 4) + r.val) (128 * (t.val / 4) + a.val) := by
  have ht : t.val < 8 := lt_of_lt_of_eq t.isLt N_0
  have hr := r.isLt
  have ha := a.isLt
  rw [rdX, dif_pos ⟨by omega, by omega⟩, View.ld_apply]
  refine read1 _ t _ _ ?_ ?_
  · show 128 * (8 * (t.val % 4) + 4) + r.val = 1024 * (t.val % 4) + (512 + 1 * r.val)
    omega
  · show 768 + (128 * (t.val / 4) + a.val) = 768 + (128 * (t.val / 4) + (0 + 1 * a.val))
    omega

/-- Piece 6 of the block of the keys, read from its array. -/
theorem ld1_5 (c : Dev nD) (t : Fin cfg0.N) (r a : Fin 128) : View.ld (iblk m c 1 t) r0_6 (ix2 r a) =
    rdX (V m c main_arg0) 768 (128 * (8 * (t.val % 4) + 5) + r.val) (128 * (t.val / 4) + a.val) := by
  have ht : t.val < 8 := lt_of_lt_of_eq t.isLt N_0
  have hr := r.isLt
  have ha := a.isLt
  rw [rdX, dif_pos ⟨by omega, by omega⟩, View.ld_apply]
  refine read1 _ t _ _ ?_ ?_
  · show 128 * (8 * (t.val % 4) + 5) + r.val = 1024 * (t.val % 4) + (640 + 1 * r.val)
    omega
  · show 768 + (128 * (t.val / 4) + a.val) = 768 + (128 * (t.val / 4) + (0 + 1 * a.val))
    omega

/-- Piece 7 of the block of the keys, read from its array. -/
theorem ld1_6 (c : Dev nD) (t : Fin cfg0.N) (r a : Fin 128) : View.ld (iblk m c 1 t) r0_7 (ix2 r a) =
    rdX (V m c main_arg0) 768 (128 * (8 * (t.val % 4) + 6) + r.val) (128 * (t.val / 4) + a.val) := by
  have ht : t.val < 8 := lt_of_lt_of_eq t.isLt N_0
  have hr := r.isLt
  have ha := a.isLt
  rw [rdX, dif_pos ⟨by omega, by omega⟩, View.ld_apply]
  refine read1 _ t _ _ ?_ ?_
  · show 128 * (8 * (t.val % 4) + 6) + r.val = 1024 * (t.val % 4) + (768 + 1 * r.val)
    omega
  · show 768 + (128 * (t.val / 4) + a.val) = 768 + (128 * (t.val / 4) + (0 + 1 * a.val))
    omega

/-- Piece 8 of the block of the keys, read from its array. -/
theorem ld1_7 (c : Dev nD) (t : Fin cfg0.N) (r a : Fin 128) : View.ld (iblk m c 1 t) r0_8 (ix2 r a) =
    rdX (V m c main_arg0) 768 (128 * (8 * (t.val % 4) + 7) + r.val) (128 * (t.val / 4) + a.val) := by
  have ht : t.val < 8 := lt_of_lt_of_eq t.isLt N_0
  have hr := r.isLt
  have ha := a.isLt
  rw [rdX, dif_pos ⟨by omega, by omega⟩, View.ld_apply]
  refine read1 _ t _ _ ?_ ?_
  · show 128 * (8 * (t.val % 4) + 7) + r.val = 1024 * (t.val % 4) + (896 + 1 * r.val)
    omega
  · show 768 + (128 * (t.val / 4) + a.val) = 768 + (128 * (t.val / 4) + (0 + 1 * a.val))
    omega

/-- Piece 1 of the block of the values, read from its array. -/
theorem ld2_0 (c : Dev nD) (t : Fin cfg0.N) (r a : Fin 128) : View.ld (iblk m c 2 t) r0_0 (ix2 r a) =
    rdX (V m c main_arg0) 1536 (128 * (8 * (t.val % 4) + 0) + r.val) (128 * (t.val / 4) + a.val) := by
  have ht : t.val < 8 := lt_of_lt_of_eq t.isLt N_0
  have hr := r.isLt
  have ha := a.isLt
  rw [rdX, dif_pos ⟨by omega, by omega⟩, View.ld_apply]
  refine read2 _ t _ _ ?_ ?_
  · show 128 * (8 * (t.val % 4) + 0) + r.val = 1024 * (t.val % 4) + (0 + 1 * r.val)
    omega
  · show 1536 + (128 * (t.val / 4) + a.val) = 1536 + (128 * (t.val / 4) + (0 + 1 * a.val))
    omega

/-- Piece 2 of the block of the values, read from its array. -/
theorem ld2_1 (c : Dev nD) (t : Fin cfg0.N) (r a : Fin 128) : View.ld (iblk m c 2 t) r0_2 (ix2 r a) =
    rdX (V m c main_arg0) 1536 (128 * (8 * (t.val % 4) + 1) + r.val) (128 * (t.val / 4) + a.val) := by
  have ht : t.val < 8 := lt_of_lt_of_eq t.isLt N_0
  have hr := r.isLt
  have ha := a.isLt
  rw [rdX, dif_pos ⟨by omega, by omega⟩, View.ld_apply]
  refine read2 _ t _ _ ?_ ?_
  · show 128 * (8 * (t.val % 4) + 1) + r.val = 1024 * (t.val % 4) + (128 + 1 * r.val)
    omega
  · show 1536 + (128 * (t.val / 4) + a.val) = 1536 + (128 * (t.val / 4) + (0 + 1 * a.val))
    omega

/-- Piece 3 of the block of the values, read from its array. -/
theorem ld2_2 (c : Dev nD) (t : Fin cfg0.N) (r a : Fin 128) : View.ld (iblk m c 2 t) r0_3 (ix2 r a) =
    rdX (V m c main_arg0) 1536 (128 * (8 * (t.val % 4) + 2) + r.val) (128 * (t.val / 4) + a.val) := by
  have ht : t.val < 8 := lt_of_lt_of_eq t.isLt N_0
  have hr := r.isLt
  have ha := a.isLt
  rw [rdX, dif_pos ⟨by omega, by omega⟩, View.ld_apply]
  refine read2 _ t _ _ ?_ ?_
  · show 128 * (8 * (t.val % 4) + 2) + r.val = 1024 * (t.val % 4) + (256 + 1 * r.val)
    omega
  · show 1536 + (128 * (t.val / 4) + a.val) = 1536 + (128 * (t.val / 4) + (0 + 1 * a.val))
    omega

/-- Piece 4 of the block of the values, read from its array. -/
theorem ld2_3 (c : Dev nD) (t : Fin cfg0.N) (r a : Fin 128) : View.ld (iblk m c 2 t) r0_4 (ix2 r a) =
    rdX (V m c main_arg0) 1536 (128 * (8 * (t.val % 4) + 3) + r.val) (128 * (t.val / 4) + a.val) := by
  have ht : t.val < 8 := lt_of_lt_of_eq t.isLt N_0
  have hr := r.isLt
  have ha := a.isLt
  rw [rdX, dif_pos ⟨by omega, by omega⟩, View.ld_apply]
  refine read2 _ t _ _ ?_ ?_
  · show 128 * (8 * (t.val % 4) + 3) + r.val = 1024 * (t.val % 4) + (384 + 1 * r.val)
    omega
  · show 1536 + (128 * (t.val / 4) + a.val) = 1536 + (128 * (t.val / 4) + (0 + 1 * a.val))
    omega

/-- Piece 5 of the block of the values, read from its array. -/
theorem ld2_4 (c : Dev nD) (t : Fin cfg0.N) (r a : Fin 128) : View.ld (iblk m c 2 t) r0_5 (ix2 r a) =
    rdX (V m c main_arg0) 1536 (128 * (8 * (t.val % 4) + 4) + r.val) (128 * (t.val / 4) + a.val) := by
  have ht : t.val < 8 := lt_of_lt_of_eq t.isLt N_0
  have hr := r.isLt
  have ha := a.isLt
  rw [rdX, dif_pos ⟨by omega, by omega⟩, View.ld_apply]
  refine read2 _ t _ _ ?_ ?_
  · show 128 * (8 * (t.val % 4) + 4) + r.val = 1024 * (t.val % 4) + (512 + 1 * r.val)
    omega
  · show 1536 + (128 * (t.val / 4) + a.val) = 1536 + (128 * (t.val / 4) + (0 + 1 * a.val))
    omega

/-- Piece 6 of the block of the values, read from its array. -/
theorem ld2_5 (c : Dev nD) (t : Fin cfg0.N) (r a : Fin 128) : View.ld (iblk m c 2 t) r0_6 (ix2 r a) =
    rdX (V m c main_arg0) 1536 (128 * (8 * (t.val % 4) + 5) + r.val) (128 * (t.val / 4) + a.val) := by
  have ht : t.val < 8 := lt_of_lt_of_eq t.isLt N_0
  have hr := r.isLt
  have ha := a.isLt
  rw [rdX, dif_pos ⟨by omega, by omega⟩, View.ld_apply]
  refine read2 _ t _ _ ?_ ?_
  · show 128 * (8 * (t.val % 4) + 5) + r.val = 1024 * (t.val % 4) + (640 + 1 * r.val)
    omega
  · show 1536 + (128 * (t.val / 4) + a.val) = 1536 + (128 * (t.val / 4) + (0 + 1 * a.val))
    omega

/-- Piece 7 of the block of the values, read from its array. -/
theorem ld2_6 (c : Dev nD) (t : Fin cfg0.N) (r a : Fin 128) : View.ld (iblk m c 2 t) r0_7 (ix2 r a) =
    rdX (V m c main_arg0) 1536 (128 * (8 * (t.val % 4) + 6) + r.val) (128 * (t.val / 4) + a.val) := by
  have ht : t.val < 8 := lt_of_lt_of_eq t.isLt N_0
  have hr := r.isLt
  have ha := a.isLt
  rw [rdX, dif_pos ⟨by omega, by omega⟩, View.ld_apply]
  refine read2 _ t _ _ ?_ ?_
  · show 128 * (8 * (t.val % 4) + 6) + r.val = 1024 * (t.val % 4) + (768 + 1 * r.val)
    omega
  · show 1536 + (128 * (t.val / 4) + a.val) = 1536 + (128 * (t.val / 4) + (0 + 1 * a.val))
    omega

/-- Piece 8 of the block of the values, read from its array. -/
theorem ld2_7 (c : Dev nD) (t : Fin cfg0.N) (r a : Fin 128) : View.ld (iblk m c 2 t) r0_8 (ix2 r a) =
    rdX (V m c main_arg0) 1536 (128 * (8 * (t.val % 4) + 7) + r.val) (128 * (t.val / 4) + a.val) := by
  have ht : t.val < 8 := lt_of_lt_of_eq t.isLt N_0
  have hr := r.isLt
  have ha := a.isLt
  rw [rdX, dif_pos ⟨by omega, by omega⟩, View.ld_apply]
  refine read2 _ t _ _ ?_ ?_
  · show 128 * (8 * (t.val % 4) + 7) + r.val = 1024 * (t.val % 4) + (896 + 1 * r.val)
    omega
  · show 1536 + (128 * (t.val / 4) + a.val) = 1536 + (128 * (t.val / 4) + (0 + 1 * a.val))
    omega

/-- Piece 1 of the block of the output’s gradient, read from its array. -/
theorem ld3_0 (c : Dev nD) (t : Fin cfg0.N) (r a : Fin 128) : View.ld (iblk m c 3 t) r0_0 (ix2 r a) =
    rdY (V m c main_arg1) 0 (128 * (8 * (t.val % 4) + 0) + r.val) (128 * (t.val / 4) + a.val) := by
  have ht : t.val < 8 := lt_of_lt_of_eq t.isLt N_0
  have hr := r.isLt
  have ha := a.isLt
  rw [rdY, dif_pos ⟨by omega, by omega⟩, View.ld_apply]
  refine read3 _ t _ _ ?_ ?_
  · show 128 * (8 * (t.val % 4) + 0) + r.val = 1024 * (t.val % 4) + (0 + 1 * r.val)
    omega
  · show 0 + (128 * (t.val / 4) + a.val) = 0 + (128 * (t.val / 4) + (0 + 1 * a.val))
    omega

/-- Piece 2 of the block of the output’s gradient, read from its array. -/
theorem ld3_1 (c : Dev nD) (t : Fin cfg0.N) (r a : Fin 128) : View.ld (iblk m c 3 t) r0_2 (ix2 r a) =
    rdY (V m c main_arg1) 0 (128 * (8 * (t.val % 4) + 1) + r.val) (128 * (t.val / 4) + a.val) := by
  have ht : t.val < 8 := lt_of_lt_of_eq t.isLt N_0
  have hr := r.isLt
  have ha := a.isLt
  rw [rdY, dif_pos ⟨by omega, by omega⟩, View.ld_apply]
  refine read3 _ t _ _ ?_ ?_
  · show 128 * (8 * (t.val % 4) + 1) + r.val = 1024 * (t.val % 4) + (128 + 1 * r.val)
    omega
  · show 0 + (128 * (t.val / 4) + a.val) = 0 + (128 * (t.val / 4) + (0 + 1 * a.val))
    omega

/-- Piece 3 of the block of the output’s gradient, read from its array. -/
theorem ld3_2 (c : Dev nD) (t : Fin cfg0.N) (r a : Fin 128) : View.ld (iblk m c 3 t) r0_3 (ix2 r a) =
    rdY (V m c main_arg1) 0 (128 * (8 * (t.val % 4) + 2) + r.val) (128 * (t.val / 4) + a.val) := by
  have ht : t.val < 8 := lt_of_lt_of_eq t.isLt N_0
  have hr := r.isLt
  have ha := a.isLt
  rw [rdY, dif_pos ⟨by omega, by omega⟩, View.ld_apply]
  refine read3 _ t _ _ ?_ ?_
  · show 128 * (8 * (t.val % 4) + 2) + r.val = 1024 * (t.val % 4) + (256 + 1 * r.val)
    omega
  · show 0 + (128 * (t.val / 4) + a.val) = 0 + (128 * (t.val / 4) + (0 + 1 * a.val))
    omega

/-- Piece 4 of the block of the output’s gradient, read from its array. -/
theorem ld3_3 (c : Dev nD) (t : Fin cfg0.N) (r a : Fin 128) : View.ld (iblk m c 3 t) r0_4 (ix2 r a) =
    rdY (V m c main_arg1) 0 (128 * (8 * (t.val % 4) + 3) + r.val) (128 * (t.val / 4) + a.val) := by
  have ht : t.val < 8 := lt_of_lt_of_eq t.isLt N_0
  have hr := r.isLt
  have ha := a.isLt
  rw [rdY, dif_pos ⟨by omega, by omega⟩, View.ld_apply]
  refine read3 _ t _ _ ?_ ?_
  · show 128 * (8 * (t.val % 4) + 3) + r.val = 1024 * (t.val % 4) + (384 + 1 * r.val)
    omega
  · show 0 + (128 * (t.val / 4) + a.val) = 0 + (128 * (t.val / 4) + (0 + 1 * a.val))
    omega

/-- Piece 5 of the block of the output’s gradient, read from its array. -/
theorem ld3_4 (c : Dev nD) (t : Fin cfg0.N) (r a : Fin 128) : View.ld (iblk m c 3 t) r0_5 (ix2 r a) =
    rdY (V m c main_arg1) 0 (128 * (8 * (t.val % 4) + 4) + r.val) (128 * (t.val / 4) + a.val) := by
  have ht : t.val < 8 := lt_of_lt_of_eq t.isLt N_0
  have hr := r.isLt
  have ha := a.isLt
  rw [rdY, dif_pos ⟨by omega, by omega⟩, View.ld_apply]
  refine read3 _ t _ _ ?_ ?_
  · show 128 * (8 * (t.val % 4) + 4) + r.val = 1024 * (t.val % 4) + (512 + 1 * r.val)
    omega
  · show 0 + (128 * (t.val / 4) + a.val) = 0 + (128 * (t.val / 4) + (0 + 1 * a.val))
    omega

/-- Piece 6 of the block of the output’s gradient, read from its array. -/
theorem ld3_5 (c : Dev nD) (t : Fin cfg0.N) (r a : Fin 128) : View.ld (iblk m c 3 t) r0_6 (ix2 r a) =
    rdY (V m c main_arg1) 0 (128 * (8 * (t.val % 4) + 5) + r.val) (128 * (t.val / 4) + a.val) := by
  have ht : t.val < 8 := lt_of_lt_of_eq t.isLt N_0
  have hr := r.isLt
  have ha := a.isLt
  rw [rdY, dif_pos ⟨by omega, by omega⟩, View.ld_apply]
  refine read3 _ t _ _ ?_ ?_
  · show 128 * (8 * (t.val % 4) + 5) + r.val = 1024 * (t.val % 4) + (640 + 1 * r.val)
    omega
  · show 0 + (128 * (t.val / 4) + a.val) = 0 + (128 * (t.val / 4) + (0 + 1 * a.val))
    omega

/-- Piece 7 of the block of the output’s gradient, read from its array. -/
theorem ld3_6 (c : Dev nD) (t : Fin cfg0.N) (r a : Fin 128) : View.ld (iblk m c 3 t) r0_7 (ix2 r a) =
    rdY (V m c main_arg1) 0 (128 * (8 * (t.val % 4) + 6) + r.val) (128 * (t.val / 4) + a.val) := by
  have ht : t.val < 8 := lt_of_lt_of_eq t.isLt N_0
  have hr := r.isLt
  have ha := a.isLt
  rw [rdY, dif_pos ⟨by omega, by omega⟩, View.ld_apply]
  refine read3 _ t _ _ ?_ ?_
  · show 128 * (8 * (t.val % 4) + 6) + r.val = 1024 * (t.val % 4) + (768 + 1 * r.val)
    omega
  · show 0 + (128 * (t.val / 4) + a.val) = 0 + (128 * (t.val / 4) + (0 + 1 * a.val))
    omega

/-- Piece 8 of the block of the output’s gradient, read from its array. -/
theorem ld3_7 (c : Dev nD) (t : Fin cfg0.N) (r a : Fin 128) : View.ld (iblk m c 3 t) r0_8 (ix2 r a) =
    rdY (V m c main_arg1) 0 (128 * (8 * (t.val % 4) + 7) + r.val) (128 * (t.val / 4) + a.val) := by
  have ht : t.val < 8 := lt_of_lt_of_eq t.isLt N_0
  have hr := r.isLt
  have ha := a.isLt
  rw [rdY, dif_pos ⟨by omega, by omega⟩, View.ld_apply]
  refine read3 _ t _ _ ?_ ?_
  · show 128 * (8 * (t.val % 4) + 7) + r.val = 1024 * (t.val % 4) + (896 + 1 * r.val)
    omega
  · show 0 + (128 * (t.val / 4) + a.val) = 0 + (128 * (t.val / 4) + (0 + 1 * a.val))
    omega

/-- Piece 1 of the block of the logarithms of the denominators, read from its array. -/
theorem ld4_0 (c : Dev nD) (t : Fin cfg0.N) (r a : Fin 128) : View.ld (iblk m c 4 t) r0_0 (ix2 r a) =
    rdY (V m c main_v51) 0 (128 * (8 * (t.val % 4) + 0) + r.val) (128 * (t.val / 4) + a.val) := by
  have ht : t.val < 8 := lt_of_lt_of_eq t.isLt N_0
  have hr := r.isLt
  have ha := a.isLt
  rw [rdY, dif_pos ⟨by omega, by omega⟩, View.ld_apply]
  refine read4 _ t _ _ ?_ ?_
  · show 128 * (8 * (t.val % 4) + 0) + r.val = 1024 * (t.val % 4) + (0 + 1 * r.val)
    omega
  · show 0 + (128 * (t.val / 4) + a.val) = 0 + (128 * (t.val / 4) + (0 + 1 * a.val))
    omega

/-- Piece 2 of the block of the logarithms of the denominators, read from its array. -/
theorem ld4_1 (c : Dev nD) (t : Fin cfg0.N) (r a : Fin 128) : View.ld (iblk m c 4 t) r0_2 (ix2 r a) =
    rdY (V m c main_v51) 0 (128 * (8 * (t.val % 4) + 1) + r.val) (128 * (t.val / 4) + a.val) := by
  have ht : t.val < 8 := lt_of_lt_of_eq t.isLt N_0
  have hr := r.isLt
  have ha := a.isLt
  rw [rdY, dif_pos ⟨by omega, by omega⟩, View.ld_apply]
  refine read4 _ t _ _ ?_ ?_
  · show 128 * (8 * (t.val % 4) + 1) + r.val = 1024 * (t.val % 4) + (128 + 1 * r.val)
    omega
  · show 0 + (128 * (t.val / 4) + a.val) = 0 + (128 * (t.val / 4) + (0 + 1 * a.val))
    omega

/-- Piece 3 of the block of the logarithms of the denominators, read from its array. -/
theorem ld4_2 (c : Dev nD) (t : Fin cfg0.N) (r a : Fin 128) : View.ld (iblk m c 4 t) r0_3 (ix2 r a) =
    rdY (V m c main_v51) 0 (128 * (8 * (t.val % 4) + 2) + r.val) (128 * (t.val / 4) + a.val) := by
  have ht : t.val < 8 := lt_of_lt_of_eq t.isLt N_0
  have hr := r.isLt
  have ha := a.isLt
  rw [rdY, dif_pos ⟨by omega, by omega⟩, View.ld_apply]
  refine read4 _ t _ _ ?_ ?_
  · show 128 * (8 * (t.val % 4) + 2) + r.val = 1024 * (t.val % 4) + (256 + 1 * r.val)
    omega
  · show 0 + (128 * (t.val / 4) + a.val) = 0 + (128 * (t.val / 4) + (0 + 1 * a.val))
    omega

/-- Piece 4 of the block of the logarithms of the denominators, read from its array. -/
theorem ld4_3 (c : Dev nD) (t : Fin cfg0.N) (r a : Fin 128) : View.ld (iblk m c 4 t) r0_4 (ix2 r a) =
    rdY (V m c main_v51) 0 (128 * (8 * (t.val % 4) + 3) + r.val) (128 * (t.val / 4) + a.val) := by
  have ht : t.val < 8 := lt_of_lt_of_eq t.isLt N_0
  have hr := r.isLt
  have ha := a.isLt
  rw [rdY, dif_pos ⟨by omega, by omega⟩, View.ld_apply]
  refine read4 _ t _ _ ?_ ?_
  · show 128 * (8 * (t.val % 4) + 3) + r.val = 1024 * (t.val % 4) + (384 + 1 * r.val)
    omega
  · show 0 + (128 * (t.val / 4) + a.val) = 0 + (128 * (t.val / 4) + (0 + 1 * a.val))
    omega

/-- Piece 5 of the block of the logarithms of the denominators, read from its array. -/
theorem ld4_4 (c : Dev nD) (t : Fin cfg0.N) (r a : Fin 128) : View.ld (iblk m c 4 t) r0_5 (ix2 r a) =
    rdY (V m c main_v51) 0 (128 * (8 * (t.val % 4) + 4) + r.val) (128 * (t.val / 4) + a.val) := by
  have ht : t.val < 8 := lt_of_lt_of_eq t.isLt N_0
  have hr := r.isLt
  have ha := a.isLt
  rw [rdY, dif_pos ⟨by omega, by omega⟩, View.ld_apply]
  refine read4 _ t _ _ ?_ ?_
  · show 128 * (8 * (t.val % 4) + 4) + r.val = 1024 * (t.val % 4) + (512 + 1 * r.val)
    omega
  · show 0 + (128 * (t.val / 4) + a.val) = 0 + (128 * (t.val / 4) + (0 + 1 * a.val))
    omega

/-- Piece 6 of the block of the logarithms of the denominators, read from its array. -/
theorem ld4_5 (c : Dev nD) (t : Fin cfg0.N) (r a : Fin 128) : View.ld (iblk m c 4 t) r0_6 (ix2 r a) =
    rdY (V m c main_v51) 0 (128 * (8 * (t.val % 4) + 5) + r.val) (128 * (t.val / 4) + a.val) := by
  have ht : t.val < 8 := lt_of_lt_of_eq t.isLt N_0
  have hr := r.isLt
  have ha := a.isLt
  rw [rdY, dif_pos ⟨by omega, by omega⟩, View.ld_apply]
  refine read4 _ t _ _ ?_ ?_
  · show 128 * (8 * (t.val % 4) + 5) + r.val = 1024 * (t.val % 4) + (640 + 1 * r.val)
    omega
  · show 0 + (128 * (t.val / 4) + a.val) = 0 + (128 * (t.val / 4) + (0 + 1 * a.val))
    omega

/-- Piece 7 of the block of the logarithms of the denominators, read from its array. -/
theorem ld4_6 (c : Dev nD) (t : Fin cfg0.N) (r a : Fin 128) : View.ld (iblk m c 4 t) r0_7 (ix2 r a) =
    rdY (V m c main_v51) 0 (128 * (8 * (t.val % 4) + 6) + r.val) (128 * (t.val / 4) + a.val) := by
  have ht : t.val < 8 := lt_of_lt_of_eq t.isLt N_0
  have hr := r.isLt
  have ha := a.isLt
  rw [rdY, dif_pos ⟨by omega, by omega⟩, View.ld_apply]
  refine read4 _ t _ _ ?_ ?_
  · show 128 * (8 * (t.val % 4) + 6) + r.val = 1024 * (t.val % 4) + (768 + 1 * r.val)
    omega
  · show 0 + (128 * (t.val / 4) + a.val) = 0 + (128 * (t.val / 4) + (0 + 1 * a.val))
    omega

/-- Piece 8 of the block of the logarithms of the denominators, read from its array. -/
theorem ld4_7 (c : Dev nD) (t : Fin cfg0.N) (r a : Fin 128) : View.ld (iblk m c 4 t) r0_8 (ix2 r a) =
    rdY (V m c main_v51) 0 (128 * (8 * (t.val % 4) + 7) + r.val) (128 * (t.val / 4) + a.val) := by
  have ht : t.val < 8 := lt_of_lt_of_eq t.isLt N_0
  have hr := r.isLt
  have ha := a.isLt
  rw [rdY, dif_pos ⟨by omega, by omega⟩, View.ld_apply]
  refine read4 _ t _ _ ?_ ?_
  · show 128 * (8 * (t.val % 4) + 7) + r.val = 1024 * (t.val % 4) + (896 + 1 * r.val)
    omega
  · show 0 + (128 * (t.val / 4) + a.val) = 0 + (128 * (t.val / 4) + (0 + 1 * a.val))
    omega

/-- Piece 1 of the block of the corrections, read from its array. -/
theorem ld5_0 (c : Dev nD) (t : Fin cfg0.N) (r a : Fin 128) : View.ld (iblk m c 5 t) r0_0 (ix2 r a) =
    rdY (V m c main_v53) 0 (128 * (8 * (t.val % 4) + 0) + r.val) (128 * (t.val / 4) + a.val) := by
  have ht : t.val < 8 := lt_of_lt_of_eq t.isLt N_0
  have hr := r.isLt
  have ha := a.isLt
  rw [rdY, dif_pos ⟨by omega, by omega⟩, View.ld_apply]
  refine read5 _ t _ _ ?_ ?_
  · show 128 * (8 * (t.val % 4) + 0) + r.val = 1024 * (t.val % 4) + (0 + 1 * r.val)
    omega
  · show 0 + (128 * (t.val / 4) + a.val) = 0 + (128 * (t.val / 4) + (0 + 1 * a.val))
    omega

/-- Piece 2 of the block of the corrections, read from its array. -/
theorem ld5_1 (c : Dev nD) (t : Fin cfg0.N) (r a : Fin 128) : View.ld (iblk m c 5 t) r0_2 (ix2 r a) =
    rdY (V m c main_v53) 0 (128 * (8 * (t.val % 4) + 1) + r.val) (128 * (t.val / 4) + a.val) := by
  have ht : t.val < 8 := lt_of_lt_of_eq t.isLt N_0
  have hr := r.isLt
  have ha := a.isLt
  rw [rdY, dif_pos ⟨by omega, by omega⟩, View.ld_apply]
  refine read5 _ t _ _ ?_ ?_
  · show 128 * (8 * (t.val % 4) + 1) + r.val = 1024 * (t.val % 4) + (128 + 1 * r.val)
    omega
  · show 0 + (128 * (t.val / 4) + a.val) = 0 + (128 * (t.val / 4) + (0 + 1 * a.val))
    omega

/-- Piece 3 of the block of the corrections, read from its array. -/
theorem ld5_2 (c : Dev nD) (t : Fin cfg0.N) (r a : Fin 128) : View.ld (iblk m c 5 t) r0_3 (ix2 r a) =
    rdY (V m c main_v53) 0 (128 * (8 * (t.val % 4) + 2) + r.val) (128 * (t.val / 4) + a.val) := by
  have ht : t.val < 8 := lt_of_lt_of_eq t.isLt N_0
  have hr := r.isLt
  have ha := a.isLt
  rw [rdY, dif_pos ⟨by omega, by omega⟩, View.ld_apply]
  refine read5 _ t _ _ ?_ ?_
  · show 128 * (8 * (t.val % 4) + 2) + r.val = 1024 * (t.val % 4) + (256 + 1 * r.val)
    omega
  · show 0 + (128 * (t.val / 4) + a.val) = 0 + (128 * (t.val / 4) + (0 + 1 * a.val))
    omega

/-- Piece 4 of the block of the corrections, read from its array. -/
theorem ld5_3 (c : Dev nD) (t : Fin cfg0.N) (r a : Fin 128) : View.ld (iblk m c 5 t) r0_4 (ix2 r a) =
    rdY (V m c main_v53) 0 (128 * (8 * (t.val % 4) + 3) + r.val) (128 * (t.val / 4) + a.val) := by
  have ht : t.val < 8 := lt_of_lt_of_eq t.isLt N_0
  have hr := r.isLt
  have ha := a.isLt
  rw [rdY, dif_pos ⟨by omega, by omega⟩, View.ld_apply]
  refine read5 _ t _ _ ?_ ?_
  · show 128 * (8 * (t.val % 4) + 3) + r.val = 1024 * (t.val % 4) + (384 + 1 * r.val)
    omega
  · show 0 + (128 * (t.val / 4) + a.val) = 0 + (128 * (t.val / 4) + (0 + 1 * a.val))
    omega

/-- Piece 5 of the block of the corrections, read from its array. -/
theorem ld5_4 (c : Dev nD) (t : Fin cfg0.N) (r a : Fin 128) : View.ld (iblk m c 5 t) r0_5 (ix2 r a) =
    rdY (V m c main_v53) 0 (128 * (8 * (t.val % 4) + 4) + r.val) (128 * (t.val / 4) + a.val) := by
  have ht : t.val < 8 := lt_of_lt_of_eq t.isLt N_0
  have hr := r.isLt
  have ha := a.isLt
  rw [rdY, dif_pos ⟨by omega, by omega⟩, View.ld_apply]
  refine read5 _ t _ _ ?_ ?_
  · show 128 * (8 * (t.val % 4) + 4) + r.val = 1024 * (t.val % 4) + (512 + 1 * r.val)
    omega
  · show 0 + (128 * (t.val / 4) + a.val) = 0 + (128 * (t.val / 4) + (0 + 1 * a.val))
    omega

/-- Piece 6 of the block of the corrections, read from its array. -/
theorem ld5_5 (c : Dev nD) (t : Fin cfg0.N) (r a : Fin 128) : View.ld (iblk m c 5 t) r0_6 (ix2 r a) =
    rdY (V m c main_v53) 0 (128 * (8 * (t.val % 4) + 5) + r.val) (128 * (t.val / 4) + a.val) := by
  have ht : t.val < 8 := lt_of_lt_of_eq t.isLt N_0
  have hr := r.isLt
  have ha := a.isLt
  rw [rdY, dif_pos ⟨by omega, by omega⟩, View.ld_apply]
  refine read5 _ t _ _ ?_ ?_
  · show 128 * (8 * (t.val % 4) + 5) + r.val = 1024 * (t.val % 4) + (640 + 1 * r.val)
    omega
  · show 0 + (128 * (t.val / 4) + a.val) = 0 + (128 * (t.val / 4) + (0 + 1 * a.val))
    omega

/-- Piece 7 of the block of the corrections, read from its array. -/
theorem ld5_6 (c : Dev nD) (t : Fin cfg0.N) (r a : Fin 128) : View.ld (iblk m c 5 t) r0_7 (ix2 r a) =
    rdY (V m c main_v53) 0 (128 * (8 * (t.val % 4) + 6) + r.val) (128 * (t.val / 4) + a.val) := by
  have ht : t.val < 8 := lt_of_lt_of_eq t.isLt N_0
  have hr := r.isLt
  have ha := a.isLt
  rw [rdY, dif_pos ⟨by omega, by omega⟩, View.ld_apply]
  refine read5 _ t _ _ ?_ ?_
  · show 128 * (8 * (t.val % 4) + 6) + r.val = 1024 * (t.val % 4) + (768 + 1 * r.val)
    omega
  · show 0 + (128 * (t.val / 4) + a.val) = 0 + (128 * (t.val / 4) + (0 + 1 * a.val))
    omega

/-- Piece 8 of the block of the corrections, read from its array. -/
theorem ld5_7 (c : Dev nD) (t : Fin cfg0.N) (r a : Fin 128) : View.ld (iblk m c 5 t) r0_8 (ix2 r a) =
    rdY (V m c main_v53) 0 (128 * (8 * (t.val % 4) + 7) + r.val) (128 * (t.val / 4) + a.val) := by
  have ht : t.val < 8 := lt_of_lt_of_eq t.isLt N_0
  have hr := r.isLt
  have ha := a.isLt
  rw [rdY, dif_pos ⟨by omega, by omega⟩, View.ld_apply]
  refine read5 _ t _ _ ?_ ?_
  · show 128 * (8 * (t.val % 4) + 7) + r.val = 1024 * (t.val % 4) + (896 + 1 * r.val)
    omega
  · show 0 + (128 * (t.val / 4) + a.val) = 0 + (128 * (t.val / 4) + (0 + 1 * a.val))
    omega

/-- The block of the keys before the tile, read from its array. -/
theorem ld6 (c : Dev nD) (t : Fin cfg0.N) (h : 0 < 8 * (t.val % 4) + 0) (r a : Fin 128) : View.ld (iblk m c 6 t) r0_1 (ix2 r a) =
    rdX (V m c main_arg0) 768 (128 * (8 * (t.val % 4) + 0 - 1) + r.val) (128 * (t.val / 4) + a.val) := by
  have ht : t.val < 8 := lt_of_lt_of_eq t.isLt N_0
  have hr := r.isLt
  have ha := a.isLt
  rw [rdX, dif_pos ⟨by omega, by omega⟩, View.ld_apply]
  refine read6 _ t _ _ ?_ ?_
  · show 128 * (8 * (t.val % 4) + 0 - 1) + r.val = 128 * (t.val % 4 * 8 - 1) + (0 + 1 * r.val)
    omega
  · show 768 + (128 * (t.val / 4) + a.val) = 768 + (128 * (t.val / 4) + (0 + 1 * a.val))
    omega

/-- The block of the values before the tile, read from its array. -/
theorem ld7 (c : Dev nD) (t : Fin cfg0.N) (h : 0 < 8 * (t.val % 4) + 0) (r a : Fin 128) : View.ld (iblk m c 7 t) r0_1 (ix2 r a) =
    rdX (V m c main_arg0) 1536 (128 * (8 * (t.val % 4) + 0 - 1) + r.val) (128 * (t.val / 4) + a.val) := by
  have ht : t.val < 8 := lt_of_lt_of_eq t.isLt N_0
  have hr := r.isLt
  have ha := a.isLt
  rw [rdX, dif_pos ⟨by omega, by omega⟩, View.ld_apply]
  refine read7 _ t _ _ ?_ ?_
  · show 128 * (8 * (t.val % 4) + 0 - 1) + r.val = 128 * (t.val % 4 * 8 - 1) + (0 + 1 * r.val)
    omega
  · show 1536 + (128 * (t.val / 4) + a.val) = 1536 + (128 * (t.val / 4) + (0 + 1 * a.val))
    omega

/-- The block of the queries after the tile, read from its array. -/
theorem ld8 (c : Dev nD) (t : Fin cfg0.N) (h : 8 * (t.val % 4) + 7 + 1 < 32) (r a : Fin 128) : View.ld (iblk m c 8 t) r0_1 (ix2 r a) =
    rdX (V m c main_arg0) 0 (128 * (8 * (t.val % 4) + 7 + 1) + r.val) (128 * (t.val / 4) + a.val) := by
  have ht : t.val < 8 := lt_of_lt_of_eq t.isLt N_0
  have hr := r.isLt
  have ha := a.isLt
  rw [rdX, dif_pos ⟨by omega, by omega⟩, View.ld_apply]
  refine read8 _ t _ _ ?_ ?_
  · show 128 * (8 * (t.val % 4) + 7 + 1) + r.val = 128 * min (t.val % 4 * 8 + 8) 31 + (0 + 1 * r.val)
    omega
  · show 0 + (128 * (t.val / 4) + a.val) = 0 + (128 * (t.val / 4) + (0 + 1 * a.val))
    omega

/-- The block of the output’s gradient after the tile, read from its array. -/
theorem ld9 (c : Dev nD) (t : Fin cfg0.N) (h : 8 * (t.val % 4) + 7 + 1 < 32) (r a : Fin 128) : View.ld (iblk m c 9 t) r0_1 (ix2 r a) =
    rdY (V m c main_arg1) 0 (128 * (8 * (t.val % 4) + 7 + 1) + r.val) (128 * (t.val / 4) + a.val) := by
  have ht : t.val < 8 := lt_of_lt_of_eq t.isLt N_0
  have hr := r.isLt
  have ha := a.isLt
  rw [rdY, dif_pos ⟨by omega, by omega⟩, View.ld_apply]
  refine read9 _ t _ _ ?_ ?_
  · show 128 * (8 * (t.val % 4) + 7 + 1) + r.val = 128 * min (t.val % 4 * 8 + 8) 31 + (0 + 1 * r.val)
    omega
  · show 0 + (128 * (t.val / 4) + a.val) = 0 + (128 * (t.val / 4) + (0 + 1 * a.val))
    omega

/-- The block of the logarithms after the tile, read from its array. -/
theorem ld10 (c : Dev nD) (t : Fin cfg0.N) (h : 8 * (t.val % 4) + 7 + 1 < 32) (r a : Fin 128) : View.ld (iblk m c 10 t) r0_1 (ix2 r a) =
    rdY (V m c main_v51) 0 (128 * (8 * (t.val % 4) + 7 + 1) + r.val) (128 * (t.val / 4) + a.val) := by
  have ht : t.val < 8 := lt_of_lt_of_eq t.isLt N_0
  have hr := r.isLt
  have ha := a.isLt
  rw [rdY, dif_pos ⟨by omega, by omega⟩, View.ld_apply]
  refine read10 _ t _ _ ?_ ?_
  · show 128 * (8 * (t.val % 4) + 7 + 1) + r.val = 128 * min (t.val % 4 * 8 + 8) 31 + (0 + 1 * r.val)
    omega
  · show 0 + (128 * (t.val / 4) + a.val) = 0 + (128 * (t.val / 4) + (0 + 1 * a.val))
    omega

/-- The block of the corrections after the tile, read from its array. -/
theorem ld11 (c : Dev nD) (t : Fin cfg0.N) (h : 8 * (t.val % 4) + 7 + 1 < 32) (r a : Fin 128) : View.ld (iblk m c 11 t) r0_1 (ix2 r a) =
    rdY (V m c main_v53) 0 (128 * (8 * (t.val % 4) + 7 + 1) + r.val) (128 * (t.val / 4) + a.val) := by
  have ht : t.val < 8 := lt_of_lt_of_eq t.isLt N_0
  have hr := r.isLt
  have ha := a.isLt
  rw [rdY, dif_pos ⟨by omega, by omega⟩, View.ld_apply]
  refine read11 _ t _ _ ?_ ?_
  · show 128 * (8 * (t.val % 4) + 7 + 1) + r.val = 128 * min (t.val % 4 * 8 + 8) 31 + (0 + 1 * r.val)
    omega
  · show 0 + (128 * (t.val / 4) + a.val) = 0 + (128 * (t.val / 4) + (0 + 1 * a.val))
    omega

/-- Where an entry of the queries' gradient lies in the array. -/
theorem emb12 (t : Fin cfg0.N) (y : S1024x128.Idx) : ((((cfg0.win 12).blk t).view.emb y) 0).val = 1024 * (t.val % 4) + (y 0).val ∧
    ((((cfg0.win 12).blk t).view.emb y) 1).val = 128 * (t.val / 4) + (y 1).val := by
  constructor <;> (blk_simp [idx t]; try omega)

set_option maxHeartbeats 1600000 in
/-- What a point writes of the queries' gradient is its block of `dq`. -/
theorem pointDq (c : Dev nD) (t : Fin cfg0.N) (y : S1024x128.Idx) :
    out0_12 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y =
    dq (V m c main_arg0) (V m c main_arg1) (V m c main_v51) (V m c main_v53) (((cfg0.win 12).blk t).view.emb y) := by
  have ht : t.val < 8 := lt_of_lt_of_eq t.isLt N_0
  have hi : ((grid0.coords t) 1).val = t.val % 4 := by simp only [idx t]
  have e := emb12 t y
  have hq (n : ℕ) (hn : n < 8) : blkNo (grid0.coords t) (BitVec.ofNat 32 n) = BitVec.ofNat 32 (8 * (t.val % 4) + n) := by
    rw [blkNo_eq _ n (by omega) hn, hi]
  rw [outDq, dq, e.1, e.2]
  clear e
  canon_tiles x h
  case piece0 =>
    rw [hq 7 (by omega), h0, h1, show 1024 * (t.val % 4) + (896 + (x 0).val) = 128 * (8 * (t.val % 4) + 7) + (x 0).val by omega]
    exact taskDq_at (t.val / 4) (8 * (t.val % 4) + 7) (rdX (V m c main_arg0) 0) (rdX (V m c main_arg0) 768) (rdX (V m c main_arg0) 1536) (rdY (V m c main_arg1) 0) (rdY (V m c main_v51) 0) (rdY (V m c main_v53) 0) _ _ _ _ _ _ _ _ _ _ _ _ (by omega)
      (ld0_7 m c t) (ld8 m c t) (ld3_7 m c t) (ld9 m c t) (ld4_7 m c t) (ld10 m c t) (ld5_7 m c t) (ld11 m c t) (ld1_7 m c t) (ld2_7 m c t) (fun _ => ld1_6 m c t) (fun _ => ld2_6 m c t) x
  case piece1 =>
    rw [hq 6 (by omega), h0, h1, show 1024 * (t.val % 4) + (768 + (x 0).val) = 128 * (8 * (t.val % 4) + 6) + (x 0).val by omega]
    exact taskDq_at (t.val / 4) (8 * (t.val % 4) + 6) (rdX (V m c main_arg0) 0) (rdX (V m c main_arg0) 768) (rdX (V m c main_arg0) 1536) (rdY (V m c main_arg1) 0) (rdY (V m c main_v51) 0) (rdY (V m c main_v53) 0) _ _ _ _ _ _ _ _ _ _ _ _ (by omega)
      (ld0_6 m c t) (fun _ => ld0_7 m c t) (ld3_6 m c t) (fun _ => ld3_7 m c t) (ld4_6 m c t) (fun _ => ld4_7 m c t) (ld5_6 m c t) (fun _ => ld5_7 m c t) (ld1_6 m c t) (ld2_6 m c t) (fun _ => ld1_5 m c t) (fun _ => ld2_5 m c t) x
  case piece2 =>
    rw [hq 5 (by omega), h0, h1, show 1024 * (t.val % 4) + (640 + (x 0).val) = 128 * (8 * (t.val % 4) + 5) + (x 0).val by omega]
    exact taskDq_at (t.val / 4) (8 * (t.val % 4) + 5) (rdX (V m c main_arg0) 0) (rdX (V m c main_arg0) 768) (rdX (V m c main_arg0) 1536) (rdY (V m c main_arg1) 0) (rdY (V m c main_v51) 0) (rdY (V m c main_v53) 0) _ _ _ _ _ _ _ _ _ _ _ _ (by omega)
      (ld0_5 m c t) (fun _ => ld0_6 m c t) (ld3_5 m c t) (fun _ => ld3_6 m c t) (ld4_5 m c t) (fun _ => ld4_6 m c t) (ld5_5 m c t) (fun _ => ld5_6 m c t) (ld1_5 m c t) (ld2_5 m c t) (fun _ => ld1_4 m c t) (fun _ => ld2_4 m c t) x
  case piece3 =>
    rw [hq 4 (by omega), h0, h1, show 1024 * (t.val % 4) + (512 + (x 0).val) = 128 * (8 * (t.val % 4) + 4) + (x 0).val by omega]
    exact taskDq_at (t.val / 4) (8 * (t.val % 4) + 4) (rdX (V m c main_arg0) 0) (rdX (V m c main_arg0) 768) (rdX (V m c main_arg0) 1536) (rdY (V m c main_arg1) 0) (rdY (V m c main_v51) 0) (rdY (V m c main_v53) 0) _ _ _ _ _ _ _ _ _ _ _ _ (by omega)
      (ld0_4 m c t) (fun _ => ld0_5 m c t) (ld3_4 m c t) (fun _ => ld3_5 m c t) (ld4_4 m c t) (fun _ => ld4_5 m c t) (ld5_4 m c t) (fun _ => ld5_5 m c t) (ld1_4 m c t) (ld2_4 m c t) (fun _ => ld1_3 m c t) (fun _ => ld2_3 m c t) x
  case piece4 =>
    rw [hq 3 (by omega), h0, h1, show 1024 * (t.val % 4) + (384 + (x 0).val) = 128 * (8 * (t.val % 4) + 3) + (x 0).val by omega]
    exact taskDq_at (t.val / 4) (8 * (t.val % 4) + 3) (rdX (V m c main_arg0) 0) (rdX (V m c main_arg0) 768) (rdX (V m c main_arg0) 1536) (rdY (V m c main_arg1) 0) (rdY (V m c main_v51) 0) (rdY (V m c main_v53) 0) _ _ _ _ _ _ _ _ _ _ _ _ (by omega)
      (ld0_3 m c t) (fun _ => ld0_4 m c t) (ld3_3 m c t) (fun _ => ld3_4 m c t) (ld4_3 m c t) (fun _ => ld4_4 m c t) (ld5_3 m c t) (fun _ => ld5_4 m c t) (ld1_3 m c t) (ld2_3 m c t) (fun _ => ld1_2 m c t) (fun _ => ld2_2 m c t) x
  case piece5 =>
    rw [hq 2 (by omega), h0, h1, show 1024 * (t.val % 4) + (256 + (x 0).val) = 128 * (8 * (t.val % 4) + 2) + (x 0).val by omega]
    exact taskDq_at (t.val / 4) (8 * (t.val % 4) + 2) (rdX (V m c main_arg0) 0) (rdX (V m c main_arg0) 768) (rdX (V m c main_arg0) 1536) (rdY (V m c main_arg1) 0) (rdY (V m c main_v51) 0) (rdY (V m c main_v53) 0) _ _ _ _ _ _ _ _ _ _ _ _ (by omega)
      (ld0_2 m c t) (fun _ => ld0_3 m c t) (ld3_2 m c t) (fun _ => ld3_3 m c t) (ld4_2 m c t) (fun _ => ld4_3 m c t) (ld5_2 m c t) (fun _ => ld5_3 m c t) (ld1_2 m c t) (ld2_2 m c t) (fun _ => ld1_1 m c t) (fun _ => ld2_1 m c t) x
  case piece6 =>
    rw [hq 1 (by omega), h0, h1, show 1024 * (t.val % 4) + (128 + (x 0).val) = 128 * (8 * (t.val % 4) + 1) + (x 0).val by omega]
    exact taskDq_at (t.val / 4) (8 * (t.val % 4) + 1) (rdX (V m c main_arg0) 0) (rdX (V m c main_arg0) 768) (rdX (V m c main_arg0) 1536) (rdY (V m c main_arg1) 0) (rdY (V m c main_v51) 0) (rdY (V m c main_v53) 0) _ _ _ _ _ _ _ _ _ _ _ _ (by omega)
      (ld0_1 m c t) (fun _ => ld0_2 m c t) (ld3_1 m c t) (fun _ => ld3_2 m c t) (ld4_1 m c t) (fun _ => ld4_2 m c t) (ld5_1 m c t) (fun _ => ld5_2 m c t) (ld1_1 m c t) (ld2_1 m c t) (fun _ => ld1_0 m c t) (fun _ => ld2_0 m c t) x
  case piece7 =>
    rw [hq 0 (by omega), h0, h1, show 1024 * (t.val % 4) + (x 0).val = 128 * (8 * (t.val % 4) + 0) + (x 0).val by omega]
    exact taskDq_at (t.val / 4) (8 * (t.val % 4) + 0) (rdX (V m c main_arg0) 0) (rdX (V m c main_arg0) 768) (rdX (V m c main_arg0) 1536) (rdY (V m c main_arg1) 0) (rdY (V m c main_v51) 0) (rdY (V m c main_v53) 0) _ _ _ _ _ _ _ _ _ _ _ _ (by omega)
      (ld0_0 m c t) (fun _ => ld0_1 m c t) (ld3_0 m c t) (fun _ => ld3_1 m c t) (ld4_0 m c t) (fun _ => ld4_1 m c t) (ld5_0 m c t) (fun _ => ld5_1 m c t) (ld1_0 m c t) (ld2_0 m c t) (ld6 m c t) (ld7 m c t) x

/-- The array of the queries' gradient, once the kernel has run. -/
theorem finalDq (c : Dev nD) : (dats m 0 c).arrAt 12 (cfgs 0).N = dq (V m c main_arg0) (V m c main_arg1) (V m c main_v51) (V m c main_v53) := by
  refine (dats m 0 c).arrAt_eq_of_covers 12 _ (by decide +kernel) fun t hf y => ?_
  blk_simp
  rw [after0_12]
  exact pointDq m c t y

/-- Where an entry of the keys' gradient lies in the array. -/
theorem emb13 (t : Fin cfg0.N) (y : S1024x128.Idx) : ((((cfg0.win 13).blk t).view.emb y) 0).val = 1024 * (t.val % 4) + (y 0).val ∧
    ((((cfg0.win 13).blk t).view.emb y) 1).val = 128 * (t.val / 4) + (y 1).val := by
  constructor <;> (blk_simp [idx t]; try omega)

set_option maxHeartbeats 1600000 in
/-- What a point writes of the keys' gradient is its block of `dk`. -/
theorem pointDk (c : Dev nD) (t : Fin cfg0.N) (y : S1024x128.Idx) :
    out0_13 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y =
    dk (V m c main_arg0) (V m c main_arg1) (V m c main_v51) (V m c main_v53) (((cfg0.win 13).blk t).view.emb y) := by
  have ht : t.val < 8 := lt_of_lt_of_eq t.isLt N_0
  have hi : ((grid0.coords t) 1).val = t.val % 4 := by simp only [idx t]
  have e := emb13 t y
  have hq (n : ℕ) (hn : n < 8) : blkNo (grid0.coords t) (BitVec.ofNat 32 n) = BitVec.ofNat 32 (8 * (t.val % 4) + n) := by
    rw [blkNo_eq _ n (by omega) hn, hi]
  rw [outDk, dk, e.1, e.2]
  clear e
  canon_tiles x h
  case piece0 =>
    rw [hq 7 (by omega), h0, h1, show 1024 * (t.val % 4) + (896 + (x 0).val) = 128 * (8 * (t.val % 4) + 7) + (x 0).val by omega]
    exact taskDk_at (t.val / 4) (8 * (t.val % 4) + 7) (rdX (V m c main_arg0) 0) (rdX (V m c main_arg0) 768) (rdX (V m c main_arg0) 1536) (rdY (V m c main_arg1) 0) (rdY (V m c main_v51) 0) (rdY (V m c main_v53) 0) _ _ _ _ _ _ _ _ _ _ (by omega)
      (ld0_7 m c t) (ld8 m c t) (ld3_7 m c t) (ld9 m c t) (ld4_7 m c t) (ld10 m c t) (ld5_7 m c t) (ld11 m c t) (ld1_7 m c t) (ld2_7 m c t) x
  case piece1 =>
    rw [hq 6 (by omega), h0, h1, show 1024 * (t.val % 4) + (768 + (x 0).val) = 128 * (8 * (t.val % 4) + 6) + (x 0).val by omega]
    exact taskDk_at (t.val / 4) (8 * (t.val % 4) + 6) (rdX (V m c main_arg0) 0) (rdX (V m c main_arg0) 768) (rdX (V m c main_arg0) 1536) (rdY (V m c main_arg1) 0) (rdY (V m c main_v51) 0) (rdY (V m c main_v53) 0) _ _ _ _ _ _ _ _ _ _ (by omega)
      (ld0_6 m c t) (fun _ => ld0_7 m c t) (ld3_6 m c t) (fun _ => ld3_7 m c t) (ld4_6 m c t) (fun _ => ld4_7 m c t) (ld5_6 m c t) (fun _ => ld5_7 m c t) (ld1_6 m c t) (ld2_6 m c t) x
  case piece2 =>
    rw [hq 5 (by omega), h0, h1, show 1024 * (t.val % 4) + (640 + (x 0).val) = 128 * (8 * (t.val % 4) + 5) + (x 0).val by omega]
    exact taskDk_at (t.val / 4) (8 * (t.val % 4) + 5) (rdX (V m c main_arg0) 0) (rdX (V m c main_arg0) 768) (rdX (V m c main_arg0) 1536) (rdY (V m c main_arg1) 0) (rdY (V m c main_v51) 0) (rdY (V m c main_v53) 0) _ _ _ _ _ _ _ _ _ _ (by omega)
      (ld0_5 m c t) (fun _ => ld0_6 m c t) (ld3_5 m c t) (fun _ => ld3_6 m c t) (ld4_5 m c t) (fun _ => ld4_6 m c t) (ld5_5 m c t) (fun _ => ld5_6 m c t) (ld1_5 m c t) (ld2_5 m c t) x
  case piece3 =>
    rw [hq 4 (by omega), h0, h1, show 1024 * (t.val % 4) + (512 + (x 0).val) = 128 * (8 * (t.val % 4) + 4) + (x 0).val by omega]
    exact taskDk_at (t.val / 4) (8 * (t.val % 4) + 4) (rdX (V m c main_arg0) 0) (rdX (V m c main_arg0) 768) (rdX (V m c main_arg0) 1536) (rdY (V m c main_arg1) 0) (rdY (V m c main_v51) 0) (rdY (V m c main_v53) 0) _ _ _ _ _ _ _ _ _ _ (by omega)
      (ld0_4 m c t) (fun _ => ld0_5 m c t) (ld3_4 m c t) (fun _ => ld3_5 m c t) (ld4_4 m c t) (fun _ => ld4_5 m c t) (ld5_4 m c t) (fun _ => ld5_5 m c t) (ld1_4 m c t) (ld2_4 m c t) x
  case piece4 =>
    rw [hq 3 (by omega), h0, h1, show 1024 * (t.val % 4) + (384 + (x 0).val) = 128 * (8 * (t.val % 4) + 3) + (x 0).val by omega]
    exact taskDk_at (t.val / 4) (8 * (t.val % 4) + 3) (rdX (V m c main_arg0) 0) (rdX (V m c main_arg0) 768) (rdX (V m c main_arg0) 1536) (rdY (V m c main_arg1) 0) (rdY (V m c main_v51) 0) (rdY (V m c main_v53) 0) _ _ _ _ _ _ _ _ _ _ (by omega)
      (ld0_3 m c t) (fun _ => ld0_4 m c t) (ld3_3 m c t) (fun _ => ld3_4 m c t) (ld4_3 m c t) (fun _ => ld4_4 m c t) (ld5_3 m c t) (fun _ => ld5_4 m c t) (ld1_3 m c t) (ld2_3 m c t) x
  case piece5 =>
    rw [hq 2 (by omega), h0, h1, show 1024 * (t.val % 4) + (256 + (x 0).val) = 128 * (8 * (t.val % 4) + 2) + (x 0).val by omega]
    exact taskDk_at (t.val / 4) (8 * (t.val % 4) + 2) (rdX (V m c main_arg0) 0) (rdX (V m c main_arg0) 768) (rdX (V m c main_arg0) 1536) (rdY (V m c main_arg1) 0) (rdY (V m c main_v51) 0) (rdY (V m c main_v53) 0) _ _ _ _ _ _ _ _ _ _ (by omega)
      (ld0_2 m c t) (fun _ => ld0_3 m c t) (ld3_2 m c t) (fun _ => ld3_3 m c t) (ld4_2 m c t) (fun _ => ld4_3 m c t) (ld5_2 m c t) (fun _ => ld5_3 m c t) (ld1_2 m c t) (ld2_2 m c t) x
  case piece6 =>
    rw [hq 1 (by omega), h0, h1, show 1024 * (t.val % 4) + (128 + (x 0).val) = 128 * (8 * (t.val % 4) + 1) + (x 0).val by omega]
    exact taskDk_at (t.val / 4) (8 * (t.val % 4) + 1) (rdX (V m c main_arg0) 0) (rdX (V m c main_arg0) 768) (rdX (V m c main_arg0) 1536) (rdY (V m c main_arg1) 0) (rdY (V m c main_v51) 0) (rdY (V m c main_v53) 0) _ _ _ _ _ _ _ _ _ _ (by omega)
      (ld0_1 m c t) (fun _ => ld0_2 m c t) (ld3_1 m c t) (fun _ => ld3_2 m c t) (ld4_1 m c t) (fun _ => ld4_2 m c t) (ld5_1 m c t) (fun _ => ld5_2 m c t) (ld1_1 m c t) (ld2_1 m c t) x
  case piece7 =>
    rw [hq 0 (by omega), h0, h1, show 1024 * (t.val % 4) + (x 0).val = 128 * (8 * (t.val % 4) + 0) + (x 0).val by omega]
    exact taskDk_at (t.val / 4) (8 * (t.val % 4) + 0) (rdX (V m c main_arg0) 0) (rdX (V m c main_arg0) 768) (rdX (V m c main_arg0) 1536) (rdY (V m c main_arg1) 0) (rdY (V m c main_v51) 0) (rdY (V m c main_v53) 0) _ _ _ _ _ _ _ _ _ _ (by omega)
      (ld0_0 m c t) (fun _ => ld0_1 m c t) (ld3_0 m c t) (fun _ => ld3_1 m c t) (ld4_0 m c t) (fun _ => ld4_1 m c t) (ld5_0 m c t) (fun _ => ld5_1 m c t) (ld1_0 m c t) (ld2_0 m c t) x

/-- The array of the keys' gradient, once the kernel has run. -/
theorem finalDk (c : Dev nD) : (dats m 0 c).arrAt 13 (cfgs 0).N = dk (V m c main_arg0) (V m c main_arg1) (V m c main_v51) (V m c main_v53) := by
  refine (dats m 0 c).arrAt_eq_of_covers 13 _ (by decide +kernel) fun t hf y => ?_
  blk_simp
  rw [after0_13]
  exact pointDk m c t y

/-- Where an entry of the values' gradient lies in the array. -/
theorem emb14 (t : Fin cfg0.N) (y : S1024x128.Idx) : ((((cfg0.win 14).blk t).view.emb y) 0).val = 1024 * (t.val % 4) + (y 0).val ∧
    ((((cfg0.win 14).blk t).view.emb y) 1).val = 128 * (t.val / 4) + (y 1).val := by
  constructor <;> (blk_simp [idx t]; try omega)

set_option maxHeartbeats 1600000 in
/-- What a point writes of the values' gradient is its block of `dv`. -/
theorem pointDv (c : Dev nD) (t : Fin cfg0.N) (y : S1024x128.Idx) :
    out0_14 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y =
    dv (V m c main_arg0) (V m c main_arg1) (V m c main_v51) (((cfg0.win 14).blk t).view.emb y) := by
  have ht : t.val < 8 := lt_of_lt_of_eq t.isLt N_0
  have hi : ((grid0.coords t) 1).val = t.val % 4 := by simp only [idx t]
  have e := emb14 t y
  have hq (n : ℕ) (hn : n < 8) : blkNo (grid0.coords t) (BitVec.ofNat 32 n) = BitVec.ofNat 32 (8 * (t.val % 4) + n) := by
    rw [blkNo_eq _ n (by omega) hn, hi]
  rw [outDv, dv, e.1, e.2]
  clear e
  canon_tiles x h
  case piece0 =>
    rw [hq 7 (by omega), h0, h1, show 1024 * (t.val % 4) + (896 + (x 0).val) = 128 * (8 * (t.val % 4) + 7) + (x 0).val by omega]
    exact taskDv_at (t.val / 4) (8 * (t.val % 4) + 7) (rdX (V m c main_arg0) 0) (rdX (V m c main_arg0) 768) (rdY (V m c main_arg1) 0) (rdY (V m c main_v51) 0) _ _ _ _ _ _ _ (by omega)
      (ld0_7 m c t) (ld8 m c t) (ld3_7 m c t) (ld9 m c t) (ld4_7 m c t) (ld10 m c t) (ld1_7 m c t) x
  case piece1 =>
    rw [hq 6 (by omega), h0, h1, show 1024 * (t.val % 4) + (768 + (x 0).val) = 128 * (8 * (t.val % 4) + 6) + (x 0).val by omega]
    exact taskDv_at (t.val / 4) (8 * (t.val % 4) + 6) (rdX (V m c main_arg0) 0) (rdX (V m c main_arg0) 768) (rdY (V m c main_arg1) 0) (rdY (V m c main_v51) 0) _ _ _ _ _ _ _ (by omega)
      (ld0_6 m c t) (fun _ => ld0_7 m c t) (ld3_6 m c t) (fun _ => ld3_7 m c t) (ld4_6 m c t) (fun _ => ld4_7 m c t) (ld1_6 m c t) x
  case piece2 =>
    rw [hq 5 (by omega), h0, h1, show 1024 * (t.val % 4) + (640 + (x 0).val) = 128 * (8 * (t.val % 4) + 5) + (x 0).val by omega]
    exact taskDv_at (t.val / 4) (8 * (t.val % 4) + 5) (rdX (V m c main_arg0) 0) (rdX (V m c main_arg0) 768) (rdY (V m c main_arg1) 0) (rdY (V m c main_v51) 0) _ _ _ _ _ _ _ (by omega)
      (ld0_5 m c t) (fun _ => ld0_6 m c t) (ld3_5 m c t) (fun _ => ld3_6 m c t) (ld4_5 m c t) (fun _ => ld4_6 m c t) (ld1_5 m c t) x
  case piece3 =>
    rw [hq 4 (by omega), h0, h1, show 1024 * (t.val % 4) + (512 + (x 0).val) = 128 * (8 * (t.val % 4) + 4) + (x 0).val by omega]
    exact taskDv_at (t.val / 4) (8 * (t.val % 4) + 4) (rdX (V m c main_arg0) 0) (rdX (V m c main_arg0) 768) (rdY (V m c main_arg1) 0) (rdY (V m c main_v51) 0) _ _ _ _ _ _ _ (by omega)
      (ld0_4 m c t) (fun _ => ld0_5 m c t) (ld3_4 m c t) (fun _ => ld3_5 m c t) (ld4_4 m c t) (fun _ => ld4_5 m c t) (ld1_4 m c t) x
  case piece4 =>
    rw [hq 3 (by omega), h0, h1, show 1024 * (t.val % 4) + (384 + (x 0).val) = 128 * (8 * (t.val % 4) + 3) + (x 0).val by omega]
    exact taskDv_at (t.val / 4) (8 * (t.val % 4) + 3) (rdX (V m c main_arg0) 0) (rdX (V m c main_arg0) 768) (rdY (V m c main_arg1) 0) (rdY (V m c main_v51) 0) _ _ _ _ _ _ _ (by omega)
      (ld0_3 m c t) (fun _ => ld0_4 m c t) (ld3_3 m c t) (fun _ => ld3_4 m c t) (ld4_3 m c t) (fun _ => ld4_4 m c t) (ld1_3 m c t) x
  case piece5 =>
    rw [hq 2 (by omega), h0, h1, show 1024 * (t.val % 4) + (256 + (x 0).val) = 128 * (8 * (t.val % 4) + 2) + (x 0).val by omega]
    exact taskDv_at (t.val / 4) (8 * (t.val % 4) + 2) (rdX (V m c main_arg0) 0) (rdX (V m c main_arg0) 768) (rdY (V m c main_arg1) 0) (rdY (V m c main_v51) 0) _ _ _ _ _ _ _ (by omega)
      (ld0_2 m c t) (fun _ => ld0_3 m c t) (ld3_2 m c t) (fun _ => ld3_3 m c t) (ld4_2 m c t) (fun _ => ld4_3 m c t) (ld1_2 m c t) x
  case piece6 =>
    rw [hq 1 (by omega), h0, h1, show 1024 * (t.val % 4) + (128 + (x 0).val) = 128 * (8 * (t.val % 4) + 1) + (x 0).val by omega]
    exact taskDv_at (t.val / 4) (8 * (t.val % 4) + 1) (rdX (V m c main_arg0) 0) (rdX (V m c main_arg0) 768) (rdY (V m c main_arg1) 0) (rdY (V m c main_v51) 0) _ _ _ _ _ _ _ (by omega)
      (ld0_1 m c t) (fun _ => ld0_2 m c t) (ld3_1 m c t) (fun _ => ld3_2 m c t) (ld4_1 m c t) (fun _ => ld4_2 m c t) (ld1_1 m c t) x
  case piece7 =>
    rw [hq 0 (by omega), h0, h1, show 1024 * (t.val % 4) + (x 0).val = 128 * (8 * (t.val % 4) + 0) + (x 0).val by omega]
    exact taskDv_at (t.val / 4) (8 * (t.val % 4) + 0) (rdX (V m c main_arg0) 0) (rdX (V m c main_arg0) 768) (rdY (V m c main_arg1) 0) (rdY (V m c main_v51) 0) _ _ _ _ _ _ _ (by omega)
      (ld0_0 m c t) (fun _ => ld0_1 m c t) (ld3_0 m c t) (fun _ => ld3_1 m c t) (ld4_0 m c t) (fun _ => ld4_1 m c t) (ld1_0 m c t) x

/-- The array of the values' gradient, once the kernel has run. -/
theorem finalDv (c : Dev nD) : (dats m 0 c).arrAt 14 (cfgs 0).N = dv (V m c main_arg0) (V m c main_arg1) (V m c main_v51) := by
  refine (dats m 0 c).arrAt_eq_of_covers 14 _ (by decide +kernel) fun t hf y => ?_
  blk_simp
  rw [after0_14]
  exact pointDv m c t y

end Cert.AttnOneIdeal.Closed
-- ==== Proof.AttnEntry.lean ====
module
public import proofs.«01_k».proof.Proof.AttnValue
public import proofs.«01_k».proof.Proof.Gen.AttnOneRefIdeal.Run
public import proofs.«01_k».proof.Proof.Gen.AttnOneRefIdeal.Read
public import proofs.«01_k».proof.Proof.Gen.AttnOneRefIdeal
public import Idealize.ShloMosaic.Lib.Claim

@[expose] public section
set_option maxRecDepth 16384
noncomputable section
open Idealize.ShloMosaic Idealize.ShloMosaic.TcCoe Idealize.SL.Sem
open Idealize.ShloMosaic.Pipeline (Dat)
open scoped BigOperators
namespace Cert.AttnOneIdeal.Entry
open Cert.AttnOneIdeal Cert.AttnOneIdeal.Gen

variable (m : (ℓ : Loc nD τ sig) → Buf (Elt Ideal) ℓ)

open Idealize.ShloMosaic.StableHlo
open Cert.AttnOneRefIdeal.Read

/-- The largest entry of each row of a table of scores. -/
def mxOf (s : FVec Ideal S4x4096x4096 .f32) : FVec Ideal S4x4096x1 .f32 :=
  broadcastInDim S4x4096x1 ![0, 1] bcast_S4x4096_S4x4096x1_0_1
    (Host.reduce FloatOps.maximumf s (constant S_ .f32 0xFF800000#32) reducesTo_S4x4096x4096_S4x4096_d2 h_S_ : FVec Ideal S4x4096 .f32)
/-- The exponentials of the scores less their row's largest. -/
def exOf (s : FVec Ideal S4x4096x4096 .f32) : FVec Ideal S4x4096x4096 .f32 :=
  Host.exp (subf s (broadcastInDim S4x4096x4096 ![0, 1, 2] bcast_S4x4096x1_S4x4096x4096_0_1_2 (mxOf s)))
/-- The sum of each row's exponentials. -/
def denOf (s : FVec Ideal S4x4096x4096 .f32) : FVec Ideal S4x4096x1 .f32 :=
  broadcastInDim S4x4096x1 ![0, 1] bcast_S4x4096_S4x4096x1_0_1
    (Host.reduceAdd (exOf s) (constant S_ .f32 0x00000000#32) reducesTo_S4x4096x4096_S4x4096_d2 h_S_ : FVec Ideal S4x4096 .f32)
/-- The logarithm of each row's softmax denominator. -/
def lseOf (s : FVec Ideal S4x4096x4096 .f32) : FVec Ideal S4096x4 .f32 :=
  transpose S4096x4 [1, 0] (shapeCast S4x4096 (addf (mxOf s) (Host.log (denOf s))) shapeCasts_S4x4096x1_S4x4096 : FVec Ideal S4x4096 .f32)
    transposes_S4x4096_S4096x4_1_0
/-- The attention's output from a table of scores and the values. -/
def outOf (s : FVec Ideal S4x4096x4096 .f32) (v : FVec Ideal S4096x4x64 .f32) : FVec Ideal S4096x4x64 .f32 :=
  transpose S4096x4x64 [1, 0, 2]
    (Host.divf (Host.dotGeneral dot_S4x4096x4096_S4096x4x64_S4x4096x64_2_0_1_2_0_1 none (exOf s) v)
      (broadcastInDim S4x4096x64 ![0, 1, 2] bcast_S4x4096x1_S4x4096x64_0_1_2 (denOf s)) : FVec Ideal S4x4096x64 .f32)
    transposes_S4x4096x64_S4096x4x64_1_0_2
/-- A value of each row and head, repeated over the head's columns. -/
def rep (x : FVec Ideal S4096x4 .f32) : FVec Ideal S4096x256 .f32 :=
  shapeCast S4096x256 (broadcastInDim S4096x4x64 ![0, 1] bcast_S4096x4_S4096x4x64_0_1 x : FVec Ideal S4096x4x64 .f32)
    shapeCasts_S4096x4x64_S4096x256
/-- The gradient of the logarithm less each row's product of the output and its gradient. -/
def corOf (s : FVec Ideal S4x4096x4096 .f32) (v : FVec Ideal S4096x4x64 .f32) (d : FVec Ideal S4096x256 .f32)
    (l : FVec Ideal S4096x4 .f32) : FVec Ideal S4096x4 .f32 :=
  subf l (Host.reduceAdd (mulf (shapeCast S4096x4x64 d shapeCasts_S4096x256_S4096x4x64 : FVec Ideal S4096x4x64 .f32) (outOf s v))
    (constant S_ .f32 0x00000000#32) reducesTo_S4096x4x64_S4096x4_d2 h_S_)

/-- What part 5 of the host code computes here. -/
theorem w4_51 (W : Valuation τ sig (Elt Ideal)) : after hostOps0_4 W (Proc.devRef .tc main_v51) = rep (lseOf (W (Proc.devRef .tc main_v30))) := by
  after_results
  rfl
/-- What part 5 of the host code computes here. -/
theorem w4_53 (W : Valuation τ sig (Elt Ideal)) : after hostOps0_4 W (Proc.devRef .tc main_v53) =
    rep (corOf (W (Proc.devRef .tc main_v30)) (W (Proc.devRef .tc main_v5)) (W (Proc.devRef .tc main_arg1)) (W (Proc.devRef .tc main_arg2))) := by
  after_results
  rfl
/-- Part 4 of the host code leaves this array alone. -/
theorem w3_arg1 (W : Valuation τ sig (Elt Ideal)) : after hostOps0_3 W (Proc.devRef .tc main_arg1) = W (Proc.devRef .tc main_arg1) := by
  after_results
/-- Part 4 of the host code leaves this array alone. -/
theorem w3_arg2 (W : Valuation τ sig (Elt Ideal)) : after hostOps0_3 W (Proc.devRef .tc main_arg2) = W (Proc.devRef .tc main_arg2) := by
  after_results
/-- Part 4 of the host code leaves this array alone. -/
theorem w3_v5 (W : Valuation τ sig (Elt Ideal)) : after hostOps0_3 W (Proc.devRef .tc main_v5) = W (Proc.devRef .tc main_v5) := by
  after_results
/-- Part 3 of the host code leaves this array alone. -/
theorem w2_arg1 (W : Valuation τ sig (Elt Ideal)) : after hostOps0_2 W (Proc.devRef .tc main_arg1) = W (Proc.devRef .tc main_arg1) := by
  after_results
/-- Part 3 of the host code leaves this array alone. -/
theorem w2_arg2 (W : Valuation τ sig (Elt Ideal)) : after hostOps0_2 W (Proc.devRef .tc main_arg2) = W (Proc.devRef .tc main_arg2) := by
  after_results
/-- Part 3 of the host code leaves this array alone. -/
theorem w2_v5 (W : Valuation τ sig (Elt Ideal)) : after hostOps0_2 W (Proc.devRef .tc main_v5) = W (Proc.devRef .tc main_v5) := by
  after_results
/-- Part 2 of the host code leaves this array alone. -/
theorem w1_arg1 (W : Valuation τ sig (Elt Ideal)) : after hostOps0_1 W (Proc.devRef .tc main_arg1) = W (Proc.devRef .tc main_arg1) := by
  after_results
/-- Part 2 of the host code leaves this array alone. -/
theorem w1_arg2 (W : Valuation τ sig (Elt Ideal)) : after hostOps0_1 W (Proc.devRef .tc main_arg2) = W (Proc.devRef .tc main_arg2) := by
  after_results
/-- Part 2 of the host code leaves this array alone. -/
theorem w1_v5 (W : Valuation τ sig (Elt Ideal)) : after hostOps0_1 W (Proc.devRef .tc main_v5) = W (Proc.devRef .tc main_v5) := by
  after_results
/-- Part 1 of the host code leaves this array alone. -/
theorem w0_arg1 (W : Valuation τ sig (Elt Ideal)) : after hostOps0 W (Proc.devRef .tc main_arg1) = W (Proc.devRef .tc main_arg1) := by
  after_results
/-- Part 1 of the host code leaves this array alone. -/
theorem w0_arg2 (W : Valuation τ sig (Elt Ideal)) : after hostOps0 W (Proc.devRef .tc main_arg2) = W (Proc.devRef .tc main_arg2) := by
  after_results
/-- Part 2 of the host code leaves this array alone. -/
theorem w1_v1 (W : Valuation τ sig (Elt Ideal)) : after hostOps0_1 W (Proc.devRef .tc main_v1) = W (Proc.devRef .tc main_v1) := by
  after_results
/-- Part 2 of the host code leaves this array alone. -/
theorem w1_v3 (W : Valuation τ sig (Elt Ideal)) : after hostOps0_1 W (Proc.devRef .tc main_v3) = W (Proc.devRef .tc main_v3) := by
  after_results
/-- Part 2 of the host code leaves this array alone. -/
theorem w1_v18 (W : Valuation τ sig (Elt Ideal)) : after hostOps0_1 W (Proc.devRef .tc main_v18) = W (Proc.devRef .tc main_v18) := by
  after_results
/-- What part 4 of the host code computes here. -/
theorem w3_v30 (W : Valuation τ sig (Elt Ideal)) : after hostOps0_3 W (Proc.devRef .tc main_v30) =
    (select (broadcastInDim S4x4096x4096 ![0, 1, 2] bcast_S1x4096x4096_S4x4096x4096_0_1_2 (W (Proc.devRef .tc main_v29) : IVec S1x4096x4096 1))
      (W (Proc.devRef .tc main_v28) : FVec Ideal S4x4096x4096 .f32)
      (broadcastInDim S4x4096x4096 ![] bcast_S_S4x4096x4096 (W (Proc.devRef .tc main_cst_2) : FVec Ideal S_ .f32)) : FVec Ideal S4x4096x4096 .f32) := by
  after_results
  rfl
/-- What part 3 of the host code computes here. -/
theorem w2_v29 (W : Valuation τ sig (Elt Ideal)) : after hostOps0_2 W (Proc.devRef .tc main_v29) =
    broadcastInDim S1x4096x4096 ![1, 2] bcast_S4096x4096_S1x4096x4096_1_2
    (andi (W (Proc.devRef .tc main_v18)) (cmpi CmpIPredicate.eq (W (Proc.devRef .tc main_v22))
        (broadcastInDim S4096x4096 ![] bcast_S_S4096x4096 (constantI S_ 32 0#32)))) := by
  after_results
/-- What part 3 of the host code computes here. -/
theorem w2_v28 (W : Valuation τ sig (Elt Ideal)) : after hostOps0_2 W (Proc.devRef .tc main_v28) =
    (mulf (Host.dotGeneral (φ₁ := .f32) (φ₂ := .f32) dot_S4096x4x64_S4096x4x64_S4x4096x4096_2_2_0_0_1_1 none (W (Proc.devRef .tc main_v1) : FVec Ideal S4096x4x64 .f32) (W (Proc.devRef .tc main_v3) : FVec Ideal S4096x4x64 .f32))
      (broadcastInDim S4x4096x4096 ![] bcast_S_S4x4096x4096 (constant S_ .f32 0x3E000000#32)) : FVec Ideal S4x4096x4096 .f32) := by
  after_results
/-- What part 3 of the host code computes here. -/
theorem w2_cst (W : Valuation τ sig (Elt Ideal)) : after hostOps0_2 W (Proc.devRef .tc main_cst_2) = (constant S_ .f32 0xFF800000#32 : FVec Ideal S_ .f32) := by
  after_results
/-- What part 1 of the host code computes here. -/
theorem w0_v1 (W : Valuation τ sig (Elt Ideal)) : after hostOps0 W (Proc.devRef .tc main_v1) = val_main_v3 (F := Ideal) (W (Proc.devRef .tc main_arg0)) := by
  after_results
  rfl
/-- What part 1 of the host code computes here. -/
theorem w0_v3 (W : Valuation τ sig (Elt Ideal)) : after hostOps0 W (Proc.devRef .tc main_v3) = val_main_v4 (F := Ideal) (W (Proc.devRef .tc main_arg0)) := by
  after_results
  rfl
/-- What part 1 of the host code computes here. -/
theorem w0_v5 (W : Valuation τ sig (Elt Ideal)) : after hostOps0 W (Proc.devRef .tc main_v5) = val_main_v5 (F := Ideal) (W (Proc.devRef .tc main_arg0)) := by
  after_results
  rfl
/-- What part 1 of the host code computes here. -/
theorem w0_v18 (W : Valuation τ sig (Elt Ideal)) : after hostOps0 W (Proc.devRef .tc main_v18) = val_main_v18 (F := Ideal) := by
  after_results
  rfl
/-- What part 1 of the host code computes here. -/
theorem w0_v21 (W : Valuation τ sig (Elt Ideal)) : after hostOps0 W (Proc.devRef .tc main_v21) = val_main_v21 (F := Ideal) := by
  after_results
  rfl
/-- What part 1 of the host code computes here. -/
theorem w0_c_0 (W : Valuation τ sig (Elt Ideal)) : after hostOps0 W (Proc.devRef .tc main_c_0) = val_main_c_0 (F := Ideal) := by
  after_results
  rfl
/-- What part 2 of the host code computes here. -/
theorem w1_v22 (W : Valuation τ sig (Elt Ideal)) (h0 : W (Proc.devRef .tc main_v21) = val_main_v21 (F := Ideal))
    (h1 : W (Proc.devRef .tc main_c_0) = val_main_c_0 (F := Ideal)) :
    after hostOps0_1 W (Proc.devRef .tc main_v22) = val_main_v22 (F := Ideal) := by
  after_results
  dsimp only [TRef.of]
  erw [h0, h1]
  rfl

/-- The host code’s table of scores is the reference’s. -/
theorem scores (W : Valuation τ sig (Elt Ideal)) :
    after hostOps0_3 (after hostOps0_2 (after hostOps0_1 (after hostOps0 W))) (Proc.devRef .tc main_v30) = val_main_v30_0 (F := Ideal) (W (Proc.devRef .tc main_arg0)) := by
  rw [w3_v30, w2_v29, w2_v28, w2_cst, w1_v22 _ (w0_v21 W) (w0_c_0 W), w1_v18, w1_v1, w1_v3, w0_v18, w0_v1, w0_v3]
  rfl

/-- The host code runs in five parts. -/
theorem V_eq (c : Dev nD) (b : Ref sig .tc) : V m c b = after hostOps0_4 (after hostOps0_3 (after hostOps0_2 (after hostOps0_1 (after hostOps0 (fun b => m (c, b)))))) (Proc.devRef .tc b) := by
  unfold V
  simp only [List.flatten_cons, List.flatten_nil, List.append_nil, after_append]

/-- What the kernel reads as the logarithms of the denominators. -/
theorem lse (c : Dev nD) : V m c main_v51 = rep (lseOf (val_main_v30_0 (F := Ideal) (m ((c : Thread nD τ).loc main_arg0)))) := by
  rw [V_eq, w4_51, scores]
/-- What the kernel reads as the rows' corrections. -/
theorem cor (c : Dev nD) : V m c main_v53 = rep (corOf (val_main_v30_0 (F := Ideal) (m ((c : Thread nD τ).loc main_arg0)))
    (val_main_v5 (F := Ideal) (m ((c : Thread nD τ).loc main_arg0))) (m ((c : Thread nD τ).loc main_arg1)) (m ((c : Thread nD τ).loc main_arg2))) := by
  rw [V_eq, w4_53, scores, w3_v5, w2_v5, w1_v5, w0_v5, w3_arg1, w2_arg1, w1_arg1, w0_arg1, w3_arg2, w2_arg2, w1_arg2, w0_arg2]

end Cert.AttnOneIdeal.Entry
-- ==== Proof.AttnReads.lean ====
module
public import proofs.«01_k».proof.Proof.AttnEntry

public import Idealize.ShloMosaic.Lib.WordArith

@[expose] public section
set_option maxRecDepth 16384
noncomputable section
open Idealize.ShloMosaic Idealize.ShloMosaic.TcCoe Idealize.SL.Sem
open Idealize.ShloMosaic.Pipeline (Dat)
open scoped BigOperators
namespace Cert.AttnOneIdeal.Ref
open Cert.AttnOneRefIdeal Cert.AttnOneRefIdeal.Read Cert.AttnOneIdeal.Entry

variable (X : FVec Ideal S4096x2304 .f32) (D : FVec Ideal S4096x256 .f32) (G : FVec Ideal S4096x4 .f32)
variable (s : FVec Ideal S4x4096x4096 .f32) (v : FVec Ideal S4096x4x64 .f32)

/-- The remainder by one is zero, also after the host's correction of its sign. -/
theorem rem_at (i : S4096x4096.Idx) : val_main_v22 (F := Ideal) i = 0#32 := by
  have h4 : val_main_call0_v4 (F := Ideal) i = 0#32 := by
    have h3 : val_main_call0_v3 (F := Ideal) i = 1#32 := by
      rw [val_main_call0_v3_apply]
      exact (by decide : ∀ j, val_main_call0_v2 (F := Ideal) j = 1#32) _
    rw [val_main_call0_v4_apply, h3]
    exact Idealize.ShloMosaic.WordArith.remsi_one _ _
  rw [val_main_v22_apply, val_main_call0_v12_apply, val_main_call0_v6_apply, h4, val_main_call0_v5_apply]
  have h6 : IntOp.cmpi CmpIPredicate.ne (0#32) (val_main_call0_c_1 (F := Ideal) (idx_main_call0_v5 i)) = 0#1 := by
    rw [val_main_call0_c_1_apply]
    decide
  rw [h6]
  have h7 : ∀ b : BitVec 1, IntOp.andi b (0#1) = 0#1 := by decide
  rw [h7]
  rfl
/-- The comparison of the remainder with zero holds everywhere. -/
theorem v24_at (i : S4096x4096.Idx) : val_main_v24 (F := Ideal) i = 1#1 := by
  rw [val_main_v24_apply, rem_at, val_main_v23_apply, val_main_c_1_apply]
  decide
/-- The mask with every position kept by the stride of one. -/
theorem mask25 (i : S4096x4096.Idx) : val_main_v25 (F := Ideal) i = val_main_v18 (F := Ideal) i := by
  rw [val_main_v25_apply, v24_at]
  exact (by decide : ∀ b : BitVec 1, IntOp.andi b (1#1) = b) _
/-- The mask, below the row and within its window. -/
theorem mask_at (t u : Fin 4096) : val_main_v18 (F := Ideal) (ix2 t u) = BitVec.ofBool (decide (u.val ≤ t.val ∧ t.val ≤ u.val + 128)) := by
  have ht := t.isLt
  have hu := u.isLt
  have e12 : val_main_v12 (F := Ideal) (ix2 t u) = BitVec.ofBool (decide (u.val ≤ t.val)) := by
    show IntOp.cmpi .sle (BitVec.ofNat 32 u.val) (BitVec.ofNat 32 t.val) = _
    rw [WordCmp.cmpi_sle_ofNat (by omega) (by omega)]
  rw [val_main_v18_apply, e12]
  by_cases h : u.val ≤ t.val
  · have e17 : val_main_v17 (F := Ideal) (ix2 t u) = BitVec.ofBool (decide (t.val - u.val ≤ 128)) := by
      show IntOp.cmpi .sle (IntOp.subi (BitVec.ofNat 32 t.val) (BitVec.ofNat 32 u.val)) 128#32 = _
      have e : IntOp.subi (BitVec.ofNat 32 t.val) (BitVec.ofNat 32 u.val) = BitVec.ofNat 32 (t.val - u.val) := by
        apply BitVec.eq_of_toNat_eq
        show (BitVec.ofNat 32 t.val - BitVec.ofNat 32 u.val).toNat = _
        rw [BitVec.toNat_sub]
        simp only [BitVec.toNat_ofNat]
        omega
      rw [e, WordCmp.cmpi_sle_ofNat (by omega) (by omega)]
    rw [e17, WordCmp.andi_ofBool, ← Bool.decide_and]
    congr 2
    exact propext ⟨fun q => ⟨q.1, by omega⟩, fun q => ⟨q.1, by omega⟩⟩
  · rw [decide_eq_false h, decide_eq_false (fun q => h q.1)]
    show BitVec.ofBool false &&& _ = _
    simp
/-- The table of scores at an entry. -/
theorem scores_at (h : Fin 4) (t u : Fin 4096) : val_main_v30_0 (F := Ideal) X (ix3 h t u) =
    Scalar.select (val_main_v25 (F := Ideal) (ix2 t u))
      ((∑ e : Fin 64, val_main_v3 (F := Ideal) X (ix3 t h e) * val_main_v4 (F := Ideal) X (ix3 u h e)) * Ideal.ofBits .f32 0x3E000000#32) (Ideal.ofBits .f32 0xFF800000#32) := by
  pointwise [val_main_v30_0, val_main_v28, val_main_v26, val_main_v27, val_main_cst, val_main_v30_1, val_main_v29, val_main_call1_v2, val_main_call1_v0, val_main_cst_2]
  rfl
/-- The gradient of the masked scores at an entry. -/
theorem v85_at (h : Fin 4) (t u : Fin 4096) : val_main_v85 (F := Ideal) X D G (ix3 h t u) =
    Scalar.select (val_main_v25 (F := Ideal) (ix2 t u))
        (val_main_v75 (F := Ideal) X D G (ix3 h t u) + val_main_v81 (F := Ideal) X D G (ix2 h t) * val_main_v35 (F := Ideal) X (ix3 h t u)) 0 := by
  pointwise [val_main_v85, val_main_v84, val_main_v83, val_main_v82, val_main_v30_1, val_main_v29, val_main_call2_v0, val_main_call2_cst]
/-- The gradient of the raw products at an entry. -/
theorem v87_at (h : Fin 4) (t u : Fin 4096) : val_main_v87 (F := Ideal) X D G (ix3 h t u) =
    val_main_v85 (F := Ideal) X D G (ix3 h t u) * Ideal.ofBits FTy.f32 1040187392#32 := by
  pointwise [val_main_v87, val_main_v86, val_main_cst_11]
/-- The gradient of a row’s largest score, shared among the places that attain it. -/
theorem v81_at (h : Fin 4) (t : Fin 4096) : val_main_v81 (F := Ideal) X D G (ix2 h t) =
    Ideal.div (G (ix2 t h) + ∑ u : Fin 4096, -val_main_v75 (F := Ideal) X D G (ix3 h t u)) (∑ u : Fin 4096, val_main_v35 (F := Ideal) X (ix3 h t u)) := by
  pointwise [val_main_v81, val_main_v80, val_main_v79, val_main_v78, val_main_v77, val_main_v76, val_main_v58, val_main_v56, val_main_cst_9, val_main_cst_10, val_main_v36, val_main_cst_4]
  rw [Fin.sum_univ_one]
/-- The indicator of the places where a row attains its largest score. -/
theorem v35_at (h : Fin 4) (t u : Fin 4096) : val_main_v35 (F := Ideal) X (ix3 h t u) =
    FloatOps.uitofp (F := Ideal) FTy.f32 (BitVec.ofBool (decide (val_main_v30_0 (F := Ideal) X (ix3 h t u) = val_main_v31 (F := Ideal) X (ix2 h t)))) := by
  pointwise [val_main_v35, val_main_v34, val_main_v33, val_main_v32]
/-- The largest score of a row. -/
theorem v31_at (h : Fin 4) (t : Fin 4096) : val_main_v31 (F := Ideal) X (ix2 h t) = mxOf (val_main_v30_0 (F := Ideal) X) (ix3 h t 0) := by
  pointwise [mxOf, val_main_v31, val_main_cst_3]
/-- The queries at an entry. -/
theorem q_at (t : Fin 4096) (h : Fin 4) (e : Fin 64) : val_main_v3 (F := Ideal) X (ix3 t h e) = X (ix2 t ⟨64 * h.val + e.val, by omega⟩) := by
  pointwise [val_main_v3, val_main_v0]
  blk_ext
/-- The keys at an entry. -/
theorem k_at (t : Fin 4096) (h : Fin 4) (e : Fin 64) : val_main_v4 (F := Ideal) X (ix3 t h e) = X (ix2 t ⟨768 + (64 * h.val + e.val), by omega⟩) := by
  pointwise [val_main_v4, val_main_v1]
  blk_ext
/-- The values at an entry. -/
theorem v_at (t : Fin 4096) (h : Fin 4) (e : Fin 64) : val_main_v5 (F := Ideal) X (ix3 t h e) = X (ix2 t ⟨1536 + (64 * h.val + e.val), by omega⟩) := by
  pointwise [val_main_v5, val_main_v2]
  blk_ext
/-- A row’s largest score as a fold. -/
theorem mx_at (h : Fin 4) (t : Fin 4096) : mxOf s (ix3 h t 0) = Finset.univ.fold max (Ideal.ofBits .f32 0xFF800000#32) (fun u : Fin 4096 => s (ix3 h t u)) := by
  pointwise [mxOf]
/-- An exponential at an entry. -/
theorem ex_at (h : Fin 4) (t u : Fin 4096) : exOf s (ix3 h t u) = Ideal.exp (s (ix3 h t u) - mxOf s (ix3 h t 0)) := by
  pointwise [exOf]
/-- A row’s softmax denominator. -/
theorem den_at (h : Fin 4) (t : Fin 4096) : denOf s (ix3 h t 0) = ∑ u : Fin 4096, exOf s (ix3 h t u) := by
  pointwise [denOf]
/-- The attention’s output at an entry. -/
theorem out_at (h : Fin 4) (t : Fin 4096) (e : Fin 64) : outOf s v (ix3 t h e) =
    Ideal.div (∑ u : Fin 4096, exOf s (ix3 h t u) * v (ix3 u h e)) (denOf s (ix3 h t 0)) := by
  pointwise [outOf]
/-- The correction at a row and head. -/
theorem cor_at (h : Fin 4) (t : Fin 4096) : corOf s v D G (ix2 t h) = G (ix2 t h) - ∑ e : Fin 64, D (ix2 t ⟨64 * h.val + e.val, by omega⟩) * outOf s v (ix3 t h e) := by
  pointwise [corOf]
  simp only [Nat.mul_comm]
/-- A column added to a logarithm, read at a row and head after the reshape and transpose. -/
theorem lse_at' (a b : FVec Ideal S4x4096x1 .f32) (h : Fin 4) (t : Fin 4096) :
    (transpose S4096x4 [1, 0] (shapeCast S4x4096 (addf a (Host.log b)) Cert.AttnOneRefIdeal.Gen.shapeCasts_S4x4096x1_S4x4096 : FVec Ideal S4x4096 .f32)
      Cert.AttnOneRefIdeal.Gen.transposes_S4x4096_S4096x4_1_0) (ix2 t h) = (a (ix3 h t 0) : EReal) + Ideal.log (b (ix3 h t 0)) := by
  have e : addf a (Host.log b) (ix3 h t 0) = (a (ix3 h t 0) : EReal) + Ideal.log (b (ix3 h t 0)) := rfl
  rw [← e]
  generalize addf a (Host.log b) = y
  rw [transpose_apply [1, 0] _ Cert.AttnOneRefIdeal.Gen.transposes_S4x4096_S4096x4_1_0 (ix2 t h) (ix2 h t) (fun b => match b with
    | ⟨0, _⟩ => rfl
    | ⟨1, _⟩ => rfl)]
  exact shapeCast_apply y Cert.AttnOneRefIdeal.Gen.shapeCasts_S4x4096x1_S4x4096 (ix2 h t) (ix3 h t 0)
    (by rewrite [Shape.rowMajor_val_three, Shape.rowMajor_val_two]; show (h.val * 4096 + t.val) * 1 + 0 = h.val * 4096 + t.val; omega)
/-- The logarithm of a row's softmax denominator at an entry. -/
theorem lse_at (h : Fin 4) (t : Fin 4096) : lseOf s (ix2 t h) = (mxOf s (ix3 h t 0) : EReal) + Ideal.log (denOf s (ix3 h t 0)) :=
  lse_at' (mxOf s) (denOf s) h t
/-- The reference’s exponentials are those of the host code. -/
theorem v40_eq : val_main_v40 (F := Ideal) X = exOf (val_main_v30_0 (F := Ideal) X) := rfl
/-- The reference’s denominators are those of the host code. -/
theorem v42_eq : val_main_v42 (F := Ideal) X = denOf (val_main_v30_0 (F := Ideal) X) := rfl
/-- A per-head value repeated over the columns of its head. -/
theorem rep_at (t : Fin 4096) (a : Fin 256) : rep G (ix2 t a) = G (ix2 t ⟨a.val / 64, by omega⟩) := by
  pointwise [rep]
/-- The reference’s gradient of the queries at an entry. -/
theorem dq_at (t : Fin 4096) (a : Fin 256) : val_main_v94 (F := Ideal) X D G (ix2 t a) =
    ∑ u : Fin 4096, val_main_v87 (F := Ideal) X D G (ix3 ⟨a.val / 64, by omega⟩ t u) * X (ix2 u ⟨768 + a.val, by omega⟩) := by
  pointwise [val_main_v94, val_main_v91, val_main_v90, val_main_v4, val_main_v1]
/-- The reference’s gradient of the keys at an entry. -/
theorem dk_at (t : Fin 4096) (a : Fin 256) : val_main_v93 (F := Ideal) X D G (ix2 t a) =
    ∑ u : Fin 4096, val_main_v87 (F := Ideal) X D G (ix3 ⟨a.val / 64, by omega⟩ u t) * X (ix2 u ⟨a.val, by omega⟩) := by
  pointwise [val_main_v93, val_main_v89, val_main_v88, val_main_v3, val_main_v0]
/-- The reference’s gradient of the values at an entry. -/
theorem dv_at (t : Fin 4096) (a : Fin 256) : val_main_v92 (F := Ideal) X D (ix2 t a) =
    ∑ u : Fin 4096, val_main_v68 (F := Ideal) X D (ix3 ⟨a.val / 64, by omega⟩ u ⟨a.val % 64, by omega⟩) * val_main_v40 (F := Ideal) X (ix3 ⟨a.val / 64, by omega⟩ u t) := by
  pointwise [val_main_v92, val_main_v70, val_main_v69]
/-- The part of the gradient of a row’s denominator. -/
theorem v66_at (h : Fin 4) (t : Fin 4096) : val_main_v66 (F := Ideal) X D G (ix3 h t 0) =
    Ideal.div (G (ix2 t h)) (val_main_v42 (F := Ideal) X (ix3 h t 0)) +
      -∑ e : Fin 64, D (ix2 t ⟨64 * h.val + e.val, by omega⟩) * Ideal.div 1 (val_main_v42 (F := Ideal) X (ix3 h t 0) * val_main_v42 (F := Ideal) X (ix3 h t 0)) *
            val_main_v43 (F := Ideal) X (ix3 h t e) := by
  pointwise [val_main_v66, val_main_v65, val_main_v64, val_main_v63, val_main_v62, val_main_v61, val_main_v60, val_main_v59, val_main_v58, val_main_v57, val_main_v56, val_main_v55, val_main_v48, val_main_v47, val_main_v46, val_main_cst_6, val_main_cst_7]
  simp only [Nat.mul_comm]
/-- The output’s gradient over the denominator. -/
theorem v68_at (h : Fin 4) (t : Fin 4096) (e : Fin 64) : val_main_v68 (F := Ideal) X D (ix3 h t e) =
    Ideal.div (D (ix2 t ⟨64 * h.val + e.val, by omega⟩)) (val_main_v42 (F := Ideal) X (ix3 h t 0)) := by
  pointwise [val_main_v68, val_main_v67, val_main_v57, val_main_v55]
  simp only [Nat.mul_comm]
/-- The gradient of the exponentials times the exponentials. -/
theorem v75_at (h : Fin 4) (t u : Fin 4096) : val_main_v75 (F := Ideal) X D G (ix3 h t u) =
    (∑ e : Fin 64, val_main_v68 (F := Ideal) X D (ix3 h t e) * val_main_v5 (F := Ideal) X (ix3 u h e) + val_main_v66 (F := Ideal) X D G (ix3 h t 0)) *
      val_main_v40 (F := Ideal) X (ix3 h t u) := by
  pointwise [val_main_v75, val_main_v74, val_main_v73, val_main_v72, val_main_cst_8, val_main_v71]
  rw [Fin.sum_univ_one]
  try rfl
/-- The weighted sums of the values before the division. -/
theorem v43_at (h : Fin 4) (t : Fin 4096) (e : Fin 64) : val_main_v43 (F := Ideal) X (ix3 h t e) =
    ∑ u : Fin 4096, val_main_v40 (F := Ideal) X (ix3 h t u) * val_main_v5 (F := Ideal) X (ix3 u h e) := by
  pointwise [val_main_v43]

end Cert.AttnOneIdeal.Ref
-- ==== Proof.AttnMath.lean ====
module
public import proofs.«01_k».proof.Proof.AttnReads

@[expose] public section
set_option maxRecDepth 16384
noncomputable section
open Idealize.ShloMosaic Idealize.ShloMosaic.TcCoe Idealize.SL.Sem
open scoped BigOperators

namespace Cert.AttnOneIdeal.Math

/-- A sum of reals is the same among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The largest of a row of scores some of which are masked is a score that is not. -/
theorem row_max {n : Nat} (p : Fin n → Prop) [DecidablePred p] (sc : Fin n → ℝ) (h : ∃ u, p u) :
    ∃ u, p u ∧ Finset.univ.fold max (⊥ : EReal) (fun u => if p u then (sc u : EReal) else ⊥) = (sc u : EReal) := by
  obtain ⟨u0, h0⟩ := h
  have e : Finset.univ.fold max (⊥ : EReal) (fun u => if p u then (sc u : EReal) else ⊥) =
      Finset.univ.sup (fun u => if p u then (sc u : EReal) else ⊥) := rfl
  rw [e]
  obtain ⟨i, -, hi⟩ := Finset.exists_mem_eq_sup Finset.univ ⟨u0, Finset.mem_univ u0⟩ (fun u => if p u then (sc u : EReal) else ⊥)
  by_cases hp : p i
  · exact ⟨i, hp, by rw [hi, if_pos hp]⟩
  · have hl : (if p u0 then (sc u0 : EReal) else ⊥) ≤ Finset.univ.sup (fun u => if p u then (sc u : EReal) else ⊥) :=
      Finset.le_sup (f := fun u => if p u then (sc u : EReal) else ⊥) (Finset.mem_univ u0)
    rw [hi, if_pos h0, if_neg hp] at hl
    exact absurd (le_bot_iff.mp hl) (EReal.coe_ne_bot _)

variable (p : Fin 4096 → Prop) [DecidablePred p] (sc : Fin 4096 → ℝ) (M : ℝ)
variable (d : Fin 64 → ℝ) (v : Fin 4096 → Fin 64 → ℝ) (g : ℝ)

/-- The exponential of a score less the row's largest, nothing where masked. -/
def en (u : Fin 4096) : ℝ := if p u then Real.exp (sc u - M) else 0
/-- The row's softmax denominator. -/
def den : ℝ := ∑ u, en p sc M u
/-- The row's correction: the gradient of the logarithm of the denominator less the product of the output and its gradient. -/
def corr : ℝ := g - ∑ e, d e * ((∑ u, en p sc M u * v u e) * (1 / den p sc M))
/-- The gradient of the row's scores. -/
def grad (u : Fin 4096) : ℝ := en p sc M u / den p sc M * ((∑ e, d e * v u e) + corr p sc M d v g)

/-- The denominator is positive. -/
theorem den_pos (h : ∃ u, p u) : 0 < den p sc M := by
  obtain ⟨u, hu⟩ := h
  have h1 : 0 < en p sc M u := by unfold en; rw [if_pos hu]; exact Real.exp_pos _
  have h2 : en p sc M u ≤ den p sc M := by
    unfold den
    refine Finset.single_le_sum (f := en p sc M) (fun i _ => ?_) (Finset.mem_univ u)
    unfold en
    split_ifs
    · exact (Real.exp_pos _).le
    · exact le_refl _
  linarith

/-- The gradients as differentiation gives them, before the part of the largest score. -/
def raw (u : Fin 4096) : ℝ :=
  ((∑ e, d e * (1 / den p sc M) * v u e) + (g * (1 / den p sc M) + -∑ e, d e * (1 * (1 / (den p sc M * den p sc M))) * ∑ x, en p sc M x * v x e)) * en p sc M u

/-- They are the gradients of the scores. -/
theorem raw_eq (h : ∃ u, p u) (u : Fin 4096) : raw p sc M d v g u = grad p sc M d v g u := by
  have hd := (den_pos p sc M h).ne'
  unfold raw grad corr
  generalize den p sc M = z at hd ⊢
  have e1 : ∑ e, d e * (1 / z) * v u e = (∑ e, d e * v u e) / z := by
    rw [Finset.sum_div]; exact Finset.sum_congr rfl fun e _ => by ring
  have e2 : ∑ e, d e * (1 * (1 / (z * z))) * ∑ x, en p sc M x * v x e = (∑ e, d e * ((∑ x, en p sc M x * v x e) * (1 / z))) / z := by
    rw [Finset.sum_div]; exact Finset.sum_congr rfl fun e _ => by field_simp
  rw [e1, e2]
  field_simp
  ring

/-- They sum to the gradient of the logarithm of the denominator. -/
theorem raw_sum (h : ∃ u, p u) : ∑ u, raw p sc M d v g u = g := by
  have hd := (den_pos p sc M h).ne'
  simp only [raw_eq p sc M d v g h]
  unfold grad
  have e1 : ∀ u, en p sc M u / den p sc M * ((∑ e, d e * v u e) + corr p sc M d v g) =
      (∑ e, d e * (en p sc M u * v u e)) / den p sc M + en p sc M u * (corr p sc M d v g / den p sc M) := fun u => by
    have : ∑ e, d e * (en p sc M u * v u e) = en p sc M u * ∑ e, d e * v u e := by
      rw [Finset.mul_sum]; exact Finset.sum_congr rfl fun e _ => by ring
    rw [this]; ring
  simp only [e1]
  rw [Finset.sum_add_distrib, ← Finset.sum_div, ← Finset.sum_mul, Finset.sum_comm]
  have e2 : ∑ u, en p sc M u = den p sc M := rfl
  rw [e2]
  have e3 : ∑ e, ∑ u, d e * (en p sc M u * v u e) = ∑ e, d e * ∑ u, en p sc M u * v u e := by
    exact Finset.sum_congr rfl fun e _ => by rw [Finset.mul_sum]
  rw [e3]
  unfold corr
  generalize den p sc M = z at hd ⊢
  have e4 : ∑ e, d e * ((∑ u, en p sc M u * v u e) * (1 / z)) = (∑ e, d e * ∑ u, en p sc M u * v u e) / z := by
    rw [Finset.sum_div]; exact Finset.sum_congr rfl fun e _ => by ring
  rw [e4]
  field_simp
  ring

end Cert.AttnOneIdeal.Math
-- ==== Proof.AttnLink.lean ====
module
public import proofs.«01_k».proof.Proof.AttnReads
public import proofs.«01_k».proof.Proof.AttnMath

@[expose] public section
set_option maxRecDepth 16384
noncomputable section
open Idealize.ShloMosaic Idealize.ShloMosaic.TcCoe Idealize.SL.Sem
open scoped BigOperators

namespace Cert.AttnOneIdeal.Link
open Cert.AttnOneRefIdeal Cert.AttnOneRefIdeal.Read Cert.AttnOneIdeal.Entry Cert.AttnOneIdeal.Ref Cert.AttnOneIdeal.Math
open Cert.AttnOneIdeal.Task Cert.AttnOneIdeal.Closed

/-- An array without infinite entries. -/
def Fin' {S : Shape} (A : FVec Ideal S .f32) : Prop := ∀ i, (A i : EReal) ≠ ⊤ ∧ (A i : EReal) ≠ ⊥

/-- An entry that is not infinite is the real it stands for. -/
theorem real {S : Shape} {A : FVec Ideal S .f32} (h : Fin' A) (i : S.Idx) : A i = (((A i : EReal).toReal : ℝ) : EReal) :=
  (EReal.coe_toReal (h i).1 (h i).2).symm

/-- The positions a row attends to. -/
abbrev msk (t u : Fin 4096) : Prop := u.val ≤ t.val ∧ t.val ≤ u.val + 128

variable (X : FVec Ideal S4096x2304 .f32) (D : FVec Ideal S4096x256 .f32) (G : FVec Ideal S4096x4 .f32)

/-- The scaled product of a query and a key. -/
def sc (h : Fin 4) (t u : Fin 4096) : ℝ :=
  (∑ e : Fin 64, (X (ix2 t ⟨64 * h.val + e.val, by omega⟩) : EReal).toReal * (X (ix2 u ⟨768 + (64 * h.val + e.val), by omega⟩) : EReal).toReal) * (1 / 8)
/-- The values of a head. -/
def vr (h : Fin 4) (u : Fin 4096) (e : Fin 64) : ℝ := (X (ix2 u ⟨1536 + (64 * h.val + e.val), by omega⟩) : EReal).toReal
/-- The gradient of the output of a head at a row. -/
def dr (h : Fin 4) (t : Fin 4096) (e : Fin 64) : ℝ := (D (ix2 t ⟨64 * h.val + e.val, by omega⟩) : EReal).toReal
/-- The gradient of the logarithm of the denominator. -/
def lr (h : Fin 4) (t : Fin 4096) : ℝ := (G (ix2 t h) : EReal).toReal

/-- The word for one eighth. -/
theorem eighth : Ideal.ofBits .f32 0x3E000000#32 = ((1 / 8 : ℝ) : EReal) := by
  simp [Ideal.ofBits, Ideal.ieee, -EReal.coe_mul]; norm_num
/-- The word for minus infinity. -/
theorem bottom : Ideal.ofBits .f32 0xFF800000#32 = (⊥ : EReal) := by
  simp [Ideal.ofBits, Ideal.ieee, -EReal.coe_mul]

/-- A repeated per-head value read at the head's first column. -/
theorem rep_rd (h : Fin 4) (t : Fin 4096) : rdY (rep G) 0 t.val (64 * h.val) = G (ix2 t h) := by
  unfold rdY
  rw [dif_pos ⟨t.isLt, by omega⟩, rep_at]
  have e : (⟨(0 + 64 * h.val) / 64, by omega⟩ : Fin 4) = h := Fin.ext (by show (0 + 64 * h.val) / 64 = h.val; omega)
  rw [e]
/-- An index of two axes from its coordinates. -/
theorem ix2_eta (j : S4096x256.Idx) : ∃ (t : Fin 4096) (a : Fin 256), j = ix2 t a := by
  refine ⟨j 0, j 1, ?_⟩
  funext k
  match k with
  | ⟨0, _⟩ => rfl
  | ⟨1, _⟩ => rfl

/-- The reference's table of scores. -/
abbrev tbl : FVec Ideal S4x4096x4096 .f32 := val_main_v30_0 (F := Ideal) X

section
variable {X D G} (hX : Fin' X)
include hX

/-- The table of scores, masked entries at minus infinity. -/
theorem score_val (h : Fin 4) (t u : Fin 4096) : tbl X (ix3 h t u) = if msk t u then (sc X h t u : EReal) else ⊥ := by
  unfold tbl
  rw [scores_at, mask25, mask_at, eighth, bottom]
  simp only [q_at, k_at]
  rw [WordCmp.select_ofBool]
  have e : (∑ e : Fin 64, (X (ix2 t ⟨64 * h.val + e.val, by omega⟩) : EReal) * X (ix2 u ⟨768 + (64 * h.val + e.val), by omega⟩)) * ((1 / 8 : ℝ) : EReal) = (sc X h t u : EReal) := by
    unfold sc
    rw [EReal.coe_mul, ← coe_sum]
    congr 1
    refine Finset.sum_congr rfl fun e _ => ?_
    rw [EReal.coe_mul, ← real hX, ← real hX]
  rw [e]
  simp only [decide_eq_true_eq]

/-- The largest score of a row is one of its scores. -/
theorem max_val (h : Fin 4) (t : Fin 4096) : ∃ u, msk t u ∧ mxOf (tbl X) (ix3 h t 0) = (sc X h t u : EReal) := by
  obtain ⟨u, hu, e⟩ := row_max (msk t) (sc X h t) ⟨t, le_refl _, by omega⟩
  refine ⟨u, hu, ?_⟩
  rw [mx_at, bottom]
  simp only [score_val hX]
  exact e

variable {M : ℝ} {h : Fin 4} {t : Fin 4096} (hM : mxOf (tbl X) (ix3 h t 0) = (M : EReal))
include hM

/-- The exponentials are real. -/
theorem ex_val (u : Fin 4096) : exOf (tbl X) (ix3 h t u) = (en (msk t) (sc X h t) M u : EReal) := by
  rw [ex_at, score_val hX, hM]
  unfold en
  by_cases hm : msk t u
  · rw [if_pos hm, if_pos hm, ← EReal.coe_sub, Ideal.exp_coe]
  · rw [if_neg hm, if_neg hm, EReal.bot_sub, Ideal.exp_bot]; rfl

/-- The denominator is real. -/
theorem den_val : denOf (tbl X) (ix3 h t 0) = (den (msk t) (sc X h t) M : EReal) := by
  rw [den_at]
  simp only [ex_val hX hM]
  exact coe_sum _ _

omit hX hM in
/-- The denominator is positive. -/
theorem den_pos' : 0 < den (msk t) (sc X h t) M := den_pos _ _ _ ⟨t, le_refl _, by omega⟩

/-- The logarithm of the denominator. -/
theorem lse_val : lseOf (tbl X) (ix2 t h) = ((M + Real.log (den (msk t) (sc X h t) M) : ℝ) : EReal) := by
  rw [lse_at, hM, den_val hX hM, Ideal.log_coe, if_neg (not_le.mpr den_pos'), EReal.coe_add]

/-- The weighted sums of the values. -/
theorem acc_val (e : Fin 64) : ∑ u : Fin 4096, (exOf (tbl X) (ix3 h t u) : EReal) * val_main_v5 (F := Ideal) X (ix3 u h e) =
    ((∑ u, en (msk t) (sc X h t) M u * vr X h u e : ℝ) : EReal) := by
  rw [← coe_sum]
  refine Finset.sum_congr rfl fun u _ => ?_
  rw [ex_val hX hM, v_at, EReal.coe_mul]
  unfold vr
  rw [← real hX]

variable (hD : Fin' D) (hG : Fin' G)
include hD hG

/-- The correction is real. -/
theorem cor_val : corOf (tbl X) (val_main_v5 (F := Ideal) X) D G (ix2 t h) =
    (corr (msk t) (sc X h t) M (dr D h t) (vr X h) (lr G h t) : EReal) := by
  rw [cor_at]
  unfold corr
  rw [EReal.coe_sub, ← coe_sum]
  unfold lr
  rw [← real hG]
  refine congrArg₂ (fun a b : EReal => a - b) rfl ?_
  refine Finset.sum_congr rfl fun e _ => ?_
  rw [out_at, acc_val hX hM, den_val hX hM, Ideal.div_coe den_pos'.ne', EReal.coe_mul, EReal.coe_mul]
  unfold dr
  rw [← real hD]

omit hG in
/-- The output's gradient over the denominator. -/
theorem v68_val (e : Fin 64) : val_main_v68 (F := Ideal) X D (ix3 h t e) = ((dr D h t e * (1 / den (msk t) (sc X h t) M) : ℝ) : EReal) := by
  rw [v68_at, v42_eq, den_val hX hM, Ideal.div_coe den_pos'.ne', EReal.coe_mul]
  unfold dr
  rw [← real hD]

/-- The part of the gradient that comes through the denominator. -/
theorem v66_val : val_main_v66 (F := Ideal) X D G (ix3 h t 0) =
    ((lr G h t * (1 / den (msk t) (sc X h t) M) +
      -∑ e, dr D h t e * (1 * (1 / (den (msk t) (sc X h t) M * den (msk t) (sc X h t) M))) * ∑ x, en (msk t) (sc X h t) M x * vr X h x e : ℝ) : EReal) := by
  rw [v66_at, v42_eq, den_val hX hM, ← EReal.coe_mul, Ideal.div_coe den_pos'.ne', Ideal.div_coe (mul_pos den_pos' den_pos').ne', EReal.coe_add, EReal.coe_mul,
    EReal.coe_neg, ← coe_sum]
  unfold lr
  rw [← real hG]
  refine Ideal.add_congr rfl (congrArg Neg.neg ?_)
  refine Finset.sum_congr rfl fun e _ => ?_
  rw [v43_at, v40_eq, acc_val hX hM, EReal.coe_mul, EReal.coe_mul, EReal.coe_mul, EReal.coe_one]
  unfold dr
  rw [← real hD]

/-- The gradient of the exponentials times the exponentials. -/
theorem v75_val (u : Fin 4096) : val_main_v75 (F := Ideal) X D G (ix3 h t u) =
    (raw (msk t) (sc X h t) M (dr D h t) (vr X h) (lr G h t) u : EReal) := by
  rw [v75_at, v66_val hX hM hD hG, v40_eq, ex_val hX hM]
  unfold raw
  rw [EReal.coe_mul]
  refine Ideal.mul_congr ?_ rfl
  refine Eq.trans (Ideal.add_congr ?_ rfl) (EReal.coe_add _ _).symm
  rw [← coe_sum]
  refine Finset.sum_congr rfl fun e _ => ?_
  rw [v68_val hX hM hD, v_at]
  exact (Ideal.mul_congr rfl (real hX _)).trans (EReal.coe_mul _ _).symm

/-- Nothing flows through the row's largest score. -/
theorem v81_val : val_main_v81 (F := Ideal) X D G (ix2 h t) = 0 := by
  rw [v81_at]
  have e1 : (G (ix2 t h) : EReal) + ∑ u : Fin 4096, -val_main_v75 (F := Ideal) X D G (ix3 h t u) = 0 := by
    simp only [v75_val hX hM hD hG, ← EReal.coe_neg]
    rw [coe_sum, Finset.sum_neg_distrib, raw_sum _ _ _ _ _ _ ⟨t, le_refl _, by omega⟩]
    unfold lr
    rw [EReal.coe_neg, ← real hG, real hG, ← EReal.coe_neg, ← EReal.coe_add, add_neg_cancel]
    rfl
  rw [e1]
  obtain ⟨u, hu, e2⟩ := max_val hX h t
  have e3 : (1 : EReal) ≤ ∑ u : Fin 4096, (val_main_v35 (F := Ideal) X (ix3 h t u) : EReal) := by
    have hb : ∀ b : Bool, (FloatOps.uitofp (F := Ideal) FTy.f32 (BitVec.ofBool b) : EReal) = if b then 1 else 0 := by
      intro b
      cases b
      · show (((BitVec.ofBool false).toNat : ℝ) : EReal) = _
        simp
      · show (((BitVec.ofBool true).toNat : ℝ) : EReal) = _
        simp
    have h1 : (val_main_v35 (F := Ideal) X (ix3 h t u) : EReal) = 1 := by
      have e4 := score_val hX h t u
      unfold tbl at e4
      rw [v35_at, v31_at, e2, e4, if_pos hu, decide_eq_true rfl, hb]
      rfl
    rw [← h1]
    refine Finset.single_le_sum (f := fun u : Fin 4096 => (val_main_v35 (F := Ideal) X (ix3 h t u) : EReal)) (fun i _ => ?_) (Finset.mem_univ u)
    show (0 : EReal) ≤ val_main_v35 (F := Ideal) X (ix3 h t i)
    rw [v35_at, hb]
    split_ifs
    · exact zero_le_one
    · exact le_refl _
  unfold Ideal.div
  rw [if_neg (fun q => by rw [q] at e3; exact absurd e3 (by norm_num)), zero_mul]

/-- The gradient of the raw products. -/
theorem v87_val (u : Fin 4096) : val_main_v87 (F := Ideal) X D G (ix3 h t u) =
    ((grad (msk t) (sc X h t) M (dr D h t) (vr X h) (lr G h t) u * (1 / 8) : ℝ) : EReal) := by
  rw [v87_at, v85_at, eighth, mask25, mask_at, v81_val hX hM hD hG, v75_val hX hM hD hG, zero_mul, add_zero, WordCmp.select_ofBool, raw_eq _ _ _ _ _ _ ⟨t, le_refl _, by omega⟩,
    EReal.coe_mul]
  refine Ideal.mul_congr ?_ rfl
  by_cases hm : msk t u
  · rw [if_pos (decide_eq_true hm)]
  · rw [if_neg (by simpa using hm)]
    unfold grad en
    rw [if_neg hm]
    simp

omit hD hG in
/-- The kernel's weight is the exponential over the denominator. -/
theorem wt_val (u : Fin 4096) : wt (rdX X 0) (rdX X 768) (rdY (rep (lseOf (tbl X))) 0) (64 * h.val) t.val u.val =
    ((en (msk t) (sc X h t) M u / den (msk t) (sc X h t) M : ℝ) : EReal) := by
  have hL : rdY (rep (lseOf (tbl X))) 0 t.val (64 * h.val) = ((M + Real.log (den (msk t) (sc X h t) M) : ℝ) : EReal) := by
    rw [rep_rd, lse_val hX hM]
  have hS : (∑ e : Fin 64, rdX X 0 t.val (64 * h.val + e.val) * rdX X 768 u.val (64 * h.val + e.val)) * c8 = (sc X h t u : EReal) := by
    unfold sc c8
    rw [EReal.coe_mul, ← coe_sum, eighth]
    refine Ideal.mul_congr (Finset.sum_congr rfl fun e _ => ?_) rfl
    rw [EReal.coe_mul, ← real hX, ← real hX]
    unfold rdX
    rw [dif_pos ⟨t.isLt, by omega⟩, dif_pos ⟨u.isLt, by omega⟩]
    simp only [Nat.zero_add]
  unfold wt
  rw [hL, hS]
  unfold en
  by_cases hm : msk t u
  · rw [if_pos ⟨hm.1, hm.2, t.isLt⟩, if_pos hm, ← EReal.coe_sub, Ideal.exp_coe, ← sub_sub, Real.exp_sub (sc X h t u - M), Real.exp_log den_pos']
  · rw [if_neg (fun q => hm ⟨q.1, q.2.1⟩), if_neg hm, zero_div]
    rfl

/-- The kernel's gradient of a score is the reference's. -/
theorem gr_val (u : Fin 4096) : gr (rdX X 0) (rdX X 768) (rdX X 1536) (rdY D 0) (rdY (rep (lseOf (tbl X))) 0)
      (rdY (rep (corOf (tbl X) (val_main_v5 (F := Ideal) X) D G)) 0) (64 * h.val) t.val u.val =
    val_main_v87 (F := Ideal) X D G (ix3 h t u) := by
  have hC : rdY (rep (corOf (tbl X) (val_main_v5 (F := Ideal) X) D G)) 0 t.val (64 * h.val) = (corr (msk t) (sc X h t) M (dr D h t) (vr X h) (lr G h t) : EReal) := by
    rw [rep_rd, cor_val hX hM hD hG]
  have hS : (∑ e : Fin 64, rdY D 0 t.val (64 * h.val + e.val) * rdX X 1536 u.val (64 * h.val + e.val)) = ((∑ e, dr D h t e * vr X h u e : ℝ) : EReal) := by
    rw [← coe_sum]
    refine Finset.sum_congr rfl fun e _ => ?_
    unfold dr vr
    rw [EReal.coe_mul, ← real hX, ← real hD]
    unfold rdX rdY
    rw [dif_pos ⟨t.isLt, by omega⟩, dif_pos ⟨u.isLt, by omega⟩]
    simp only [Nat.zero_add]
  unfold gr
  rw [hC, hS, wt_val hX hM, v87_val hX hM hD hG, ← EReal.coe_add, ← EReal.coe_mul]
  unfold c8
  rw [eighth, ← EReal.coe_mul]
  rfl
end

/-- The kernel's gradient of the queries is the reference's. -/
theorem dq_eq (hX : Fin' X) (hD : Fin' D) (hG : Fin' G) :
    dq X D (rep (lseOf (tbl X))) (rep (corOf (tbl X) (val_main_v5 (F := Ideal) X) D G)) = val_main_v94 (F := Ideal) X D G := by
  funext j
  obtain ⟨t, a, rfl⟩ := ix2_eta j
  rw [dq_at]
  unfold dq
  rw [Finset.sum_range]
  refine Finset.sum_congr rfl fun u _ => ?_
  obtain ⟨u', hu', hM⟩ := max_val hX (⟨a.val / 64, by omega⟩ : Fin 4) t
  refine Ideal.mul_congr (gr_val (h := ⟨a.val / 64, by omega⟩) hX hM hD hG u) ?_
  show rdX X 768 u.val a.val = _
  unfold rdX
  rw [dif_pos ⟨u.isLt, by omega⟩]

/-- The kernel's gradient of the keys is the reference's. -/
theorem dk_eq (hX : Fin' X) (hD : Fin' D) (hG : Fin' G) :
    dk X D (rep (lseOf (tbl X))) (rep (corOf (tbl X) (val_main_v5 (F := Ideal) X) D G)) = val_main_v93 (F := Ideal) X D G := by
  funext j
  obtain ⟨t, a, rfl⟩ := ix2_eta j
  rw [dk_at]
  unfold dk
  rw [Finset.sum_range]
  refine Finset.sum_congr rfl fun u _ => ?_
  obtain ⟨u', hu', hM⟩ := max_val hX (⟨a.val / 64, by omega⟩ : Fin 4) u
  refine Ideal.mul_congr (gr_val (h := ⟨a.val / 64, by omega⟩) hX hM hD hG t) ?_
  show rdX X 0 u.val a.val = _
  unfold rdX
  rw [dif_pos ⟨u.isLt, by omega⟩]
  simp only [Nat.zero_add]

/-- The kernel's gradient of the values is the reference's. -/
theorem dv_eq (hX : Fin' X) (hD : Fin' D) : dv X D (rep (lseOf (tbl X))) = val_main_v92 (F := Ideal) X D := by
  funext j
  obtain ⟨t, a, rfl⟩ := ix2_eta j
  rw [dv_at]
  unfold dv
  rw [Finset.sum_range]
  refine Finset.sum_congr rfl fun u _ => ?_
  obtain ⟨u', hu', hM⟩ := max_val hX (⟨a.val / 64, by omega⟩ : Fin 4) u
  refine Eq.trans (Ideal.mul_congr (wt_val (h := ⟨a.val / 64, by omega⟩) hX hM t) (?_ : _ = ((dr D ⟨a.val / 64, by omega⟩ u ⟨a.val % 64, by omega⟩ : ℝ) : EReal))) ?_
  · show rdY D 0 u.val a.val = _
    unfold rdY dr
    rw [dif_pos ⟨u.isLt, by omega⟩, ← real hD]
    have e : (⟨0 + a.val, by omega⟩ : Fin 256) = ⟨64 * (a.val / 64) + a.val % 64, by omega⟩ := Fin.ext (by show 0 + a.val = 64 * (a.val / 64) + a.val % 64; omega)
    rw [e]
  · rw [v40_eq, ex_val hX hM, v68_val hX hM hD, ← EReal.coe_mul, ← EReal.coe_mul]
    refine congrArg (fun z : ℝ => (z : EReal)) ?_
    ring

end Cert.AttnOneIdeal.Link
-- ==== Proof.AttnClaims.lean ====
/- The claims about the gradient of the attention over neighbouring tokens and its reference. -/
module

public import proofs.«01_k».proof.Defs
public import proofs.«01_k».proof.Proof.Gen.AttnOne.Frame
public import proofs.«01_k».proof.Proof.AttnLink
public import proofs.«01_k».proof.Proof.Gen.AttnOneRefIdeal.Run
public import proofs.«01_k».proof.Proof.Gen.AttnOneRefIdeal.Read
public import proofs.«01_k».proof.Proof.Gen.AttnOneRefIdeal
public import Idealize.ShloMosaic.Lib.ReduceAll
public import Idealize.ShloMosaic.Lib.Claim
public import Idealize.ShloMosaic.Lib.Quiescent

@[expose] public section

set_option maxRecDepth 16384

noncomputable section

open Idealize.ShloMosaic Idealize.ShloMosaic.TcCoe Idealize.SL.Sem
open scoped BigOperators

namespace Cert.AttnProof

/-- The precondition's side conditions. -/
theorem pre_facts : Cert.Pre_finite_attn.Facts := by
  constructor <;> decide

/-- The kernel runs and leaves its arguments alone, on bit patterns. -/
theorem frame_kernel : Cert.quiescent_AttnOne := fun m ρ _ => Cert.AttnOne.Gen.frame m ρ
/-- The kernel runs and leaves its arguments alone, on extended reals. -/
theorem frame_ideal : Cert.quiescent_AttnOneIdeal := fun m ρ _ => Cert.AttnOneIdeal.Gen.frame m ρ
/-- The same where the precondition holds. -/
theorem frame_ideal_pre [hPre_finite_attn : Cert.Pre_finite_attn.Facts] : Cert.quiescent_AttnOneIdeal_pre_finite_attn := fun m ρ _ => Cert.AttnOneIdeal.Gen.frame m ρ
/-- The reference runs and leaves its arguments alone. -/
theorem frame_ref : Cert.quiescent_AttnOneRefIdeal := fun m ρ _ =>
  (θ_run Cert.AttnOneRefIdeal.defs _ _).mono (fun r h => ⟨fun c => (h c).2.2.2,
      Idealize.ShloMosaic.sem_eq_zero_of_no_sems (by decide) r.2⟩)
    (Cert.AttnOneRefIdeal.Value.run (F := Ideal) m ρ)
/-- The same where the precondition holds. -/
theorem frame_ref_pre [hPre_finite_attn : Cert.Pre_finite_attn.Facts] : Cert.quiescent_AttnOneRefIdeal_pre_finite_attn := fun m ρ _ => frame_ref m ρ trivial

/-- An entry below plus infinity and above minus infinity is neither. -/
theorem entry_fin (x : EReal) (e : IntOp.andi (FloatOps.cmpf (F := Ideal) (φ := .f32) .olt x (Ideal.ofBits .f32 0x7F800000#32))
    (FloatOps.cmpf (F := Ideal) (φ := .f32) .ogt x (Ideal.ofBits .f32 0xFF800000#32)) = 1#1) : x ≠ ⊤ ∧ x ≠ ⊥ := by
  have t : Ideal.ofBits .f32 0x7F800000#32 = (⊤ : EReal) := by simp [Ideal.ofBits, Ideal.ieee, -EReal.coe_mul]
  rw [t, Cert.AttnOneIdeal.Link.bottom] at e
  obtain ⟨h1, h2⟩ := IntOp.andi_eq_one.mp e
  constructor
  · rintro rfl
    revert h1
    show ¬ BitVec.ofBool (decide ((⊤ : EReal) < ⊤)) = 1#1
    simp
  · rintro rfl
    revert h2
    show ¬ BitVec.ofBool (decide ((⊥ : EReal) < ⊥)) = 1#1
    simp

/-- The precondition says that no entry of the arguments is infinite. -/
theorem pre_read [Cert.Pre_finite_attn.Facts] (X : FVec Ideal Cert.Pre_finite_attn.S4096x2304 .f32) (D : FVec Ideal Cert.Pre_finite_attn.S4096x256 .f32)
    (G : FVec Ideal Cert.Pre_finite_attn.S4096x4 .f32) (e : Cert.Pre_finite_attn.fn (F := Ideal) X D G = fun _ => 1#1) :
    Cert.AttnOneIdeal.Link.Fin' X ∧ Cert.AttnOneIdeal.Link.Fin' D ∧ Cert.AttnOneIdeal.Link.Fin' G := by
  haveI : Subsingleton Cert.Pre_finite_attn.S_.Idx := ⟨fun a b => funext fun k => k.elim0⟩
  have e0 := congrFun e (fun k => k.elim0)
  obtain ⟨e1, e2⟩ := IntOp.andi_eq_one.mp e0
  obtain ⟨e3, e4⟩ := IntOp.andi_eq_one.mp e1
  exact ⟨fun i => entry_fin _ (Host.reduce_andi_all _ _ _ _ _ e3 i), fun i => entry_fin _ (Host.reduce_andi_all _ _ _ _ _ e4 i),
    fun i => entry_fin _ (Host.reduce_andi_all _ _ _ _ _ e2 i)⟩

section
open Cert.AttnOneIdeal Cert.AttnOneIdeal.Gen Cert.AttnOneIdeal.Closed Cert.AttnOneIdeal.Entry Cert.AttnOneIdeal.Link

variable (m : (ℓ : Loc nD τ sig) → Buf (Elt Ideal) ℓ) (c : Dev nD)
variable (hX : Fin' (S := S4096x2304) (m ((c : Thread nD τ).loc main_arg0))) (hD : Fin' (S := S4096x256) (m ((c : Thread nD τ).loc main_arg1)))
  (hG : Fin' (S := S4096x4) (m ((c : Thread nD τ).loc main_arg2)))

include hX hD hG in
/-- The kernel's gradient of the queries, of the arguments. -/
theorem kernel_dq : (dats m 0 c).arrAt 12 (cfgs 0).N = Cert.AttnOneRefIdeal.Read.val_main_v94 (F := Ideal) (m ((c : Thread nD τ).loc main_arg0))
    (m ((c : Thread nD τ).loc main_arg1)) (m ((c : Thread nD τ).loc main_arg2)) := by
  rw [finalDq m c, lse m c, cor m c, V_main_arg0 m c, V_main_arg1 m c]
  exact dq_eq _ _ _ hX hD hG

include hX hD hG in
/-- The kernel's gradient of the keys, of the arguments. -/
theorem kernel_dk : (dats m 0 c).arrAt 13 (cfgs 0).N = Cert.AttnOneRefIdeal.Read.val_main_v93 (F := Ideal) (m ((c : Thread nD τ).loc main_arg0))
    (m ((c : Thread nD τ).loc main_arg1)) (m ((c : Thread nD τ).loc main_arg2)) := by
  rw [finalDk m c, lse m c, cor m c, V_main_arg0 m c, V_main_arg1 m c]
  exact dk_eq _ _ _ hX hD hG

include hX hD in
/-- The kernel's gradient of the values, of the arguments. -/
theorem kernel_dv : (dats m 0 c).arrAt 14 (cfgs 0).N = Cert.AttnOneRefIdeal.Read.val_main_v92 (F := Ideal) (m ((c : Thread nD τ).loc main_arg0))
    (m ((c : Thread nD τ).loc main_arg1)) := by
  rw [finalDv m c, lse m c, V_main_arg0 m c, V_main_arg1 m c]
  exact dv_eq _ _ hX hD
end

/-- The kernel's three gradients and the reference's are the same arrays of extended reals. -/
theorem algebraic [hPre_finite_attn : Cert.Pre_finite_attn.Facts] : Cert.algebraic_AttnOneIdeal_AttnOneRefIdeal_pre_finite_attn := by
  intro m g m' g' hpre hagree
  have hf := fun c => pre_read _ _ _ (hpre c)
  refine ⟨fun c => Cert.AttnOneRefIdeal.Read.val_main_v94 (F := Ideal) (m (c.tc.loc Cert.AttnOneIdeal.main_arg0)) (m (c.tc.loc Cert.AttnOneIdeal.main_arg1)) (m (c.tc.loc Cert.AttnOneIdeal.main_arg2)),
    fun c => Cert.AttnOneRefIdeal.Read.val_main_v93 (F := Ideal) (m (c.tc.loc Cert.AttnOneIdeal.main_arg0)) (m (c.tc.loc Cert.AttnOneIdeal.main_arg1)) (m (c.tc.loc Cert.AttnOneIdeal.main_arg2)),
    fun c => Cert.AttnOneRefIdeal.Read.val_main_v92 (F := Ideal) (m (c.tc.loc Cert.AttnOneIdeal.main_arg0)) (m (c.tc.loc Cert.AttnOneIdeal.main_arg1)), ?_, ?_⟩
  · exact (θ_run Cert.AttnOneIdeal.defs _ _).mono (fun r h c => ⟨((h.1 c).1 12).trans (kernel_dq m c (hf c).1 (hf c).2.1 (hf c).2.2),
        ((h.1 c).1 13).trans (kernel_dk m c (hf c).1 (hf c).2.1 (hf c).2.2), ((h.1 c).1 14).trans (kernel_dv m c (hf c).1 (hf c).2.1), h.2 c⟩)
      (θ_run_and (Cert.AttnOneIdeal.Gen.run_main m g) (Cert.AttnOneIdeal.Gen.unchanged m g))
  · refine (θ_run Cert.AttnOneRefIdeal.defs _ _).mono (fun r h c => ?_) (Cert.AttnOneRefIdeal.Value.run (F := Ideal) m' g')
    obtain ⟨h0, h1, h2, h3⟩ := h c
    obtain ⟨a0, a1, a2⟩ := hagree c
    refine ⟨(h0.trans (Cert.AttnOneRefIdeal.Read.val_main_v94_eq _)).trans ?_, (h1.trans (Cert.AttnOneRefIdeal.Read.val_main_v93_eq _)).trans ?_,
      (h2.trans (Cert.AttnOneRefIdeal.Read.val_main_v92_eq _)).trans ?_, h3⟩
    · exact congr (congrArg₂ (Cert.AttnOneRefIdeal.Read.val_main_v94 (F := Ideal)) a0 a1) a2
    · exact congr (congrArg₂ (Cert.AttnOneRefIdeal.Read.val_main_v93 (F := Ideal)) a0 a1) a2
    · exact congrArg₂ (Cert.AttnOneRefIdeal.Read.val_main_v92 (F := Ideal)) a0 a1
end Cert.AttnProof

end
-- ==== Proof.NormMath.lean ====
/- The arithmetic of a normalised row's gradient on the extended reals. -/
module

public import Idealize.ShloMosaic.Lib.Pipeline.ValueKit
public import Idealize.ShloMosaic.Lib.Pointwise

@[expose] public section

noncomputable section

open Idealize.ShloMosaic
open scoped BigOperators

namespace Cert.NormMath

/-- The word of the row length. -/
theorem w2048 : Ideal.ofBits .f32 0x45000000#32 = ((2048 : ℝ) : EReal) := by
  simp [Ideal.ofBits, Ideal.ieee, -EReal.coe_mul]; norm_num
/-- The word of minus a half. -/
theorem wneghalf : Ideal.ofBits .f32 0xBF000000#32 = ((-(1 / 2) : ℝ) : EReal) := by
  simp [Ideal.ofBits, Ideal.ieee, -EReal.coe_mul]; norm_num
/-- The word of the small constant is positive. -/
theorem weps_pos : 0 < Ideal.ofBits .f32 0x358637BD#32 := by
  simp [Ideal.ofBits, Ideal.ieee, -EReal.coe_mul]

/-- A mean of squares plus the small constant is positive. -/
theorem ms_pos {n : Nat} (f : Fin n → EReal) :
    0 < Ideal.div (∑ l, f l * f l) (Ideal.ofBits .f32 0x45000000#32) + Ideal.ofBits .f32 0x358637BD#32 := by
  have h : 0 ≤ ∑ l, f l * f l := Finset.sum_nonneg fun l _ => EReal.mul_nonneg_iff.mpr (by
    rcases le_total 0 (f l) with h | h
    · exact Or.inl ⟨h, h⟩
    · exact Or.inr ⟨h, h⟩)
  rw [w2048, Ideal.div_coe (by norm_num)]
  have h2 : 0 ≤ (∑ l, f l * f l) * (((1 / 2048 : ℝ)) : EReal) :=
    EReal.mul_nonneg_iff.mpr (Or.inl ⟨h, by exact_mod_cast (by norm_num : (0 : ℝ) ≤ 1 / 2048)⟩)
  exact lt_of_lt_of_le weps_pos (le_add_of_nonneg_left h2)

/-- The cube of the reciprocal root of a positive number is that root over the number. -/
theorem cube {z : EReal} (h : 0 < z) : Ideal.rsqrt z * Ideal.rsqrt z * Ideal.rsqrt z = Ideal.div (Ideal.rsqrt z) z := by
  induction z with
  | bot => exact absurd h (by simp)
  | top => simp [Ideal.div]
  | coe x =>
    have hx : 0 < x := by exact_mod_cast h
    rw [Ideal.rsqrt_coe, if_neg (not_lt.mpr hx.le), if_neg hx.ne', Ideal.div_coe hx.ne', ← EReal.coe_mul, ← EReal.coe_mul, ← EReal.coe_mul]
    congr 1
    have e : (Real.sqrt x)⁻¹ * (Real.sqrt x)⁻¹ = x⁻¹ := by rw [← mul_inv, Real.mul_self_sqrt hx.le]
    rw [e, one_div, mul_comm]

/-- Twice an extended real. -/
theorem twice (a : EReal) : a + a = ((2 : ℝ) : EReal) * a := by
  induction a with
  | bot => rw [EReal.coe_mul_bot_of_pos (by norm_num)]; rfl
  | top => rw [EReal.coe_mul_top_of_pos (by norm_num)]; rfl
  | coe x => rw [← EReal.coe_mul, ← EReal.coe_add]; congr 1; ring

/-- The two ways of writing an entry of the gradient agree: `d` the gradient that goes past, `v` the entry's own,
    `x` the entry, `S` the row's product and `z` its mean square. -/
theorem back (d v x S : EReal) {z : EReal} (h : 0 < z) :
    d + Ideal.rsqrt z * v - x * (Ideal.rsqrt z * Ideal.rsqrt z * Ideal.rsqrt z) * Ideal.div S (Ideal.ofBits .f32 0x45000000#32) =
      d + (v * Ideal.rsqrt z + x * Ideal.div (S * (Ideal.ofBits .f32 0xBF000000#32 * Ideal.div (Ideal.rsqrt z) z)) (Ideal.ofBits .f32 0x45000000#32)
        + Ideal.div (S * (Ideal.ofBits .f32 0xBF000000#32 * Ideal.div (Ideal.rsqrt z) z)) (Ideal.ofBits .f32 0x45000000#32) * x) := by
  rw [cube h]
  generalize Ideal.div (Ideal.rsqrt z) z = q
  rw [w2048, wneghalf, Ideal.div_coe (by norm_num), Ideal.div_coe (by norm_num)]
  generalize Ideal.rsqrt z = r
  generalize ((1 / 2048 : ℝ) : EReal) = c
  rw [mul_comm (S * _ * c) x, add_assoc (v * r), twice, sub_eq_add_neg, add_assoc, mul_comm r v]
  have e : ((2 : ℝ) : EReal) * (x * (S * (((-(1 / 2) : ℝ) : EReal) * q) * c)) = -(x * q * (S * c)) := by
    have e1 : ((2 : ℝ) : EReal) * (x * (S * (((-(1 / 2) : ℝ) : EReal) * q) * c)) =
        (((2 : ℝ) : EReal) * ((-(1 / 2) : ℝ) : EReal)) * (x * q * (S * c)) := by ac_rfl
    rw [e1, ← EReal.coe_mul, show (2 : ℝ) * -(1 / 2) = -1 by norm_num, EReal.coe_neg, EReal.coe_one, EReal.neg_mul, one_mul]
  rw [e]

end Cert.NormMath

end
-- ==== Proof.NormInClaims.lean ====
/- The gradient through the first product of the block and the normalised rows before it. -/
module

public import proofs.«01_k».proof.Defs
public import proofs.«01_k».proof.Proof.Gen.NormIn.Frame
public import proofs.«01_k».proof.Proof.Gen.NormInIdeal.Value
public import proofs.«01_k».proof.Proof.Gen.NormInRefIdeal.Run
public import proofs.«01_k».proof.Proof.Gen.NormInRefIdeal.Read
public import proofs.«01_k».proof.Proof.Gen.NormInRefIdeal
public import proofs.«01_k».proof.Proof.NormMath
public import Idealize.ShloMosaic.Lib.Pipeline.ValueKit
public import Idealize.ShloMosaic.Lib.Pointwise
public import Idealize.ShloMosaic.Lib.VecWindow
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.StableHlo
open scoped BigOperators

namespace Cert.NormInIdeal.Closed

open Cert.NormInIdeal Cert.NormInIdeal.Gen

/-- The gradient of the normalised rows: row `r` of `ct` times row `l` of `w`. -/
def dh (ct : FVec Ideal S4096x8192 .bf16) (w : FVec Ideal S2048x8192 .f32) : FVec Ideal S4096x2048 .f32 := fun j =>
  ∑ k : Fin 8192, ct (ix2 (j 0) k) * w (ix2 (j 1) k)
/-- The mean square of each row plus the small constant. -/
def ms (x : FVec Ideal S4096x2048 .f32) : FVec Ideal S4096x1 .f32 := fun j =>
  Ideal.div (∑ l : Fin 2048, x (ix2 (j 0) l) * x (ix2 (j 0) l)) (Ideal.ofBits .f32 0x45000000#32) + Ideal.ofBits .f32 0x358637BD#32
/-- One over the root of the mean square of each row. -/
def rt (x : FVec Ideal S4096x2048 .f32) : FVec Ideal S4096x1 .f32 := fun j => Ideal.rsqrt (ms x j)
/-- The product of each row and its gradient. -/
def rowp (h : FVec Ideal S4096x2048 .f32) (x : FVec Ideal S4096x2048 .f32) (g : FVec Ideal S1x2048 .f32) : FVec Ideal S4096x1 .f32 := fun j =>
  ∑ l : Fin 2048, x (ix2 (j 0) l) * (h (ix2 (j 0) l) * g (ix2 0 l))
/-- The gradient of the rows. -/
def dx (h : FVec Ideal S4096x2048 .f32) (x : FVec Ideal S4096x2048 .f32) (g : FVec Ideal S1x2048 .f32) (d : FVec Ideal S4096x2048 .f32) (r : FVec Ideal S4096x1 .f32) :
    FVec Ideal S4096x2048 .f32 := fun j =>
  d j + r (ix2 (j 0) 0) * (h j * g (ix2 0 (j 1)))
    - x j * (r (ix2 (j 0) 0) * r (ix2 (j 0) 0) * r (ix2 (j 0) 0)) * Ideal.div (rowp h x g (ix2 (j 0) 0)) (Ideal.ofBits .f32 0x45000000#32)
/-- The gradient of the scale. -/
def dg (h : FVec Ideal S4096x2048 .f32) (x : FVec Ideal S4096x2048 .f32) (r : FVec Ideal S4096x1 .f32) : FVec Ideal S1x2048 .f32 := fun j =>
  ∑ i : Fin 4096, h (ix2 i (j 1)) * x (ix2 i (j 1)) * r (ix2 i 0)

variable (m : (ℓ : Loc nD τ sig) → Buf (Elt Ideal) ℓ)

/-- The gradient of the normalised rows of the arguments. -/
def dhV (c : Dev nD) : FVec Ideal S4096x2048 .f32 := dh (V m c main_arg0) (m ((c : Thread nD τ).loc main_arg1))
/-- The roots of the rows of the arguments. -/
def rtV (c : Dev nD) : FVec Ideal S4096x1 .f32 := rt (m ((c : Thread nD τ).loc main_arg2))
/-- The weight the kernel reads is the second argument, cut into groups of columns. -/
theorem entry_v10 (c : Dev nD) (i : S8x2048x1024.Idx) : V m c main_v10 i = m ((c : Thread nD τ).loc main_arg1) (ix2 (i 1) ⟨(i 0).val * 1024 + (i 2).val, by have h0 : (i 0).val < 8 := (i 0).isLt; have h2 : (i 2).val < 1024 := (i 2).isLt; omega⟩) := by
  entry_read
  pointwise
/-- The roots the kernel reads. -/
theorem entry_v7 (c : Dev nD) : V m c main_v7 = rtV m c := by
  funext i
  entry_read
  pointwise [rtV, rt, ms]
/-- Each window's block index at each grid point. -/
theorem idx : ∀ t : Fin cfg0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] ∧ win0_6.index t = ![t.val, 0] ∧ win0_7.index t = ![t.val, 0]
    ∧ win0_8.index t = ![0, 0] :=
  (by decide +kernel : ∀ t : Fin grid0.N, _)
/-- The eight products of a point are one sum over the groups of columns. -/
theorem groups (a : Vec Ideal S256x8192 .bf16) (b : Vec Ideal S8x2048x1024 .bf16) (y) :
    k0_pay7 (F := Ideal) (k0_pay5 (View.ld (a) (Rect.unit ![0, 0] ![256, 1024] inb_S256x8192_S256x1024_0_0)) (View.ld (b) (Rect.unit ![0, 0, 0] ![1, 2048, 1024] inb_S8x2048x1024_S1x2048x1024_0_0_0)) (View.ld (a) (Rect.unit ![0, 1024] ![256, 1024] inb_S256x8192_S256x1024_0_1024)) (View.ld (b) (Rect.unit ![1, 0, 0] ![1, 2048, 1024] inb_S8x2048x1024_S1x2048x1024_1_0_0)) (View.ld (a) (Rect.unit ![0, 2048] ![256, 1024] inb_S256x8192_S256x1024_0_2048)) (View.ld (b) (Rect.unit ![2, 0, 0] ![1, 2048, 1024] inb_S8x2048x1024_S1x2048x1024_2_0_0)) (View.ld (a) (Rect.unit ![0, 3072] ![256, 1024] inb_S256x8192_S256x1024_0_3072)) (View.ld (b) (Rect.unit ![3, 0, 0] ![1, 2048, 1024] inb_S8x2048x1024_S1x2048x1024_3_0_0))) (k0_pay6 (View.ld (a) (Rect.unit ![0, 4096] ![256, 1024] inb_S256x8192_S256x1024_0_4096)) (View.ld (b) (Rect.unit ![4, 0, 0] ![1, 2048, 1024] inb_S8x2048x1024_S1x2048x1024_4_0_0))) (View.ld (a) (Rect.unit ![0, 5120] ![256, 1024] inb_S256x8192_S256x1024_0_5120)) (View.ld (b) (Rect.unit ![5, 0, 0] ![1, 2048, 1024] inb_S8x2048x1024_S1x2048x1024_5_0_0)) (View.ld (a) (Rect.unit ![0, 6144] ![256, 1024] inb_S256x8192_S256x1024_0_6144)) (View.ld (b) (Rect.unit ![6, 0, 0] ![1, 2048, 1024] inb_S8x2048x1024_S1x2048x1024_6_0_0)) (View.ld (a) (Rect.unit ![0, 7168] ![256, 1024] inb_S256x8192_S256x1024_0_7168)) (View.ld (b) (Rect.unit ![7, 0, 0] ![1, 2048, 1024] inb_S8x2048x1024_S1x2048x1024_7_0_0)) y = ∑ s : Fin 8, ∑ k : Fin 1024, a (ix2 (y 0) ⟨s.val * 1024 + k.val, by omega⟩) * b (ix3 s (y 1) k) := by
  pointwise [k0_pay7, k0_pay5, k0_pay6]
  rw [Fin.sum_univ_eight]

  rfl

/-- What each point multiplies out, at an index of its block. -/
theorem pdh (c : Dev nD) (t : Fin cfg0.N) (y) :
    k0_pay7 (k0_pay5 (View.ld (iblk m c 0 t) (Rect.unit ![0, 0] ![256, 1024] inb_S256x8192_S256x1024_0_0)) (View.ld (iblk m c 1 t) (Rect.unit ![0, 0, 0] ![1, 2048, 1024] inb_S8x2048x1024_S1x2048x1024_0_0_0)) (View.ld (iblk m c 0 t) (Rect.unit ![0, 1024] ![256, 1024] inb_S256x8192_S256x1024_0_1024)) (View.ld (iblk m c 1 t) (Rect.unit ![1, 0, 0] ![1, 2048, 1024] inb_S8x2048x1024_S1x2048x1024_1_0_0)) (View.ld (iblk m c 0 t) (Rect.unit ![0, 2048] ![256, 1024] inb_S256x8192_S256x1024_0_2048)) (View.ld (iblk m c 1 t) (Rect.unit ![2, 0, 0] ![1, 2048, 1024] inb_S8x2048x1024_S1x2048x1024_2_0_0)) (View.ld (iblk m c 0 t) (Rect.unit ![0, 3072] ![256, 1024] inb_S256x8192_S256x1024_0_3072)) (View.ld (iblk m c 1 t) (Rect.unit ![3, 0, 0] ![1, 2048, 1024] inb_S8x2048x1024_S1x2048x1024_3_0_0))) (k0_pay6 (View.ld (iblk m c 0 t) (Rect.unit ![0, 4096] ![256, 1024] inb_S256x8192_S256x1024_0_4096)) (View.ld (iblk m c 1 t) (Rect.unit ![4, 0, 0] ![1, 2048, 1024] inb_S8x2048x1024_S1x2048x1024_4_0_0))) (View.ld (iblk m c 0 t) (Rect.unit ![0, 5120] ![256, 1024] inb_S256x8192_S256x1024_0_5120)) (View.ld (iblk m c 1 t) (Rect.unit ![5, 0, 0] ![1, 2048, 1024] inb_S8x2048x1024_S1x2048x1024_5_0_0)) (View.ld (iblk m c 0 t) (Rect.unit ![0, 6144] ![256, 1024] inb_S256x8192_S256x1024_0_6144)) (View.ld (iblk m c 1 t) (Rect.unit ![6, 0, 0] ![1, 2048, 1024] inb_S8x2048x1024_S1x2048x1024_6_0_0)) (View.ld (iblk m c 0 t) (Rect.unit ![0, 7168] ![256, 1024] inb_S256x8192_S256x1024_0_7168)) (View.ld (iblk m c 1 t) (Rect.unit ![7, 0, 0] ![1, 2048, 1024] inb_S8x2048x1024_S1x2048x1024_7_0_0)) y = dhV m c (((cfg0.win 6).blk t).view.emb y) := by
  refine (groups _ _ y).trans ?_
  refine Fin.sum_mul_add_congr fun s k hl => ?_
  blk_point [iblk, entry_v10, idx t]
/-- What point `t` stores at an index of the rows' block. -/
theorem point_x (c : Dev nD) (t : Fin cfg0.N) (y) :
    k0_pay1 (iblk m c 2 t) (k0_pay8 (iblk m c 4 t)) (k0_pay10 (k0_pay5 (View.ld (iblk m c 0 t) (Rect.unit ![0, 0] ![256, 1024] inb_S256x8192_S256x1024_0_0)) (View.ld (iblk m c 1 t) (Rect.unit ![0, 0, 0] ![1, 2048, 1024] inb_S8x2048x1024_S1x2048x1024_0_0_0)) (View.ld (iblk m c 0 t) (Rect.unit ![0, 1024] ![256, 1024] inb_S256x8192_S256x1024_0_1024)) (View.ld (iblk m c 1 t) (Rect.unit ![1, 0, 0] ![1, 2048, 1024] inb_S8x2048x1024_S1x2048x1024_1_0_0)) (View.ld (iblk m c 0 t) (Rect.unit ![0, 2048] ![256, 1024] inb_S256x8192_S256x1024_0_2048)) (View.ld (iblk m c 1 t) (Rect.unit ![2, 0, 0] ![1, 2048, 1024] inb_S8x2048x1024_S1x2048x1024_2_0_0)) (View.ld (iblk m c 0 t) (Rect.unit ![0, 3072] ![256, 1024] inb_S256x8192_S256x1024_0_3072)) (View.ld (iblk m c 1 t) (Rect.unit ![3, 0, 0] ![1, 2048, 1024] inb_S8x2048x1024_S1x2048x1024_3_0_0))) (k0_pay6 (View.ld (iblk m c 0 t) (Rect.unit ![0, 4096] ![256, 1024] inb_S256x8192_S256x1024_0_4096)) (View.ld (iblk m c 1 t) (Rect.unit ![4, 0, 0] ![1, 2048, 1024] inb_S8x2048x1024_S1x2048x1024_4_0_0))) (View.ld (iblk m c 0 t) (Rect.unit ![0, 5120] ![256, 1024] inb_S256x8192_S256x1024_0_5120)) (View.ld (iblk m c 1 t) (Rect.unit ![5, 0, 0] ![1, 2048, 1024] inb_S8x2048x1024_S1x2048x1024_5_0_0)) (View.ld (iblk m c 0 t) (Rect.unit ![0, 6144] ![256, 1024] inb_S256x8192_S256x1024_0_6144)) (View.ld (iblk m c 1 t) (Rect.unit ![6, 0, 0] ![1, 2048, 1024] inb_S8x2048x1024_S1x2048x1024_6_0_0)) (View.ld (iblk m c 0 t) (Rect.unit ![0, 7168] ![256, 1024] inb_S256x8192_S256x1024_0_7168)) (View.ld (iblk m c 1 t) (Rect.unit ![7, 0, 0] ![1, 2048, 1024] inb_S8x2048x1024_S1x2048x1024_7_0_0)) (iblk m c 2 t) (iblk m c 3 t)) (k0_pay11 (k0_pay5 (View.ld (iblk m c 0 t) (Rect.unit ![0, 0] ![256, 1024] inb_S256x8192_S256x1024_0_0)) (View.ld (iblk m c 1 t) (Rect.unit ![0, 0, 0] ![1, 2048, 1024] inb_S8x2048x1024_S1x2048x1024_0_0_0)) (View.ld (iblk m c 0 t) (Rect.unit ![0, 1024] ![256, 1024] inb_S256x8192_S256x1024_0_1024)) (View.ld (iblk m c 1 t) (Rect.unit ![1, 0, 0] ![1, 2048, 1024] inb_S8x2048x1024_S1x2048x1024_1_0_0)) (View.ld (iblk m c 0 t) (Rect.unit ![0, 2048] ![256, 1024] inb_S256x8192_S256x1024_0_2048)) (View.ld (iblk m c 1 t) (Rect.unit ![2, 0, 0] ![1, 2048, 1024] inb_S8x2048x1024_S1x2048x1024_2_0_0)) (View.ld (iblk m c 0 t) (Rect.unit ![0, 3072] ![256, 1024] inb_S256x8192_S256x1024_0_3072)) (View.ld (iblk m c 1 t) (Rect.unit ![3, 0, 0] ![1, 2048, 1024] inb_S8x2048x1024_S1x2048x1024_3_0_0))) (k0_pay6 (View.ld (iblk m c 0 t) (Rect.unit ![0, 4096] ![256, 1024] inb_S256x8192_S256x1024_0_4096)) (View.ld (iblk m c 1 t) (Rect.unit ![4, 0, 0] ![1, 2048, 1024] inb_S8x2048x1024_S1x2048x1024_4_0_0))) (View.ld (iblk m c 0 t) (Rect.unit ![0, 5120] ![256, 1024] inb_S256x8192_S256x1024_0_5120)) (View.ld (iblk m c 1 t) (Rect.unit ![5, 0, 0] ![1, 2048, 1024] inb_S8x2048x1024_S1x2048x1024_5_0_0)) (View.ld (iblk m c 0 t) (Rect.unit ![0, 6144] ![256, 1024] inb_S256x8192_S256x1024_0_6144)) (View.ld (iblk m c 1 t) (Rect.unit ![6, 0, 0] ![1, 2048, 1024] inb_S8x2048x1024_S1x2048x1024_6_0_0)) (View.ld (iblk m c 0 t) (Rect.unit ![0, 7168] ![256, 1024] inb_S256x8192_S256x1024_0_7168)) (View.ld (iblk m c 1 t) (Rect.unit ![7, 0, 0] ![1, 2048, 1024] inb_S8x2048x1024_S1x2048x1024_7_0_0)) (iblk m c 4 t) (iblk m c 3 t) (iblk m c 5 t)) (k0_pay12 (iblk m c 4 t)) y = dx (dhV m c) (V m c main_arg2) (V m c main_arg3) (V m c main_arg4) (rtV m c) (((cfg0.win 6).blk t).view.emb y) := by
  pointwise [k0_pay1, k0_pay8, k0_pay9, k0_pay10, k0_pay11, k0_pay12, dx, rowp]
  simp only [pdh m c t]
  blk_point [iblk, idx t]
  refine (congrFun (entry_v7 m c) _).trans ?_
  pointwise [rtV, rt]
  blk_point [idx t]
/-- The same entry for the rounded rows. -/
theorem point_xb (c : Dev nD) (t : Fin cfg0.N) (y) :
    k0_pay2 (iblk m c 2 t) (k0_pay8 (iblk m c 4 t)) (k0_pay10 (k0_pay5 (View.ld (iblk m c 0 t) (Rect.unit ![0, 0] ![256, 1024] inb_S256x8192_S256x1024_0_0)) (View.ld (iblk m c 1 t) (Rect.unit ![0, 0, 0] ![1, 2048, 1024] inb_S8x2048x1024_S1x2048x1024_0_0_0)) (View.ld (iblk m c 0 t) (Rect.unit ![0, 1024] ![256, 1024] inb_S256x8192_S256x1024_0_1024)) (View.ld (iblk m c 1 t) (Rect.unit ![1, 0, 0] ![1, 2048, 1024] inb_S8x2048x1024_S1x2048x1024_1_0_0)) (View.ld (iblk m c 0 t) (Rect.unit ![0, 2048] ![256, 1024] inb_S256x8192_S256x1024_0_2048)) (View.ld (iblk m c 1 t) (Rect.unit ![2, 0, 0] ![1, 2048, 1024] inb_S8x2048x1024_S1x2048x1024_2_0_0)) (View.ld (iblk m c 0 t) (Rect.unit ![0, 3072] ![256, 1024] inb_S256x8192_S256x1024_0_3072)) (View.ld (iblk m c 1 t) (Rect.unit ![3, 0, 0] ![1, 2048, 1024] inb_S8x2048x1024_S1x2048x1024_3_0_0))) (k0_pay6 (View.ld (iblk m c 0 t) (Rect.unit ![0, 4096] ![256, 1024] inb_S256x8192_S256x1024_0_4096)) (View.ld (iblk m c 1 t) (Rect.unit ![4, 0, 0] ![1, 2048, 1024] inb_S8x2048x1024_S1x2048x1024_4_0_0))) (View.ld (iblk m c 0 t) (Rect.unit ![0, 5120] ![256, 1024] inb_S256x8192_S256x1024_0_5120)) (View.ld (iblk m c 1 t) (Rect.unit ![5, 0, 0] ![1, 2048, 1024] inb_S8x2048x1024_S1x2048x1024_5_0_0)) (View.ld (iblk m c 0 t) (Rect.unit ![0, 6144] ![256, 1024] inb_S256x8192_S256x1024_0_6144)) (View.ld (iblk m c 1 t) (Rect.unit ![6, 0, 0] ![1, 2048, 1024] inb_S8x2048x1024_S1x2048x1024_6_0_0)) (View.ld (iblk m c 0 t) (Rect.unit ![0, 7168] ![256, 1024] inb_S256x8192_S256x1024_0_7168)) (View.ld (iblk m c 1 t) (Rect.unit ![7, 0, 0] ![1, 2048, 1024] inb_S8x2048x1024_S1x2048x1024_7_0_0)) (iblk m c 2 t) (iblk m c 3 t)) (k0_pay11 (k0_pay5 (View.ld (iblk m c 0 t) (Rect.unit ![0, 0] ![256, 1024] inb_S256x8192_S256x1024_0_0)) (View.ld (iblk m c 1 t) (Rect.unit ![0, 0, 0] ![1, 2048, 1024] inb_S8x2048x1024_S1x2048x1024_0_0_0)) (View.ld (iblk m c 0 t) (Rect.unit ![0, 1024] ![256, 1024] inb_S256x8192_S256x1024_0_1024)) (View.ld (iblk m c 1 t) (Rect.unit ![1, 0, 0] ![1, 2048, 1024] inb_S8x2048x1024_S1x2048x1024_1_0_0)) (View.ld (iblk m c 0 t) (Rect.unit ![0, 2048] ![256, 1024] inb_S256x8192_S256x1024_0_2048)) (View.ld (iblk m c 1 t) (Rect.unit ![2, 0, 0] ![1, 2048, 1024] inb_S8x2048x1024_S1x2048x1024_2_0_0)) (View.ld (iblk m c 0 t) (Rect.unit ![0, 3072] ![256, 1024] inb_S256x8192_S256x1024_0_3072)) (View.ld (iblk m c 1 t) (Rect.unit ![3, 0, 0] ![1, 2048, 1024] inb_S8x2048x1024_S1x2048x1024_3_0_0))) (k0_pay6 (View.ld (iblk m c 0 t) (Rect.unit ![0, 4096] ![256, 1024] inb_S256x8192_S256x1024_0_4096)) (View.ld (iblk m c 1 t) (Rect.unit ![4, 0, 0] ![1, 2048, 1024] inb_S8x2048x1024_S1x2048x1024_4_0_0))) (View.ld (iblk m c 0 t) (Rect.unit ![0, 5120] ![256, 1024] inb_S256x8192_S256x1024_0_5120)) (View.ld (iblk m c 1 t) (Rect.unit ![5, 0, 0] ![1, 2048, 1024] inb_S8x2048x1024_S1x2048x1024_5_0_0)) (View.ld (iblk m c 0 t) (Rect.unit ![0, 6144] ![256, 1024] inb_S256x8192_S256x1024_0_6144)) (View.ld (iblk m c 1 t) (Rect.unit ![6, 0, 0] ![1, 2048, 1024] inb_S8x2048x1024_S1x2048x1024_6_0_0)) (View.ld (iblk m c 0 t) (Rect.unit ![0, 7168] ![256, 1024] inb_S256x8192_S256x1024_0_7168)) (View.ld (iblk m c 1 t) (Rect.unit ![7, 0, 0] ![1, 2048, 1024] inb_S8x2048x1024_S1x2048x1024_7_0_0)) (iblk m c 4 t) (iblk m c 3 t) (iblk m c 5 t)) (k0_pay12 (iblk m c 4 t)) y = dx (dhV m c) (V m c main_arg2) (V m c main_arg3) (V m c main_arg4) (rtV m c) (((cfg0.win 7).blk t).view.emb y) :=
  point_x m c t y
/-- The rows' array after the run. -/
theorem final_x (c : Dev nD) : (dats m 0 c).arrAt 6 (cfgs 0).N = dx (dhV m c) (V m c main_arg2) (V m c main_arg3) (V m c main_arg4) (rtV m c) := by
  refine (dats m 0 c).arrAt_eq_of_covers 6 _ (by decide +kernel) fun t hf y => ?_
  blk_simp; rw [after0_6]
  by_cases h0 : t.val % 16 = 0
  · rw [outsAt0_A m c t h0]; frame_out
    exact point_x m c t y
  · rw [outsAt0_B m c t h0]; frame_out
    exact point_x m c t y
/-- The rounded rows' array after the run. -/
theorem final_xb (c : Dev nD) : (dats m 0 c).arrAt 7 (cfgs 0).N = dx (dhV m c) (V m c main_arg2) (V m c main_arg3) (V m c main_arg4) (rtV m c) := by
  refine (dats m 0 c).arrAt_eq_of_covers 7 _ (by decide +kernel) fun t hf y => ?_
  blk_simp; rw [after0_7]
  by_cases h0 : t.val % 16 = 0
  · rw [outsAt0_A m c t h0]; frame_out
    exact point_xb m c t y
  · rw [outsAt0_B m c t h0]; frame_out
    exact point_xb m c t y
/-- The scale's block after a point is what it was plus the point's sum. -/
theorem step (c : Dev nD) (t : Fin cfg0.N) (a : FVec Ideal S1x2048 .f32) (y) :
    k0_pay3 (k0_pay7 (k0_pay5 (View.ld (iblk m c 0 t) (Rect.unit ![0, 0] ![256, 1024] inb_S256x8192_S256x1024_0_0)) (View.ld (iblk m c 1 t) (Rect.unit ![0, 0, 0] ![1, 2048, 1024] inb_S8x2048x1024_S1x2048x1024_0_0_0)) (View.ld (iblk m c 0 t) (Rect.unit ![0, 1024] ![256, 1024] inb_S256x8192_S256x1024_0_1024)) (View.ld (iblk m c 1 t) (Rect.unit ![1, 0, 0] ![1, 2048, 1024] inb_S8x2048x1024_S1x2048x1024_1_0_0)) (View.ld (iblk m c 0 t) (Rect.unit ![0, 2048] ![256, 1024] inb_S256x8192_S256x1024_0_2048)) (View.ld (iblk m c 1 t) (Rect.unit ![2, 0, 0] ![1, 2048, 1024] inb_S8x2048x1024_S1x2048x1024_2_0_0)) (View.ld (iblk m c 0 t) (Rect.unit ![0, 3072] ![256, 1024] inb_S256x8192_S256x1024_0_3072)) (View.ld (iblk m c 1 t) (Rect.unit ![3, 0, 0] ![1, 2048, 1024] inb_S8x2048x1024_S1x2048x1024_3_0_0))) (k0_pay6 (View.ld (iblk m c 0 t) (Rect.unit ![0, 4096] ![256, 1024] inb_S256x8192_S256x1024_0_4096)) (View.ld (iblk m c 1 t) (Rect.unit ![4, 0, 0] ![1, 2048, 1024] inb_S8x2048x1024_S1x2048x1024_4_0_0))) (View.ld (iblk m c 0 t) (Rect.unit ![0, 5120] ![256, 1024] inb_S256x8192_S256x1024_0_5120)) (View.ld (iblk m c 1 t) (Rect.unit ![5, 0, 0] ![1, 2048, 1024] inb_S8x2048x1024_S1x2048x1024_5_0_0)) (View.ld (iblk m c 0 t) (Rect.unit ![0, 6144] ![256, 1024] inb_S256x8192_S256x1024_0_6144)) (View.ld (iblk m c 1 t) (Rect.unit ![6, 0, 0] ![1, 2048, 1024] inb_S8x2048x1024_S1x2048x1024_6_0_0)) (View.ld (iblk m c 0 t) (Rect.unit ![0, 7168] ![256, 1024] inb_S256x8192_S256x1024_0_7168)) (View.ld (iblk m c 1 t) (Rect.unit ![7, 0, 0] ![1, 2048, 1024] inb_S8x2048x1024_S1x2048x1024_7_0_0))) (iblk m c 2 t) (k0_pay8 (iblk m c 4 t)) a y = a y + ∑ i : Fin 256, dhV m c (((cfg0.win 6).blk t).view.emb (ix2 i (y 1))) * iblk m c 2 t (ix2 i (y 1)) * iblk m c 4 t (ix2 i 0) := by
  pointwise [k0_pay3, k0_pay8]
  simp only [pdh m c t]
/-- The first block is zero. -/
theorem zero (y) : k0_pay4 (F := Ideal) y = 0 := by
  pointwise [k0_pay4]
/-- The scale's array after the run. -/
theorem final_g (c : Dev nD) : (dats m 0 c).arrAt 8 (cfgs 0).N = dg (dhV m c) (V m c main_arg2) (rtV m c) := by
  refine (dats m 0 c).arrAt_eq_of_after_last 8 t0_15 (by decide +kernel) _ fun j => ?_
  blk_simp
  rw [after0_8, Pipeline.eq_sum_fin_of_reset_step_apply_last (fun n h => (outsAt0 m c n h).2.2) 16 (fun _ => 0) _
    (fun t h j => by rw [outsAt0_A m c t h]; frame_out; exact (step m c t _ j).trans (by rw [zero]))
    (fun t h j => by rw [outsAt0_B m c t h]; frame_out; exact step m c t _ j) (le_of_eq N_0) t0_15 rfl j, zero_add]
  refine Fin.sum_mul_add_congr fun t k hl => ?_
  blk_point [iblk, idx t]
  refine (congrFun (entry_v7 m c) _).trans ?_
  pointwise [rtV, rt]
  blk_point [idx t]

/-- The rows' gradient from the arguments. -/
def outX (a0 : FVec Ideal S4096x8192 .bf16) (a1 : FVec Ideal S2048x8192 .f32) (a2 : FVec Ideal S4096x2048 .f32) (a3 : FVec Ideal S1x2048 .f32)
    (a4 : FVec Ideal S4096x2048 .f32) : FVec Ideal S4096x2048 .f32 := dx (dh a0 a1) a2 a3 a4 (rt a2)
/-- The scale's gradient from the arguments. -/
def outG (a0 : FVec Ideal S4096x8192 .bf16) (a1 : FVec Ideal S2048x8192 .f32) (a2 : FVec Ideal S4096x2048 .f32) : FVec Ideal S1x2048 .f32 := dg (dh a0 a1) a2 (rt a2)
/-- The rows' array from the arguments. -/
theorem last_x (c : Dev nD) : (dats m 0 c).arrAt 6 (cfgs 0).N = outX (m ((c : Thread nD τ).loc main_arg0)) (m ((c : Thread nD τ).loc main_arg1))
    (m ((c : Thread nD τ).loc main_arg2)) (m ((c : Thread nD τ).loc main_arg3)) (m ((c : Thread nD τ).loc main_arg4)) := by
  rw [final_x, Cert.NormInIdeal.Gen.V_main_arg2, Cert.NormInIdeal.Gen.V_main_arg3, Cert.NormInIdeal.Gen.V_main_arg4, dhV, Cert.NormInIdeal.Gen.V_main_arg0, rtV, outX]
/-- The rounded rows' array from the arguments. -/
theorem last_xb (c : Dev nD) : (dats m 0 c).arrAt 7 (cfgs 0).N = outX (m ((c : Thread nD τ).loc main_arg0)) (m ((c : Thread nD τ).loc main_arg1))
    (m ((c : Thread nD τ).loc main_arg2)) (m ((c : Thread nD τ).loc main_arg3)) (m ((c : Thread nD τ).loc main_arg4)) := by
  rw [final_xb, Cert.NormInIdeal.Gen.V_main_arg2, Cert.NormInIdeal.Gen.V_main_arg3, Cert.NormInIdeal.Gen.V_main_arg4, dhV, Cert.NormInIdeal.Gen.V_main_arg0, rtV, outX]
/-- The scale's array from the arguments. -/
theorem last_g (c : Dev nD) : (dats m 0 c).arrAt 8 (cfgs 0).N = outG (m ((c : Thread nD τ).loc main_arg0)) (m ((c : Thread nD τ).loc main_arg1))
    (m ((c : Thread nD τ).loc main_arg2)) := by
  rw [final_g, Cert.NormInIdeal.Gen.V_main_arg2, dhV, Cert.NormInIdeal.Gen.V_main_arg0, rtV, outG]

end Cert.NormInIdeal.Closed

namespace Cert.NormInRefIdeal.Closed

open Cert.NormInRefIdeal Cert.NormInRefIdeal.Read
open Cert.NormInIdeal.Closed (outX outG dx rowp dh rt ms dg)

variable (a0 : FVec Ideal S4096x8192 .bf16) (a1 : FVec Ideal S2048x8192 .f32) (a2 : FVec Ideal S4096x2048 .f32) (a3 : FVec Ideal S1x2048 .f32)
  (a4 : FVec Ideal S4096x2048 .f32)

/-- The reference's gradient of the rows. -/
theorem ref_x : val_main_v37 (F := Ideal) a0 a1 a2 a3 a4 = outX a0 a1 a2 a3 a4 := by
  funext j
  pointwise [val_main_cst, val_main_cst_0, val_main_cst_1, val_main_cst_2, val_main_cst_3, val_main_cst_4, val_main_cst_5, val_main_cst_6, val_main_v0, val_main_v1, val_main_v2, val_main_v3, val_main_v4, val_main_v5, val_main_v6, val_main_v7, val_main_v8, val_main_v9, val_main_v10, val_main_v11, val_main_v12, val_main_v13, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, outX, dx, rowp, dh, rt, ms]
  rw [Fin.sum_univ_one]
  exact (Cert.NormMath.back _ _ _ _ (Cert.NormMath.ms_pos _)).symm
/-- The reference's rounded gradient of the rows. -/
theorem ref_xb : val_main_v39 (F := Ideal) a0 a1 a2 a3 a4 = outX a0 a1 a2 a3 a4 := ref_x a0 a1 a2 a3 a4
/-- The reference's gradient of the scale. -/
theorem ref_g : val_main_v20 (F := Ideal) a0 a1 a2 = outG a0 a1 a2 := by
  funext j
  pointwise [val_main_cst, val_main_cst_0, val_main_cst_1, val_main_cst_2, val_main_cst_3, val_main_cst_4, val_main_cst_5, val_main_cst_6, val_main_v0, val_main_v1, val_main_v2, val_main_v3, val_main_v4, val_main_v5, val_main_v6, val_main_v7, val_main_v8, val_main_v9, val_main_v10, val_main_v11, val_main_v12, val_main_v13, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, outG, dg, dh, rt, ms]
  exact Finset.sum_congr rfl fun i _ => (mul_comm _ _).trans (mul_assoc _ _ _).symm

end Cert.NormInRefIdeal.Closed

namespace Cert.NormInProof

/-- The kernel runs and leaves its arguments alone, on bit patterns. -/
theorem frame_kernel : Cert.quiescent_NormIn := fun m ρ _ => Cert.NormIn.Gen.frame m ρ
/-- The kernel runs and leaves its arguments alone, on extended reals. -/
theorem frame_ideal : Cert.quiescent_NormInIdeal := fun m ρ _ => Cert.NormInIdeal.Gen.frame m ρ
/-- The reference runs and leaves its arguments alone. -/
theorem frame_ref : Cert.quiescent_NormInRefIdeal := fun m ρ _ =>
  (θ_run Cert.NormInRefIdeal.defs _ _).mono (fun r h => ⟨fun c => (h c).2.2.2,
      Idealize.ShloMosaic.sem_eq_zero_of_no_sems (by decide) r.2⟩)
    (Cert.NormInRefIdeal.Value.run (F := Ideal) m ρ)

/-- The kernel's results and the reference's are the same arrays of extended reals. -/
theorem algebraic : Cert.algebraic_NormInIdeal_NormInRefIdeal := by
  intro m g m' g' hpre hagree
  refine ⟨fun c => Cert.NormInIdeal.Closed.outX (m (c.tc.loc Cert.NormInIdeal.main_arg0)) (m (c.tc.loc Cert.NormInIdeal.main_arg1)) (m (c.tc.loc Cert.NormInIdeal.main_arg2))
      (m (c.tc.loc Cert.NormInIdeal.main_arg3)) (m (c.tc.loc Cert.NormInIdeal.main_arg4)),
    fun c => Cert.NormInIdeal.Closed.outX (m (c.tc.loc Cert.NormInIdeal.main_arg0)) (m (c.tc.loc Cert.NormInIdeal.main_arg1)) (m (c.tc.loc Cert.NormInIdeal.main_arg2))
      (m (c.tc.loc Cert.NormInIdeal.main_arg3)) (m (c.tc.loc Cert.NormInIdeal.main_arg4)),
    fun c => Cert.NormInIdeal.Closed.outG (m (c.tc.loc Cert.NormInIdeal.main_arg0)) (m (c.tc.loc Cert.NormInIdeal.main_arg1)) (m (c.tc.loc Cert.NormInIdeal.main_arg2)), ?_, ?_⟩
  · exact (θ_run Cert.NormInIdeal.defs _ _).mono (fun r h c => ⟨((h.1 c).1 6).trans (Cert.NormInIdeal.Closed.last_x m c),
        ((h.1 c).1 7).trans (Cert.NormInIdeal.Closed.last_xb m c), ((h.1 c).1 8).trans (Cert.NormInIdeal.Closed.last_g m c), h.2 c⟩)
      (θ_run_and (Cert.NormInIdeal.Gen.run_main m g) (Cert.NormInIdeal.Gen.unchanged m g))
  · refine (θ_run Cert.NormInRefIdeal.defs _ _).mono (fun r h c => ?_) (Cert.NormInRefIdeal.Value.run (F := Ideal) m' g')
    obtain ⟨h0, h1, h2, h3⟩ := h c
    obtain ⟨a0, a1, a2, a3, a4⟩ := hagree c
    refine ⟨(h0.trans (Cert.NormInRefIdeal.Read.val_main_v37_eq m' c)).trans ?_, (h1.trans (Cert.NormInRefIdeal.Read.val_main_v39_eq m' c)).trans ?_,
      (h2.trans (Cert.NormInRefIdeal.Read.val_main_v20_eq _ _ _)).trans ?_, h3⟩
    · rw [a0, a1, a2, a3, a4]
      exact Cert.NormInRefIdeal.Closed.ref_x _ _ _ _ _
    · rw [a0, a1, a2, a3, a4]
      exact Cert.NormInRefIdeal.Closed.ref_xb _ _ _ _ _
    · rw [a0, a1, a2]
      exact Cert.NormInRefIdeal.Closed.ref_g _ _ _

end Cert.NormInProof

end
-- ==== Proof.NormProjClaims.lean ====
/- The gradient through the combined input projection and the normalised rows before it. -/
module

public import proofs.«01_k».proof.Defs
public import proofs.«01_k».proof.Proof.Gen.NormProj.Frame
public import proofs.«01_k».proof.Proof.Gen.NormProjIdeal.Value
public import proofs.«01_k».proof.Proof.Gen.NormProjRefIdeal.Run
public import proofs.«01_k».proof.Proof.Gen.NormProjRefIdeal.Read
public import proofs.«01_k».proof.Proof.Gen.NormProjRefIdeal
public import proofs.«01_k».proof.Proof.NormMath
public import Idealize.ShloMosaic.Lib.Pipeline.ValueKit
public import Idealize.ShloMosaic.Lib.Pointwise
public import Idealize.ShloMosaic.Lib.VecWindow
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.StableHlo
open scoped BigOperators

namespace Cert.NormProjIdeal.Closed

open Cert.NormProjIdeal Cert.NormProjIdeal.Gen

/-- The gradient of the normalised rows: row `r` of `ct` times row `l` of `w`. -/
def dh (ct : FVec Ideal S4096x5632 .bf16) (w : FVec Ideal S2048x5632 .f32) : FVec Ideal S4096x2048 .f32 := fun j =>
  ∑ k : Fin 5632, ct (ix2 (j 0) k) * w (ix2 (j 1) k)
/-- The mean square of each row plus the small constant. -/
def ms (x : FVec Ideal S4096x2048 .f32) : FVec Ideal S4096x1 .f32 := fun j =>
  Ideal.div (∑ l : Fin 2048, x (ix2 (j 0) l) * x (ix2 (j 0) l)) (Ideal.ofBits .f32 0x45000000#32) + Ideal.ofBits .f32 0x358637BD#32
/-- One over the root of the mean square of each row. -/
def rt (x : FVec Ideal S4096x2048 .f32) : FVec Ideal S4096x1 .f32 := fun j => Ideal.rsqrt (ms x j)
/-- The product of each row and its gradient. -/
def rowp (h : FVec Ideal S4096x2048 .f32) (x : FVec Ideal S4096x2048 .f32) (g : FVec Ideal S1x2048 .f32) : FVec Ideal S4096x1 .f32 := fun j =>
  ∑ l : Fin 2048, x (ix2 (j 0) l) * (h (ix2 (j 0) l) * g (ix2 0 l))
/-- The gradient of the rows. -/
def dx (h : FVec Ideal S4096x2048 .f32) (x : FVec Ideal S4096x2048 .f32) (g : FVec Ideal S1x2048 .f32) (d : FVec Ideal S4096x2048 .f32) (r : FVec Ideal S4096x1 .f32) :
    FVec Ideal S4096x2048 .f32 := fun j =>
  d j + r (ix2 (j 0) 0) * (h j * g (ix2 0 (j 1)))
    - x j * (r (ix2 (j 0) 0) * r (ix2 (j 0) 0) * r (ix2 (j 0) 0)) * Ideal.div (rowp h x g (ix2 (j 0) 0)) (Ideal.ofBits .f32 0x45000000#32)
/-- The gradient of the scale. -/
def dg (h : FVec Ideal S4096x2048 .f32) (x : FVec Ideal S4096x2048 .f32) (r : FVec Ideal S4096x1 .f32) : FVec Ideal S1x2048 .f32 := fun j =>
  ∑ i : Fin 4096, h (ix2 i (j 1)) * x (ix2 i (j 1)) * r (ix2 i 0)

variable (m : (ℓ : Loc nD τ sig) → Buf (Elt Ideal) ℓ)

/-- The gradient of the normalised rows of the arguments. -/
def dhV (c : Dev nD) : FVec Ideal S4096x2048 .f32 := dh (V m c main_arg0) (m ((c : Thread nD τ).loc main_arg1))
/-- The roots of the rows of the arguments. -/
def rtV (c : Dev nD) : FVec Ideal S4096x1 .f32 := rt (m ((c : Thread nD τ).loc main_arg2))
/-- The weight the kernel reads is the second argument with its axes swapped. -/
theorem entry_v9 (c : Dev nD) (i : S5632x2048.Idx) : V m c main_v9 i = m ((c : Thread nD τ).loc main_arg1) (ix2 (i 1) (i 0)) := by
  entry_read
  pointwise
/-- The roots the kernel reads. -/
theorem entry_v7 (c : Dev nD) : V m c main_v7 = rtV m c := by
  funext i
  entry_read
  pointwise [rtV, rt, ms]
/-- Each window's block index at each grid point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] ∧ win0_7.index t = ![t.val, 0]
    ∧ win0_8.index t = ![0, 0] :=
  (by decide +kernel : ∀ t : Fin grid0.N, _)

/-- What each point multiplies out, at an index of its block. -/
theorem pdh (c : Dev nD) (t : Fin cfg0.N) (y) :
    k0_pay3 (iblk m c 0 t) (iblk m c 1 t) y = dhV m c (((cfg0.win 6).blk t).view.emb y) := by
  pointwise [k0_pay3, dhV, dh]
  blk_point [iblk, entry_v9, idx t]
/-- What point `t` stores at an index of the rows' block. -/
theorem point_x (c : Dev nD) (t : Fin cfg0.N) (y) :
    k0_pay5 (iblk m c 0 t) (iblk m c 1 t) (iblk m c 2 t) (iblk m c 4 t) (iblk m c 3 t) (iblk m c 5 t) y = dx (dhV m c) (V m c main_arg2) (V m c main_arg3) (V m c main_arg4) (rtV m c) (((cfg0.win 6).blk t).view.emb y) := by
  pointwise [k0_pay5, k0_pay4, dx, rowp]
  simp only [pdh m c t]
  blk_point [iblk, idx t]
  refine (congrFun (entry_v7 m c) _).trans ?_
  pointwise [rtV, rt]
  blk_point [idx t]
/-- The same entry for the rounded rows. -/
theorem point_xb (c : Dev nD) (t : Fin cfg0.N) (y) :
    k0_pay6 (iblk m c 0 t) (iblk m c 1 t) (iblk m c 2 t) (iblk m c 4 t) (iblk m c 3 t) (iblk m c 5 t) y = dx (dhV m c) (V m c main_arg2) (V m c main_arg3) (V m c main_arg4) (rtV m c) (((cfg0.win 7).blk t).view.emb y) :=
  point_x m c t y
/-- The rows' array after the run. -/
theorem final_x (c : Dev nD) : (dats m 0 c).arrAt 6 (cfgs 0).N = dx (dhV m c) (V m c main_arg2) (V m c main_arg3) (V m c main_arg4) (rtV m c) := by
  refine (dats m 0 c).arrAt_eq_of_covers 6 _ (by decide +kernel) fun t hf y => ?_
  blk_simp; rw [after0_6]
  by_cases h0 : t.val % 16 = 0
  · rw [outsAt0_A m c t h0]; frame_out
    exact point_x m c t y
  · rw [outsAt0_B m c t h0]; frame_out
    exact point_x m c t y
/-- The rounded rows' array after the run. -/
theorem final_xb (c : Dev nD) : (dats m 0 c).arrAt 7 (cfgs 0).N = dx (dhV m c) (V m c main_arg2) (V m c main_arg3) (V m c main_arg4) (rtV m c) := by
  refine (dats m 0 c).arrAt_eq_of_covers 7 _ (by decide +kernel) fun t hf y => ?_
  blk_simp; rw [after0_7]
  by_cases h0 : t.val % 16 = 0
  · rw [outsAt0_A m c t h0]; frame_out
    exact point_xb m c t y
  · rw [outsAt0_B m c t h0]; frame_out
    exact point_xb m c t y
/-- The scale's block after a point is what it was plus the point's sum. -/
theorem step (c : Dev nD) (t : Fin cfg0.N) (a : FVec Ideal S1x2048 .f32) (y) :
    k0_pay1 (k0_pay3 (iblk m c 0 t) (iblk m c 1 t)) (iblk m c 2 t) (k0_pay4 (iblk m c 4 t)) a y = a y + ∑ i : Fin 256, dhV m c (((cfg0.win 6).blk t).view.emb (ix2 i (y 1))) * iblk m c 2 t (ix2 i (y 1)) * iblk m c 4 t (ix2 i 0) := by
  pointwise [k0_pay1, k0_pay4]
  simp only [pdh m c t]
/-- The first block is zero. -/
theorem zero (y) : k0_pay2 (F := Ideal) y = 0 := by
  pointwise [k0_pay2]
/-- The scale's array after the run. -/
theorem final_g (c : Dev nD) : (dats m 0 c).arrAt 8 (cfgs 0).N = dg (dhV m c) (V m c main_arg2) (rtV m c) := by
  refine (dats m 0 c).arrAt_eq_of_after_last 8 t0_15 (by decide +kernel) _ fun j => ?_
  blk_simp
  rw [after0_8, Pipeline.eq_sum_fin_of_reset_step_apply_last (fun n h => (outsAt0 m c n h).2.2) 16 (fun _ => 0) _
    (fun t h j => by rw [outsAt0_A m c t h]; frame_out; rw [step m c t, zero])
    (fun t h j => by rw [outsAt0_B m c t h]; frame_out; rw [step m c t]) (le_of_eq N_0) t0_15 rfl j, zero_add]
  refine Fin.sum_mul_add_congr fun t k hl => ?_
  blk_point [iblk, idx t]
  refine (congrFun (entry_v7 m c) _).trans ?_
  pointwise [rtV, rt]
  blk_point [idx t]

/-- The rows' gradient from the arguments. -/
def outX (a0 : FVec Ideal S4096x5632 .bf16) (a1 : FVec Ideal S2048x5632 .f32) (a2 : FVec Ideal S4096x2048 .f32) (a3 : FVec Ideal S1x2048 .f32)
    (a4 : FVec Ideal S4096x2048 .f32) : FVec Ideal S4096x2048 .f32 := dx (dh a0 a1) a2 a3 a4 (rt a2)
/-- The scale's gradient from the arguments. -/
def outG (a0 : FVec Ideal S4096x5632 .bf16) (a1 : FVec Ideal S2048x5632 .f32) (a2 : FVec Ideal S4096x2048 .f32) : FVec Ideal S1x2048 .f32 := dg (dh a0 a1) a2 (rt a2)
/-- The rows' array from the arguments. -/
theorem last_x (c : Dev nD) : (dats m 0 c).arrAt 6 (cfgs 0).N = outX (m ((c : Thread nD τ).loc main_arg0)) (m ((c : Thread nD τ).loc main_arg1))
    (m ((c : Thread nD τ).loc main_arg2)) (m ((c : Thread nD τ).loc main_arg3)) (m ((c : Thread nD τ).loc main_arg4)) := by
  rw [final_x, Cert.NormProjIdeal.Gen.V_main_arg2, Cert.NormProjIdeal.Gen.V_main_arg3, Cert.NormProjIdeal.Gen.V_main_arg4, dhV, Cert.NormProjIdeal.Gen.V_main_arg0, rtV, outX]
/-- The rounded rows' array from the arguments. -/
theorem last_xb (c : Dev nD) : (dats m 0 c).arrAt 7 (cfgs 0).N = outX (m ((c : Thread nD τ).loc main_arg0)) (m ((c : Thread nD τ).loc main_arg1))
    (m ((c : Thread nD τ).loc main_arg2)) (m ((c : Thread nD τ).loc main_arg3)) (m ((c : Thread nD τ).loc main_arg4)) := by
  rw [final_xb, Cert.NormProjIdeal.Gen.V_main_arg2, Cert.NormProjIdeal.Gen.V_main_arg3, Cert.NormProjIdeal.Gen.V_main_arg4, dhV, Cert.NormProjIdeal.Gen.V_main_arg0, rtV, outX]
/-- The scale's array from the arguments. -/
theorem last_g (c : Dev nD) : (dats m 0 c).arrAt 8 (cfgs 0).N = outG (m ((c : Thread nD τ).loc main_arg0)) (m ((c : Thread nD τ).loc main_arg1))
    (m ((c : Thread nD τ).loc main_arg2)) := by
  rw [final_g, Cert.NormProjIdeal.Gen.V_main_arg2, dhV, Cert.NormProjIdeal.Gen.V_main_arg0, rtV, outG]

end Cert.NormProjIdeal.Closed

namespace Cert.NormProjRefIdeal.Closed

open Cert.NormProjRefIdeal Cert.NormProjRefIdeal.Read
open Cert.NormProjIdeal.Closed (outX outG dx rowp dh rt ms dg)

variable (a0 : FVec Ideal S4096x5632 .bf16) (a1 : FVec Ideal S2048x5632 .f32) (a2 : FVec Ideal S4096x2048 .f32) (a3 : FVec Ideal S1x2048 .f32)
  (a4 : FVec Ideal S4096x2048 .f32)

/-- The reference's gradient of the rows. -/
theorem ref_x : val_main_v37 (F := Ideal) a0 a1 a2 a3 a4 = outX a0 a1 a2 a3 a4 := by
  funext j
  pointwise [val_main_cst, val_main_cst_0, val_main_cst_1, val_main_cst_2, val_main_cst_3, val_main_cst_4, val_main_cst_5, val_main_cst_6, val_main_v0, val_main_v1, val_main_v2, val_main_v3, val_main_v4, val_main_v5, val_main_v6, val_main_v7, val_main_v8, val_main_v9, val_main_v10, val_main_v11, val_main_v12, val_main_v13, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, outX, dx, rowp, dh, rt, ms]
  rw [Fin.sum_univ_one]
  exact (Cert.NormMath.back _ _ _ _ (Cert.NormMath.ms_pos _)).symm
/-- The reference's rounded gradient of the rows. -/
theorem ref_xb : val_main_v39 (F := Ideal) a0 a1 a2 a3 a4 = outX a0 a1 a2 a3 a4 := ref_x a0 a1 a2 a3 a4
/-- The reference's gradient of the scale. -/
theorem ref_g : val_main_v20 (F := Ideal) a0 a1 a2 = outG a0 a1 a2 := by
  funext j
  pointwise [val_main_cst, val_main_cst_0, val_main_cst_1, val_main_cst_2, val_main_cst_3, val_main_cst_4, val_main_cst_5, val_main_cst_6, val_main_v0, val_main_v1, val_main_v2, val_main_v3, val_main_v4, val_main_v5, val_main_v6, val_main_v7, val_main_v8, val_main_v9, val_main_v10, val_main_v11, val_main_v12, val_main_v13, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, outG, dg, dh, rt, ms]
  exact Finset.sum_congr rfl fun i _ => (mul_comm _ _).trans (mul_assoc _ _ _).symm

end Cert.NormProjRefIdeal.Closed

namespace Cert.NormProjProof

/-- The kernel runs and leaves its arguments alone, on bit patterns. -/
theorem frame_kernel : Cert.quiescent_NormProj := fun m ρ _ => Cert.NormProj.Gen.frame m ρ
/-- The kernel runs and leaves its arguments alone, on extended reals. -/
theorem frame_ideal : Cert.quiescent_NormProjIdeal := fun m ρ _ => Cert.NormProjIdeal.Gen.frame m ρ
/-- The reference runs and leaves its arguments alone. -/
theorem frame_ref : Cert.quiescent_NormProjRefIdeal := fun m ρ _ =>
  (θ_run Cert.NormProjRefIdeal.defs _ _).mono (fun r h => ⟨fun c => (h c).2.2.2,
      Idealize.ShloMosaic.sem_eq_zero_of_no_sems (by decide) r.2⟩)
    (Cert.NormProjRefIdeal.Value.run (F := Ideal) m ρ)

/-- The kernel's results and the reference's are the same arrays of extended reals. -/
theorem algebraic : Cert.algebraic_NormProjIdeal_NormProjRefIdeal := by
  intro m g m' g' hpre hagree
  refine ⟨fun c => Cert.NormProjIdeal.Closed.outX (m (c.tc.loc Cert.NormProjIdeal.main_arg0)) (m (c.tc.loc Cert.NormProjIdeal.main_arg1)) (m (c.tc.loc Cert.NormProjIdeal.main_arg2))
      (m (c.tc.loc Cert.NormProjIdeal.main_arg3)) (m (c.tc.loc Cert.NormProjIdeal.main_arg4)),
    fun c => Cert.NormProjIdeal.Closed.outX (m (c.tc.loc Cert.NormProjIdeal.main_arg0)) (m (c.tc.loc Cert.NormProjIdeal.main_arg1)) (m (c.tc.loc Cert.NormProjIdeal.main_arg2))
      (m (c.tc.loc Cert.NormProjIdeal.main_arg3)) (m (c.tc.loc Cert.NormProjIdeal.main_arg4)),
    fun c => Cert.NormProjIdeal.Closed.outG (m (c.tc.loc Cert.NormProjIdeal.main_arg0)) (m (c.tc.loc Cert.NormProjIdeal.main_arg1)) (m (c.tc.loc Cert.NormProjIdeal.main_arg2)), ?_, ?_⟩
  · exact (θ_run Cert.NormProjIdeal.defs _ _).mono (fun r h c => ⟨((h.1 c).1 6).trans (Cert.NormProjIdeal.Closed.last_x m c),
        ((h.1 c).1 7).trans (Cert.NormProjIdeal.Closed.last_xb m c), ((h.1 c).1 8).trans (Cert.NormProjIdeal.Closed.last_g m c), h.2 c⟩)
      (θ_run_and (Cert.NormProjIdeal.Gen.run_main m g) (Cert.NormProjIdeal.Gen.unchanged m g))
  · refine (θ_run Cert.NormProjRefIdeal.defs _ _).mono (fun r h c => ?_) (Cert.NormProjRefIdeal.Value.run (F := Ideal) m' g')
    obtain ⟨h0, h1, h2, h3⟩ := h c
    obtain ⟨a0, a1, a2, a3, a4⟩ := hagree c
    refine ⟨(h0.trans (Cert.NormProjRefIdeal.Read.val_main_v37_eq m' c)).trans ?_, (h1.trans (Cert.NormProjRefIdeal.Read.val_main_v39_eq m' c)).trans ?_,
      (h2.trans (Cert.NormProjRefIdeal.Read.val_main_v20_eq _ _ _)).trans ?_, h3⟩
    · rw [a0, a1, a2, a3, a4]
      exact Cert.NormProjRefIdeal.Closed.ref_x _ _ _ _ _
    · rw [a0, a1, a2, a3, a4]
      exact Cert.NormProjRefIdeal.Closed.ref_xb _ _ _ _ _
    · rw [a0, a1, a2]
      exact Cert.NormProjRefIdeal.Closed.ref_g _ _ _

end Cert.NormProjProof

end
-- ==== Proof.WgMlpOutClaims.lean ====
/- The gradient of the weight of the output product of the MLP. -/
module

public import proofs.«01_k».proof.Defs
public import proofs.«01_k».proof.Proof.Gen.WgMlpOut.Frame
public import proofs.«01_k».proof.Proof.Gen.WgMlpOutIdeal.Value
public import proofs.«01_k».proof.Proof.Gen.WgMlpOutRefIdeal.Run
public import proofs.«01_k».proof.Proof.Gen.WgMlpOutRefIdeal.Read
public import proofs.«01_k».proof.Proof.Gen.WgMlpOutRefIdeal
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.StableHlo
open scoped BigOperators

namespace Cert.WgMlpOutIdeal.Closed

open Cert.WgMlpOutIdeal Cert.WgMlpOutIdeal.Gen

/-- Column `r` of `x` times column `l` of `h`. -/
def prod (x : FVec Ideal S4096x8192 .bf16) (h : FVec Ideal S4096x2048 .bf16) : FVec Ideal S8192x2048 .bf16 := fun j =>
  ∑ k : Fin 4096, x (ix2 k (j 0)) * h (ix2 k (j 1))
/-- The squares of the positive parts. -/
def sqRelu (a : FVec Ideal S4096x8192 .bf16) : FVec Ideal S4096x8192 .bf16 := fun j => max (a j) 0 * max (a j) 0

variable (m : (ℓ : Loc nD τ sig) → Buf (Elt Ideal) ℓ)

/-- The last stretch of the host code squares and narrows. -/
theorem w2_v3 (W : Valuation τ sig (Elt Ideal)) : after hostOps0_2 W (Proc.devRef .tc main_v3) =
    (truncf .bf16 (mulf (W (Proc.devRef .tc main_v1)) (W (Proc.devRef .tc main_v1)) : FVec Ideal S4096x8192 .f32) bitsLt_bf16_f32 : FVec Ideal S4096x8192 .bf16) := by
  after_results
/-- The middle stretch of the host code takes positive parts. -/
theorem w1_v1 (W : Valuation τ sig (Elt Ideal)) : after hostOps0_1 W (Proc.devRef .tc main_v1) =
    (maximumf (W (Proc.devRef .tc main_v0)) (broadcastInDim S4096x8192 ![] bcast_S_S4096x8192 (constant S_ .f32 0x00000000#32 : FVec Ideal S_ .f32) : FVec Ideal S4096x8192 .f32) : FVec Ideal S4096x8192 .f32) := by
  after_results
  rfl
/-- The first stretch of the host code widens. -/
theorem w0_v0 (W : Valuation τ sig (Elt Ideal)) : after hostOps0 W (Proc.devRef .tc main_v0) =
    (extf .f32 (W (Proc.devRef .tc main_arg0) : FVec Ideal S4096x8192 .bf16) bitsLt_bf16_f32 : FVec Ideal S4096x8192 .f32) := by
  after_results
/-- What the region finds in an array is what the three stretches of the host code leave there. -/
theorem V_eq (c : Dev nD) (b : Ref sig .tc) : V m c b = after hostOps0_2 (after hostOps0_1 (after hostOps0 (fun b => m (c, b)))) (Proc.devRef .tc b) := by
  unfold V
  simp only [List.flatten_cons, List.flatten_nil, List.append_nil, after_append]
/-- The rows the kernel reads are the squared positive parts of the first argument. -/
theorem entry_v3 (c : Dev nD) : V m c main_v3 = sqRelu (m ((c : Thread nD τ).loc main_arg0)) := by
  rw [V_eq, w2_v3, w1_v1, w0_v0]
  funext j
  pointwise [sqRelu]

/-- Each window's block index at each grid point. -/
theorem idx : ∀ t : Fin cfg0.N, win0_0.index t = ![0, t.val] ∧ win0_1.index t = ![0, 0] ∧ win0_2.index t = ![t.val, 0] :=
  (by decide +kernel : ∀ t : Fin grid0.N, _)

/-- What point `t` stores at an index of its block is the product at the array index where that index sits. -/
theorem point (c : Dev nD) (t : Fin cfg0.N) (y) :
    k0_pay1 (iblk m c 0 t) (iblk m c 1 t) y = prod (V m c main_v3) (V m c main_arg1) (((cfg0.win 2).blk t).view.emb y) := by
  pointwise [k0_pay1, prod]
  blk_point [iblk, idx t]

/-- The result array after the run. -/
theorem final (c : Dev nD) : (dats m 0 c).arrAt 2 (cfgs 0).N = prod (V m c main_v3) (V m c main_arg1) := by
  refine (dats m 0 c).arrAt_eq_of_covers 2 _ (by decide +kernel) fun t hf y => ?_
  blk_simp; rw [after0_2]; frame_out
  exact point m c t y

end Cert.WgMlpOutIdeal.Closed

namespace Cert.WgMlpOutProof

/-- The kernel runs and leaves its arguments alone, on bit patterns. -/
theorem frame_kernel : Cert.quiescent_WgMlpOut := fun m ρ _ => Cert.WgMlpOut.Gen.frame m ρ
/-- The kernel runs and leaves its arguments alone, on extended reals. -/
theorem frame_ideal : Cert.quiescent_WgMlpOutIdeal := fun m ρ _ => Cert.WgMlpOutIdeal.Gen.frame m ρ
/-- The reference runs and leaves its arguments alone. -/
theorem frame_ref : Cert.quiescent_WgMlpOutRefIdeal := fun m ρ _ =>
  (θ_run Cert.WgMlpOutRefIdeal.defs _ _).mono (fun r h => ⟨fun c => (h c).2,
      Idealize.ShloMosaic.sem_eq_zero_of_no_sems (by decide) r.2⟩)
    (Cert.WgMlpOutRefIdeal.Value.run (F := Ideal) m ρ)

/-- The kernel's results and the reference's are the same arrays of extended reals. -/
theorem algebraic : Cert.algebraic_WgMlpOutIdeal_WgMlpOutRefIdeal := by
  pair_intro
  · run_from Cert.WgMlpOutIdeal.Gen.run_main m g
    exact Cert.WgMlpOutIdeal.Gen.V_main_arg0 m c
  · run_from Cert.WgMlpOutRefIdeal.Value.run m' g'
    rw [Cert.WgMlpOutIdeal.Closed.final m c, Cert.WgMlpOutIdeal.Closed.entry_v3, Cert.WgMlpOutIdeal.Gen.V_main_arg1]
    funext j
    pointwise [Cert.WgMlpOutIdeal.Closed.prod, Cert.WgMlpOutIdeal.Closed.sqRelu]
    exact Finset.sum_congr rfl fun k _ => mul_comm _ _

end Cert.WgMlpOutProof

end
-- ==== Proof.WgProjInClaims.lean ====
/- The gradient of the combined input projection. -/
module

public import proofs.«01_k».proof.Defs
public import proofs.«01_k».proof.Proof.Gen.WgProjIn.Frame
public import proofs.«01_k».proof.Proof.Gen.WgProjInIdeal.Value
public import proofs.«01_k».proof.Proof.Gen.WgProjInRefIdeal.Run
public import proofs.«01_k».proof.Proof.Gen.WgProjInRefIdeal.Read
public import proofs.«01_k».proof.Proof.Gen.WgProjInRefIdeal
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.StableHlo
open scoped BigOperators

namespace Cert.WgProjInIdeal.Closed

open Cert.WgProjInIdeal Cert.WgProjInIdeal.Gen

/-- Column `r` of `x` times column `l` of `h`. -/
def prod (x : FVec Ideal S4096x5632 .bf16) (h : FVec Ideal S4096x2048 .bf16) : FVec Ideal S5632x2048 .bf16 := fun j =>
  ∑ k : Fin 4096, x (ix2 k (j 0)) * h (ix2 k (j 1))

variable (m : (ℓ : Loc nD τ sig) → Buf (Elt Ideal) ℓ)

/-- Each window's block index at each grid point. -/
theorem idx : ∀ t : Fin cfg0.N, win0_0.index t = ![0, t.val] ∧ win0_1.index t = ![0, 0] ∧ win0_2.index t = ![t.val, 0] :=
  (by decide +kernel : ∀ t : Fin grid0.N, _)

/-- What point `t` stores at an index of its block is the product at the array index where that index sits. -/
theorem point (c : Dev nD) (t : Fin cfg0.N) (y) :
    k0_pay1 (iblk m c 0 t) (iblk m c 1 t) y = prod (V m c main_arg1) (V m c main_arg0) (((cfg0.win 2).blk t).view.emb y) := by
  pointwise [k0_pay1, prod]
  blk_point [iblk, idx t]

/-- The result array after the run. -/
theorem final (c : Dev nD) : (dats m 0 c).arrAt 2 (cfgs 0).N = prod (V m c main_arg1) (V m c main_arg0) := by
  refine (dats m 0 c).arrAt_eq_of_covers 2 _ (by decide +kernel) fun t hf y => ?_
  blk_simp; rw [after0_2]; frame_out
  exact point m c t y

end Cert.WgProjInIdeal.Closed

namespace Cert.WgProjInProof

/-- The kernel runs and leaves its arguments alone, on bit patterns. -/
theorem frame_kernel : Cert.quiescent_WgProjIn := fun m ρ _ => Cert.WgProjIn.Gen.frame m ρ
/-- The kernel runs and leaves its arguments alone, on extended reals. -/
theorem frame_ideal : Cert.quiescent_WgProjInIdeal := fun m ρ _ => Cert.WgProjInIdeal.Gen.frame m ρ
/-- The reference runs and leaves its arguments alone. -/
theorem frame_ref : Cert.quiescent_WgProjInRefIdeal := fun m ρ _ =>
  (θ_run Cert.WgProjInRefIdeal.defs _ _).mono (fun r h => ⟨fun c => (h c).2,
      Idealize.ShloMosaic.sem_eq_zero_of_no_sems (by decide) r.2⟩)
    (Cert.WgProjInRefIdeal.Value.run (F := Ideal) m ρ)

/-- The kernel's results and the reference's are the same arrays of extended reals. -/
theorem algebraic : Cert.algebraic_WgProjInIdeal_WgProjInRefIdeal := by
  pair_intro
  · run_from Cert.WgProjInIdeal.Gen.run_main m g
  · run_from Cert.WgProjInRefIdeal.Value.run m' g'
    rw [Cert.WgProjInIdeal.Closed.final m c, Cert.WgProjInIdeal.Gen.V_main_arg0, Cert.WgProjInIdeal.Gen.V_main_arg1]
    funext j
    pointwise [Cert.WgProjInIdeal.Closed.prod]

end Cert.WgProjInProof

end
-- ==== Proof.WgMlpInClaims.lean ====
/- The gradient of the weight of the first product of the MLP. -/
module

public import proofs.«01_k».proof.Defs
public import proofs.«01_k».proof.Proof.Gen.WgMlpIn.Frame
public import proofs.«01_k».proof.Proof.Gen.WgMlpInIdeal.Value
public import proofs.«01_k».proof.Proof.Gen.WgMlpInRefIdeal.Run
public import proofs.«01_k».proof.Proof.Gen.WgMlpInRefIdeal.Read
public import proofs.«01_k».proof.Proof.Gen.WgMlpInRefIdeal
public import Idealize.ShloMosaic.Lib.Pipeline.ValueKit
public import Idealize.ShloMosaic.Lib.Pointwise
public import Idealize.ShloMosaic.Lib.VecWindow
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.StableHlo
open scoped BigOperators

namespace Cert.WgMlpInIdeal.Closed

open Cert.WgMlpInIdeal Cert.WgMlpInIdeal.Gen

/-- Column `r` of `h` times column `l` of block `g` of `x`. -/
def prod (h : FVec Ideal S4096x2048 .bf16) (x : FVec Ideal S4096x8192 .bf16) : FVec Ideal S8x2048x1024 .bf16 := fun j =>
  ∑ k : Fin 4096, h (ix2 k (j 1)) * x (ix2 k ⟨(j 0).val * 1024 + (j 2).val, by idx_bounds; omega⟩)
/-- An array with its axes swapped. -/
def swap (h : FVec Ideal S4096x2048 .bf16) : FVec Ideal S2048x4096 .bf16 := fun j => h (ix2 (j 1) (j 0))

variable (m : (ℓ : Loc nD τ sig) → Buf (Elt Ideal) ℓ)

/-- Each window's block index at each grid point. -/
theorem idx : ∀ t : Fin cfg0.N, win0_0.index t = ![0, 0] ∧ win0_1.index t = ![0, t.val]
    ∧ win0_2.index t = ![t.val / 2, 0, t.val % 2] :=
  (by decide +kernel : ∀ t : Fin grid0.N, _)

/-- The first point leaves the transposed rows in the scratch array. -/
theorem scr_A (c : Dev nD) (t : Fin cfg0.N) (h : t.val % 16 = 0) :
    (outsAt0 m c t.val t.isLt).2 = swap (V m c main_arg0) := by
  rw [outsAt0_A m c t h]
  frame_out
  funext y
  canon_tiles y hx
  all_goals pointwise [k0_pay1, k0_pay2, k0_pay4, k0_pay5, k0_pay6, k0_pay7, k0_pay8, k0_pay9, swap]
  all_goals blk_point [iblk, idx t]

/-- Every point leaves the transposed rows in the scratch array. -/
theorem scr (c : Dev nD) : ∀ (n : ℕ) (h : n < cfg0.N), (outsAt0 m c n h).2 = swap (V m c main_arg0)
  | 0, h => scr_A m c ⟨0, h⟩ rfl
  | n + 1, h => by
    by_cases h0 : (n + 1) % 16 = 0
    · exact scr_A m c ⟨n + 1, h⟩ h0
    · rw [outsAt0_B m c ⟨n + 1, h⟩ h0]
      exact scr c n (Nat.lt_of_succ_lt h)

/-- What a point stores at an index of its block, given the scratch array. -/
theorem point (c : Dev nD) (t : Fin cfg0.N) (y) :
    k0_pay3 (swap (V m c main_arg0)) (iblk m c 1 t) y = prod (V m c main_arg0) (V m c main_arg1) (((cfg0.win 2).blk t).view.emb y) := by
  pointwise [k0_pay3, prod, swap]
  blk_point [iblk, idx t]

/-- The result array after the run. -/
theorem final (c : Dev nD) : (dats m 0 c).arrAt 2 (cfgs 0).N = prod (V m c main_arg0) (V m c main_arg1) := by
  refine (dats m 0 c).arrAt_eq_of_covers 2 _ (by decide +kernel) fun t hf y => ?_
  blk_simp; rw [after0_2]
  by_cases h0 : t.val % 16 = 0
  · have hs := scr_A m c t h0
    rw [outsAt0_A m c t h0] at hs ⊢
    frame_out
    refine Eq.trans (congrFun (congrArg (fun s => k0_pay3 s (iblk m c 1 t)) (?_ : _ = swap (V m c main_arg0))) y) (point m c t y)
    rw [View.readCov_eq_canon']
    refine Eq.trans ?_ hs
    frame_out
    funext j
    exact congrArg _ (Rect.emb_unit_full _ j)
  · have hs' := scr m c (t.val - 1) (Nat.lt_of_le_of_lt (Nat.sub_le _ _) t.isLt)
    rw [outsAt0_B m c t h0, hs']
    frame_out
    exact Eq.trans (congrFun (congrArg (fun s => k0_pay3 s (iblk m c 1 t)) (Memref.IsWhole.read_unread (Memref.isWhole_whole cc0_scratch0) _)) y) (point m c t y)

end Cert.WgMlpInIdeal.Closed

namespace Cert.WgMlpInProof

/-- The kernel runs and leaves its arguments alone, on bit patterns. -/
theorem frame_kernel : Cert.quiescent_WgMlpIn := fun m ρ _ => Cert.WgMlpIn.Gen.frame m ρ
/-- The kernel runs and leaves its arguments alone, on extended reals. -/
theorem frame_ideal : Cert.quiescent_WgMlpInIdeal := fun m ρ _ => Cert.WgMlpInIdeal.Gen.frame m ρ
/-- The reference runs and leaves its arguments alone. -/
theorem frame_ref : Cert.quiescent_WgMlpInRefIdeal := fun m ρ _ =>
  (θ_run Cert.WgMlpInRefIdeal.defs _ _).mono (fun r h => ⟨fun c => (h c).2,
      Idealize.ShloMosaic.sem_eq_zero_of_no_sems (by decide) r.2⟩)
    (Cert.WgMlpInRefIdeal.Value.run (F := Ideal) m ρ)

/-- The kernel's results and the reference's are the same arrays of extended reals. -/
theorem algebraic : Cert.algebraic_WgMlpInIdeal_WgMlpInRefIdeal := by
  pair_intro
  · run_from Cert.WgMlpInIdeal.Gen.run_main m g
  · run_from Cert.WgMlpInRefIdeal.Value.run m' g'
    rw [Cert.WgMlpInIdeal.Closed.final m c, Cert.WgMlpInIdeal.Gen.V_main_arg0, Cert.WgMlpInIdeal.Gen.V_main_arg1]
    funext j
    pointwise [Cert.WgMlpInIdeal.Closed.prod]
    exact Finset.sum_congr rfl fun k _ => mul_comm _ _

end Cert.WgMlpInProof

end
-- ==== Proof.WgProjOutClaims.lean ====
/- The gradient of the weight of the output projection. -/
module

public import proofs.«01_k».proof.Defs
public import proofs.«01_k».proof.Proof.Gen.WgProjOut.Frame
public import proofs.«01_k».proof.Proof.Gen.WgProjOutIdeal.Value
public import proofs.«01_k».proof.Proof.Gen.WgProjOutRefIdeal.Run
public import proofs.«01_k».proof.Proof.Gen.WgProjOutRefIdeal.Read
public import proofs.«01_k».proof.Proof.Gen.WgProjOutRefIdeal
public import Idealize.ShloMosaic.Lib.Pipeline.ValueKit
public import Idealize.ShloMosaic.Lib.Pointwise
public import Idealize.ShloMosaic.Lib.VecWindow
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.StableHlo
open scoped BigOperators

namespace Cert.WgProjOutIdeal.Closed

open Cert.WgProjOutIdeal Cert.WgProjOutIdeal.Gen

/-- Three arrays side by side. -/
def cat (a : FVec Ideal S4096x512 .bf16) (b d : FVec Ideal S4096x768 .bf16) : FVec Ideal S4096x2048 .bf16 := fun j =>
  if h : (j 1).val < 512 then a (ix2 (j 0) ⟨(j 1).val, h⟩)
  else if h' : (j 1).val - 512 < 768 then b (ix2 (j 0) ⟨(j 1).val - 512, h'⟩)
  else d (ix2 (j 0) ⟨(j 1).val - 512 - 768, by idx_bounds; omega⟩)
/-- Column `r` of `h` times column `l` of `x`. -/
def prod (h : FVec Ideal S4096x2048 .bf16) (x : FVec Ideal S4096x2048 .bf16) : FVec Ideal S2048x2048 .bf16 := fun j =>
  ∑ k : Fin 4096, h (ix2 k (j 0)) * x (ix2 k (j 1))
/-- An array with its axes swapped. -/
def swap (h : FVec Ideal S4096x2048 .bf16) : FVec Ideal S2048x4096 .bf16 := fun j => h (ix2 (j 1) (j 0))

variable (m : (ℓ : Loc nD τ sig) → Buf (Elt Ideal) ℓ)

/-- The three saved arrays side by side. -/
def rows (c : Dev nD) : FVec Ideal S4096x2048 .bf16 := cat (V m c main_arg0) (V m c main_arg1) (V m c main_arg2)

/-- Each window's block index at each grid point. -/
theorem idx : ∀ t : Fin cfg0.N, win0_0.index t = ![0, 0] ∧ win0_1.index t = ![0, 0] ∧ win0_2.index t = ![0, 0]
    ∧ win0_3.index t = ![0, t.val] ∧ win0_4.index t = ![0, t.val] :=
  (by decide +kernel : ∀ t : Fin grid0.N, _)

/-- The first point leaves the transposed rows in the scratch array. -/
theorem scr_A (c : Dev nD) (t : Fin cfg0.N) (h : t.val % 4 = 0) :
    (outsAt0 m c t.val t.isLt).2 = swap (rows m c) := by
  rw [outsAt0_A m c t h]
  frame_out
  funext y
  canon_tiles y hx using (View.cover_of_tiledBy _ ![256, 512] (by sl_kernel_rfl) y)
  all_goals pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, swap, rows, cat]
  all_goals first
    | rw [dif_pos (by omega)]
    | rw [dif_neg (by omega), dif_pos (by omega)]
    | rw [dif_neg (by omega), dif_neg (by omega)]
  all_goals blk_point [iblk, idx t]

/-- Every point leaves the transposed rows in the scratch array. -/
theorem scr (c : Dev nD) : ∀ (n : ℕ) (h : n < cfg0.N), (outsAt0 m c n h).2 = swap (rows m c)
  | 0, h => scr_A m c ⟨0, h⟩ rfl
  | n + 1, h => by
    by_cases h0 : (n + 1) % 4 = 0
    · exact scr_A m c ⟨n + 1, h⟩ h0
    · rw [outsAt0_B m c ⟨n + 1, h⟩ h0]
      exact scr c n (Nat.lt_of_succ_lt h)

/-- What a point stores at an index of its block, given the scratch array. -/
theorem point (c : Dev nD) (t : Fin cfg0.N) (y) :
    k0_pay1 (swap (rows m c)) (iblk m c 3 t) y = prod (rows m c) (V m c main_arg3) (((cfg0.win 4).blk t).view.emb y) := by
  pointwise [k0_pay1, prod, swap]
  blk_point [iblk, idx t]

/-- The result array after the run. -/
theorem final (c : Dev nD) : (dats m 0 c).arrAt 4 (cfgs 0).N = prod (rows m c) (V m c main_arg3) := by
  refine (dats m 0 c).arrAt_eq_of_covers 4 _ (by decide +kernel) fun t hf y => ?_
  blk_simp; rw [after0_4]
  by_cases h0 : t.val % 4 = 0
  · have hs := scr_A m c t h0
    rw [outsAt0_A m c t h0] at hs ⊢
    frame_out
    refine Eq.trans (congrFun (congrArg (fun s => k0_pay1 s (iblk m c 3 t)) (?_ : _ = swap (rows m c))) y) (point m c t y)
    rw [View.readCov_eq_canon']
    refine Eq.trans ?_ hs
    frame_out
    funext j
    exact congrArg _ (Rect.emb_unit_full _ j)
  · have hs' := scr m c (t.val - 1) (Nat.lt_of_le_of_lt (Nat.sub_le _ _) t.isLt)
    rw [outsAt0_B m c t h0, hs']
    frame_out
    exact Eq.trans (congrFun (congrArg (fun s => k0_pay1 s (iblk m c 3 t)) (Memref.IsWhole.read_unread (Memref.isWhole_whole cc0_scratch0) _)) y) (point m c t y)

end Cert.WgProjOutIdeal.Closed

namespace Cert.WgProjOutProof

/-- The kernel runs and leaves its arguments alone, on bit patterns. -/
theorem frame_kernel : Cert.quiescent_WgProjOut := fun m ρ _ => Cert.WgProjOut.Gen.frame m ρ
/-- The kernel runs and leaves its arguments alone, on extended reals. -/
theorem frame_ideal : Cert.quiescent_WgProjOutIdeal := fun m ρ _ => Cert.WgProjOutIdeal.Gen.frame m ρ
/-- The reference runs and leaves its arguments alone. -/
theorem frame_ref : Cert.quiescent_WgProjOutRefIdeal := fun m ρ _ =>
  (θ_run Cert.WgProjOutRefIdeal.defs _ _).mono (fun r h => ⟨fun c => (h c).2,
      Idealize.ShloMosaic.sem_eq_zero_of_no_sems (by decide) r.2⟩)
    (Cert.WgProjOutRefIdeal.Value.run (F := Ideal) m ρ)

/-- The kernel's results and the reference's are the same arrays of extended reals. -/
theorem algebraic : Cert.algebraic_WgProjOutIdeal_WgProjOutRefIdeal := by
  pair_intro
  · run_from Cert.WgProjOutIdeal.Gen.run_main m g
  · run_from Cert.WgProjOutRefIdeal.Value.run m' g'
    rw [Cert.WgProjOutIdeal.Closed.final m c, Cert.WgProjOutIdeal.Closed.rows, Cert.WgProjOutIdeal.Gen.V_main_arg0, Cert.WgProjOutIdeal.Gen.V_main_arg1,
      Cert.WgProjOutIdeal.Gen.V_main_arg2, Cert.WgProjOutIdeal.Gen.V_main_arg3]
    funext j
    pointwise [Cert.WgProjOutIdeal.Closed.prod, Cert.WgProjOutIdeal.Closed.cat]
    exact Finset.sum_congr rfl fun k _ => mul_comm _ _

end Cert.WgProjOutProof

end
-- ==== Proof.DgProjOutClaims.lean ====
/- The gradient of the rows going into the output projection. -/
module

public import proofs.«01_k».proof.Defs
public import proofs.«01_k».proof.Proof.Gen.DgProjOut.Frame
public import proofs.«01_k».proof.Proof.Gen.DgProjOutIdeal.Value
public import proofs.«01_k».proof.Proof.Gen.DgProjOutRefIdeal.Run
public import proofs.«01_k».proof.Proof.Gen.DgProjOutRefIdeal.Read
public import proofs.«01_k».proof.Proof.Gen.DgProjOutRefIdeal
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.StableHlo
open scoped BigOperators

namespace Cert.DgProjOutIdeal.Closed

open Cert.DgProjOutIdeal Cert.DgProjOutIdeal.Gen

/-- Row `r` of `x` times row `l` of `w`. -/
def prod (x : FVec Ideal S4096x2048 .bf16) (w : FVec Ideal S2048x2048 .bf16) : FVec Ideal S4096x2048 .bf16 := fun j =>
  ∑ k : Fin 2048, x (ix2 (j 0) k) * w (ix2 (j 1) k)

variable (m : (ℓ : Loc nD τ sig) → Buf (Elt Ideal) ℓ)

/-- The weight the kernel reads is the second argument. -/
theorem entry_v0 (c : Dev nD) : V m c main_v0 = (m ((c : Thread nD τ).loc main_arg1)) := by
  entry_read
  rfl

/-- Each window's block index at each grid point. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- What point `t` stores at an index of its block is the product at the array index where that index sits. -/
theorem point (c : Dev nD) (t : Fin cfg0.N) (y) :
    k0_pay1 (iblk m c 0 t) (iblk m c 1 t) y = prod (V m c main_arg0) (V m c main_v0) (((cfg0.win 2).blk t).view.emb y) := by
  pointwise [k0_pay1, prod]
  blk_point [iblk, idx t]

/-- The result array after the run. -/
theorem final (c : Dev nD) : (dats m 0 c).arrAt 2 (cfgs 0).N = prod (V m c main_arg0) (V m c main_v0) := by
  refine (dats m 0 c).arrAt_eq_of_covers 2 _ (by decide +kernel) fun t hf y => ?_
  blk_simp; rw [after0_2]; frame_out
  exact point m c t y

end Cert.DgProjOutIdeal.Closed

namespace Cert.DgProjOutProof

/-- The kernel runs and leaves its arguments alone, on bit patterns. -/
theorem frame_kernel : Cert.quiescent_DgProjOut := fun m ρ _ => Cert.DgProjOut.Gen.frame m ρ
/-- The kernel runs and leaves its arguments alone, on extended reals. -/
theorem frame_ideal : Cert.quiescent_DgProjOutIdeal := fun m ρ _ => Cert.DgProjOutIdeal.Gen.frame m ρ
/-- The reference runs and leaves its arguments alone. -/
theorem frame_ref : Cert.quiescent_DgProjOutRefIdeal := fun m ρ _ =>
  (θ_run Cert.DgProjOutRefIdeal.defs _ _).mono (fun r h => ⟨fun c => (h c).2,
      Idealize.ShloMosaic.sem_eq_zero_of_no_sems (by decide) r.2⟩)
    (Cert.DgProjOutRefIdeal.Value.run (F := Ideal) m ρ)

/-- The kernel's results and the reference's are the same arrays of extended reals. -/
theorem algebraic : Cert.algebraic_DgProjOutIdeal_DgProjOutRefIdeal := by
  pair_intro
  · run_from Cert.DgProjOutIdeal.Gen.run_main m g
  · run_from Cert.DgProjOutRefIdeal.Value.run m' g'
    rw [Cert.DgProjOutIdeal.Closed.final m c, Cert.DgProjOutIdeal.Closed.entry_v0, Cert.DgProjOutIdeal.Gen.V_main_arg0]
    funext j
    pointwise [Cert.DgProjOutIdeal.Closed.prod]

end Cert.DgProjOutProof

end
-- ==== Proof.FwProjInClaims.lean ====
/- The combined input projection. -/
module

public import proofs.«01_k».proof.Defs
public import proofs.«01_k».proof.Proof.Gen.FwProjIn.Frame
public import proofs.«01_k».proof.Proof.Gen.FwProjInIdeal.Value
public import proofs.«01_k».proof.Proof.Gen.FwProjInRefIdeal.Run
public import proofs.«01_k».proof.Proof.Gen.FwProjInRefIdeal.Read
public import proofs.«01_k».proof.Proof.Gen.FwProjInRefIdeal
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.StableHlo
open scoped BigOperators

namespace Cert.FwProjInIdeal.Closed

open Cert.FwProjInIdeal Cert.FwProjInIdeal.Gen

/-- Row `r` of `x` times row `l` of `w`. -/
def prod (x : FVec Ideal S4096x2048 .bf16) (w : FVec Ideal S5632x2048 .bf16) : FVec Ideal S4096x5632 .bf16 := fun j =>
  ∑ k : Fin 2048, x (ix2 (j 0) k) * w (ix2 (j 1) k)

variable (m : (ℓ : Loc nD τ sig) → Buf (Elt Ideal) ℓ)

/-- The weight the kernel reads is the second argument with its axes swapped. -/
theorem entry_v1 (c : Dev nD) : V m c main_v1 = fun j => m ((c : Thread nD τ).loc main_arg1) (ix2 (j 1) (j 0)) := by
  entry_read
  funext j
  pointwise

/-- Each window's block index at each grid point. -/
theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

/-- What point `t` stores at an index of its block is the product at the array index where that index sits. -/
theorem point (c : Dev nD) (t : Fin cfg0.N) (y) :
    k0_pay1 (iblk m c 0 t) (iblk m c 1 t) y = prod (V m c main_arg0) (V m c main_v1) (((cfg0.win 2).blk t).view.emb y) := by
  pointwise [k0_pay1, prod]
  blk_point [iblk, idx t]

/-- The result array after the run. -/
theorem final (c : Dev nD) : (dats m 0 c).arrAt 2 (cfgs 0).N = prod (V m c main_arg0) (V m c main_v1) := by
  refine (dats m 0 c).arrAt_eq_of_covers 2 _ (by decide +kernel) fun t hf y => ?_
  blk_simp; rw [after0_2]; frame_out
  exact point m c t y

end Cert.FwProjInIdeal.Closed

namespace Cert.FwProjInProof

/-- The kernel runs and leaves its arguments alone, on bit patterns. -/
theorem frame_kernel : Cert.quiescent_FwProjIn := fun m ρ _ => Cert.FwProjIn.Gen.frame m ρ
/-- The kernel runs and leaves its arguments alone, on extended reals. -/
theorem frame_ideal : Cert.quiescent_FwProjInIdeal := fun m ρ _ => Cert.FwProjInIdeal.Gen.frame m ρ
/-- The reference runs and leaves its arguments alone. -/
theorem frame_ref : Cert.quiescent_FwProjInRefIdeal := fun m ρ _ =>
  (θ_run Cert.FwProjInRefIdeal.defs _ _).mono (fun r h => ⟨fun c => (h c).2,
      Idealize.ShloMosaic.sem_eq_zero_of_no_sems (by decide) r.2⟩)
    (Cert.FwProjInRefIdeal.Value.run (F := Ideal) m ρ)

/-- The kernel's results and the reference's are the same arrays of extended reals. -/
theorem algebraic : Cert.algebraic_FwProjInIdeal_FwProjInRefIdeal := by
  pair_intro
  · run_from Cert.FwProjInIdeal.Gen.run_main m g
  · run_from Cert.FwProjInRefIdeal.Value.run m' g'
    rw [Cert.FwProjInIdeal.Closed.final m c, Cert.FwProjInIdeal.Closed.entry_v1, Cert.FwProjInIdeal.Gen.V_main_arg0]
    funext j
    pointwise [Cert.FwProjInIdeal.Closed.prod]

end Cert.FwProjInProof

end
-- ==== Proof.FwMlpInClaims.lean ====
/- The first product of the MLP and the squared positive part after it. -/
module

public import proofs.«01_k».proof.Defs
public import proofs.«01_k».proof.Proof.Gen.FwMlpIn.Frame
public import proofs.«01_k».proof.Proof.Gen.FwMlpInIdeal.Value
public import proofs.«01_k».proof.Proof.Gen.FwMlpInRefIdeal.Run
public import proofs.«01_k».proof.Proof.Gen.FwMlpInRefIdeal.Read
public import proofs.«01_k».proof.Proof.Gen.FwMlpInRefIdeal
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.StableHlo
open scoped BigOperators

namespace Cert.FwMlpInIdeal.Closed

open Cert.FwMlpInIdeal Cert.FwMlpInIdeal.Gen

/-- Row `r` of `x` times column `l` of `w`. -/
def prod (x : FVec Ideal S4096x2048 .bf16) (w : FVec Ideal S2048x8192 .f32) : FVec Ideal S4096x8192 .bf16 := fun j =>
  ∑ k : Fin 2048, x (ix2 (j 0) k) * w (ix2 k (j 1))
/-- The squares of the positive parts of the product. -/
def hid (x : FVec Ideal S4096x2048 .bf16) (w : FVec Ideal S2048x8192 .f32) : FVec Ideal S4096x8192 .bf16 := fun j =>
  max (prod x w j) 0 * max (prod x w j) 0

variable (m : (ℓ : Loc nD τ sig) → Buf (Elt Ideal) ℓ)

/-- The blocks the kernel reads are the column blocks of the second argument. -/
theorem entry_v2 (c : Dev nD) (i : S8x2048x1024.Idx) : V m c main_v2 i =
    m ((c : Thread nD τ).loc main_arg1) (ix2 (i 1) ⟨(i 0).val * 1024 + (i 2).val, by idx_bounds; omega⟩) := by
  entry_read
  pointwise
/-- Each window's block index at each grid point. -/
theorem idx : ∀ t : Fin cfg0.N, win0_0.index t = ![t.val / 8, 0] ∧ win0_1.index t = ![t.val % 8, 0, 0]
    ∧ win0_2.index t = ![t.val / 8, t.val % 8] ∧ win0_3.index t = ![t.val / 8, t.val % 8] :=
  (by decide +kernel : ∀ t : Fin grid0.N, _)

/-- What point `t` stores at an index of the product's block. -/
theorem point2 (c : Dev nD) (t : Fin cfg0.N) (y) :
    k0_pay2 (iblk m c 0 t) (iblk m c 1 t) y = prod (V m c main_arg0) (m ((c : Thread nD τ).loc main_arg1)) (((cfg0.win 2).blk t).view.emb y) := by
  pointwise [k0_pay2, k0_pay1, prod]
  blk_point [iblk, entry_v2, idx t]

/-- The product array after the run. -/
theorem final2 (c : Dev nD) : (dats m 0 c).arrAt 2 (cfgs 0).N = prod (V m c main_arg0) (m ((c : Thread nD τ).loc main_arg1)) := by
  refine (dats m 0 c).arrAt_eq_of_covers 2 _ (by decide +kernel) fun t hf y => ?_
  blk_simp; rw [after0_2]; frame_out
  exact point2 m c t y

/-- What point `t` stores at an index of the squares' block. -/
theorem point3 (c : Dev nD) (t : Fin cfg0.N) (y) :
    k0_pay3 (iblk m c 0 t) (iblk m c 1 t) y = hid (V m c main_arg0) (m ((c : Thread nD τ).loc main_arg1)) (((cfg0.win 3).blk t).view.emb y) := by
  pointwise [k0_pay3, k0_pay1, hid, prod]
  blk_point [iblk, entry_v2, idx t]

/-- The array of squares after the run. -/
theorem final3 (c : Dev nD) : (dats m 0 c).arrAt 3 (cfgs 0).N = hid (V m c main_arg0) (m ((c : Thread nD τ).loc main_arg1)) := by
  refine (dats m 0 c).arrAt_eq_of_covers 3 _ (by decide +kernel) fun t hf y => ?_
  blk_simp; rw [after0_3]; frame_out
  exact point3 m c t y

end Cert.FwMlpInIdeal.Closed

namespace Cert.FwMlpInProof

/-- The kernel runs and leaves its arguments alone, on bit patterns. -/
theorem frame_kernel : Cert.quiescent_FwMlpIn := fun m ρ _ => Cert.FwMlpIn.Gen.frame m ρ
/-- The kernel runs and leaves its arguments alone, on extended reals. -/
theorem frame_ideal : Cert.quiescent_FwMlpInIdeal := fun m ρ _ => Cert.FwMlpInIdeal.Gen.frame m ρ
/-- The reference runs and leaves its arguments alone. -/
theorem frame_ref : Cert.quiescent_FwMlpInRefIdeal := fun m ρ _ =>
  (θ_run Cert.FwMlpInRefIdeal.defs _ _).mono (fun r h => ⟨fun c => (h c).2.2,
      Idealize.ShloMosaic.sem_eq_zero_of_no_sems (by decide) r.2⟩)
    (Cert.FwMlpInRefIdeal.Value.run (F := Ideal) m ρ)

/-- The kernel's results and the reference's are the same arrays of extended reals. -/
theorem algebraic : Cert.algebraic_FwMlpInIdeal_FwMlpInRefIdeal := by
  pair_intro
  · run_from Cert.FwMlpInIdeal.Gen.run_main m g
  · run_from Cert.FwMlpInRefIdeal.Value.run m' g'
    · rw [Cert.FwMlpInIdeal.Closed.final2 m c, Cert.FwMlpInIdeal.Gen.V_main_arg0]
      funext j
      pointwise [Cert.FwMlpInIdeal.Closed.prod]
    · rw [Cert.FwMlpInIdeal.Closed.final3 m c, Cert.FwMlpInIdeal.Gen.V_main_arg0]
      funext j
      pointwise [Cert.FwMlpInIdeal.Closed.hid, Cert.FwMlpInIdeal.Closed.prod]

end Cert.FwMlpInProof

end
-- ==== Proof.FwProjOutClaims.lean ====
/- A product added to the running sum, and the normalised rows of the sum. -/
module

public import proofs.«01_k».proof.Defs
public import proofs.«01_k».proof.Proof.Gen.FwProjOut.Frame
public import proofs.«01_k».proof.Proof.Gen.FwProjOutIdeal.Value
public import proofs.«01_k».proof.Proof.Gen.FwProjOutRefIdeal.Run
public import proofs.«01_k».proof.Proof.Gen.FwProjOutRefIdeal.Read
public import proofs.«01_k».proof.Proof.Gen.FwProjOutRefIdeal
public import Idealize.ShloMosaic.Lib.Pipeline.ValueKit
public import Idealize.ShloMosaic.Lib.Pointwise
public import Idealize.ShloMosaic.Lib.VecWindow
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.StableHlo
open scoped BigOperators

namespace Cert.FwProjOutIdeal.Closed

open Cert.FwProjOutIdeal Cert.FwProjOutIdeal.Gen

/-- Three arrays side by side. -/
def cat (a : FVec Ideal S4096x512 .bf16) (b d : FVec Ideal S4096x768 .bf16) : FVec Ideal S4096x2048 .bf16 := fun j =>
  if h : (j 1).val < 512 then a (ix2 (j 0) ⟨(j 1).val, h⟩)
  else if h' : (j 1).val - 512 < 768 then b (ix2 (j 0) ⟨(j 1).val - 512, h'⟩)
  else d (ix2 (j 0) ⟨(j 1).val - 512 - 768, by idx_bounds; omega⟩)
/-- A sum over 2048 indices is the sum over the first 512, the next 768 and the last 768. -/
theorem split3 (f : Fin 2048 → EReal) : ∑ k, f k = ((∑ k : Fin 512, f ⟨k.val, by omega⟩) + ∑ k : Fin 768, f ⟨512 + k.val, by omega⟩)
    + ∑ k : Fin 768, f ⟨1280 + k.val, by omega⟩ :=
  (Fin.sum_univ_add (a := 1280) (b := 768) f).trans (congrArg (· + _) (Fin.sum_univ_add (a := 512) (b := 768) fun i => f (Fin.castAdd 768 i)))
/-- Each entry of `x` plus row `r` of `h` times column `l` of `w`. -/
def sm (x : FVec Ideal S4096x2048 .f32) (h : FVec Ideal S4096x2048 .bf16) (w : FVec Ideal S2048x2048 .f32) : FVec Ideal S4096x2048 .f32 := fun j =>
  x j + ∑ k : Fin 2048, h (ix2 (j 0) k) * w (ix2 k (j 1))
/-- The sum split over the three arrays. -/
theorem sm_eq (x : FVec Ideal S4096x2048 .f32) (a : FVec Ideal S4096x512 .bf16) (b d : FVec Ideal S4096x768 .bf16) (w : FVec Ideal S2048x2048 .f32) (j : S4096x2048.Idx) :
    sm x (cat a b d) w j = x j + (∑ k : Fin 512, a (ix2 (j 0) k) * w (ix2 ⟨k.val, by omega⟩ (j 1)))
      + (∑ k : Fin 768, b (ix2 (j 0) k) * w (ix2 ⟨512 + k.val, by omega⟩ (j 1)))
      + ∑ k : Fin 768, d (ix2 (j 0) k) * w (ix2 ⟨1280 + k.val, by omega⟩ (j 1)) := by
  unfold sm
  rw [split3, ← add_assoc, ← add_assoc]
  refine congrArg₂ (· + ·) (congrArg₂ (· + ·) (congrArg (x j + ·) (Finset.sum_congr rfl fun k _ => ?_)) (Finset.sum_congr rfl fun k _ => ?_)) (Finset.sum_congr rfl fun k _ => ?_)
  · refine Ideal.mul_congr ?_ rfl
    unfold cat
    exact dif_pos k.isLt
  · refine Ideal.mul_congr ?_ rfl
    unfold cat
    refine (dif_neg (show ¬ (512 + k.val < 512) by omega)).trans ((dif_pos (show 512 + k.val - 512 < 768 by omega)).trans ?_)
    exact congrArg (fun q => b (ix2 (j 0) q)) (Fin.ext (show 512 + k.val - 512 = k.val by omega))
  · refine Ideal.mul_congr ?_ rfl
    unfold cat
    refine (dif_neg (show ¬ (1280 + k.val < 512) by omega)).trans ((dif_neg (show ¬ (1280 + k.val - 512 < 768) by omega)).trans ?_)
    exact congrArg (fun q => d (ix2 (j 0) q)) (Fin.ext (show 1280 + k.val - 512 - 768 = k.val by omega))

/-- One over the root mean square of each row. -/
def rt (s : FVec Ideal S4096x2048 .f32) : FVec Ideal S4096x1 .f32 := fun j =>
  Ideal.rsqrt (Ideal.div (∑ l : Fin 2048, s (ix2 (j 0) l) * s (ix2 (j 0) l)) (Ideal.ofBits .f32 0x45000000#32) + Ideal.ofBits .f32 0x358637BD#32)
/-- The normalised rows. -/
def nrm (s : FVec Ideal S4096x2048 .f32) (g : FVec Ideal S1x2048 .f32) : FVec Ideal S4096x2048 .bf16 := fun j =>
  s j * rt s (ix2 (j 0) 0) * g (ix2 0 (j 1))

variable (m : (ℓ : Loc nD τ sig) → Buf (Elt Ideal) ℓ)

/-- The cast weight is the fifth argument. -/
theorem entry_v0 (c : Dev nD) : V m c main_v0 = m ((c : Thread nD τ).loc main_arg4) := by entry_read; rfl
/-- The new sum. -/
def sumV (c : Dev nD) : FVec Ideal S4096x2048 .f32 := sm (V m c main_arg0) (cat (V m c main_arg1) (V m c main_arg2) (V m c main_arg3)) (m ((c : Thread nD τ).loc main_arg4))
/-- Each window's block index at each grid point. -/
theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![0, 0] ∧ win0_6.index t = ![t.val, 0] ∧ win0_7.index t = ![t.val, 0] ∧ win0_8.index t = ![t.val, 0] :=
  (by decide +kernel : ∀ t : Fin grid0.N, _)
/-- Each point's sum at row `i` and column `l` of its block. -/
theorem psum (c : Dev nD) (t : Fin cfg0.N) (y) :
    k0_pay1 (iblk m c 4 t) (iblk m c 0 t) (View.ld (iblk m c 3 t) r0_2) (iblk m c 1 t) (View.ld (iblk m c 3 t) r0_4) (iblk m c 2 t) (View.ld (iblk m c 3 t) r0_5) y = sumV m c (((cfg0.win 6).blk t).view.emb y) := by
  unfold sumV
  rw [sm_eq]
  pointwise [k0_pay1]
  blk_point [iblk, entry_v0, idx t]
/-- What point `t` stores at an index of the roots' block. -/
theorem point_r (c : Dev nD) (t : Fin cfg0.N) (y) :
    k0_pay2 (iblk m c 4 t) (iblk m c 0 t) (View.ld (iblk m c 3 t) r0_2) (iblk m c 1 t) (View.ld (iblk m c 3 t) r0_4) (iblk m c 2 t) (View.ld (iblk m c 3 t) r0_5) y = rt (sumV m c) (((cfg0.win 8).blk t).view.emb y) := by
  pointwise [k0_pay2, rt]
  simp only [psum m c t]
  blk_point [idx t]
/-- What point `t` stores at an index of the normalised rows' block. -/
theorem point_h (c : Dev nD) (t : Fin cfg0.N) (y) :
    k0_pay3 (iblk m c 4 t) (iblk m c 0 t) (View.ld (iblk m c 3 t) r0_2) (iblk m c 1 t) (View.ld (iblk m c 3 t) r0_4) (iblk m c 2 t) (View.ld (iblk m c 3 t) r0_5) (iblk m c 5 t) y = nrm (sumV m c) (V m c main_arg5) (((cfg0.win 7).blk t).view.emb y) := by
  pointwise [k0_pay3, nrm]
  rw [psum m c t, point_r m c t]
  blk_point [iblk, idx t]

/-- The array of sums after the run. -/
theorem final_x (c : Dev nD) : (dats m 0 c).arrAt 6 (cfgs 0).N = sumV m c := by
  refine (dats m 0 c).arrAt_eq_of_covers 6 _ (by decide +kernel) fun t hf y => ?_
  blk_simp; rw [after0_6]; frame_out
  exact psum m c t y
/-- The array of normalised rows after the run. -/
theorem final_h (c : Dev nD) : (dats m 0 c).arrAt 7 (cfgs 0).N = nrm (sumV m c) (V m c main_arg5) := by
  refine (dats m 0 c).arrAt_eq_of_covers 7 _ (by decide +kernel) fun t hf y => ?_
  blk_simp; rw [after0_7]; frame_out
  exact point_h m c t y
/-- The array of roots after the run. -/
theorem final_r (c : Dev nD) : (dats m 0 c).arrAt 8 (cfgs 0).N = rt (sumV m c) := by
  refine (dats m 0 c).arrAt_eq_of_covers 8 _ (by decide +kernel) fun t hf y => ?_
  blk_simp; rw [after0_8]; frame_out
  exact point_r m c t y

end Cert.FwProjOutIdeal.Closed

namespace Cert.FwProjOutProof

/-- The kernel runs and leaves its arguments alone, on bit patterns. -/
theorem frame_kernel : Cert.quiescent_FwProjOut := fun m ρ _ => Cert.FwProjOut.Gen.frame m ρ
/-- The kernel runs and leaves its arguments alone, on extended reals. -/
theorem frame_ideal : Cert.quiescent_FwProjOutIdeal := fun m ρ _ => Cert.FwProjOutIdeal.Gen.frame m ρ
/-- The reference runs and leaves its arguments alone. -/
theorem frame_ref : Cert.quiescent_FwProjOutRefIdeal := fun m ρ _ =>
  (θ_run Cert.FwProjOutRefIdeal.defs _ _).mono (fun r h => ⟨fun c => (h c).2.2.2,
      Idealize.ShloMosaic.sem_eq_zero_of_no_sems (by decide) r.2⟩)
    (Cert.FwProjOutRefIdeal.Value.run (F := Ideal) m ρ)

/-- The kernel's results and the reference's are the same arrays of extended reals. -/
theorem algebraic : Cert.algebraic_FwProjOutIdeal_FwProjOutRefIdeal := by
  pair_intro
  · run_from Cert.FwProjOutIdeal.Gen.run_main m g
  · run_from Cert.FwProjOutRefIdeal.Value.run m' g'
    · rw [Cert.FwProjOutIdeal.Closed.final_x m c, Cert.FwProjOutIdeal.Closed.sumV, Cert.FwProjOutIdeal.Gen.V_main_arg0, Cert.FwProjOutIdeal.Gen.V_main_arg1, Cert.FwProjOutIdeal.Gen.V_main_arg2, Cert.FwProjOutIdeal.Gen.V_main_arg3]
      funext j
      pointwise [Cert.FwProjOutIdeal.Closed.sm, Cert.FwProjOutIdeal.Closed.cat]
      rw [(hagree c).2.1, (hagree c).2.2.1, (hagree c).2.2.2.1]
    · rw [Cert.FwProjOutIdeal.Closed.final_h m c, Cert.FwProjOutIdeal.Closed.sumV, Cert.FwProjOutIdeal.Gen.V_main_arg0, Cert.FwProjOutIdeal.Gen.V_main_arg1, Cert.FwProjOutIdeal.Gen.V_main_arg2, Cert.FwProjOutIdeal.Gen.V_main_arg3, Cert.FwProjOutIdeal.Gen.V_main_arg5]
      funext j
      pointwise [Cert.FwProjOutIdeal.Closed.nrm, Cert.FwProjOutIdeal.Closed.rt, Cert.FwProjOutIdeal.Closed.sm, Cert.FwProjOutIdeal.Closed.cat]
      rw [(hagree c).2.1, (hagree c).2.2.1, (hagree c).2.2.2.1]
    · rw [Cert.FwProjOutIdeal.Closed.final_r m c, Cert.FwProjOutIdeal.Closed.sumV, Cert.FwProjOutIdeal.Gen.V_main_arg0, Cert.FwProjOutIdeal.Gen.V_main_arg1, Cert.FwProjOutIdeal.Gen.V_main_arg2, Cert.FwProjOutIdeal.Gen.V_main_arg3]
      funext j
      pointwise [Cert.FwProjOutIdeal.Closed.rt, Cert.FwProjOutIdeal.Closed.sm, Cert.FwProjOutIdeal.Closed.cat]
      rw [(hagree c).2.1, (hagree c).2.2.1, (hagree c).2.2.2.1]

end Cert.FwProjOutProof

end
-- ==== Proof.FwMlpOutClaims.lean ====
/- A product added to the running sum, and the normalised rows of the sum. -/
module

public import proofs.«01_k».proof.Defs
public import proofs.«01_k».proof.Proof.Gen.FwMlpOut.Frame
public import proofs.«01_k».proof.Proof.Gen.FwMlpOutIdeal.Value
public import proofs.«01_k».proof.Proof.Gen.FwMlpOutRefIdeal.Run
public import proofs.«01_k».proof.Proof.Gen.FwMlpOutRefIdeal.Read
public import proofs.«01_k».proof.Proof.Gen.FwMlpOutRefIdeal
public import Idealize.ShloMosaic.Lib.Pipeline.ValueKit
public import Idealize.ShloMosaic.Lib.Pointwise
public import Idealize.ShloMosaic.Lib.VecWindow
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.StableHlo
open scoped BigOperators

namespace Cert.FwMlpOutIdeal.Closed

open Cert.FwMlpOutIdeal Cert.FwMlpOutIdeal.Gen

/-- Each entry of `x` plus row `r` of `h` times column `l` of `w`. -/
def sm (x : FVec Ideal S4096x2048 .f32) (h : FVec Ideal S4096x8192 .bf16) (w : FVec Ideal S8192x2048 .f32) : FVec Ideal S4096x2048 .f32 := fun j =>
  x j + ∑ k : Fin 8192, h (ix2 (j 0) k) * w (ix2 k (j 1))
/-- One over the root mean square of each row. -/
def rt (s : FVec Ideal S4096x2048 .f32) : FVec Ideal S4096x1 .f32 := fun j =>
  Ideal.rsqrt (Ideal.div (∑ l : Fin 2048, s (ix2 (j 0) l) * s (ix2 (j 0) l)) (Ideal.ofBits .f32 0x45000000#32) + Ideal.ofBits .f32 0x358637BD#32)
/-- The normalised rows. -/
def nrm (s : FVec Ideal S4096x2048 .f32) (g : FVec Ideal S1x2048 .f32) : FVec Ideal S4096x2048 .bf16 := fun j =>
  s j * rt s (ix2 (j 0) 0) * g (ix2 0 (j 1))

variable (m : (ℓ : Loc nD τ sig) → Buf (Elt Ideal) ℓ)

/-- The cast weight is the third argument. -/
theorem entry_v0 (c : Dev nD) : V m c main_v0 = m ((c : Thread nD τ).loc main_arg2) := by entry_read; rfl
/-- The new sum. -/
def sumV (c : Dev nD) : FVec Ideal S4096x2048 .f32 := sm (V m c main_arg0) (V m c main_arg1) (m ((c : Thread nD τ).loc main_arg2))
/-- Each window's block index at each grid point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![t.val, 0] :=
  (by decide +kernel : ∀ t : Fin grid0.N, _)
/-- Each point's sum at row `i` and column `l` of its block. -/
theorem psum (c : Dev nD) (t : Fin cfg0.N) (y) :
    k0_pay1 (iblk m c 2 t) (iblk m c 0 t) (iblk m c 1 t) y = sumV m c (((cfg0.win 4).blk t).view.emb y) := by
  pointwise [k0_pay1, sumV, sm]
  blk_point [iblk, entry_v0, idx t]
/-- What point `t` stores at an index of the roots' block. -/
theorem point_r (c : Dev nD) (t : Fin cfg0.N) (y) :
    k0_pay2 (iblk m c 2 t) (iblk m c 0 t) (iblk m c 1 t) y = rt (sumV m c) (((cfg0.win 6).blk t).view.emb y) := by
  pointwise [k0_pay2, rt]
  simp only [psum m c t]
  blk_point [idx t]
/-- What point `t` stores at an index of the normalised rows' block. -/
theorem point_h (c : Dev nD) (t : Fin cfg0.N) (y) :
    k0_pay3 (iblk m c 2 t) (iblk m c 0 t) (iblk m c 1 t) (iblk m c 3 t) y = nrm (sumV m c) (V m c main_arg3) (((cfg0.win 5).blk t).view.emb y) := by
  pointwise [k0_pay3, nrm]
  rw [psum m c t, point_r m c t]
  blk_point [iblk, idx t]

/-- The array of sums after the run. -/
theorem final_x (c : Dev nD) : (dats m 0 c).arrAt 4 (cfgs 0).N = sumV m c := by
  refine (dats m 0 c).arrAt_eq_of_covers 4 _ (by decide +kernel) fun t hf y => ?_
  blk_simp; rw [after0_4]; frame_out
  exact psum m c t y
/-- The array of normalised rows after the run. -/
theorem final_h (c : Dev nD) : (dats m 0 c).arrAt 5 (cfgs 0).N = nrm (sumV m c) (V m c main_arg3) := by
  refine (dats m 0 c).arrAt_eq_of_covers 5 _ (by decide +kernel) fun t hf y => ?_
  blk_simp; rw [after0_5]; frame_out
  exact point_h m c t y
/-- The array of roots after the run. -/
theorem final_r (c : Dev nD) : (dats m 0 c).arrAt 6 (cfgs 0).N = rt (sumV m c) := by
  refine (dats m 0 c).arrAt_eq_of_covers 6 _ (by decide +kernel) fun t hf y => ?_
  blk_simp; rw [after0_6]; frame_out
  exact point_r m c t y

end Cert.FwMlpOutIdeal.Closed

namespace Cert.FwMlpOutProof

/-- The kernel runs and leaves its arguments alone, on bit patterns. -/
theorem frame_kernel : Cert.quiescent_FwMlpOut := fun m ρ _ => Cert.FwMlpOut.Gen.frame m ρ
/-- The kernel runs and leaves its arguments alone, on extended reals. -/
theorem frame_ideal : Cert.quiescent_FwMlpOutIdeal := fun m ρ _ => Cert.FwMlpOutIdeal.Gen.frame m ρ
/-- The reference runs and leaves its arguments alone. -/
theorem frame_ref : Cert.quiescent_FwMlpOutRefIdeal := fun m ρ _ =>
  (θ_run Cert.FwMlpOutRefIdeal.defs _ _).mono (fun r h => ⟨fun c => (h c).2.2.2,
      Idealize.ShloMosaic.sem_eq_zero_of_no_sems (by decide) r.2⟩)
    (Cert.FwMlpOutRefIdeal.Value.run (F := Ideal) m ρ)

/-- The kernel's results and the reference's are the same arrays of extended reals. -/
theorem algebraic : Cert.algebraic_FwMlpOutIdeal_FwMlpOutRefIdeal := by
  pair_intro
  · run_from Cert.FwMlpOutIdeal.Gen.run_main m g
  · run_from Cert.FwMlpOutRefIdeal.Value.run m' g'
    · rw [Cert.FwMlpOutIdeal.Closed.final_x m c, Cert.FwMlpOutIdeal.Closed.sumV, Cert.FwMlpOutIdeal.Gen.V_main_arg0, Cert.FwMlpOutIdeal.Gen.V_main_arg1]
      funext j
      pointwise [Cert.FwMlpOutIdeal.Closed.sm]
    · rw [Cert.FwMlpOutIdeal.Closed.final_h m c, Cert.FwMlpOutIdeal.Closed.sumV, Cert.FwMlpOutIdeal.Gen.V_main_arg0, Cert.FwMlpOutIdeal.Gen.V_main_arg1, Cert.FwMlpOutIdeal.Gen.V_main_arg3]
      funext j
      pointwise [Cert.FwMlpOutIdeal.Closed.nrm, Cert.FwMlpOutIdeal.Closed.rt, Cert.FwMlpOutIdeal.Closed.sm]
    · rw [Cert.FwMlpOutIdeal.Closed.final_r m c, Cert.FwMlpOutIdeal.Closed.sumV, Cert.FwMlpOutIdeal.Gen.V_main_arg0, Cert.FwMlpOutIdeal.Gen.V_main_arg1]
      funext j
      pointwise [Cert.FwMlpOutIdeal.Closed.rt, Cert.FwMlpOutIdeal.Closed.sm]

end Cert.FwMlpOutProof

end
-- ==== Proof.BodyAdamSmallIdeal.lean ====
/- The run of the optimiser's step on the small weights: what the kernel's body does with its blocks, and the launch around it. -/
module

public import proofs.«01_k».proof.Proof.Gen.AdamSmallIdeal.Launch
public import proofs.«01_k».proof.Proof.Gen.AdamSmallIdeal.Skeleton
public import proofs.«01_k».proof.Proof.Gen.AdamSmallIdeal.Points
public import Idealize.ShloMosaic.Lib.Pipeline.FrameBody
public import Idealize.ShloMosaic.Lib.Ring
public import Idealize.ShloMosaic.Lib.Tactic

@[expose] public section

set_option maxRecDepth 16384

noncomputable section

namespace Cert.AdamSmallIdeal.Body

open Cert.AdamSmallIdeal Cert.AdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)
theorem before0_27_of {c : Dev nD} (dat : Dat τ (Elt F) Unit ℕ (UR sig nD τ) ℕ cfg0 c) (hA : dat.A 27 = V m c (Pipeline.arrRef spec0 27))
    (hafter : ∀ t, dat.after 27 t = iblk m c 27 t) (t : Fin cfg0.N) (d) : dat.before 27 t d = iblk m c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)

abbrev r0_0 : Rect S2x2048 := Rect.unit (s := S2x2048) ![0, 0] S2x2048.size inb_S2x2048_S2x2048_0_0
abbrev r0_1 : Rect S2x8x128x128 := Rect.unit (s := S2x8x128x128) ![0, 0, 0, 0] S2x8x128x128.size inb_S2x8x128x128_S2x8x128x128_0_0_0_0
abbrev r0_2 : Rect S2x8x128 := Rect.unit (s := S2x8x128) ![0, 0, 0] S2x8x128.size inb_S2x8x128_S2x8x128_0_0_0
abbrev r0_3 : Rect S2x3x96 := Rect.unit (s := S2x3x96) ![0, 0, 0] S2x3x96.size inb_S2x3x96_S2x3x96_0_0_0
abbrev r0_4 : Rect S2x64 := Rect.unit (s := S2x64) ![0, 0] S2x64.size inb_S2x64_S2x64_0_0

def out0_28 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x2048 .f32 :=
  View.canon [⟨r0_0, k0_pay3 (View.ld x0 r0_0) (View.ld x7 r0_0) (View.ld x14 r0_0) (View.ld x21 r0_0)⟩]

theorem cover0_28 (p0 : Vec F S2x2048 .f32) (y : S2x2048.Idx) :
    ∃ pc ∈ ([⟨r0_0, p0⟩] : List (View.Piece (Elt F) S2x2048 .f32)), y ∈ pc.1.set :=
  View.cover_of_tiled [⟨r0_0, p0⟩] S2x2048.size (by rfl) y

def out0_29 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x8x128x128 .f32 :=
  View.canon [⟨r0_1, k0_pay6 (View.ld x1 r0_1) (View.ld x8 r0_1) (View.ld x15 r0_1) (View.ld x22 r0_1)⟩]

theorem cover0_29 (p0 : Vec F S2x8x128x128 .f32) (y : S2x8x128x128.Idx) :
    ∃ pc ∈ ([⟨r0_1, p0⟩] : List (View.Piece (Elt F) S2x8x128x128 .f32)), y ∈ pc.1.set :=
  View.cover_of_tiled [⟨r0_1, p0⟩] S2x8x128x128.size (by rfl) y

def out0_30 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x8x128 .f32 :=
  View.canon [⟨r0_2, k0_pay9 (View.ld x2 r0_2) (View.ld x9 r0_2) (View.ld x16 r0_2) (View.ld x23 r0_2)⟩]

theorem cover0_30 (p0 : Vec F S2x8x128 .f32) (y : S2x8x128.Idx) :
    ∃ pc ∈ ([⟨r0_2, p0⟩] : List (View.Piece (Elt F) S2x8x128 .f32)), y ∈ pc.1.set :=
  View.cover_of_tiled [⟨r0_2, p0⟩] S2x8x128.size (by rfl) y

def out0_31 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x3x96 .f32 :=
  View.canon [⟨r0_3, k0_pay14 (k0_pay12 (View.ld x3 r0_3) (View.ld x10 r0_3) (View.ld x17 r0_3) (View.ld x24 r0_3)) (k0_pay13 (F := F))⟩]

theorem cover0_31 (p0 : Vec F S2x3x96 .f32) (y : S2x3x96.Idx) :
    ∃ pc ∈ ([⟨r0_3, p0⟩] : List (View.Piece (Elt F) S2x3x96 .f32)), y ∈ pc.1.set :=
  View.cover_of_tiled [⟨r0_3, p0⟩] S2x3x96.size (by rfl) y

def out0_32 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x64 .f32 :=
  View.canon [⟨r0_4, k0_pay19 (k0_pay17 (View.ld x4 r0_4) (View.ld x11 r0_4) (View.ld x18 r0_4) (View.ld x25 r0_4)) (k0_pay18 (F := F))⟩]

theorem cover0_32 (p0 : Vec F S2x64 .f32) (y : S2x64.Idx) :
    ∃ pc ∈ ([⟨r0_4, p0⟩] : List (View.Piece (Elt F) S2x64 .f32)), y ∈ pc.1.set :=
  View.cover_of_tiled [⟨r0_4, p0⟩] S2x64.size (by rfl) y

def out0_33 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x64 .f32 :=
  View.canon [⟨r0_4, k0_pay22 (View.ld x5 r0_4) (View.ld x12 r0_4) (View.ld x19 r0_4) (View.ld x26 r0_4)⟩]

theorem cover0_33 (p0 : Vec F S2x64 .f32) (y : S2x64.Idx) :
    ∃ pc ∈ ([⟨r0_4, p0⟩] : List (View.Piece (Elt F) S2x64 .f32)), y ∈ pc.1.set :=
  View.cover_of_tiled [⟨r0_4, p0⟩] S2x64.size (by rfl) y

def out0_34 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x2048 .f32 :=
  View.canon [⟨r0_0, k0_pay25 (View.ld x6 r0_0) (View.ld x13 r0_0) (View.ld x20 r0_0) (View.ld x27 r0_0)⟩]

theorem cover0_34 (p0 : Vec F S2x2048 .f32) (y : S2x2048.Idx) :
    ∃ pc ∈ ([⟨r0_0, p0⟩] : List (View.Piece (Elt F) S2x2048 .f32)), y ∈ pc.1.set :=
  View.cover_of_tiled [⟨r0_0, p0⟩] S2x2048.size (by rfl) y

def out0_35 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x2048 .f32 :=
  View.canon [⟨r0_0, k0_pay1 (View.ld x7 r0_0) (View.ld x14 r0_0)⟩]

theorem cover0_35 (p0 : Vec F S2x2048 .f32) (y : S2x2048.Idx) :
    ∃ pc ∈ ([⟨r0_0, p0⟩] : List (View.Piece (Elt F) S2x2048 .f32)), y ∈ pc.1.set :=
  View.cover_of_tiled [⟨r0_0, p0⟩] S2x2048.size (by rfl) y

def out0_36 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x8x128x128 .f32 :=
  View.canon [⟨r0_1, k0_pay4 (View.ld x8 r0_1) (View.ld x15 r0_1)⟩]

theorem cover0_36 (p0 : Vec F S2x8x128x128 .f32) (y : S2x8x128x128.Idx) :
    ∃ pc ∈ ([⟨r0_1, p0⟩] : List (View.Piece (Elt F) S2x8x128x128 .f32)), y ∈ pc.1.set :=
  View.cover_of_tiled [⟨r0_1, p0⟩] S2x8x128x128.size (by rfl) y

def out0_37 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x8x128 .f32 :=
  View.canon [⟨r0_2, k0_pay7 (View.ld x9 r0_2) (View.ld x16 r0_2)⟩]

theorem cover0_37 (p0 : Vec F S2x8x128 .f32) (y : S2x8x128.Idx) :
    ∃ pc ∈ ([⟨r0_2, p0⟩] : List (View.Piece (Elt F) S2x8x128 .f32)), y ∈ pc.1.set :=
  View.cover_of_tiled [⟨r0_2, p0⟩] S2x8x128.size (by rfl) y

def out0_38 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x3x96 .f32 :=
  View.canon [⟨r0_3, k0_pay10 (View.ld x10 r0_3) (View.ld x17 r0_3)⟩]

theorem cover0_38 (p0 : Vec F S2x3x96 .f32) (y : S2x3x96.Idx) :
    ∃ pc ∈ ([⟨r0_3, p0⟩] : List (View.Piece (Elt F) S2x3x96 .f32)), y ∈ pc.1.set :=
  View.cover_of_tiled [⟨r0_3, p0⟩] S2x3x96.size (by rfl) y

def out0_39 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x64 .f32 :=
  View.canon [⟨r0_4, k0_pay15 (View.ld x11 r0_4) (View.ld x18 r0_4)⟩]

theorem cover0_39 (p0 : Vec F S2x64 .f32) (y : S2x64.Idx) :
    ∃ pc ∈ ([⟨r0_4, p0⟩] : List (View.Piece (Elt F) S2x64 .f32)), y ∈ pc.1.set :=
  View.cover_of_tiled [⟨r0_4, p0⟩] S2x64.size (by rfl) y

def out0_40 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x64 .f32 :=
  View.canon [⟨r0_4, k0_pay20 (View.ld x12 r0_4) (View.ld x19 r0_4)⟩]

theorem cover0_40 (p0 : Vec F S2x64 .f32) (y : S2x64.Idx) :
    ∃ pc ∈ ([⟨r0_4, p0⟩] : List (View.Piece (Elt F) S2x64 .f32)), y ∈ pc.1.set :=
  View.cover_of_tiled [⟨r0_4, p0⟩] S2x64.size (by rfl) y

def out0_41 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x2048 .f32 :=
  View.canon [⟨r0_0, k0_pay23 (View.ld x13 r0_0) (View.ld x20 r0_0)⟩]

theorem cover0_41 (p0 : Vec F S2x2048 .f32) (y : S2x2048.Idx) :
    ∃ pc ∈ ([⟨r0_0, p0⟩] : List (View.Piece (Elt F) S2x2048 .f32)), y ∈ pc.1.set :=
  View.cover_of_tiled [⟨r0_0, p0⟩] S2x2048.size (by rfl) y

def out0_42 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x2048 .f32 :=
  View.canon [⟨r0_0, k0_pay2 (View.ld x7 r0_0) (View.ld x21 r0_0)⟩]

theorem cover0_42 (p0 : Vec F S2x2048 .f32) (y : S2x2048.Idx) :
    ∃ pc ∈ ([⟨r0_0, p0⟩] : List (View.Piece (Elt F) S2x2048 .f32)), y ∈ pc.1.set :=
  View.cover_of_tiled [⟨r0_0, p0⟩] S2x2048.size (by rfl) y

def out0_43 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x8x128x128 .f32 :=
  View.canon [⟨r0_1, k0_pay5 (View.ld x8 r0_1) (View.ld x22 r0_1)⟩]

theorem cover0_43 (p0 : Vec F S2x8x128x128 .f32) (y : S2x8x128x128.Idx) :
    ∃ pc ∈ ([⟨r0_1, p0⟩] : List (View.Piece (Elt F) S2x8x128x128 .f32)), y ∈ pc.1.set :=
  View.cover_of_tiled [⟨r0_1, p0⟩] S2x8x128x128.size (by rfl) y

def out0_44 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x8x128 .f32 :=
  View.canon [⟨r0_2, k0_pay8 (View.ld x9 r0_2) (View.ld x23 r0_2)⟩]

theorem cover0_44 (p0 : Vec F S2x8x128 .f32) (y : S2x8x128.Idx) :
    ∃ pc ∈ ([⟨r0_2, p0⟩] : List (View.Piece (Elt F) S2x8x128 .f32)), y ∈ pc.1.set :=
  View.cover_of_tiled [⟨r0_2, p0⟩] S2x8x128.size (by rfl) y

def out0_45 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x3x96 .f32 :=
  View.canon [⟨r0_3, k0_pay11 (View.ld x10 r0_3) (View.ld x24 r0_3)⟩]

theorem cover0_45 (p0 : Vec F S2x3x96 .f32) (y : S2x3x96.Idx) :
    ∃ pc ∈ ([⟨r0_3, p0⟩] : List (View.Piece (Elt F) S2x3x96 .f32)), y ∈ pc.1.set :=
  View.cover_of_tiled [⟨r0_3, p0⟩] S2x3x96.size (by rfl) y

def out0_46 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x64 .f32 :=
  View.canon [⟨r0_4, k0_pay16 (View.ld x11 r0_4) (View.ld x25 r0_4)⟩]

theorem cover0_46 (p0 : Vec F S2x64 .f32) (y : S2x64.Idx) :
    ∃ pc ∈ ([⟨r0_4, p0⟩] : List (View.Piece (Elt F) S2x64 .f32)), y ∈ pc.1.set :=
  View.cover_of_tiled [⟨r0_4, p0⟩] S2x64.size (by rfl) y

def out0_47 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x64 .f32 :=
  View.canon [⟨r0_4, k0_pay21 (View.ld x12 r0_4) (View.ld x26 r0_4)⟩]

theorem cover0_47 (p0 : Vec F S2x64 .f32) (y : S2x64.Idx) :
    ∃ pc ∈ ([⟨r0_4, p0⟩] : List (View.Piece (Elt F) S2x64 .f32)), y ∈ pc.1.set :=
  View.cover_of_tiled [⟨r0_4, p0⟩] S2x64.size (by rfl) y

def out0_48 (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) : Vec F S2x2048 .f32 :=
  View.canon [⟨r0_0, k0_pay24 (View.ld x13 r0_0) (View.ld x27 r0_0)⟩]

theorem cover0_48 (p0 : Vec F S2x2048 .f32) (y : S2x2048.Idx) :
    ∃ pc ∈ ([⟨r0_0, p0⟩] : List (View.Piece (Elt F) S2x2048 .f32)), y ∈ pc.1.set :=
  View.cover_of_tiled [⟨r0_0, p0⟩] S2x2048.size (by rfl) y

set_option maxHeartbeats 1000000 in
theorem sound_kernel (c : Dev nD) (E : Set ℕ) (arg0 : Memref sig .tc .vmem S2x2048 .f32) (harg0 : arg0.IsWhole) (arg1 : Memref sig .tc .vmem S2x8x128x128 .f32) (harg1 : arg1.IsWhole) (arg2 : Memref sig .tc .vmem S2x8x128 .f32) (harg2 : arg2.IsWhole) (arg3 : Memref sig .tc .vmem S2x3x96 .f32) (harg3 : arg3.IsWhole) (arg4 : Memref sig .tc .vmem S2x64 .f32) (harg4 : arg4.IsWhole) (arg5 : Memref sig .tc .vmem S2x64 .f32) (harg5 : arg5.IsWhole) (arg6 : Memref sig .tc .vmem S2x2048 .f32) (harg6 : arg6.IsWhole) (arg7 : Memref sig .tc .vmem S2x2048 .f32) (harg7 : arg7.IsWhole) (arg8 : Memref sig .tc .vmem S2x8x128x128 .f32) (harg8 : arg8.IsWhole) (arg9 : Memref sig .tc .vmem S2x8x128 .f32) (harg9 : arg9.IsWhole) (arg10 : Memref sig .tc .vmem S2x3x96 .f32) (harg10 : arg10.IsWhole) (arg11 : Memref sig .tc .vmem S2x64 .f32) (harg11 : arg11.IsWhole) (arg12 : Memref sig .tc .vmem S2x64 .f32) (harg12 : arg12.IsWhole) (arg13 : Memref sig .tc .vmem S2x2048 .f32) (harg13 : arg13.IsWhole) (arg14 : Memref sig .tc .vmem S2x2048 .f32) (harg14 : arg14.IsWhole) (arg15 : Memref sig .tc .vmem S2x8x128x128 .f32) (harg15 : arg15.IsWhole) (arg16 : Memref sig .tc .vmem S2x8x128 .f32) (harg16 : arg16.IsWhole) (arg17 : Memref sig .tc .vmem S2x3x96 .f32) (harg17 : arg17.IsWhole) (arg18 : Memref sig .tc .vmem S2x64 .f32) (harg18 : arg18.IsWhole) (arg19 : Memref sig .tc .vmem S2x64 .f32) (harg19 : arg19.IsWhole) (arg20 : Memref sig .tc .vmem S2x2048 .f32) (harg20 : arg20.IsWhole) (arg21 : Memref sig .tc .vmem S2x2048 .f32) (harg21 : arg21.IsWhole) (arg22 : Memref sig .tc .vmem S2x8x128x128 .f32) (harg22 : arg22.IsWhole) (arg23 : Memref sig .tc .vmem S2x8x128 .f32) (harg23 : arg23.IsWhole) (arg24 : Memref sig .tc .vmem S2x3x96 .f32) (harg24 : arg24.IsWhole) (arg25 : Memref sig .tc .vmem S2x64 .f32) (harg25 : arg25.IsWhole) (arg26 : Memref sig .tc .vmem S2x64 .f32) (harg26 : arg26.IsWhole) (arg27 : Memref sig .tc .vmem S2x2048 .f32) (harg27 : arg27.IsWhole) (arg28 : Memref sig .tc .vmem S2x2048 .f32) (harg28 : arg28.IsWhole) (arg29 : Memref sig .tc .vmem S2x8x128x128 .f32) (harg29 : arg29.IsWhole) (arg30 : Memref sig .tc .vmem S2x8x128 .f32) (harg30 : arg30.IsWhole) (arg31 : Memref sig .tc .vmem S2x3x96 .f32) (harg31 : arg31.IsWhole) (arg32 : Memref sig .tc .vmem S2x64 .f32) (harg32 : arg32.IsWhole) (arg33 : Memref sig .tc .vmem S2x64 .f32) (harg33 : arg33.IsWhole) (arg34 : Memref sig .tc .vmem S2x2048 .f32) (harg34 : arg34.IsWhole) (arg35 : Memref sig .tc .vmem S2x2048 .f32) (harg35 : arg35.IsWhole) (arg36 : Memref sig .tc .vmem S2x8x128x128 .f32) (harg36 : arg36.IsWhole) (arg37 : Memref sig .tc .vmem S2x8x128 .f32) (harg37 : arg37.IsWhole) (arg38 : Memref sig .tc .vmem S2x3x96 .f32) (harg38 : arg38.IsWhole) (arg39 : Memref sig .tc .vmem S2x64 .f32) (harg39 : arg39.IsWhole) (arg40 : Memref sig .tc .vmem S2x64 .f32) (harg40 : arg40.IsWhole) (arg41 : Memref sig .tc .vmem S2x2048 .f32) (harg41 : arg41.IsWhole) (arg42 : Memref sig .tc .vmem S2x2048 .f32) (harg42 : arg42.IsWhole) (arg43 : Memref sig .tc .vmem S2x8x128x128 .f32) (harg43 : arg43.IsWhole) (arg44 : Memref sig .tc .vmem S2x8x128 .f32) (harg44 : arg44.IsWhole) (arg45 : Memref sig .tc .vmem S2x3x96 .f32) (harg45 : arg45.IsWhole) (arg46 : Memref sig .tc .vmem S2x64 .f32) (harg46 : arg46.IsWhole) (arg47 : Memref sig .tc .vmem S2x64 .f32) (harg47 : arg47.IsWhole) (arg48 : Memref sig .tc .vmem S2x2048 .f32) (harg48 : arg48.IsWhole)
    (x0 : Vec F S2x2048 .f32) (x1 : Vec F S2x8x128x128 .f32) (x2 : Vec F S2x8x128 .f32) (x3 : Vec F S2x3x96 .f32) (x4 : Vec F S2x64 .f32) (x5 : Vec F S2x64 .f32) (x6 : Vec F S2x2048 .f32) (x7 : Vec F S2x2048 .f32) (x8 : Vec F S2x8x128x128 .f32) (x9 : Vec F S2x8x128 .f32) (x10 : Vec F S2x3x96 .f32) (x11 : Vec F S2x64 .f32) (x12 : Vec F S2x64 .f32) (x13 : Vec F S2x2048 .f32) (x14 : Vec F S2x2048 .f32) (x15 : Vec F S2x8x128x128 .f32) (x16 : Vec F S2x8x128 .f32) (x17 : Vec F S2x3x96 .f32) (x18 : Vec F S2x64 .f32) (x19 : Vec F S2x64 .f32) (x20 : Vec F S2x2048 .f32) (x21 : Vec F S2x2048 .f32) (x22 : Vec F S2x8x128x128 .f32) (x23 : Vec F S2x8x128 .f32) (x24 : Vec F S2x3x96 .f32) (x25 : Vec F S2x64 .f32) (x26 : Vec F S2x64 .f32) (x27 : Vec F S2x2048 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare (out0_28 x0 x1 x2 x3 x4 x5 x6 x7 x8 x9 x10 x11 x12 x13 x14 x15 x16 x17 x18 x19 x20 x21 x22 x23 x24 x25 x26 x27) ∗ owns (c : Thread nD τ) arg29 fullShare (out0_29 x0 x1 x2 x3 x4 x5 x6 x7 x8 x9 x10 x11 x12 x13 x14 x15 x16 x17 x18 x19 x20 x21 x22 x23 x24 x25 x26 x27) ∗ owns (c : Thread nD τ) arg30 fullShare (out0_30 x0 x1 x2 x3 x4 x5 x6 x7 x8 x9 x10 x11 x12 x13 x14 x15 x16 x17 x18 x19 x20 x21 x22 x23 x24 x25 x26 x27) ∗ owns (c : Thread nD τ) arg31 fullShare (out0_31 x0 x1 x2 x3 x4 x5 x6 x7 x8 x9 x10 x11 x12 x13 x14 x15 x16 x17 x18 x19 x20 x21 x22 x23 x24 x25 x26 x27) ∗ owns (c : Thread nD τ) arg32 fullShare (out0_32 x0 x1 x2 x3 x4 x5 x6 x7 x8 x9 x10 x11 x12 x13 x14 x15 x16 x17 x18 x19 x20 x21 x22 x23 x24 x25 x26 x27) ∗ owns (c : Thread nD τ) arg33 fullShare (out0_33 x0 x1 x2 x3 x4 x5 x6 x7 x8 x9 x10 x11 x12 x13 x14 x15 x16 x17 x18 x19 x20 x21 x22 x23 x24 x25 x26 x27) ∗ owns (c : Thread nD τ) arg34 fullShare (out0_34 x0 x1 x2 x3 x4 x5 x6 x7 x8 x9 x10 x11 x12 x13 x14 x15 x16 x17 x18 x19 x20 x21 x22 x23 x24 x25 x26 x27) ∗ owns (c : Thread nD τ) arg35 fullShare (out0_35 x0 x1 x2 x3 x4 x5 x6 x7 x8 x9 x10 x11 x12 x13 x14 x15 x16 x17 x18 x19 x20 x21 x22 x23 x24 x25 x26 x27) ∗ owns (c : Thread nD τ) arg36 fullShare (out0_36 x0 x1 x2 x3 x4 x5 x6 x7 x8 x9 x10 x11 x12 x13 x14 x15 x16 x17 x18 x19 x20 x21 x22 x23 x24 x25 x26 x27) ∗ owns (c : Thread nD τ) arg37 fullShare (out0_37 x0 x1 x2 x3 x4 x5 x6 x7 x8 x9 x10 x11 x12 x13 x14 x15 x16 x17 x18 x19 x20 x21 x22 x23 x24 x25 x26 x27) ∗ owns (c : Thread nD τ) arg38 fullShare (out0_38 x0 x1 x2 x3 x4 x5 x6 x7 x8 x9 x10 x11 x12 x13 x14 x15 x16 x17 x18 x19 x20 x21 x22 x23 x24 x25 x26 x27) ∗ owns (c : Thread nD τ) arg39 fullShare (out0_39 x0 x1 x2 x3 x4 x5 x6 x7 x8 x9 x10 x11 x12 x13 x14 x15 x16 x17 x18 x19 x20 x21 x22 x23 x24 x25 x26 x27) ∗ owns (c : Thread nD τ) arg40 fullShare (out0_40 x0 x1 x2 x3 x4 x5 x6 x7 x8 x9 x10 x11 x12 x13 x14 x15 x16 x17 x18 x19 x20 x21 x22 x23 x24 x25 x26 x27) ∗ owns (c : Thread nD τ) arg41 fullShare (out0_41 x0 x1 x2 x3 x4 x5 x6 x7 x8 x9 x10 x11 x12 x13 x14 x15 x16 x17 x18 x19 x20 x21 x22 x23 x24 x25 x26 x27) ∗ owns (c : Thread nD τ) arg42 fullShare (out0_42 x0 x1 x2 x3 x4 x5 x6 x7 x8 x9 x10 x11 x12 x13 x14 x15 x16 x17 x18 x19 x20 x21 x22 x23 x24 x25 x26 x27) ∗ owns (c : Thread nD τ) arg43 fullShare (out0_43 x0 x1 x2 x3 x4 x5 x6 x7 x8 x9 x10 x11 x12 x13 x14 x15 x16 x17 x18 x19 x20 x21 x22 x23 x24 x25 x26 x27) ∗ owns (c : Thread nD τ) arg44 fullShare (out0_44 x0 x1 x2 x3 x4 x5 x6 x7 x8 x9 x10 x11 x12 x13 x14 x15 x16 x17 x18 x19 x20 x21 x22 x23 x24 x25 x26 x27) ∗ owns (c : Thread nD τ) arg45 fullShare (out0_45 x0 x1 x2 x3 x4 x5 x6 x7 x8 x9 x10 x11 x12 x13 x14 x15 x16 x17 x18 x19 x20 x21 x22 x23 x24 x25 x26 x27) ∗ owns (c : Thread nD τ) arg46 fullShare (out0_46 x0 x1 x2 x3 x4 x5 x6 x7 x8 x9 x10 x11 x12 x13 x14 x15 x16 x17 x18 x19 x20 x21 x22 x23 x24 x25 x26 x27) ∗ owns (c : Thread nD τ) arg47 fullShare (out0_47 x0 x1 x2 x3 x4 x5 x6 x7 x8 x9 x10 x11 x12 x13 x14 x15 x16 x17 x18 x19 x20 x21 x22 x23 x24 x25 x26 x27) ∗ owns (c : Thread nD τ) arg48 fullShare (out0_48 x0 x1 x2 x3 x4 x5 x6 x7 x8 x9 x10 x11 x12 x13 x14 x15 x16 x17 x18 x19 x20 x21 x22 x23 x24 x25 x26 x27)) -∗ K ⟨⟩))
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48) K := by
  simp only [cc0_adamw_small_eq_skeleton]; unfold cc0_adamw_small_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists _; isplitr
    swap; · iexact H28
    ipureintro
    exact View.read_writes_eq_canon _ _ _ (cover0_28 _)
  isplitl [H29]
  · iexists _; isplitr
    swap; · iexact H29
    ipureintro
    exact View.read_writes_eq_canon _ _ _ (cover0_29 _)
  isplitl [H30]
  · iexists _; isplitr
    swap; · iexact H30
    ipureintro
    exact View.read_writes_eq_canon _ _ _ (cover0_30 _)
  isplitl [H31]
  · iexists _; isplitr
    swap; · iexact H31
    ipureintro
    exact View.read_writes_eq_canon _ _ _ (cover0_31 _)
  isplitl [H32]
  · iexists _; isplitr
    swap; · iexact H32
    ipureintro
    exact View.read_writes_eq_canon _ _ _ (cover0_32 _)
  isplitl [H33]
  · iexists _; isplitr
    swap; · iexact H33
    ipureintro
    exact View.read_writes_eq_canon _ _ _ (cover0_33 _)
  isplitl [H34]
  · iexists _; isplitr
    swap; · iexact H34
    ipureintro
    exact View.read_writes_eq_canon _ _ _ (cover0_34 _)
  isplitl [H35]
  · iexists _; isplitr
    swap; · iexact H35
    ipureintro
    exact View.read_writes_eq_canon _ _ _ (cover0_35 _)
  isplitl [H36]
  · iexists _; isplitr
    swap; · iexact H36
    ipureintro
    exact View.read_writes_eq_canon _ _ _ (cover0_36 _)
  isplitl [H37]
  · iexists _; isplitr
    swap; · iexact H37
    ipureintro
    exact View.read_writes_eq_canon _ _ _ (cover0_37 _)
  isplitl [H38]
  · iexists _; isplitr
    swap; · iexact H38
    ipureintro
    exact View.read_writes_eq_canon _ _ _ (cover0_38 _)
  isplitl [H39]
  · iexists _; isplitr
    swap; · iexact H39
    ipureintro
    exact View.read_writes_eq_canon _ _ _ (cover0_39 _)
  isplitl [H40]
  · iexists _; isplitr
    swap; · iexact H40
    ipureintro
    exact View.read_writes_eq_canon _ _ _ (cover0_40 _)
  isplitl [H41]
  · iexists _; isplitr
    swap; · iexact H41
    ipureintro
    exact View.read_writes_eq_canon _ _ _ (cover0_41 _)
  isplitl [H42]
  · iexists _; isplitr
    swap; · iexact H42
    ipureintro
    exact View.read_writes_eq_canon _ _ _ (cover0_42 _)
  isplitl [H43]
  · iexists _; isplitr
    swap; · iexact H43
    ipureintro
    exact View.read_writes_eq_canon _ _ _ (cover0_43 _)
  isplitl [H44]
  · iexists _; isplitr
    swap; · iexact H44
    ipureintro
    exact View.read_writes_eq_canon _ _ _ (cover0_44 _)
  isplitl [H45]
  · iexists _; isplitr
    swap; · iexact H45
    ipureintro
    exact View.read_writes_eq_canon _ _ _ (cover0_45 _)
  isplitl [H46]
  · iexists _; isplitr
    swap; · iexact H46
    ipureintro
    exact View.read_writes_eq_canon _ _ _ (cover0_46 _)
  isplitl [H47]
  · iexists _; isplitr
    swap; · iexact H47
    ipureintro
    exact View.read_writes_eq_canon _ _ _ (cover0_47 _)
  iexists _; isplitr
  swap; · iexact H48
  ipureintro
  exact View.read_writes_eq_canon _ _ _ (cover0_48 _)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨33, _⟩ => out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨34, _⟩ => out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨35, _⟩ => out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨36, _⟩ => out0_36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨37, _⟩ => out0_37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨38, _⟩ => out0_38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨39, _⟩ => out0_39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨40, _⟩ => out0_40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨41, _⟩ => out0_41 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨42, _⟩ => out0_42 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨43, _⟩ => out0_43 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨44, _⟩ => out0_44 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨45, _⟩ => out0_45 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨46, _⟩ => out0_46 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨47, _⟩ => out0_47 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨48, _⟩ => out0_48 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)
    | ⟨_ + 49, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_32 (c : Dev nD) (t : Fin cfg0.N) : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_33 (c : Dev nD) (t : Fin cfg0.N) : (dats m 0 c).after 33 t = out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_34 (c : Dev nD) (t : Fin cfg0.N) : (dats m 0 c).after 34 t = out0_34 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_35 (c : Dev nD) (t : Fin cfg0.N) : (dats m 0 c).after 35 t = out0_35 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_36 (c : Dev nD) (t : Fin cfg0.N) : (dats m 0 c).after 36 t = out0_36 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_37 (c : Dev nD) (t : Fin cfg0.N) : (dats m 0 c).after 37 t = out0_37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_38 (c : Dev nD) (t : Fin cfg0.N) : (dats m 0 c).after 38 t = out0_38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_39 (c : Dev nD) (t : Fin cfg0.N) : (dats m 0 c).after 39 t = out0_39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_40 (c : Dev nD) (t : Fin cfg0.N) : (dats m 0 c).after 40 t = out0_40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_41 (c : Dev nD) (t : Fin cfg0.N) : (dats m 0 c).after 41 t = out0_41 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_42 (c : Dev nD) (t : Fin cfg0.N) : (dats m 0 c).after 42 t = out0_42 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_43 (c : Dev nD) (t : Fin cfg0.N) : (dats m 0 c).after 43 t = out0_43 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_44 (c : Dev nD) (t : Fin cfg0.N) : (dats m 0 c).after 44 t = out0_44 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_45 (c : Dev nD) (t : Fin cfg0.N) : (dats m 0 c).after 45 t = out0_45 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_46 (c : Dev nD) (t : Fin cfg0.N) : (dats m 0 c).after 46 t = out0_46 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_47 (c : Dev nD) (t : Fin cfg0.N) : (dats m 0 c).after 47 t = out0_47 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]
theorem after0_48 (c : Dev nD) (t : Fin cfg0.N) : (dats m 0 c).after 48 t = out0_48 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  iexact H48

set_option maxHeartbeats 2000000 in
theorem body_obligation (c : Dev nD) : BodyObligation (dats (F := F) m 0 c) (defs₀ (F := F)) Variants.none () Set.univ := fun t => by
  rw [bigSep_W0, bigSep_W0]
  exact sound_body m c t

set_option backward.isDefEq.respectTransparency.types false in
set_option maxHeartbeats 800000 in
/-- The launch: the program ends, its arrays are what the blocks' contents make them, and every counter is at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)
/-- The launch, without the counters. -/
theorem run_main : θ_run defs (onTc (τ := τ) (main (F := F))) (s₀ m ρ) (Pipeline.FramePost cfgs (dats m) 0 (V m)) :=
  (θ_run defs _ _).mono (fun _ h => h.1) (run_main_quiescent m ρ)

end Cert.AdamSmallIdeal.Body

end
-- ==== Proof.AdamSmallValue.lean ====
/- The optimiser's step on the seven small weights: the kernel's arrays after the run. -/
module

public import proofs.«01_k».proof.Defs
public import proofs.«01_k».proof.Proof.BodyAdamSmallIdeal
public import proofs.«01_k».proof.Proof.Gen.AdamSmall
public import proofs.«01_k».proof.Proof.Gen.AdamSmallRefIdeal.Run
public import proofs.«01_k».proof.Proof.Gen.AdamSmallRefIdeal.Read
public import proofs.«01_k».proof.Proof.Gen.AdamSmallRefIdeal
public import Idealize.ShloMosaic.Lib.Pipeline.ValueKit
public import Idealize.ShloMosaic.Lib.Pointwise
public import Idealize.ShloMosaic.Lib.VecWindow
public import Idealize.ShloMosaic.Lib.Claim
public import Idealize.ShloMosaic.Lib.Quiescent

@[expose] public section

set_option maxRecDepth 16384

noncomputable section
open Idealize.ShloMosaic Idealize.ShloMosaic.TcCoe Idealize.SL.Sem
open Idealize.ShloMosaic.Pipeline (Dat)
open Idealize.ShloMosaic.StableHlo
open scoped BigOperators

namespace Cert.AdamSmallIdeal.Closed

open Cert.AdamSmallIdeal Cert.AdamSmallIdeal.Gen Cert.AdamSmallIdeal.Body

/-- The new first moment. -/
def mean {S : Shape} (g m : FVec Ideal S .f32) : FVec Ideal S .f32 := fun j =>
  Ideal.ofBits .f32 0x3F666666#32 * m j + Ideal.ofBits .f32 0x3DCCCCCD#32 * g j
/-- The new second moment. -/
def square {S : Shape} (g v : FVec Ideal S .f32) : FVec Ideal S .f32 := fun j =>
  Ideal.ofBits .f32 0x3F7FBE77#32 * v j + Ideal.ofBits .f32 0x3A83126F#32 * (g j * g j)
/-- The change of the weight. -/
def delta {S : Shape} (w g m v : FVec Ideal S .f32) : FVec Ideal S .f32 := fun j =>
  Ideal.ofBits .f32 0xBA83126F#32 * (Ideal.div (Ideal.div (mean g m j) (Ideal.ofBits .f32 0x3F26BD02#32))
    (Ideal.sqrt (Ideal.div (square g v j) (Ideal.ofBits .f32 0x3C231ACC#32)) + Ideal.ofBits .f32 0x322BCC77#32)
    + Ideal.ofBits .f32 0x3C23D70A#32 * w j)

variable (m : (ℓ : Loc nD τ sig) → Buf (Elt Ideal) ℓ)

/-- Window 0 is its whole array. -/
theorem idx_0 : ∀ t : Fin cfg0.N, win0_0.index t = ![0, 0] := (by decide +kernel : ∀ t : Fin grid0.N, _)
/-- Window 1 is its whole array. -/
theorem idx_1 : ∀ t : Fin cfg0.N, win0_1.index t = ![0, 0, 0, 0] := (by decide +kernel : ∀ t : Fin grid0.N, _)
/-- Window 2 is its whole array. -/
theorem idx_2 : ∀ t : Fin cfg0.N, win0_2.index t = ![0, 0, 0] := (by decide +kernel : ∀ t : Fin grid0.N, _)
/-- Window 3 is its whole array. -/
theorem idx_3 : ∀ t : Fin cfg0.N, win0_3.index t = ![0, 0, 0] := (by decide +kernel : ∀ t : Fin grid0.N, _)
/-- Window 4 is its whole array. -/
theorem idx_4 : ∀ t : Fin cfg0.N, win0_4.index t = ![0, 0] := (by decide +kernel : ∀ t : Fin grid0.N, _)
/-- Window 5 is its whole array. -/
theorem idx_5 : ∀ t : Fin cfg0.N, win0_5.index t = ![0, 0] := (by decide +kernel : ∀ t : Fin grid0.N, _)
/-- Window 6 is its whole array. -/
theorem idx_6 : ∀ t : Fin cfg0.N, win0_6.index t = ![0, 0] := (by decide +kernel : ∀ t : Fin grid0.N, _)
/-- Window 7 is its whole array. -/
theorem idx_7 : ∀ t : Fin cfg0.N, win0_7.index t = ![0, 0] := (by decide +kernel : ∀ t : Fin grid0.N, _)
/-- Window 8 is its whole array. -/
theorem idx_8 : ∀ t : Fin cfg0.N, win0_8.index t = ![0, 0, 0, 0] := (by decide +kernel : ∀ t : Fin grid0.N, _)
/-- Window 9 is its whole array. -/
theorem idx_9 : ∀ t : Fin cfg0.N, win0_9.index t = ![0, 0, 0] := (by decide +kernel : ∀ t : Fin grid0.N, _)
/-- Window 10 is its whole array. -/
theorem idx_10 : ∀ t : Fin cfg0.N, win0_10.index t = ![0, 0, 0] := (by decide +kernel : ∀ t : Fin grid0.N, _)
/-- Window 11 is its whole array. -/
theorem idx_11 : ∀ t : Fin cfg0.N, win0_11.index t = ![0, 0] := (by decide +kernel : ∀ t : Fin grid0.N, _)
/-- Window 12 is its whole array. -/
theorem idx_12 : ∀ t : Fin cfg0.N, win0_12.index t = ![0, 0] := (by decide +kernel : ∀ t : Fin grid0.N, _)
/-- Window 13 is its whole array. -/
theorem idx_13 : ∀ t : Fin cfg0.N, win0_13.index t = ![0, 0] := (by decide +kernel : ∀ t : Fin grid0.N, _)
/-- Window 14 is its whole array. -/
theorem idx_14 : ∀ t : Fin cfg0.N, win0_14.index t = ![0, 0] := (by decide +kernel : ∀ t : Fin grid0.N, _)
/-- Window 15 is its whole array. -/
theorem idx_15 : ∀ t : Fin cfg0.N, win0_15.index t = ![0, 0, 0, 0] := (by decide +kernel : ∀ t : Fin grid0.N, _)
/-- Window 16 is its whole array. -/
theorem idx_16 : ∀ t : Fin cfg0.N, win0_16.index t = ![0, 0, 0] := (by decide +kernel : ∀ t : Fin grid0.N, _)
/-- Window 17 is its whole array. -/
theorem idx_17 : ∀ t : Fin cfg0.N, win0_17.index t = ![0, 0, 0] := (by decide +kernel : ∀ t : Fin grid0.N, _)
/-- Window 18 is its whole array. -/
theorem idx_18 : ∀ t : Fin cfg0.N, win0_18.index t = ![0, 0] := (by decide +kernel : ∀ t : Fin grid0.N, _)
/-- Window 19 is its whole array. -/
theorem idx_19 : ∀ t : Fin cfg0.N, win0_19.index t = ![0, 0] := (by decide +kernel : ∀ t : Fin grid0.N, _)
/-- Window 20 is its whole array. -/
theorem idx_20 : ∀ t : Fin cfg0.N, win0_20.index t = ![0, 0] := (by decide +kernel : ∀ t : Fin grid0.N, _)
/-- Window 21 is its whole array. -/
theorem idx_21 : ∀ t : Fin cfg0.N, win0_21.index t = ![0, 0] := (by decide +kernel : ∀ t : Fin grid0.N, _)
/-- Window 22 is its whole array. -/
theorem idx_22 : ∀ t : Fin cfg0.N, win0_22.index t = ![0, 0, 0, 0] := (by decide +kernel : ∀ t : Fin grid0.N, _)
/-- Window 23 is its whole array. -/
theorem idx_23 : ∀ t : Fin cfg0.N, win0_23.index t = ![0, 0, 0] := (by decide +kernel : ∀ t : Fin grid0.N, _)
/-- Window 24 is its whole array. -/
theorem idx_24 : ∀ t : Fin cfg0.N, win0_24.index t = ![0, 0, 0] := (by decide +kernel : ∀ t : Fin grid0.N, _)
/-- Window 25 is its whole array. -/
theorem idx_25 : ∀ t : Fin cfg0.N, win0_25.index t = ![0, 0] := (by decide +kernel : ∀ t : Fin grid0.N, _)
/-- Window 26 is its whole array. -/
theorem idx_26 : ∀ t : Fin cfg0.N, win0_26.index t = ![0, 0] := (by decide +kernel : ∀ t : Fin grid0.N, _)
/-- Window 27 is its whole array. -/
theorem idx_27 : ∀ t : Fin cfg0.N, win0_27.index t = ![0, 0] := (by decide +kernel : ∀ t : Fin grid0.N, _)
/-- Window 28 is its whole array. -/
theorem idx_28 : ∀ t : Fin cfg0.N, win0_28.index t = ![0, 0] := (by decide +kernel : ∀ t : Fin grid0.N, _)
/-- Window 29 is its whole array. -/
theorem idx_29 : ∀ t : Fin cfg0.N, win0_29.index t = ![0, 0, 0, 0] := (by decide +kernel : ∀ t : Fin grid0.N, _)
/-- Window 30 is its whole array. -/
theorem idx_30 : ∀ t : Fin cfg0.N, win0_30.index t = ![0, 0, 0] := (by decide +kernel : ∀ t : Fin grid0.N, _)
/-- Window 31 is its whole array. -/
theorem idx_31 : ∀ t : Fin cfg0.N, win0_31.index t = ![0, 0, 0] := (by decide +kernel : ∀ t : Fin grid0.N, _)
/-- Window 32 is its whole array. -/
theorem idx_32 : ∀ t : Fin cfg0.N, win0_32.index t = ![0, 0] := (by decide +kernel : ∀ t : Fin grid0.N, _)
/-- Window 33 is its whole array. -/
theorem idx_33 : ∀ t : Fin cfg0.N, win0_33.index t = ![0, 0] := (by decide +kernel : ∀ t : Fin grid0.N, _)
/-- Window 34 is its whole array. -/
theorem idx_34 : ∀ t : Fin cfg0.N, win0_34.index t = ![0, 0] := (by decide +kernel : ∀ t : Fin grid0.N, _)
/-- Window 35 is its whole array. -/
theorem idx_35 : ∀ t : Fin cfg0.N, win0_35.index t = ![0, 0] := (by decide +kernel : ∀ t : Fin grid0.N, _)
/-- Window 36 is its whole array. -/
theorem idx_36 : ∀ t : Fin cfg0.N, win0_36.index t = ![0, 0, 0, 0] := (by decide +kernel : ∀ t : Fin grid0.N, _)
/-- Window 37 is its whole array. -/
theorem idx_37 : ∀ t : Fin cfg0.N, win0_37.index t = ![0, 0, 0] := (by decide +kernel : ∀ t : Fin grid0.N, _)
/-- Window 38 is its whole array. -/
theorem idx_38 : ∀ t : Fin cfg0.N, win0_38.index t = ![0, 0, 0] := (by decide +kernel : ∀ t : Fin grid0.N, _)
/-- Window 39 is its whole array. -/
theorem idx_39 : ∀ t : Fin cfg0.N, win0_39.index t = ![0, 0] := (by decide +kernel : ∀ t : Fin grid0.N, _)
/-- Window 40 is its whole array. -/
theorem idx_40 : ∀ t : Fin cfg0.N, win0_40.index t = ![0, 0] := (by decide +kernel : ∀ t : Fin grid0.N, _)
/-- Window 41 is its whole array. -/
theorem idx_41 : ∀ t : Fin cfg0.N, win0_41.index t = ![0, 0] := (by decide +kernel : ∀ t : Fin grid0.N, _)
/-- Window 42 is its whole array. -/
theorem idx_42 : ∀ t : Fin cfg0.N, win0_42.index t = ![0, 0] := (by decide +kernel : ∀ t : Fin grid0.N, _)
/-- Window 43 is its whole array. -/
theorem idx_43 : ∀ t : Fin cfg0.N, win0_43.index t = ![0, 0, 0, 0] := (by decide +kernel : ∀ t : Fin grid0.N, _)
/-- Window 44 is its whole array. -/
theorem idx_44 : ∀ t : Fin cfg0.N, win0_44.index t = ![0, 0, 0] := (by decide +kernel : ∀ t : Fin grid0.N, _)
/-- Window 45 is its whole array. -/
theorem idx_45 : ∀ t : Fin cfg0.N, win0_45.index t = ![0, 0, 0] := (by decide +kernel : ∀ t : Fin grid0.N, _)
/-- Window 46 is its whole array. -/
theorem idx_46 : ∀ t : Fin cfg0.N, win0_46.index t = ![0, 0] := (by decide +kernel : ∀ t : Fin grid0.N, _)
/-- Window 47 is its whole array. -/
theorem idx_47 : ∀ t : Fin cfg0.N, win0_47.index t = ![0, 0] := (by decide +kernel : ∀ t : Fin grid0.N, _)
/-- Window 48 is its whole array. -/
theorem idx_48 : ∀ t : Fin cfg0.N, win0_48.index t = ![0, 0] := (by decide +kernel : ∀ t : Fin grid0.N, _)
/-- Window 0's block sits at its array's start. -/
theorem emb_0 (t : Fin cfg0.N) (y : S2x2048.Idx) : ((cfg0.win 0).blk t).view.emb y = y := by
  blk_ext [idx_0 t]
/-- Window 0's block is its argument. -/
theorem read_0 (c : Dev nD) (t : Fin cfg0.N) (y : S2x2048.Idx) : iblk m c 0 t y = (m ((c : Thread nD τ).loc main_arg0)) y := congrArg (m ((c : Thread nD τ).loc main_arg0)) (emb_0 t y)
/-- Window 1's block sits at its array's start. -/
theorem emb_1 (t : Fin cfg0.N) (y : S2x8x128x128.Idx) : ((cfg0.win 1).blk t).view.emb y = y := by
  blk_ext [idx_1 t]
/-- Window 1's block is its argument. -/
theorem read_1 (c : Dev nD) (t : Fin cfg0.N) (y : S2x8x128x128.Idx) : iblk m c 1 t y = (m ((c : Thread nD τ).loc main_arg1)) y := congrArg (m ((c : Thread nD τ).loc main_arg1)) (emb_1 t y)
/-- Window 2's block sits at its array's start. -/
theorem emb_2 (t : Fin cfg0.N) (y : S2x8x128.Idx) : ((cfg0.win 2).blk t).view.emb y = y := by
  blk_ext [idx_2 t]
/-- Window 2's block is its argument. -/
theorem read_2 (c : Dev nD) (t : Fin cfg0.N) (y : S2x8x128.Idx) : iblk m c 2 t y = (m ((c : Thread nD τ).loc main_arg2)) y := congrArg (m ((c : Thread nD τ).loc main_arg2)) (emb_2 t y)
/-- Window 3's block sits at its array's start. -/
theorem emb_3 (t : Fin cfg0.N) (y : S2x3x96.Idx) : ((cfg0.win 3).blk t).view.emb y = y := by
  blk_ext [idx_3 t]
/-- Window 3's block is its argument. -/
theorem read_3 (c : Dev nD) (t : Fin cfg0.N) (y : S2x3x96.Idx) : iblk m c 3 t y = (m ((c : Thread nD τ).loc main_arg3)) y := congrArg (m ((c : Thread nD τ).loc main_arg3)) (emb_3 t y)
/-- Window 4's block sits at its array's start. -/
theorem emb_4 (t : Fin cfg0.N) (y : S2x64.Idx) : ((cfg0.win 4).blk t).view.emb y = y := by
  blk_ext [idx_4 t]
/-- Window 4's block is its argument. -/
theorem read_4 (c : Dev nD) (t : Fin cfg0.N) (y : S2x64.Idx) : iblk m c 4 t y = (m ((c : Thread nD τ).loc main_arg4)) y := congrArg (m ((c : Thread nD τ).loc main_arg4)) (emb_4 t y)
/-- Window 5's block sits at its array's start. -/
theorem emb_5 (t : Fin cfg0.N) (y : S2x64.Idx) : ((cfg0.win 5).blk t).view.emb y = y := by
  blk_ext [idx_5 t]
/-- Window 5's block is its argument. -/
theorem read_5 (c : Dev nD) (t : Fin cfg0.N) (y : S2x64.Idx) : iblk m c 5 t y = (m ((c : Thread nD τ).loc main_arg5)) y := congrArg (m ((c : Thread nD τ).loc main_arg5)) (emb_5 t y)
/-- Window 6's block sits at its array's start. -/
theorem emb_6 (t : Fin cfg0.N) (y : S2x2048.Idx) : ((cfg0.win 6).blk t).view.emb y = y := by
  blk_ext [idx_6 t]
/-- Window 6's block is its argument. -/
theorem read_6 (c : Dev nD) (t : Fin cfg0.N) (y : S2x2048.Idx) : iblk m c 6 t y = (m ((c : Thread nD τ).loc main_arg6)) y := congrArg (m ((c : Thread nD τ).loc main_arg6)) (emb_6 t y)
/-- Window 7's block sits at its array's start. -/
theorem emb_7 (t : Fin cfg0.N) (y : S2x2048.Idx) : ((cfg0.win 7).blk t).view.emb y = y := by
  blk_ext [idx_7 t]
/-- Window 7's block is its argument. -/
theorem read_7 (c : Dev nD) (t : Fin cfg0.N) (y : S2x2048.Idx) : iblk m c 7 t y = (m ((c : Thread nD τ).loc main_arg7)) y := congrArg (m ((c : Thread nD τ).loc main_arg7)) (emb_7 t y)
/-- Window 8's block sits at its array's start. -/
theorem emb_8 (t : Fin cfg0.N) (y : S2x8x128x128.Idx) : ((cfg0.win 8).blk t).view.emb y = y := by
  blk_ext [idx_8 t]
/-- Window 8's block is its argument. -/
theorem read_8 (c : Dev nD) (t : Fin cfg0.N) (y : S2x8x128x128.Idx) : iblk m c 8 t y = (m ((c : Thread nD τ).loc main_arg8)) y := congrArg (m ((c : Thread nD τ).loc main_arg8)) (emb_8 t y)
/-- Window 9's block sits at its array's start. -/
theorem emb_9 (t : Fin cfg0.N) (y : S2x8x128.Idx) : ((cfg0.win 9).blk t).view.emb y = y := by
  blk_ext [idx_9 t]
/-- Window 9's block is its argument. -/
theorem read_9 (c : Dev nD) (t : Fin cfg0.N) (y : S2x8x128.Idx) : iblk m c 9 t y = (m ((c : Thread nD τ).loc main_arg9)) y := congrArg (m ((c : Thread nD τ).loc main_arg9)) (emb_9 t y)
/-- Window 10's block sits at its array's start. -/
theorem emb_10 (t : Fin cfg0.N) (y : S2x3x96.Idx) : ((cfg0.win 10).blk t).view.emb y = y := by
  blk_ext [idx_10 t]
/-- Window 10's block is its argument. -/
theorem read_10 (c : Dev nD) (t : Fin cfg0.N) (y : S2x3x96.Idx) : iblk m c 10 t y = (m ((c : Thread nD τ).loc main_arg10)) y := congrArg (m ((c : Thread nD τ).loc main_arg10)) (emb_10 t y)
/-- Window 11's block sits at its array's start. -/
theorem emb_11 (t : Fin cfg0.N) (y : S2x64.Idx) : ((cfg0.win 11).blk t).view.emb y = y := by
  blk_ext [idx_11 t]
/-- Window 11's block is its argument. -/
theorem read_11 (c : Dev nD) (t : Fin cfg0.N) (y : S2x64.Idx) : iblk m c 11 t y = (m ((c : Thread nD τ).loc main_arg11)) y := congrArg (m ((c : Thread nD τ).loc main_arg11)) (emb_11 t y)
/-- Window 12's block sits at its array's start. -/
theorem emb_12 (t : Fin cfg0.N) (y : S2x64.Idx) : ((cfg0.win 12).blk t).view.emb y = y := by
  blk_ext [idx_12 t]
/-- Window 12's block is its argument. -/
theorem read_12 (c : Dev nD) (t : Fin cfg0.N) (y : S2x64.Idx) : iblk m c 12 t y = (m ((c : Thread nD τ).loc main_arg12)) y := congrArg (m ((c : Thread nD τ).loc main_arg12)) (emb_12 t y)
/-- Window 13's block sits at its array's start. -/
theorem emb_13 (t : Fin cfg0.N) (y : S2x2048.Idx) : ((cfg0.win 13).blk t).view.emb y = y := by
  blk_ext [idx_13 t]
/-- Window 13's block is its argument. -/
theorem read_13 (c : Dev nD) (t : Fin cfg0.N) (y : S2x2048.Idx) : iblk m c 13 t y = (m ((c : Thread nD τ).loc main_arg13)) y := congrArg (m ((c : Thread nD τ).loc main_arg13)) (emb_13 t y)
/-- Window 14's block sits at its array's start. -/
theorem emb_14 (t : Fin cfg0.N) (y : S2x2048.Idx) : ((cfg0.win 14).blk t).view.emb y = y := by
  blk_ext [idx_14 t]
/-- Window 14's block is its argument. -/
theorem read_14 (c : Dev nD) (t : Fin cfg0.N) (y : S2x2048.Idx) : iblk m c 14 t y = (m ((c : Thread nD τ).loc main_arg14)) y := congrArg (m ((c : Thread nD τ).loc main_arg14)) (emb_14 t y)
/-- Window 15's block sits at its array's start. -/
theorem emb_15 (t : Fin cfg0.N) (y : S2x8x128x128.Idx) : ((cfg0.win 15).blk t).view.emb y = y := by
  blk_ext [idx_15 t]
/-- Window 15's block is its argument. -/
theorem read_15 (c : Dev nD) (t : Fin cfg0.N) (y : S2x8x128x128.Idx) : iblk m c 15 t y = (m ((c : Thread nD τ).loc main_arg15)) y := congrArg (m ((c : Thread nD τ).loc main_arg15)) (emb_15 t y)
/-- Window 16's block sits at its array's start. -/
theorem emb_16 (t : Fin cfg0.N) (y : S2x8x128.Idx) : ((cfg0.win 16).blk t).view.emb y = y := by
  blk_ext [idx_16 t]
/-- Window 16's block is its argument. -/
theorem read_16 (c : Dev nD) (t : Fin cfg0.N) (y : S2x8x128.Idx) : iblk m c 16 t y = (m ((c : Thread nD τ).loc main_arg16)) y := congrArg (m ((c : Thread nD τ).loc main_arg16)) (emb_16 t y)
/-- Window 17's block sits at its array's start. -/
theorem emb_17 (t : Fin cfg0.N) (y : S2x3x96.Idx) : ((cfg0.win 17).blk t).view.emb y = y := by
  blk_ext [idx_17 t]
/-- Window 17's block is its argument. -/
theorem read_17 (c : Dev nD) (t : Fin cfg0.N) (y : S2x3x96.Idx) : iblk m c 17 t y = (m ((c : Thread nD τ).loc main_arg17)) y := congrArg (m ((c : Thread nD τ).loc main_arg17)) (emb_17 t y)
/-- Window 18's block sits at its array's start. -/
theorem emb_18 (t : Fin cfg0.N) (y : S2x64.Idx) : ((cfg0.win 18).blk t).view.emb y = y := by
  blk_ext [idx_18 t]
/-- Window 18's block is its argument. -/
theorem read_18 (c : Dev nD) (t : Fin cfg0.N) (y : S2x64.Idx) : iblk m c 18 t y = (m ((c : Thread nD τ).loc main_arg18)) y := congrArg (m ((c : Thread nD τ).loc main_arg18)) (emb_18 t y)
/-- Window 19's block sits at its array's start. -/
theorem emb_19 (t : Fin cfg0.N) (y : S2x64.Idx) : ((cfg0.win 19).blk t).view.emb y = y := by
  blk_ext [idx_19 t]
/-- Window 19's block is its argument. -/
theorem read_19 (c : Dev nD) (t : Fin cfg0.N) (y : S2x64.Idx) : iblk m c 19 t y = (m ((c : Thread nD τ).loc main_arg19)) y := congrArg (m ((c : Thread nD τ).loc main_arg19)) (emb_19 t y)
/-- Window 20's block sits at its array's start. -/
theorem emb_20 (t : Fin cfg0.N) (y : S2x2048.Idx) : ((cfg0.win 20).blk t).view.emb y = y := by
  blk_ext [idx_20 t]
/-- Window 20's block is its argument. -/
theorem read_20 (c : Dev nD) (t : Fin cfg0.N) (y : S2x2048.Idx) : iblk m c 20 t y = (m ((c : Thread nD τ).loc main_arg20)) y := congrArg (m ((c : Thread nD τ).loc main_arg20)) (emb_20 t y)
/-- Window 21's block sits at its array's start. -/
theorem emb_21 (t : Fin cfg0.N) (y : S2x2048.Idx) : ((cfg0.win 21).blk t).view.emb y = y := by
  blk_ext [idx_21 t]
/-- Window 21's block is its argument. -/
theorem read_21 (c : Dev nD) (t : Fin cfg0.N) (y : S2x2048.Idx) : iblk m c 21 t y = (m ((c : Thread nD τ).loc main_arg21)) y := congrArg (m ((c : Thread nD τ).loc main_arg21)) (emb_21 t y)
/-- Window 22's block sits at its array's start. -/
theorem emb_22 (t : Fin cfg0.N) (y : S2x8x128x128.Idx) : ((cfg0.win 22).blk t).view.emb y = y := by
  blk_ext [idx_22 t]
/-- Window 22's block is its argument. -/
theorem read_22 (c : Dev nD) (t : Fin cfg0.N) (y : S2x8x128x128.Idx) : iblk m c 22 t y = (m ((c : Thread nD τ).loc main_arg22)) y := congrArg (m ((c : Thread nD τ).loc main_arg22)) (emb_22 t y)
/-- Window 23's block sits at its array's start. -/
theorem emb_23 (t : Fin cfg0.N) (y : S2x8x128.Idx) : ((cfg0.win 23).blk t).view.emb y = y := by
  blk_ext [idx_23 t]
/-- Window 23's block is its argument. -/
theorem read_23 (c : Dev nD) (t : Fin cfg0.N) (y : S2x8x128.Idx) : iblk m c 23 t y = (m ((c : Thread nD τ).loc main_arg23)) y := congrArg (m ((c : Thread nD τ).loc main_arg23)) (emb_23 t y)
/-- Window 24's block sits at its array's start. -/
theorem emb_24 (t : Fin cfg0.N) (y : S2x3x96.Idx) : ((cfg0.win 24).blk t).view.emb y = y := by
  blk_ext [idx_24 t]
/-- Window 24's block is its argument. -/
theorem read_24 (c : Dev nD) (t : Fin cfg0.N) (y : S2x3x96.Idx) : iblk m c 24 t y = (m ((c : Thread nD τ).loc main_arg24)) y := congrArg (m ((c : Thread nD τ).loc main_arg24)) (emb_24 t y)
/-- Window 25's block sits at its array's start. -/
theorem emb_25 (t : Fin cfg0.N) (y : S2x64.Idx) : ((cfg0.win 25).blk t).view.emb y = y := by
  blk_ext [idx_25 t]
/-- Window 25's block is its argument. -/
theorem read_25 (c : Dev nD) (t : Fin cfg0.N) (y : S2x64.Idx) : iblk m c 25 t y = (m ((c : Thread nD τ).loc main_arg25)) y := congrArg (m ((c : Thread nD τ).loc main_arg25)) (emb_25 t y)
/-- Window 26's block sits at its array's start. -/
theorem emb_26 (t : Fin cfg0.N) (y : S2x64.Idx) : ((cfg0.win 26).blk t).view.emb y = y := by
  blk_ext [idx_26 t]
/-- Window 26's block is its argument. -/
theorem read_26 (c : Dev nD) (t : Fin cfg0.N) (y : S2x64.Idx) : iblk m c 26 t y = (m ((c : Thread nD τ).loc main_arg26)) y := congrArg (m ((c : Thread nD τ).loc main_arg26)) (emb_26 t y)
/-- Window 27's block sits at its array's start. -/
theorem emb_27 (t : Fin cfg0.N) (y : S2x2048.Idx) : ((cfg0.win 27).blk t).view.emb y = y := by
  blk_ext [idx_27 t]
/-- Window 27's block is its argument. -/
theorem read_27 (c : Dev nD) (t : Fin cfg0.N) (y : S2x2048.Idx) : iblk m c 27 t y = (m ((c : Thread nD τ).loc main_arg27)) y := congrArg (m ((c : Thread nD τ).loc main_arg27)) (emb_27 t y)
/-- Window 28's block sits at its array's start. -/
theorem emb_28 (t : Fin cfg0.N) (y : S2x2048.Idx) : ((cfg0.win 28).blk t).view.emb y = y := by
  blk_ext [idx_28 t]
/-- Window 29's block sits at its array's start. -/
theorem emb_29 (t : Fin cfg0.N) (y : S2x8x128x128.Idx) : ((cfg0.win 29).blk t).view.emb y = y := by
  blk_ext [idx_29 t]
/-- Window 30's block sits at its array's start. -/
theorem emb_30 (t : Fin cfg0.N) (y : S2x8x128.Idx) : ((cfg0.win 30).blk t).view.emb y = y := by
  blk_ext [idx_30 t]
/-- Window 31's block sits at its array's start. -/
theorem emb_31 (t : Fin cfg0.N) (y : S2x3x96.Idx) : ((cfg0.win 31).blk t).view.emb y = y := by
  blk_ext [idx_31 t]
/-- Window 32's block sits at its array's start. -/
theorem emb_32 (t : Fin cfg0.N) (y : S2x64.Idx) : ((cfg0.win 32).blk t).view.emb y = y := by
  blk_ext [idx_32 t]
/-- Window 33's block sits at its array's start. -/
theorem emb_33 (t : Fin cfg0.N) (y : S2x64.Idx) : ((cfg0.win 33).blk t).view.emb y = y := by
  blk_ext [idx_33 t]
/-- Window 34's block sits at its array's start. -/
theorem emb_34 (t : Fin cfg0.N) (y : S2x2048.Idx) : ((cfg0.win 34).blk t).view.emb y = y := by
  blk_ext [idx_34 t]
/-- Window 35's block sits at its array's start. -/
theorem emb_35 (t : Fin cfg0.N) (y : S2x2048.Idx) : ((cfg0.win 35).blk t).view.emb y = y := by
  blk_ext [idx_35 t]
/-- Window 36's block sits at its array's start. -/
theorem emb_36 (t : Fin cfg0.N) (y : S2x8x128x128.Idx) : ((cfg0.win 36).blk t).view.emb y = y := by
  blk_ext [idx_36 t]
/-- Window 37's block sits at its array's start. -/
theorem emb_37 (t : Fin cfg0.N) (y : S2x8x128.Idx) : ((cfg0.win 37).blk t).view.emb y = y := by
  blk_ext [idx_37 t]
/-- Window 38's block sits at its array's start. -/
theorem emb_38 (t : Fin cfg0.N) (y : S2x3x96.Idx) : ((cfg0.win 38).blk t).view.emb y = y := by
  blk_ext [idx_38 t]
/-- Window 39's block sits at its array's start. -/
theorem emb_39 (t : Fin cfg0.N) (y : S2x64.Idx) : ((cfg0.win 39).blk t).view.emb y = y := by
  blk_ext [idx_39 t]
/-- Window 40's block sits at its array's start. -/
theorem emb_40 (t : Fin cfg0.N) (y : S2x64.Idx) : ((cfg0.win 40).blk t).view.emb y = y := by
  blk_ext [idx_40 t]
/-- Window 41's block sits at its array's start. -/
theorem emb_41 (t : Fin cfg0.N) (y : S2x2048.Idx) : ((cfg0.win 41).blk t).view.emb y = y := by
  blk_ext [idx_41 t]
/-- Window 42's block sits at its array's start. -/
theorem emb_42 (t : Fin cfg0.N) (y : S2x2048.Idx) : ((cfg0.win 42).blk t).view.emb y = y := by
  blk_ext [idx_42 t]
/-- Window 43's block sits at its array's start. -/
theorem emb_43 (t : Fin cfg0.N) (y : S2x8x128x128.Idx) : ((cfg0.win 43).blk t).view.emb y = y := by
  blk_ext [idx_43 t]
/-- Window 44's block sits at its array's start. -/
theorem emb_44 (t : Fin cfg0.N) (y : S2x8x128.Idx) : ((cfg0.win 44).blk t).view.emb y = y := by
  blk_ext [idx_44 t]
/-- Window 45's block sits at its array's start. -/
theorem emb_45 (t : Fin cfg0.N) (y : S2x3x96.Idx) : ((cfg0.win 45).blk t).view.emb y = y := by
  blk_ext [idx_45 t]
/-- Window 46's block sits at its array's start. -/
theorem emb_46 (t : Fin cfg0.N) (y : S2x64.Idx) : ((cfg0.win 46).blk t).view.emb y = y := by
  blk_ext [idx_46 t]
/-- Window 47's block sits at its array's start. -/
theorem emb_47 (t : Fin cfg0.N) (y : S2x64.Idx) : ((cfg0.win 47).blk t).view.emb y = y := by
  blk_ext [idx_47 t]
/-- Window 48's block sits at its array's start. -/
theorem emb_48 (t : Fin cfg0.N) (y : S2x2048.Idx) : ((cfg0.win 48).blk t).view.emb y = y := by
  blk_ext [idx_48 t]
/-- The change of weight 0. -/
theorem fin_28 (c : Dev nD) : (dats m 0 c).arrAt 28 (cfgs 0).N = delta (m ((c : Thread nD τ).loc main_arg0)) (m ((c : Thread nD τ).loc main_arg7)) (m ((c : Thread nD τ).loc main_arg14)) (m ((c : Thread nD τ).loc main_arg21)) := by
  refine (dats m 0 c).arrAt_eq_of_covers 28 _ (by decide +kernel) fun t hf y => ?_
  blk_simp; rw [after0_28]; frame_out
  pointwise [k0_pay3, k0_pay1, k0_pay2, delta, mean, square]
  rw [emb_28 t y, read_0 m c t y, read_7 m c t y, read_14 m c t y, read_21 m c t y]
/-- The change of weight 1. -/
theorem fin_29 (c : Dev nD) : (dats m 0 c).arrAt 29 (cfgs 0).N = delta (m ((c : Thread nD τ).loc main_arg1)) (m ((c : Thread nD τ).loc main_arg8)) (m ((c : Thread nD τ).loc main_arg15)) (m ((c : Thread nD τ).loc main_arg22)) := by
  refine (dats m 0 c).arrAt_eq_of_covers 29 _ (by decide +kernel) fun t hf y => ?_
  blk_simp; rw [after0_29]; frame_out
  pointwise [k0_pay6, k0_pay4, k0_pay5, delta, mean, square]
  rw [emb_29 t y, read_1 m c t y, read_8 m c t y, read_15 m c t y, read_22 m c t y]
/-- The change of weight 2. -/
theorem fin_30 (c : Dev nD) : (dats m 0 c).arrAt 30 (cfgs 0).N = delta (m ((c : Thread nD τ).loc main_arg2)) (m ((c : Thread nD τ).loc main_arg9)) (m ((c : Thread nD τ).loc main_arg16)) (m ((c : Thread nD τ).loc main_arg23)) := by
  refine (dats m 0 c).arrAt_eq_of_covers 30 _ (by decide +kernel) fun t hf y => ?_
  blk_simp; rw [after0_30]; frame_out
  pointwise [k0_pay9, k0_pay7, k0_pay8, delta, mean, square]
  rw [emb_30 t y, read_2 m c t y, read_9 m c t y, read_16 m c t y, read_23 m c t y]
/-- The change of weight 3. -/
theorem fin_31 (c : Dev nD) : (dats m 0 c).arrAt 31 (cfgs 0).N = delta (m ((c : Thread nD τ).loc main_arg3)) (m ((c : Thread nD τ).loc main_arg10)) (m ((c : Thread nD τ).loc main_arg17)) (m ((c : Thread nD τ).loc main_arg24)) := by
  refine (dats m 0 c).arrAt_eq_of_covers 31 _ (by decide +kernel) fun t hf y => ?_
  blk_simp; rw [after0_31]; frame_out
  pointwise [k0_pay14, k0_pay10, k0_pay11, k0_pay12, k0_pay13, delta, mean, square]
  rw [emb_31 t y, read_3 m c t y, read_10 m c t y, read_17 m c t y, read_24 m c t y]
/-- The change of weight 4. -/
theorem fin_32 (c : Dev nD) : (dats m 0 c).arrAt 32 (cfgs 0).N = delta (m ((c : Thread nD τ).loc main_arg4)) (m ((c : Thread nD τ).loc main_arg11)) (m ((c : Thread nD τ).loc main_arg18)) (m ((c : Thread nD τ).loc main_arg25)) := by
  refine (dats m 0 c).arrAt_eq_of_covers 32 _ (by decide +kernel) fun t hf y => ?_
  blk_simp; rw [after0_32]; frame_out
  pointwise [k0_pay19, k0_pay15, k0_pay16, k0_pay17, k0_pay18, delta, mean, square]
  rw [emb_32 t y, read_4 m c t y, read_11 m c t y, read_18 m c t y, read_25 m c t y]
/-- The change of weight 5. -/
theorem fin_33 (c : Dev nD) : (dats m 0 c).arrAt 33 (cfgs 0).N = delta (m ((c : Thread nD τ).loc main_arg5)) (m ((c : Thread nD τ).loc main_arg12)) (m ((c : Thread nD τ).loc main_arg19)) (m ((c : Thread nD τ).loc main_arg26)) := by
  refine (dats m 0 c).arrAt_eq_of_covers 33 _ (by decide +kernel) fun t hf y => ?_
  blk_simp; rw [after0_33]; frame_out
  pointwise [k0_pay22, k0_pay20, k0_pay21, delta, mean, square]
  rw [emb_33 t y, read_5 m c t y, read_12 m c t y, read_19 m c t y, read_26 m c t y]
/-- The change of weight 6. -/
theorem fin_34 (c : Dev nD) : (dats m 0 c).arrAt 34 (cfgs 0).N = delta (m ((c : Thread nD τ).loc main_arg6)) (m ((c : Thread nD τ).loc main_arg13)) (m ((c : Thread nD τ).loc main_arg20)) (m ((c : Thread nD τ).loc main_arg27)) := by
  refine (dats m 0 c).arrAt_eq_of_covers 34 _ (by decide +kernel) fun t hf y => ?_
  blk_simp; rw [after0_34]; frame_out
  pointwise [k0_pay25, k0_pay23, k0_pay24, delta, mean, square]
  rw [emb_34 t y, read_6 m c t y, read_13 m c t y, read_20 m c t y, read_27 m c t y]
/-- The first moment of weight 0. -/
theorem fin_35 (c : Dev nD) : (dats m 0 c).arrAt 35 (cfgs 0).N = mean (m ((c : Thread nD τ).loc main_arg7)) (m ((c : Thread nD τ).loc main_arg14)) := by
  refine (dats m 0 c).arrAt_eq_of_covers 35 _ (by decide +kernel) fun t hf y => ?_
  blk_simp; rw [after0_35]; frame_out
  pointwise [k0_pay1, delta, mean, square]
  rw [emb_35 t y, read_7 m c t y, read_14 m c t y]
/-- The first moment of weight 1. -/
theorem fin_36 (c : Dev nD) : (dats m 0 c).arrAt 36 (cfgs 0).N = mean (m ((c : Thread nD τ).loc main_arg8)) (m ((c : Thread nD τ).loc main_arg15)) := by
  refine (dats m 0 c).arrAt_eq_of_covers 36 _ (by decide +kernel) fun t hf y => ?_
  blk_simp; rw [after0_36]; frame_out
  pointwise [k0_pay4, delta, mean, square]
  rw [emb_36 t y, read_8 m c t y, read_15 m c t y]
/-- The first moment of weight 2. -/
theorem fin_37 (c : Dev nD) : (dats m 0 c).arrAt 37 (cfgs 0).N = mean (m ((c : Thread nD τ).loc main_arg9)) (m ((c : Thread nD τ).loc main_arg16)) := by
  refine (dats m 0 c).arrAt_eq_of_covers 37 _ (by decide +kernel) fun t hf y => ?_
  blk_simp; rw [after0_37]; frame_out
  pointwise [k0_pay7, delta, mean, square]
  rw [emb_37 t y, read_9 m c t y, read_16 m c t y]
/-- The first moment of weight 3. -/
theorem fin_38 (c : Dev nD) : (dats m 0 c).arrAt 38 (cfgs 0).N = mean (m ((c : Thread nD τ).loc main_arg10)) (m ((c : Thread nD τ).loc main_arg17)) := by
  refine (dats m 0 c).arrAt_eq_of_covers 38 _ (by decide +kernel) fun t hf y => ?_
  blk_simp; rw [after0_38]; frame_out
  pointwise [k0_pay10, delta, mean, square]
  rw [emb_38 t y, read_10 m c t y, read_17 m c t y]
/-- The first moment of weight 4. -/
theorem fin_39 (c : Dev nD) : (dats m 0 c).arrAt 39 (cfgs 0).N = mean (m ((c : Thread nD τ).loc main_arg11)) (m ((c : Thread nD τ).loc main_arg18)) := by
  refine (dats m 0 c).arrAt_eq_of_covers 39 _ (by decide +kernel) fun t hf y => ?_
  blk_simp; rw [after0_39]; frame_out
  pointwise [k0_pay15, delta, mean, square]
  rw [emb_39 t y, read_11 m c t y, read_18 m c t y]
/-- The first moment of weight 5. -/
theorem fin_40 (c : Dev nD) : (dats m 0 c).arrAt 40 (cfgs 0).N = mean (m ((c : Thread nD τ).loc main_arg12)) (m ((c : Thread nD τ).loc main_arg19)) := by
  refine (dats m 0 c).arrAt_eq_of_covers 40 _ (by decide +kernel) fun t hf y => ?_
  blk_simp; rw [after0_40]; frame_out
  pointwise [k0_pay20, delta, mean, square]
  rw [emb_40 t y, read_12 m c t y, read_19 m c t y]
/-- The first moment of weight 6. -/
theorem fin_41 (c : Dev nD) : (dats m 0 c).arrAt 41 (cfgs 0).N = mean (m ((c : Thread nD τ).loc main_arg13)) (m ((c : Thread nD τ).loc main_arg20)) := by
  refine (dats m 0 c).arrAt_eq_of_covers 41 _ (by decide +kernel) fun t hf y => ?_
  blk_simp; rw [after0_41]; frame_out
  pointwise [k0_pay23, delta, mean, square]
  rw [emb_41 t y, read_13 m c t y, read_20 m c t y]
/-- The second moment of weight 0. -/
theorem fin_42 (c : Dev nD) : (dats m 0 c).arrAt 42 (cfgs 0).N = square (m ((c : Thread nD τ).loc main_arg7)) (m ((c : Thread nD τ).loc main_arg21)) := by
  refine (dats m 0 c).arrAt_eq_of_covers 42 _ (by decide +kernel) fun t hf y => ?_
  blk_simp; rw [after0_42]; frame_out
  pointwise [k0_pay2, delta, mean, square]
  rw [emb_42 t y, read_7 m c t y, read_21 m c t y]
/-- The second moment of weight 1. -/
theorem fin_43 (c : Dev nD) : (dats m 0 c).arrAt 43 (cfgs 0).N = square (m ((c : Thread nD τ).loc main_arg8)) (m ((c : Thread nD τ).loc main_arg22)) := by
  refine (dats m 0 c).arrAt_eq_of_covers 43 _ (by decide +kernel) fun t hf y => ?_
  blk_simp; rw [after0_43]; frame_out
  pointwise [k0_pay5, delta, mean, square]
  rw [emb_43 t y, read_8 m c t y, read_22 m c t y]
/-- The second moment of weight 2. -/
theorem fin_44 (c : Dev nD) : (dats m 0 c).arrAt 44 (cfgs 0).N = square (m ((c : Thread nD τ).loc main_arg9)) (m ((c : Thread nD τ).loc main_arg23)) := by
  refine (dats m 0 c).arrAt_eq_of_covers 44 _ (by decide +kernel) fun t hf y => ?_
  blk_simp; rw [after0_44]; frame_out
  pointwise [k0_pay8, delta, mean, square]
  rw [emb_44 t y, read_9 m c t y, read_23 m c t y]
/-- The second moment of weight 3. -/
theorem fin_45 (c : Dev nD) : (dats m 0 c).arrAt 45 (cfgs 0).N = square (m ((c : Thread nD τ).loc main_arg10)) (m ((c : Thread nD τ).loc main_arg24)) := by
  refine (dats m 0 c).arrAt_eq_of_covers 45 _ (by decide +kernel) fun t hf y => ?_
  blk_simp; rw [after0_45]; frame_out
  pointwise [k0_pay11, delta, mean, square]
  rw [emb_45 t y, read_10 m c t y, read_24 m c t y]
/-- The second moment of weight 4. -/
theorem fin_46 (c : Dev nD) : (dats m 0 c).arrAt 46 (cfgs 0).N = square (m ((c : Thread nD τ).loc main_arg11)) (m ((c : Thread nD τ).loc main_arg25)) := by
  refine (dats m 0 c).arrAt_eq_of_covers 46 _ (by decide +kernel) fun t hf y => ?_
  blk_simp; rw [after0_46]; frame_out
  pointwise [k0_pay16, delta, mean, square]
  rw [emb_46 t y, read_11 m c t y, read_25 m c t y]
/-- The second moment of weight 5. -/
theorem fin_47 (c : Dev nD) : (dats m 0 c).arrAt 47 (cfgs 0).N = square (m ((c : Thread nD τ).loc main_arg12)) (m ((c : Thread nD τ).loc main_arg26)) := by
  refine (dats m 0 c).arrAt_eq_of_covers 47 _ (by decide +kernel) fun t hf y => ?_
  blk_simp; rw [after0_47]; frame_out
  pointwise [k0_pay21, delta, mean, square]
  rw [emb_47 t y, read_12 m c t y, read_26 m c t y]
/-- The second moment of weight 6. -/
theorem fin_48 (c : Dev nD) : (dats m 0 c).arrAt 48 (cfgs 0).N = square (m ((c : Thread nD τ).loc main_arg13)) (m ((c : Thread nD τ).loc main_arg27)) := by
  refine (dats m 0 c).arrAt_eq_of_covers 48 _ (by decide +kernel) fun t hf y => ?_
  blk_simp; rw [after0_48]; frame_out
  pointwise [k0_pay24, delta, mean, square]
  rw [emb_48 t y, read_13 m c t y, read_27 m c t y]

end Cert.AdamSmallIdeal.Closed

end
-- ==== Proof.AdamSmallClaims.lean ====
/- The optimiser's step on the seven small weights: the claims. -/
module

public import proofs.«01_k».proof.Defs
public import proofs.«01_k».proof.Proof.AdamSmallValue
public import proofs.«01_k».proof.Proof.BodyAdamSmall
public import proofs.«01_k».proof.Proof.Gen.AdamSmall
public import proofs.«01_k».proof.Proof.Gen.AdamSmallRefIdeal.Run
public import proofs.«01_k».proof.Proof.Gen.AdamSmallRefIdeal.Read
public import proofs.«01_k».proof.Proof.Gen.AdamSmallRefIdeal
public import Idealize.ShloMosaic.Lib.Pipeline.ValueKit
public import Idealize.ShloMosaic.Lib.Pointwise
public import Idealize.ShloMosaic.Lib.VecWindow
public import Idealize.ShloMosaic.Lib.Claim
public import Idealize.ShloMosaic.Lib.Quiescent

@[expose] public section

set_option maxRecDepth 16384

noncomputable section
open Idealize.ShloMosaic Idealize.ShloMosaic.TcCoe Idealize.SL.Sem
open Idealize.ShloMosaic.Pipeline (Dat)
open Idealize.ShloMosaic.StableHlo
open scoped BigOperators

namespace Cert.AdamSmall.Closed

open Cert.AdamSmall Cert.AdamSmall.Gen Cert.AdamSmall.Body

section
variable {F : FTy → Type} [FloatOps F] (m : (ℓ : Loc nD τ sig) → Buf (Elt F) ℓ) (ρ : Dev nD → PrngReg)
set_option maxHeartbeats 2000000 in
/-- The arguments after the run are what they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨((h c).1 0).trans ((dats m 0 c).arrAt_in 0 rfl _),
      ((h c).1 1).trans ((dats m 0 c).arrAt_in 1 rfl _),
      ((h c).1 2).trans ((dats m 0 c).arrAt_in 2 rfl _),
      ((h c).1 3).trans ((dats m 0 c).arrAt_in 3 rfl _),
      ((h c).1 4).trans ((dats m 0 c).arrAt_in 4 rfl _),
      ((h c).1 5).trans ((dats m 0 c).arrAt_in 5 rfl _),
      ((h c).1 6).trans ((dats m 0 c).arrAt_in 6 rfl _),
      ((h c).1 7).trans ((dats m 0 c).arrAt_in 7 rfl _),
      ((h c).1 8).trans ((dats m 0 c).arrAt_in 8 rfl _),
      ((h c).1 9).trans ((dats m 0 c).arrAt_in 9 rfl _),
      ((h c).1 10).trans ((dats m 0 c).arrAt_in 10 rfl _),
      ((h c).1 11).trans ((dats m 0 c).arrAt_in 11 rfl _),
      ((h c).1 12).trans ((dats m 0 c).arrAt_in 12 rfl _),
      ((h c).1 13).trans ((dats m 0 c).arrAt_in 13 rfl _),
      ((h c).1 14).trans ((dats m 0 c).arrAt_in 14 rfl _),
      ((h c).1 15).trans ((dats m 0 c).arrAt_in 15 rfl _),
      ((h c).1 16).trans ((dats m 0 c).arrAt_in 16 rfl _),
      ((h c).1 17).trans ((dats m 0 c).arrAt_in 17 rfl _),
      ((h c).1 18).trans ((dats m 0 c).arrAt_in 18 rfl _),
      ((h c).1 19).trans ((dats m 0 c).arrAt_in 19 rfl _),
      ((h c).1 20).trans ((dats m 0 c).arrAt_in 20 rfl _),
      ((h c).1 21).trans ((dats m 0 c).arrAt_in 21 rfl _),
      ((h c).1 22).trans ((dats m 0 c).arrAt_in 22 rfl _),
      ((h c).1 23).trans ((dats m 0 c).arrAt_in 23 rfl _),
      ((h c).1 24).trans ((dats m 0 c).arrAt_in 24 rfl _),
      ((h c).1 25).trans ((dats m 0 c).arrAt_in 25 rfl _),
      ((h c).1 26).trans ((dats m 0 c).arrAt_in 26 rfl _),
      ((h c).1 27).trans ((dats m 0 c).arrAt_in 27 rfl _)⟩) (run_main m ρ)
/-- The run leaves the arguments alone and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) ∧ r.2.sem = fun _ => 0) :=
  θ_run_and (unchanged m ρ) ((θ_run defs _ _).mono (fun _ h => h.2) (run_main_quiescent m ρ))
end

end Cert.AdamSmall.Closed

namespace Cert.AdamSmallIdeal.Closed

open Cert.AdamSmallIdeal Cert.AdamSmallIdeal.Gen Cert.AdamSmallIdeal.Body

/-- Equal arguments give equal changes. -/
theorem delta_congr {S : Shape} {w g m v w' g' m' v' : FVec Ideal S .f32} (a : w = w') (b : g = g') (d : m = m') (e : v = v') : delta w g m v = delta w' g' m' v' := by
  rw [a, b, d, e]
/-- Equal arguments give equal first moments. -/
theorem mean_congr {S : Shape} {g m g' m' : FVec Ideal S .f32} (b : g = g') (d : m = m') : mean g m = mean g' m' := by rw [b, d]
/-- Equal arguments give equal second moments. -/
theorem square_congr {S : Shape} {g v g' v' : FVec Ideal S .f32} (b : g = g') (e : v = v') : square g v = square g' v' := by rw [b, e]

section
variable {F : FTy → Type} [FloatOps F] (m : (ℓ : Loc nD τ sig) → Buf (Elt F) ℓ) (ρ : Dev nD → PrngReg)
set_option maxHeartbeats 2000000 in
/-- The arguments after the run are what they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨((h c).1 0).trans ((dats m 0 c).arrAt_in 0 rfl _),
      ((h c).1 1).trans ((dats m 0 c).arrAt_in 1 rfl _),
      ((h c).1 2).trans ((dats m 0 c).arrAt_in 2 rfl _),
      ((h c).1 3).trans ((dats m 0 c).arrAt_in 3 rfl _),
      ((h c).1 4).trans ((dats m 0 c).arrAt_in 4 rfl _),
      ((h c).1 5).trans ((dats m 0 c).arrAt_in 5 rfl _),
      ((h c).1 6).trans ((dats m 0 c).arrAt_in 6 rfl _),
      ((h c).1 7).trans ((dats m 0 c).arrAt_in 7 rfl _),
      ((h c).1 8).trans ((dats m 0 c).arrAt_in 8 rfl _),
      ((h c).1 9).trans ((dats m 0 c).arrAt_in 9 rfl _),
      ((h c).1 10).trans ((dats m 0 c).arrAt_in 10 rfl _),
      ((h c).1 11).trans ((dats m 0 c).arrAt_in 11 rfl _),
      ((h c).1 12).trans ((dats m 0 c).arrAt_in 12 rfl _),
      ((h c).1 13).trans ((dats m 0 c).arrAt_in 13 rfl _),
      ((h c).1 14).trans ((dats m 0 c).arrAt_in 14 rfl _),
      ((h c).1 15).trans ((dats m 0 c).arrAt_in 15 rfl _),
      ((h c).1 16).trans ((dats m 0 c).arrAt_in 16 rfl _),
      ((h c).1 17).trans ((dats m 0 c).arrAt_in 17 rfl _),
      ((h c).1 18).trans ((dats m 0 c).arrAt_in 18 rfl _),
      ((h c).1 19).trans ((dats m 0 c).arrAt_in 19 rfl _),
      ((h c).1 20).trans ((dats m 0 c).arrAt_in 20 rfl _),
      ((h c).1 21).trans ((dats m 0 c).arrAt_in 21 rfl _),
      ((h c).1 22).trans ((dats m 0 c).arrAt_in 22 rfl _),
      ((h c).1 23).trans ((dats m 0 c).arrAt_in 23 rfl _),
      ((h c).1 24).trans ((dats m 0 c).arrAt_in 24 rfl _),
      ((h c).1 25).trans ((dats m 0 c).arrAt_in 25 rfl _),
      ((h c).1 26).trans ((dats m 0 c).arrAt_in 26 rfl _),
      ((h c).1 27).trans ((dats m 0 c).arrAt_in 27 rfl _)⟩) (run_main m ρ)
/-- The run leaves the arguments alone and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) ∧ r.2.sem = fun _ => 0) :=
  θ_run_and (unchanged m ρ) ((θ_run defs _ _).mono (fun _ h => h.2) (run_main_quiescent m ρ))
end

end Cert.AdamSmallIdeal.Closed

namespace Cert.AdamSmallRefIdeal.Closed

open Cert.AdamSmallRefIdeal Cert.AdamSmallRefIdeal.Read
open Cert.AdamSmallIdeal.Closed (delta mean square)

/-- The reference's change of weight 0. -/
theorem ref_v23 (x0 x7 x14 x21 : FVec Ideal S2x2048 .f32) : val_main_v23 (F := Ideal) x0 x7 x14 x21 = delta x0 x7 x14 x21 := by
  funext j
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23, delta, mean, square]
/-- The reference's first moment of weight 0. -/
theorem ref_v4 (x7 x14 : FVec Ideal S2x2048 .f32) : val_main_v4 (F := Ideal) x7 x14 = mean x7 x14 := by
  funext j
  pointwise [val_main_cst, val_main_v0, val_main_v1, val_main_cst_0, val_main_v2, val_main_v3, val_main_v4, delta, mean, square]
/-- The reference's second moment of weight 0. -/
theorem ref_v10 (x7 x21 : FVec Ideal S2x2048 .f32) : val_main_v10 (F := Ideal) x7 x21 = square x7 x21 := by
  funext j
  pointwise [val_main_cst, val_main_v0, val_main_v1, val_main_cst_0, val_main_v2, val_main_v3, val_main_v4, val_main_cst_1, val_main_v5, val_main_v6, val_main_v7, val_main_cst_2, val_main_v8, val_main_v9, val_main_v10, delta, mean, square]
/-- The reference's change of weight 1. -/
theorem ref_v47 (x1 x8 x15 x22 : FVec Ideal S2x8x128x128 .f32) : val_main_v47 (F := Ideal) x1 x8 x15 x22 = delta x1 x8 x15 x22 := by
  funext j
  pointwise [val_main_cst_8, val_main_v24, val_main_v25, val_main_cst_9, val_main_v26, val_main_v27, val_main_v28, val_main_cst_10, val_main_v29, val_main_v30, val_main_v31, val_main_cst_11, val_main_v32, val_main_v33, val_main_v34, val_main_cst_12, val_main_v35, val_main_v36, val_main_cst_13, val_main_v37, val_main_v38, val_main_v39, val_main_cst_14, val_main_v40, val_main_v41, val_main_v42, val_main_cst_15, val_main_v43, val_main_v44, val_main_v45, val_main_cst_16, val_main_v46, val_main_v47, delta, mean, square]
/-- The reference's first moment of weight 1. -/
theorem ref_v28 (x8 x15 : FVec Ideal S2x8x128x128 .f32) : val_main_v28 (F := Ideal) x8 x15 = mean x8 x15 := by
  funext j
  pointwise [val_main_cst_8, val_main_v24, val_main_v25, val_main_cst_9, val_main_v26, val_main_v27, val_main_v28, delta, mean, square]
/-- The reference's second moment of weight 1. -/
theorem ref_v34 (x8 x22 : FVec Ideal S2x8x128x128 .f32) : val_main_v34 (F := Ideal) x8 x22 = square x8 x22 := by
  funext j
  pointwise [val_main_cst_8, val_main_v24, val_main_v25, val_main_cst_9, val_main_v26, val_main_v27, val_main_v28, val_main_cst_10, val_main_v29, val_main_v30, val_main_v31, val_main_cst_11, val_main_v32, val_main_v33, val_main_v34, delta, mean, square]
/-- The reference's change of weight 2. -/
theorem ref_v71 (x2 x9 x16 x23 : FVec Ideal S2x8x128 .f32) : val_main_v71 (F := Ideal) x2 x9 x16 x23 = delta x2 x9 x16 x23 := by
  funext j
  pointwise [val_main_cst_17, val_main_v48, val_main_v49, val_main_cst_18, val_main_v50, val_main_v51, val_main_v52, val_main_cst_19, val_main_v53, val_main_v54, val_main_v55, val_main_cst_20, val_main_v56, val_main_v57, val_main_v58, val_main_cst_21, val_main_v59, val_main_v60, val_main_cst_22, val_main_v61, val_main_v62, val_main_v63, val_main_cst_23, val_main_v64, val_main_v65, val_main_v66, val_main_cst_24, val_main_v67, val_main_v68, val_main_v69, val_main_cst_25, val_main_v70, val_main_v71, delta, mean, square]
/-- The reference's first moment of weight 2. -/
theorem ref_v52 (x9 x16 : FVec Ideal S2x8x128 .f32) : val_main_v52 (F := Ideal) x9 x16 = mean x9 x16 := by
  funext j
  pointwise [val_main_cst_17, val_main_v48, val_main_v49, val_main_cst_18, val_main_v50, val_main_v51, val_main_v52, delta, mean, square]
/-- The reference's second moment of weight 2. -/
theorem ref_v58 (x9 x23 : FVec Ideal S2x8x128 .f32) : val_main_v58 (F := Ideal) x9 x23 = square x9 x23 := by
  funext j
  pointwise [val_main_cst_17, val_main_v48, val_main_v49, val_main_cst_18, val_main_v50, val_main_v51, val_main_v52, val_main_cst_19, val_main_v53, val_main_v54, val_main_v55, val_main_cst_20, val_main_v56, val_main_v57, val_main_v58, delta, mean, square]
/-- The reference's change of weight 3. -/
theorem ref_v95 (x3 x10 x17 x24 : FVec Ideal S2x3x96 .f32) : val_main_v95 (F := Ideal) x3 x10 x17 x24 = delta x3 x10 x17 x24 := by
  funext j
  pointwise [val_main_cst_26, val_main_v72, val_main_v73, val_main_cst_27, val_main_v74, val_main_v75, val_main_v76, val_main_cst_28, val_main_v77, val_main_v78, val_main_v79, val_main_cst_29, val_main_v80, val_main_v81, val_main_v82, val_main_cst_30, val_main_v83, val_main_v84, val_main_cst_31, val_main_v85, val_main_v86, val_main_v87, val_main_cst_32, val_main_v88, val_main_v89, val_main_v90, val_main_cst_33, val_main_v91, val_main_v92, val_main_v93, val_main_cst_34, val_main_v94, val_main_v95, delta, mean, square]
/-- The reference's first moment of weight 3. -/
theorem ref_v76 (x10 x17 : FVec Ideal S2x3x96 .f32) : val_main_v76 (F := Ideal) x10 x17 = mean x10 x17 := by
  funext j
  pointwise [val_main_cst_26, val_main_v72, val_main_v73, val_main_cst_27, val_main_v74, val_main_v75, val_main_v76, delta, mean, square]
/-- The reference's second moment of weight 3. -/
theorem ref_v82 (x10 x24 : FVec Ideal S2x3x96 .f32) : val_main_v82 (F := Ideal) x10 x24 = square x10 x24 := by
  funext j
  pointwise [val_main_cst_26, val_main_v72, val_main_v73, val_main_cst_27, val_main_v74, val_main_v75, val_main_v76, val_main_cst_28, val_main_v77, val_main_v78, val_main_v79, val_main_cst_29, val_main_v80, val_main_v81, val_main_v82, delta, mean, square]
/-- The reference's change of weight 4. -/
theorem ref_v119 (x4 x11 x18 x25 : FVec Ideal S2x64 .f32) : val_main_v119 (F := Ideal) x4 x11 x18 x25 = delta x4 x11 x18 x25 := by
  funext j
  pointwise [val_main_cst_35, val_main_v96, val_main_v97, val_main_cst_36, val_main_v98, val_main_v99, val_main_v100, val_main_cst_37, val_main_v101, val_main_v102, val_main_v103, val_main_cst_38, val_main_v104, val_main_v105, val_main_v106, val_main_cst_39, val_main_v107, val_main_v108, val_main_cst_40, val_main_v109, val_main_v110, val_main_v111, val_main_cst_41, val_main_v112, val_main_v113, val_main_v114, val_main_cst_42, val_main_v115, val_main_v116, val_main_v117, val_main_cst_43, val_main_v118, val_main_v119, delta, mean, square]
/-- The reference's first moment of weight 4. -/
theorem ref_v100 (x11 x18 : FVec Ideal S2x64 .f32) : val_main_v100 (F := Ideal) x11 x18 = mean x11 x18 := by
  funext j
  pointwise [val_main_cst_35, val_main_v96, val_main_v97, val_main_cst_36, val_main_v98, val_main_v99, val_main_v100, delta, mean, square]
/-- The reference's second moment of weight 4. -/
theorem ref_v106 (x11 x25 : FVec Ideal S2x64 .f32) : val_main_v106 (F := Ideal) x11 x25 = square x11 x25 := by
  funext j
  pointwise [val_main_cst_35, val_main_v96, val_main_v97, val_main_cst_36, val_main_v98, val_main_v99, val_main_v100, val_main_cst_37, val_main_v101, val_main_v102, val_main_v103, val_main_cst_38, val_main_v104, val_main_v105, val_main_v106, delta, mean, square]
/-- The reference's change of weight 5. -/
theorem ref_v143 (x5 x12 x19 x26 : FVec Ideal S2x64 .f32) : val_main_v143 (F := Ideal) x5 x12 x19 x26 = delta x5 x12 x19 x26 := by
  funext j
  pointwise [val_main_cst_44, val_main_v120, val_main_v121, val_main_cst_45, val_main_v122, val_main_v123, val_main_v124, val_main_cst_46, val_main_v125, val_main_v126, val_main_v127, val_main_cst_47, val_main_v128, val_main_v129, val_main_v130, val_main_cst_48, val_main_v131, val_main_v132, val_main_cst_49, val_main_v133, val_main_v134, val_main_v135, val_main_cst_50, val_main_v136, val_main_v137, val_main_v138, val_main_cst_51, val_main_v139, val_main_v140, val_main_v141, val_main_cst_52, val_main_v142, val_main_v143, delta, mean, square]
/-- The reference's first moment of weight 5. -/
theorem ref_v124 (x12 x19 : FVec Ideal S2x64 .f32) : val_main_v124 (F := Ideal) x12 x19 = mean x12 x19 := by
  funext j
  pointwise [val_main_cst_44, val_main_v120, val_main_v121, val_main_cst_45, val_main_v122, val_main_v123, val_main_v124, delta, mean, square]
/-- The reference's second moment of weight 5. -/
theorem ref_v130 (x12 x26 : FVec Ideal S2x64 .f32) : val_main_v130 (F := Ideal) x12 x26 = square x12 x26 := by
  funext j
  pointwise [val_main_cst_44, val_main_v120, val_main_v121, val_main_cst_45, val_main_v122, val_main_v123, val_main_v124, val_main_cst_46, val_main_v125, val_main_v126, val_main_v127, val_main_cst_47, val_main_v128, val_main_v129, val_main_v130, delta, mean, square]
/-- The reference's change of weight 6. -/
theorem ref_v167 (x6 x13 x20 x27 : FVec Ideal S2x2048 .f32) : val_main_v167 (F := Ideal) x6 x13 x20 x27 = delta x6 x13 x20 x27 := by
  funext j
  pointwise [val_main_cst_53, val_main_v144, val_main_v145, val_main_cst_54, val_main_v146, val_main_v147, val_main_v148, val_main_cst_55, val_main_v149, val_main_v150, val_main_v151, val_main_cst_56, val_main_v152, val_main_v153, val_main_v154, val_main_cst_57, val_main_v155, val_main_v156, val_main_cst_58, val_main_v157, val_main_v158, val_main_v159, val_main_cst_59, val_main_v160, val_main_v161, val_main_v162, val_main_cst_60, val_main_v163, val_main_v164, val_main_v165, val_main_cst_61, val_main_v166, val_main_v167, delta, mean, square]
/-- The reference's first moment of weight 6. -/
theorem ref_v148 (x13 x20 : FVec Ideal S2x2048 .f32) : val_main_v148 (F := Ideal) x13 x20 = mean x13 x20 := by
  funext j
  pointwise [val_main_cst_53, val_main_v144, val_main_v145, val_main_cst_54, val_main_v146, val_main_v147, val_main_v148, delta, mean, square]
/-- The reference's second moment of weight 6. -/
theorem ref_v154 (x13 x27 : FVec Ideal S2x2048 .f32) : val_main_v154 (F := Ideal) x13 x27 = square x13 x27 := by
  funext j
  pointwise [val_main_cst_53, val_main_v144, val_main_v145, val_main_cst_54, val_main_v146, val_main_v147, val_main_v148, val_main_cst_55, val_main_v149, val_main_v150, val_main_v151, val_main_cst_56, val_main_v152, val_main_v153, val_main_v154, delta, mean, square]

end Cert.AdamSmallRefIdeal.Closed

namespace Cert.AdamSmallProof

/-- The kernel runs and leaves its arguments alone, on bit patterns. -/
theorem frame_kernel : Cert.quiescent_AdamSmall := fun m ρ _ => Cert.AdamSmall.Closed.frame m ρ
/-- The kernel runs and leaves its arguments alone, on extended reals. -/
theorem frame_ideal : Cert.quiescent_AdamSmallIdeal := fun m ρ _ => Cert.AdamSmallIdeal.Closed.frame m ρ
/-- The reference runs and leaves its arguments alone. -/
theorem frame_ref : Cert.quiescent_AdamSmallRefIdeal := fun m ρ _ =>
  (θ_run Cert.AdamSmallRefIdeal.defs _ _).mono (fun r h => ⟨fun c => (h c).2.2.2.2.2.2.2.2.2.2.2.2.2.2.2.2.2.2.2.2.2,
      Idealize.ShloMosaic.sem_eq_zero_of_no_sems (by decide) r.2⟩)
    (Cert.AdamSmallRefIdeal.Value.run (F := Ideal) m ρ)

set_option maxHeartbeats 2000000 in
/-- The kernel's results and the reference's are the same arrays of extended reals. -/
theorem algebraic : Cert.algebraic_AdamSmallIdeal_AdamSmallRefIdeal := by
  intro m g m' g' hpre hagree
  refine ⟨(fun c : Dev Cert.AdamSmallIdeal.nD => Cert.AdamSmallIdeal.Closed.delta (m (c.tc.loc Cert.AdamSmallIdeal.main_arg0)) (m (c.tc.loc Cert.AdamSmallIdeal.main_arg7)) (m (c.tc.loc Cert.AdamSmallIdeal.main_arg14)) (m (c.tc.loc Cert.AdamSmallIdeal.main_arg21))),
    (fun c : Dev Cert.AdamSmallIdeal.nD => Cert.AdamSmallIdeal.Closed.delta (m (c.tc.loc Cert.AdamSmallIdeal.main_arg1)) (m (c.tc.loc Cert.AdamSmallIdeal.main_arg8)) (m (c.tc.loc Cert.AdamSmallIdeal.main_arg15)) (m (c.tc.loc Cert.AdamSmallIdeal.main_arg22))),
    (fun c : Dev Cert.AdamSmallIdeal.nD => Cert.AdamSmallIdeal.Closed.delta (m (c.tc.loc Cert.AdamSmallIdeal.main_arg2)) (m (c.tc.loc Cert.AdamSmallIdeal.main_arg9)) (m (c.tc.loc Cert.AdamSmallIdeal.main_arg16)) (m (c.tc.loc Cert.AdamSmallIdeal.main_arg23))),
    (fun c : Dev Cert.AdamSmallIdeal.nD => Cert.AdamSmallIdeal.Closed.delta (m (c.tc.loc Cert.AdamSmallIdeal.main_arg3)) (m (c.tc.loc Cert.AdamSmallIdeal.main_arg10)) (m (c.tc.loc Cert.AdamSmallIdeal.main_arg17)) (m (c.tc.loc Cert.AdamSmallIdeal.main_arg24))),
    (fun c : Dev Cert.AdamSmallIdeal.nD => Cert.AdamSmallIdeal.Closed.delta (m (c.tc.loc Cert.AdamSmallIdeal.main_arg4)) (m (c.tc.loc Cert.AdamSmallIdeal.main_arg11)) (m (c.tc.loc Cert.AdamSmallIdeal.main_arg18)) (m (c.tc.loc Cert.AdamSmallIdeal.main_arg25))),
    (fun c : Dev Cert.AdamSmallIdeal.nD => Cert.AdamSmallIdeal.Closed.delta (m (c.tc.loc Cert.AdamSmallIdeal.main_arg5)) (m (c.tc.loc Cert.AdamSmallIdeal.main_arg12)) (m (c.tc.loc Cert.AdamSmallIdeal.main_arg19)) (m (c.tc.loc Cert.AdamSmallIdeal.main_arg26))),
    (fun c : Dev Cert.AdamSmallIdeal.nD => Cert.AdamSmallIdeal.Closed.delta (m (c.tc.loc Cert.AdamSmallIdeal.main_arg6)) (m (c.tc.loc Cert.AdamSmallIdeal.main_arg13)) (m (c.tc.loc Cert.AdamSmallIdeal.main_arg20)) (m (c.tc.loc Cert.AdamSmallIdeal.main_arg27))),
    (fun c : Dev Cert.AdamSmallIdeal.nD => Cert.AdamSmallIdeal.Closed.mean (m (c.tc.loc Cert.AdamSmallIdeal.main_arg7)) (m (c.tc.loc Cert.AdamSmallIdeal.main_arg14))),
    (fun c : Dev Cert.AdamSmallIdeal.nD => Cert.AdamSmallIdeal.Closed.mean (m (c.tc.loc Cert.AdamSmallIdeal.main_arg8)) (m (c.tc.loc Cert.AdamSmallIdeal.main_arg15))),
    (fun c : Dev Cert.AdamSmallIdeal.nD => Cert.AdamSmallIdeal.Closed.mean (m (c.tc.loc Cert.AdamSmallIdeal.main_arg9)) (m (c.tc.loc Cert.AdamSmallIdeal.main_arg16))),
    (fun c : Dev Cert.AdamSmallIdeal.nD => Cert.AdamSmallIdeal.Closed.mean (m (c.tc.loc Cert.AdamSmallIdeal.main_arg10)) (m (c.tc.loc Cert.AdamSmallIdeal.main_arg17))),
    (fun c : Dev Cert.AdamSmallIdeal.nD => Cert.AdamSmallIdeal.Closed.mean (m (c.tc.loc Cert.AdamSmallIdeal.main_arg11)) (m (c.tc.loc Cert.AdamSmallIdeal.main_arg18))),
    (fun c : Dev Cert.AdamSmallIdeal.nD => Cert.AdamSmallIdeal.Closed.mean (m (c.tc.loc Cert.AdamSmallIdeal.main_arg12)) (m (c.tc.loc Cert.AdamSmallIdeal.main_arg19))),
    (fun c : Dev Cert.AdamSmallIdeal.nD => Cert.AdamSmallIdeal.Closed.mean (m (c.tc.loc Cert.AdamSmallIdeal.main_arg13)) (m (c.tc.loc Cert.AdamSmallIdeal.main_arg20))),
    (fun c : Dev Cert.AdamSmallIdeal.nD => Cert.AdamSmallIdeal.Closed.square (m (c.tc.loc Cert.AdamSmallIdeal.main_arg7)) (m (c.tc.loc Cert.AdamSmallIdeal.main_arg21))),
    (fun c : Dev Cert.AdamSmallIdeal.nD => Cert.AdamSmallIdeal.Closed.square (m (c.tc.loc Cert.AdamSmallIdeal.main_arg8)) (m (c.tc.loc Cert.AdamSmallIdeal.main_arg22))),
    (fun c : Dev Cert.AdamSmallIdeal.nD => Cert.AdamSmallIdeal.Closed.square (m (c.tc.loc Cert.AdamSmallIdeal.main_arg9)) (m (c.tc.loc Cert.AdamSmallIdeal.main_arg23))),
    (fun c : Dev Cert.AdamSmallIdeal.nD => Cert.AdamSmallIdeal.Closed.square (m (c.tc.loc Cert.AdamSmallIdeal.main_arg10)) (m (c.tc.loc Cert.AdamSmallIdeal.main_arg24))),
    (fun c : Dev Cert.AdamSmallIdeal.nD => Cert.AdamSmallIdeal.Closed.square (m (c.tc.loc Cert.AdamSmallIdeal.main_arg11)) (m (c.tc.loc Cert.AdamSmallIdeal.main_arg25))),
    (fun c : Dev Cert.AdamSmallIdeal.nD => Cert.AdamSmallIdeal.Closed.square (m (c.tc.loc Cert.AdamSmallIdeal.main_arg12)) (m (c.tc.loc Cert.AdamSmallIdeal.main_arg26))),
    (fun c : Dev Cert.AdamSmallIdeal.nD => Cert.AdamSmallIdeal.Closed.square (m (c.tc.loc Cert.AdamSmallIdeal.main_arg13)) (m (c.tc.loc Cert.AdamSmallIdeal.main_arg27))), ?_, ?_⟩
  · exact (θ_run Cert.AdamSmallIdeal.defs _ _).mono (fun r h c => ⟨((h.1 c).1 28).trans (Cert.AdamSmallIdeal.Closed.fin_28 m c),
        ((h.1 c).1 29).trans (Cert.AdamSmallIdeal.Closed.fin_29 m c),
        ((h.1 c).1 30).trans (Cert.AdamSmallIdeal.Closed.fin_30 m c),
        ((h.1 c).1 31).trans (Cert.AdamSmallIdeal.Closed.fin_31 m c),
        ((h.1 c).1 32).trans (Cert.AdamSmallIdeal.Closed.fin_32 m c),
        ((h.1 c).1 33).trans (Cert.AdamSmallIdeal.Closed.fin_33 m c),
        ((h.1 c).1 34).trans (Cert.AdamSmallIdeal.Closed.fin_34 m c),
        ((h.1 c).1 35).trans (Cert.AdamSmallIdeal.Closed.fin_35 m c),
        ((h.1 c).1 36).trans (Cert.AdamSmallIdeal.Closed.fin_36 m c),
        ((h.1 c).1 37).trans (Cert.AdamSmallIdeal.Closed.fin_37 m c),
        ((h.1 c).1 38).trans (Cert.AdamSmallIdeal.Closed.fin_38 m c),
        ((h.1 c).1 39).trans (Cert.AdamSmallIdeal.Closed.fin_39 m c),
        ((h.1 c).1 40).trans (Cert.AdamSmallIdeal.Closed.fin_40 m c),
        ((h.1 c).1 41).trans (Cert.AdamSmallIdeal.Closed.fin_41 m c),
        ((h.1 c).1 42).trans (Cert.AdamSmallIdeal.Closed.fin_42 m c),
        ((h.1 c).1 43).trans (Cert.AdamSmallIdeal.Closed.fin_43 m c),
        ((h.1 c).1 44).trans (Cert.AdamSmallIdeal.Closed.fin_44 m c),
        ((h.1 c).1 45).trans (Cert.AdamSmallIdeal.Closed.fin_45 m c),
        ((h.1 c).1 46).trans (Cert.AdamSmallIdeal.Closed.fin_46 m c),
        ((h.1 c).1 47).trans (Cert.AdamSmallIdeal.Closed.fin_47 m c),
        ((h.1 c).1 48).trans (Cert.AdamSmallIdeal.Closed.fin_48 m c), h.2 c⟩)
      (θ_run_and (Cert.AdamSmallIdeal.Body.run_main m g) (Cert.AdamSmallIdeal.Closed.unchanged m g))
  · refine (θ_run Cert.AdamSmallRefIdeal.defs _ _).mono (fun r h c => ?_) (Cert.AdamSmallRefIdeal.Value.run (F := Ideal) m' g')
    obtain ⟨h0, h1, h2, h3, h4, h5, h6, h7, h8, h9, h10, h11, h12, h13, h14, h15, h16, h17, h18, h19, h20, hf⟩ := h c
    obtain ⟨a0, a1, a2, a3, a4, a5, a6, a7, a8, a9, a10, a11, a12, a13, a14, a15, a16, a17, a18, a19, a20, a21, a22, a23, a24, a25, a26, a27⟩ := hagree c
    exact ⟨((h0.trans (Cert.AdamSmallRefIdeal.Read.val_main_v23_eq (launchContents m' c))).trans (Cert.AdamSmallRefIdeal.Closed.ref_v23 _ _ _ _)).trans (Cert.AdamSmallIdeal.Closed.delta_congr a0 a7 a14 a21),
      ((h1.trans (Cert.AdamSmallRefIdeal.Read.val_main_v47_eq (launchContents m' c))).trans (Cert.AdamSmallRefIdeal.Closed.ref_v47 _ _ _ _)).trans (Cert.AdamSmallIdeal.Closed.delta_congr a1 a8 a15 a22),
      ((h2.trans (Cert.AdamSmallRefIdeal.Read.val_main_v71_eq (launchContents m' c))).trans (Cert.AdamSmallRefIdeal.Closed.ref_v71 _ _ _ _)).trans (Cert.AdamSmallIdeal.Closed.delta_congr a2 a9 a16 a23),
      ((h3.trans (Cert.AdamSmallRefIdeal.Read.val_main_v95_eq (launchContents m' c))).trans (Cert.AdamSmallRefIdeal.Closed.ref_v95 _ _ _ _)).trans (Cert.AdamSmallIdeal.Closed.delta_congr a3 a10 a17 a24),
      ((h4.trans (Cert.AdamSmallRefIdeal.Read.val_main_v119_eq (launchContents m' c))).trans (Cert.AdamSmallRefIdeal.Closed.ref_v119 _ _ _ _)).trans (Cert.AdamSmallIdeal.Closed.delta_congr a4 a11 a18 a25),
      ((h5.trans (Cert.AdamSmallRefIdeal.Read.val_main_v143_eq (launchContents m' c))).trans (Cert.AdamSmallRefIdeal.Closed.ref_v143 _ _ _ _)).trans (Cert.AdamSmallIdeal.Closed.delta_congr a5 a12 a19 a26),
      ((h6.trans (Cert.AdamSmallRefIdeal.Read.val_main_v167_eq (launchContents m' c))).trans (Cert.AdamSmallRefIdeal.Closed.ref_v167 _ _ _ _)).trans (Cert.AdamSmallIdeal.Closed.delta_congr a6 a13 a20 a27),
      ((h7.trans (Cert.AdamSmallRefIdeal.Read.val_main_v4_eq (launchContents m' c))).trans (Cert.AdamSmallRefIdeal.Closed.ref_v4 _ _)).trans (Cert.AdamSmallIdeal.Closed.mean_congr a7 a14),
      ((h8.trans (Cert.AdamSmallRefIdeal.Read.val_main_v28_eq (launchContents m' c))).trans (Cert.AdamSmallRefIdeal.Closed.ref_v28 _ _)).trans (Cert.AdamSmallIdeal.Closed.mean_congr a8 a15),
      ((h9.trans (Cert.AdamSmallRefIdeal.Read.val_main_v52_eq (launchContents m' c))).trans (Cert.AdamSmallRefIdeal.Closed.ref_v52 _ _)).trans (Cert.AdamSmallIdeal.Closed.mean_congr a9 a16),
      ((h10.trans (Cert.AdamSmallRefIdeal.Read.val_main_v76_eq (launchContents m' c))).trans (Cert.AdamSmallRefIdeal.Closed.ref_v76 _ _)).trans (Cert.AdamSmallIdeal.Closed.mean_congr a10 a17),
      ((h11.trans (Cert.AdamSmallRefIdeal.Read.val_main_v100_eq (launchContents m' c))).trans (Cert.AdamSmallRefIdeal.Closed.ref_v100 _ _)).trans (Cert.AdamSmallIdeal.Closed.mean_congr a11 a18),
      ((h12.trans (Cert.AdamSmallRefIdeal.Read.val_main_v124_eq (launchContents m' c))).trans (Cert.AdamSmallRefIdeal.Closed.ref_v124 _ _)).trans (Cert.AdamSmallIdeal.Closed.mean_congr a12 a19),
      ((h13.trans (Cert.AdamSmallRefIdeal.Read.val_main_v148_eq (launchContents m' c))).trans (Cert.AdamSmallRefIdeal.Closed.ref_v148 _ _)).trans (Cert.AdamSmallIdeal.Closed.mean_congr a13 a20),
      ((h14.trans (Cert.AdamSmallRefIdeal.Read.val_main_v10_eq (launchContents m' c))).trans (Cert.AdamSmallRefIdeal.Closed.ref_v10 _ _)).trans (Cert.AdamSmallIdeal.Closed.square_congr a7 a21),
      ((h15.trans (Cert.AdamSmallRefIdeal.Read.val_main_v34_eq (launchContents m' c))).trans (Cert.AdamSmallRefIdeal.Closed.ref_v34 _ _)).trans (Cert.AdamSmallIdeal.Closed.square_congr a8 a22),
      ((h16.trans (Cert.AdamSmallRefIdeal.Read.val_main_v58_eq (launchContents m' c))).trans (Cert.AdamSmallRefIdeal.Closed.ref_v58 _ _)).trans (Cert.AdamSmallIdeal.Closed.square_congr a9 a23),
      ((h17.trans (Cert.AdamSmallRefIdeal.Read.val_main_v82_eq (launchContents m' c))).trans (Cert.AdamSmallRefIdeal.Closed.ref_v82 _ _)).trans (Cert.AdamSmallIdeal.Closed.square_congr a10 a24),
      ((h18.trans (Cert.AdamSmallRefIdeal.Read.val_main_v106_eq (launchContents m' c))).trans (Cert.AdamSmallRefIdeal.Closed.ref_v106 _ _)).trans (Cert.AdamSmallIdeal.Closed.square_congr a11 a25),
      ((h19.trans (Cert.AdamSmallRefIdeal.Read.val_main_v130_eq (launchContents m' c))).trans (Cert.AdamSmallRefIdeal.Closed.ref_v130 _ _)).trans (Cert.AdamSmallIdeal.Closed.square_congr a12 a26),
      ((h20.trans (Cert.AdamSmallRefIdeal.Read.val_main_v154_eq (launchContents m' c))).trans (Cert.AdamSmallRefIdeal.Closed.ref_v154 _ _)).trans (Cert.AdamSmallIdeal.Closed.square_congr a13 a27), hf⟩

end Cert.AdamSmallProof

end
-- ==== Proof.SumSmallClaims.lean ====
/- The sum over the devices of the gradients of the small weights. -/
module

public import proofs.«01_k».proof.Defs
public import proofs.«01_k».proof.Proof.Gen.SumSmall.Frame
public import proofs.«01_k».proof.Proof.Gen.SumSmallIdeal.Frame
public import proofs.«01_k».proof.Proof.Gen.SumSmallRefIdeal.Run
public import proofs.«01_k».proof.Proof.Gen.SumSmallRefIdeal.Read
public import proofs.«01_k».proof.Proof.Gen.SumSmallRefIdeal
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.StableHlo
open scoped BigOperators

namespace Cert.SumSmallIdeal.Closed

open Cert.SumSmallIdeal Cert.SumSmallIdeal.Gen

/-- The sum over the devices, at each place of the packed gradients. -/
def total (x : FVec Ideal S8x2168x128 .f32) : FVec Ideal S2168x128 .f32 := fun j => ∑ d : Fin 8, x (ix3 d (j 0) (j 1))

variable (m : (ℓ : Loc nD τ sig) → Buf (Elt Ideal) ℓ)

/-- Each window's block index at the one grid point. -/
theorem idx : ∀ t : Fin cfg0.N, win0_0.index t = ![0, 0, 0] ∧ win0_1.index t = ![0, 0] :=
  (by decide +kernel : ∀ t : Fin grid0.N, _)

/-- Eight arrays added one after another are their sum. -/
theorem eight (x : Vec Ideal S8x2168x128 .f32) (y : S2168x128.Idx) :
    k0_pay1 (View.ld x r0_0) (View.ld x r0_1) (View.ld x r0_2) (View.ld x r0_3) (View.ld x r0_4) (View.ld x r0_5) (View.ld x r0_6) (View.ld x r0_7) y = ∑ d : Fin 8, x (ix3 d (y 0) (y 1)) := by
  rw [Fin.sum_univ_eight]
  pointwise [k0_pay1]

/-- What the one point stores is the sum of the argument at the place where it sits. -/
theorem point (c : Dev nD) (t : Fin cfg0.N) (y) :
    k0_pay1 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) y = total (V m c main_arg0) (((cfg0.win 1).blk t).view.emb y) := by
  refine (eight (iblk m c 0 t) y).trans ?_
  unfold total
  blk_point [iblk, idx t]

/-- The result array of the sum after the run. -/
theorem final (c : Dev nD) : (dats m 0 c).arrAt 1 (cfgs 0).N = total (V m c main_arg0) := by
  refine (dats m 0 c).arrAt_eq_of_covers 1 _ (by decide +kernel) fun t hf y => ?_
  blk_simp; rw [after0_1]; frame_out
  exact point m c t y

end Cert.SumSmallIdeal.Closed

namespace Cert.SumSmallRefIdeal.Closed

open Cert.SumSmallRefIdeal Cert.SumSmallRefIdeal.Read

/-- The reference's sum over the devices. -/
theorem total_ref (x : FVec Ideal S8x2168x128 .f32) : val_main_v0 (F := Ideal) x = Cert.SumSmallIdeal.Closed.total x := by
  funext j
  pointwise [val_main_v0, val_main_cst, Cert.SumSmallIdeal.Closed.total]

end Cert.SumSmallRefIdeal.Closed

namespace Cert.SumSmallIdeal.Closed

open Cert.SumSmallIdeal Cert.SumSmallIdeal.Gen

set_option maxHeartbeats 1000000 in
/-- The host operations after the sum: result 24 of the packed sum is the reference's. -/
theorem tail_24 (W : Valuation τ sig (Elt Ideal)) (x : FVec Ideal S8x2168x128 .f32)
    (h : W (Proc.devRef .tc main_v0) = Cert.SumSmallRefIdeal.Read.val_main_v0 (F := Ideal) x) :
    StableHlo.after hostOps1 W (Proc.devRef .tc main_v24) = Cert.SumSmallRefIdeal.Read.val_main_v6 (F := Ideal) x := by
  after_results
  generalize W (Proc.devRef .tc main_v0) = y at h ⊢
  subst h
  rfl

set_option maxHeartbeats 1000000 in
/-- The host operations after the sum: result 27 of the packed sum is the reference's. -/
theorem tail_27 (W : Valuation τ sig (Elt Ideal)) (x : FVec Ideal S8x2168x128 .f32)
    (h : W (Proc.devRef .tc main_v0) = Cert.SumSmallRefIdeal.Read.val_main_v0 (F := Ideal) x) :
    StableHlo.after hostOps1 W (Proc.devRef .tc main_v27) = Cert.SumSmallRefIdeal.Read.val_main_v13 (F := Ideal) x := by
  after_results
  generalize W (Proc.devRef .tc main_v0) = y at h ⊢
  subst h
  rfl

set_option maxHeartbeats 1000000 in
/-- The host operations after the sum: result 30 of the packed sum is the reference's. -/
theorem tail_30 (W : Valuation τ sig (Elt Ideal)) (x : FVec Ideal S8x2168x128 .f32)
    (h : W (Proc.devRef .tc main_v0) = Cert.SumSmallRefIdeal.Read.val_main_v0 (F := Ideal) x) :
    StableHlo.after hostOps1 W (Proc.devRef .tc main_v30) = Cert.SumSmallRefIdeal.Read.val_main_v20 (F := Ideal) x := by
  after_results
  generalize W (Proc.devRef .tc main_v0) = y at h ⊢
  subst h
  rfl

set_option maxHeartbeats 1000000 in
/-- The host operations after the sum: result 33 of the packed sum is the reference's. -/
theorem tail_33 (W : Valuation τ sig (Elt Ideal)) (x : FVec Ideal S8x2168x128 .f32)
    (h : W (Proc.devRef .tc main_v0) = Cert.SumSmallRefIdeal.Read.val_main_v0 (F := Ideal) x) :
    StableHlo.after hostOps1 W (Proc.devRef .tc main_v33) = Cert.SumSmallRefIdeal.Read.val_main_v27 (F := Ideal) x := by
  after_results
  generalize W (Proc.devRef .tc main_v0) = y at h ⊢
  subst h
  rfl

set_option maxHeartbeats 1000000 in
/-- The host operations after the sum: result 36 of the packed sum is the reference's. -/
theorem tail_36 (W : Valuation τ sig (Elt Ideal)) (x : FVec Ideal S8x2168x128 .f32)
    (h : W (Proc.devRef .tc main_v0) = Cert.SumSmallRefIdeal.Read.val_main_v0 (F := Ideal) x) :
    StableHlo.after hostOps1 W (Proc.devRef .tc main_v36) = Cert.SumSmallRefIdeal.Read.val_main_v32 (F := Ideal) x := by
  after_results
  generalize W (Proc.devRef .tc main_v0) = y at h ⊢
  subst h
  rfl

set_option maxHeartbeats 1000000 in
/-- The host operations after the sum: result 39 of the packed sum is the reference's. -/
theorem tail_39 (W : Valuation τ sig (Elt Ideal)) (x : FVec Ideal S8x2168x128 .f32)
    (h : W (Proc.devRef .tc main_v0) = Cert.SumSmallRefIdeal.Read.val_main_v0 (F := Ideal) x) :
    StableHlo.after hostOps1 W (Proc.devRef .tc main_v39) = Cert.SumSmallRefIdeal.Read.val_main_v37 (F := Ideal) x := by
  after_results
  generalize W (Proc.devRef .tc main_v0) = y at h ⊢
  subst h
  rfl

set_option maxHeartbeats 1000000 in
/-- The host operations after the sum: result 42 of the packed sum is the reference's. -/
theorem tail_42 (W : Valuation τ sig (Elt Ideal)) (x : FVec Ideal S8x2168x128 .f32)
    (h : W (Proc.devRef .tc main_v0) = Cert.SumSmallRefIdeal.Read.val_main_v0 (F := Ideal) x) :
    StableHlo.after hostOps1 W (Proc.devRef .tc main_v42) = Cert.SumSmallRefIdeal.Read.val_main_v42 (F := Ideal) x := by
  after_results
  generalize W (Proc.devRef .tc main_v0) = y at h ⊢
  subst h
  rfl

variable (m : (ℓ : Loc nD τ sig) → Buf (Elt Ideal) ℓ)

/-- When the host operations start, the packed sum's array holds the reference's sum over the devices. -/
theorem entry (c : Dev nD) :
    Pipeline.withArrays spec0 c (V0 m c) (fun w => (dats m 0 c).arrAt w (cfgs 0).N) (Proc.devRef .tc main_v0)
      = Cert.SumSmallRefIdeal.Read.val_main_v0 (F := Ideal) (m (c.tc.loc main_arg0)) := by
  refine (Pipeline.withArrays_arr spec0 (by decide +kernel) c (V0 m c) _ 1).trans ((final m c).trans ?_)
  rw [Cert.SumSmallRefIdeal.Closed.total_ref]
  rfl

end Cert.SumSmallIdeal.Closed

namespace Cert.SumSmallProof

/-- The kernel runs and leaves its arguments alone, on bit patterns. -/
theorem frame_kernel : Cert.quiescent_SumSmall := fun m ρ _ => Cert.SumSmall.Gen.frame m ρ
/-- The kernel runs and leaves its arguments alone, on extended reals. -/
theorem frame_ideal : Cert.quiescent_SumSmallIdeal := fun m ρ _ => Cert.SumSmallIdeal.Gen.frame m ρ
/-- The reference runs and leaves its arguments alone. -/
theorem frame_ref : Cert.quiescent_SumSmallRefIdeal := fun m ρ _ =>
  (θ_run Cert.SumSmallRefIdeal.defs _ _).mono (fun r h => ⟨fun c => (h c).2.2.2.2.2.2.2,
      Idealize.ShloMosaic.sem_eq_zero_of_no_sems (by decide) r.2⟩)
    (Cert.SumSmallRefIdeal.Value.run (F := Ideal) m ρ)

/-- The kernel's results and the reference's are the same arrays of extended reals. -/
theorem algebraic : Cert.algebraic_SumSmallIdeal_SumSmallRefIdeal := by
  intro m g m' g' hpre hagree
  refine ⟨(fun c : Dev Cert.SumSmallIdeal.nD => Cert.SumSmallRefIdeal.Read.val_main_v6 (F := Ideal) (m (c.tc.loc Cert.SumSmallIdeal.main_arg0))),
    (fun c : Dev Cert.SumSmallIdeal.nD => Cert.SumSmallRefIdeal.Read.val_main_v13 (F := Ideal) (m (c.tc.loc Cert.SumSmallIdeal.main_arg0))),
    (fun c : Dev Cert.SumSmallIdeal.nD => Cert.SumSmallRefIdeal.Read.val_main_v20 (F := Ideal) (m (c.tc.loc Cert.SumSmallIdeal.main_arg0))),
    (fun c : Dev Cert.SumSmallIdeal.nD => Cert.SumSmallRefIdeal.Read.val_main_v27 (F := Ideal) (m (c.tc.loc Cert.SumSmallIdeal.main_arg0))),
    (fun c : Dev Cert.SumSmallIdeal.nD => Cert.SumSmallRefIdeal.Read.val_main_v32 (F := Ideal) (m (c.tc.loc Cert.SumSmallIdeal.main_arg0))),
    (fun c : Dev Cert.SumSmallIdeal.nD => Cert.SumSmallRefIdeal.Read.val_main_v37 (F := Ideal) (m (c.tc.loc Cert.SumSmallIdeal.main_arg0))),
    (fun c : Dev Cert.SumSmallIdeal.nD => Cert.SumSmallRefIdeal.Read.val_main_v42 (F := Ideal) (m (c.tc.loc Cert.SumSmallIdeal.main_arg0))), ?_, ?_⟩
  · exact (θ_run Cert.SumSmallIdeal.defs _ _).mono (fun r h c => ⟨((h.1 c).2 Cert.SumSmallIdeal.main_v24 (by decide +kernel)).trans (Cert.SumSmallIdeal.Closed.tail_24 _ _ (Cert.SumSmallIdeal.Closed.entry m c)),
        ((h.1 c).2 Cert.SumSmallIdeal.main_v27 (by decide +kernel)).trans (Cert.SumSmallIdeal.Closed.tail_27 _ _ (Cert.SumSmallIdeal.Closed.entry m c)),
        ((h.1 c).2 Cert.SumSmallIdeal.main_v30 (by decide +kernel)).trans (Cert.SumSmallIdeal.Closed.tail_30 _ _ (Cert.SumSmallIdeal.Closed.entry m c)),
        ((h.1 c).2 Cert.SumSmallIdeal.main_v33 (by decide +kernel)).trans (Cert.SumSmallIdeal.Closed.tail_33 _ _ (Cert.SumSmallIdeal.Closed.entry m c)),
        ((h.1 c).2 Cert.SumSmallIdeal.main_v36 (by decide +kernel)).trans (Cert.SumSmallIdeal.Closed.tail_36 _ _ (Cert.SumSmallIdeal.Closed.entry m c)),
        ((h.1 c).2 Cert.SumSmallIdeal.main_v39 (by decide +kernel)).trans (Cert.SumSmallIdeal.Closed.tail_39 _ _ (Cert.SumSmallIdeal.Closed.entry m c)),
        ((h.1 c).2 Cert.SumSmallIdeal.main_v42 (by decide +kernel)).trans (Cert.SumSmallIdeal.Closed.tail_42 _ _ (Cert.SumSmallIdeal.Closed.entry m c)),
        h.2.1 c⟩) (Idealize.ShloMosaic.θ_run_and (Cert.SumSmallIdeal.Gen.run_main m g) (Cert.SumSmallIdeal.Gen.frame m g))
  · exact (θ_run Cert.SumSmallRefIdeal.defs _ _).mono (fun r h c => ⟨((h c).1).trans ((Cert.SumSmallRefIdeal.Read.val_main_v6_eq (m' (c.tc.loc Cert.SumSmallRefIdeal.main_arg0))).trans (congrArg (Cert.SumSmallRefIdeal.Read.val_main_v6 (F := Ideal)) (hagree c))),
        ((h c).2.1).trans ((Cert.SumSmallRefIdeal.Read.val_main_v13_eq (m' (c.tc.loc Cert.SumSmallRefIdeal.main_arg0))).trans (congrArg (Cert.SumSmallRefIdeal.Read.val_main_v13 (F := Ideal)) (hagree c))),
        ((h c).2.2.1).trans ((Cert.SumSmallRefIdeal.Read.val_main_v20_eq (m' (c.tc.loc Cert.SumSmallRefIdeal.main_arg0))).trans (congrArg (Cert.SumSmallRefIdeal.Read.val_main_v20 (F := Ideal)) (hagree c))),
        ((h c).2.2.2.1).trans ((Cert.SumSmallRefIdeal.Read.val_main_v27_eq (m' (c.tc.loc Cert.SumSmallRefIdeal.main_arg0))).trans (congrArg (Cert.SumSmallRefIdeal.Read.val_main_v27 (F := Ideal)) (hagree c))),
        ((h c).2.2.2.2.1).trans ((Cert.SumSmallRefIdeal.Read.val_main_v32_eq (m' (c.tc.loc Cert.SumSmallRefIdeal.main_arg0))).trans (congrArg (Cert.SumSmallRefIdeal.Read.val_main_v32 (F := Ideal)) (hagree c))),
        ((h c).2.2.2.2.2.1).trans ((Cert.SumSmallRefIdeal.Read.val_main_v37_eq (m' (c.tc.loc Cert.SumSmallRefIdeal.main_arg0))).trans (congrArg (Cert.SumSmallRefIdeal.Read.val_main_v37 (F := Ideal)) (hagree c))),
        ((h c).2.2.2.2.2.2.1).trans ((Cert.SumSmallRefIdeal.Read.val_main_v42_eq (m' (c.tc.loc Cert.SumSmallRefIdeal.main_arg0))).trans (congrArg (Cert.SumSmallRefIdeal.Read.val_main_v42 (F := Ideal)) (hagree c))),
        (h c).2.2.2.2.2.2.2⟩)
      (Cert.SumSmallRefIdeal.Value.run (F := Ideal) m' g')

end Cert.SumSmallProof

end
-- ==== Proof.lean ====
module

public import proofs.«01_k».proof.Defs
public import proofs.«01_k».proof.Proof.Gen.Relu2
public import proofs.«01_k».proof.Proof.Gen.Relu2.Skeleton
public import proofs.«01_k».proof.Proof.Gen.Relu2.Launch
public import proofs.«01_k».proof.Proof.Gen.Relu2.Points
public import proofs.«01_k».proof.Proof.Gen.Relu2.Frame
public import proofs.«01_k».proof.Proof.Gen.Relu2Ideal
public import proofs.«01_k».proof.Proof.Gen.Relu2Ideal.Skeleton
public import proofs.«01_k».proof.Proof.Gen.Relu2Ideal.Launch
public import proofs.«01_k».proof.Proof.Gen.Relu2Ideal.Points
public import proofs.«01_k».proof.Proof.Gen.Relu2Ideal.Frame
public import proofs.«01_k».proof.Proof.Gen.Relu2Ideal.Value
public import proofs.«01_k».proof.Proof.Gen.Relu2RefIdeal.Run
public import proofs.«01_k».proof.Proof.Gen.Relu2RefIdeal.Read
public import proofs.«01_k».proof.Proof.Gen.Relu2RefIdeal
public import proofs.«01_k».proof.Proof.Relu2Claims
public import proofs.«01_k».proof.Proof.AttnClaims
public import proofs.«01_k».proof.Proof.Gen.AttnOne
public import proofs.«01_k».proof.Proof.Gen.AttnOne.Frame
public import proofs.«01_k».proof.Proof.Gen.AttnOneIdeal
public import proofs.«01_k».proof.Proof.Gen.AttnOneIdeal.Frame
public import proofs.«01_k».proof.Proof.Gen.AttnOneIdeal.Value
public import proofs.«01_k».proof.Proof.Gen.AttnOneRefIdeal
public import proofs.«01_k».proof.Proof.Gen.AttnOneRefIdeal.Run
public import proofs.«01_k».proof.Proof.Gen.AttnOneRefIdeal.Read
public import proofs.«01_k».proof.Proof.Gen.NormIn
public import proofs.«01_k».proof.Proof.Gen.NormIn.Frame
public import proofs.«01_k».proof.Proof.Gen.NormInIdeal
public import proofs.«01_k».proof.Proof.Gen.NormInIdeal.Frame
public import proofs.«01_k».proof.Proof.Gen.NormInIdeal.Value
public import proofs.«01_k».proof.Proof.Gen.NormInRefIdeal
public import proofs.«01_k».proof.Proof.Gen.NormInRefIdeal.Run
public import proofs.«01_k».proof.Proof.Gen.NormInRefIdeal.Read
public import proofs.«01_k».proof.Proof.Gen.NormProj
public import proofs.«01_k».proof.Proof.Gen.NormProj.Frame
public import proofs.«01_k».proof.Proof.Gen.NormProjIdeal
public import proofs.«01_k».proof.Proof.Gen.NormProjIdeal.Frame
public import proofs.«01_k».proof.Proof.Gen.NormProjIdeal.Value
public import proofs.«01_k».proof.Proof.Gen.NormProjRefIdeal
public import proofs.«01_k».proof.Proof.Gen.NormProjRefIdeal.Run
public import proofs.«01_k».proof.Proof.Gen.NormProjRefIdeal.Read
public import proofs.«01_k».proof.Proof.Gen.WgMlpOut
public import proofs.«01_k».proof.Proof.Gen.WgMlpOut.Frame
public import proofs.«01_k».proof.Proof.Gen.WgMlpOutIdeal
public import proofs.«01_k».proof.Proof.Gen.WgMlpOutIdeal.Frame
public import proofs.«01_k».proof.Proof.Gen.WgMlpOutIdeal.Value
public import proofs.«01_k».proof.Proof.Gen.WgMlpOutRefIdeal
public import proofs.«01_k».proof.Proof.Gen.WgMlpOutRefIdeal.Run
public import proofs.«01_k».proof.Proof.Gen.WgMlpOutRefIdeal.Read
public import proofs.«01_k».proof.Proof.Gen.WgProjIn
public import proofs.«01_k».proof.Proof.Gen.WgProjIn.Frame
public import proofs.«01_k».proof.Proof.Gen.WgProjInIdeal
public import proofs.«01_k».proof.Proof.Gen.WgProjInIdeal.Frame
public import proofs.«01_k».proof.Proof.Gen.WgProjInIdeal.Value
public import proofs.«01_k».proof.Proof.Gen.WgProjInRefIdeal
public import proofs.«01_k».proof.Proof.Gen.WgProjInRefIdeal.Run
public import proofs.«01_k».proof.Proof.Gen.WgProjInRefIdeal.Read
public import proofs.«01_k».proof.Proof.Gen.WgMlpIn
public import proofs.«01_k».proof.Proof.Gen.WgMlpIn.Frame
public import proofs.«01_k».proof.Proof.Gen.WgMlpInIdeal
public import proofs.«01_k».proof.Proof.Gen.WgMlpInIdeal.Frame
public import proofs.«01_k».proof.Proof.Gen.WgMlpInIdeal.Value
public import proofs.«01_k».proof.Proof.Gen.WgMlpInRefIdeal
public import proofs.«01_k».proof.Proof.Gen.WgMlpInRefIdeal.Run
public import proofs.«01_k».proof.Proof.Gen.WgMlpInRefIdeal.Read
public import proofs.«01_k».proof.Proof.Gen.WgProjOut
public import proofs.«01_k».proof.Proof.Gen.WgProjOut.Frame
public import proofs.«01_k».proof.Proof.Gen.WgProjOutIdeal
public import proofs.«01_k».proof.Proof.Gen.WgProjOutIdeal.Frame
public import proofs.«01_k».proof.Proof.Gen.WgProjOutIdeal.Value
public import proofs.«01_k».proof.Proof.Gen.WgProjOutRefIdeal
public import proofs.«01_k».proof.Proof.Gen.WgProjOutRefIdeal.Run
public import proofs.«01_k».proof.Proof.Gen.WgProjOutRefIdeal.Read
public import proofs.«01_k».proof.Proof.Gen.DgProjOut
public import proofs.«01_k».proof.Proof.Gen.DgProjOut.Frame
public import proofs.«01_k».proof.Proof.Gen.DgProjOutIdeal
public import proofs.«01_k».proof.Proof.Gen.DgProjOutIdeal.Frame
public import proofs.«01_k».proof.Proof.Gen.DgProjOutIdeal.Value
public import proofs.«01_k».proof.Proof.Gen.DgProjOutRefIdeal
public import proofs.«01_k».proof.Proof.Gen.DgProjOutRefIdeal.Run
public import proofs.«01_k».proof.Proof.Gen.DgProjOutRefIdeal.Read
public import proofs.«01_k».proof.Proof.Gen.FwProjIn
public import proofs.«01_k».proof.Proof.Gen.FwProjIn.Frame
public import proofs.«01_k».proof.Proof.Gen.FwProjInIdeal
public import proofs.«01_k».proof.Proof.Gen.FwProjInIdeal.Frame
public import proofs.«01_k».proof.Proof.Gen.FwProjInIdeal.Value
public import proofs.«01_k».proof.Proof.Gen.FwProjInRefIdeal
public import proofs.«01_k».proof.Proof.Gen.FwProjInRefIdeal.Run
public import proofs.«01_k».proof.Proof.Gen.FwProjInRefIdeal.Read
public import proofs.«01_k».proof.Proof.Gen.FwMlpIn
public import proofs.«01_k».proof.Proof.Gen.FwMlpIn.Frame
public import proofs.«01_k».proof.Proof.Gen.FwMlpInIdeal
public import proofs.«01_k».proof.Proof.Gen.FwMlpInIdeal.Frame
public import proofs.«01_k».proof.Proof.Gen.FwMlpInIdeal.Value
public import proofs.«01_k».proof.Proof.Gen.FwMlpInRefIdeal
public import proofs.«01_k».proof.Proof.Gen.FwMlpInRefIdeal.Run
public import proofs.«01_k».proof.Proof.Gen.FwMlpInRefIdeal.Read
public import proofs.«01_k».proof.Proof.Gen.FwProjOut
public import proofs.«01_k».proof.Proof.Gen.FwProjOut.Frame
public import proofs.«01_k».proof.Proof.Gen.FwProjOutIdeal
public import proofs.«01_k».proof.Proof.Gen.FwProjOutIdeal.Frame
public import proofs.«01_k».proof.Proof.Gen.FwProjOutIdeal.Value
public import proofs.«01_k».proof.Proof.Gen.FwProjOutRefIdeal
public import proofs.«01_k».proof.Proof.Gen.FwProjOutRefIdeal.Run
public import proofs.«01_k».proof.Proof.Gen.FwProjOutRefIdeal.Read
public import proofs.«01_k».proof.Proof.Gen.FwMlpOut
public import proofs.«01_k».proof.Proof.Gen.FwMlpOut.Frame
public import proofs.«01_k».proof.Proof.Gen.FwMlpOutIdeal
public import proofs.«01_k».proof.Proof.Gen.FwMlpOutIdeal.Frame
public import proofs.«01_k».proof.Proof.Gen.FwMlpOutIdeal.Value
public import proofs.«01_k».proof.Proof.Gen.FwMlpOutRefIdeal
public import proofs.«01_k».proof.Proof.Gen.FwMlpOutRefIdeal.Run
public import proofs.«01_k».proof.Proof.Gen.FwMlpOutRefIdeal.Read
public import proofs.«01_k».proof.Proof.NormInClaims
public import proofs.«01_k».proof.Proof.NormProjClaims
public import proofs.«01_k».proof.Proof.WgMlpOutClaims
public import proofs.«01_k».proof.Proof.WgProjInClaims
public import proofs.«01_k».proof.Proof.WgMlpInClaims
public import proofs.«01_k».proof.Proof.WgProjOutClaims
public import proofs.«01_k».proof.Proof.DgProjOutClaims
public import proofs.«01_k».proof.Proof.FwProjInClaims
public import proofs.«01_k».proof.Proof.FwMlpInClaims
public import proofs.«01_k».proof.Proof.FwProjOutClaims
public import proofs.«01_k».proof.Proof.FwMlpOutClaims
public import proofs.«01_k».proof.Proof.Gen.AdamSmall
public import proofs.«01_k».proof.Proof.Gen.AdamSmall.Launch
public import proofs.«01_k».proof.Proof.Gen.AdamSmall.Skeleton
public import proofs.«01_k».proof.Proof.Gen.AdamSmall.Points
public import proofs.«01_k».proof.Proof.Gen.AdamSmallIdeal
public import proofs.«01_k».proof.Proof.Gen.AdamSmallIdeal.Launch
public import proofs.«01_k».proof.Proof.Gen.AdamSmallIdeal.Skeleton
public import proofs.«01_k».proof.Proof.Gen.AdamSmallIdeal.Points
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.AdamSmallClaims
public import proofs.«01_k».proof.Proof.Gen.SumSmall
public import proofs.«01_k».proof.Proof.Gen.SumSmall.Frame
public import proofs.«01_k».proof.Proof.Gen.SumSmallIdeal
public import proofs.«01_k».proof.Proof.Gen.SumSmallIdeal.Frame
public import proofs.«01_k».proof.Proof.Gen.SumSmallRefIdeal
public import proofs.«01_k».proof.Proof.Gen.SumSmallRefIdeal.Run
public import proofs.«01_k».proof.Proof.Gen.SumSmallRefIdeal.Read
public import proofs.«01_k».proof.Proof.SumSmallClaims
public import Idealize.ShloMosaic.Adequacy
public import Idealize.ShloMosaic.Init

@[expose] public section

noncomputable section

namespace Cert.Proof

open Idealize.ShloMosaic Idealize.SL.Sem Cert.Relu2

theorem claim : Cert.Claim := ⟨Cert.Relu2.Gen.facts, Cert.Relu2Ideal.Gen.facts, Cert.Relu2RefIdeal.Gen.facts,
  Cert.AttnOne.Gen.facts, Cert.AttnOneIdeal.Gen.facts, Cert.AttnOneRefIdeal.Gen.facts,
  Cert.NormIn.Gen.facts, Cert.NormInIdeal.Gen.facts, Cert.NormInRefIdeal.Gen.facts,
  Cert.NormProj.Gen.facts, Cert.NormProjIdeal.Gen.facts, Cert.NormProjRefIdeal.Gen.facts,
  Cert.WgMlpOut.Gen.facts, Cert.WgMlpOutIdeal.Gen.facts, Cert.WgMlpOutRefIdeal.Gen.facts,
  Cert.WgProjIn.Gen.facts, Cert.WgProjInIdeal.Gen.facts, Cert.WgProjInRefIdeal.Gen.facts,
  Cert.WgMlpIn.Gen.facts, Cert.WgMlpInIdeal.Gen.facts, Cert.WgMlpInRefIdeal.Gen.facts,
  Cert.WgProjOut.Gen.facts, Cert.WgProjOutIdeal.Gen.facts, Cert.WgProjOutRefIdeal.Gen.facts,
  Cert.DgProjOut.Gen.facts, Cert.DgProjOutIdeal.Gen.facts, Cert.DgProjOutRefIdeal.Gen.facts,
  Cert.FwProjIn.Gen.facts, Cert.FwProjInIdeal.Gen.facts, Cert.FwProjInRefIdeal.Gen.facts,
  Cert.FwMlpIn.Gen.facts, Cert.FwMlpInIdeal.Gen.facts, Cert.FwMlpInRefIdeal.Gen.facts,
  Cert.FwProjOut.Gen.facts, Cert.FwProjOutIdeal.Gen.facts, Cert.FwProjOutRefIdeal.Gen.facts,
  Cert.FwMlpOut.Gen.facts, Cert.FwMlpOutIdeal.Gen.facts, Cert.FwMlpOutRefIdeal.Gen.facts,
  Cert.AdamSmall.Gen.facts, Cert.AdamSmallIdeal.Gen.facts, Cert.AdamSmallRefIdeal.Gen.facts,
  Cert.SumSmall.Gen.facts, Cert.SumSmallIdeal.Gen.facts, Cert.SumSmallRefIdeal.Gen.facts,
  Cert.AttnProof.pre_facts,
  Cert.Relu2Proof.frame_kernel, Cert.Relu2Proof.frame_ideal, Cert.Relu2Proof.frame_ref,
  Cert.AttnProof.frame_kernel, Cert.AttnProof.frame_ideal, Cert.AttnProof.frame_ideal_pre (hPre_finite_attn := Cert.AttnProof.pre_facts),
  Cert.AttnProof.frame_ref, Cert.AttnProof.frame_ref_pre (hPre_finite_attn := Cert.AttnProof.pre_facts),
  Cert.NormInProof.frame_kernel, Cert.NormInProof.frame_ideal, Cert.NormInProof.frame_ref,
  Cert.NormProjProof.frame_kernel, Cert.NormProjProof.frame_ideal, Cert.NormProjProof.frame_ref,
  Cert.WgMlpOutProof.frame_kernel, Cert.WgMlpOutProof.frame_ideal, Cert.WgMlpOutProof.frame_ref,
  Cert.WgProjInProof.frame_kernel, Cert.WgProjInProof.frame_ideal, Cert.WgProjInProof.frame_ref,
  Cert.WgMlpInProof.frame_kernel, Cert.WgMlpInProof.frame_ideal, Cert.WgMlpInProof.frame_ref,
  Cert.WgProjOutProof.frame_kernel, Cert.WgProjOutProof.frame_ideal, Cert.WgProjOutProof.frame_ref,
  Cert.DgProjOutProof.frame_kernel, Cert.DgProjOutProof.frame_ideal, Cert.DgProjOutProof.frame_ref,
  Cert.FwProjInProof.frame_kernel, Cert.FwProjInProof.frame_ideal, Cert.FwProjInProof.frame_ref,
  Cert.FwMlpInProof.frame_kernel, Cert.FwMlpInProof.frame_ideal, Cert.FwMlpInProof.frame_ref,
  Cert.FwProjOutProof.frame_kernel, Cert.FwProjOutProof.frame_ideal, Cert.FwProjOutProof.frame_ref,
  Cert.FwMlpOutProof.frame_kernel, Cert.FwMlpOutProof.frame_ideal, Cert.FwMlpOutProof.frame_ref,
  Cert.AdamSmallProof.frame_kernel, Cert.AdamSmallProof.frame_ideal, Cert.AdamSmallProof.frame_ref,
  Cert.SumSmallProof.frame_kernel, Cert.SumSmallProof.frame_ideal, Cert.SumSmallProof.frame_ref,
  trivial, Cert.Relu2Proof.algebraic, trivial, Cert.AttnProof.algebraic (hPre_finite_attn := Cert.AttnProof.pre_facts),
  trivial, Cert.NormInProof.algebraic,
  trivial, Cert.NormProjProof.algebraic,
  trivial, Cert.WgMlpOutProof.algebraic,
  trivial, Cert.WgProjInProof.algebraic,
  trivial, Cert.WgMlpInProof.algebraic,
  trivial, Cert.WgProjOutProof.algebraic,
  trivial, Cert.DgProjOutProof.algebraic,
  trivial, Cert.FwProjInProof.algebraic,
  trivial, Cert.FwMlpInProof.algebraic,
  trivial, Cert.FwProjOutProof.algebraic,
  trivial, Cert.FwMlpOutProof.algebraic,
  trivial, Cert.AdamSmallProof.algebraic,
  trivial, Cert.SumSmallProof.algebraic⟩

end Cert.Proof

end
